-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_LruStep (m : (ℓ : Loc Cert.LruStep.nD Cert.LruStep.τ Cert.LruStep.sig) → Buf (Elt Bits) ℓ) : Prop :=
  True

def Pre_LruStepIdeal (m : (ℓ : Loc Cert.LruStepIdeal.nD Cert.LruStepIdeal.τ Cert.LruStepIdeal.sig) → Buf (Elt Ideal) ℓ) : Prop :=
  True

def Pre_LruStepRefIdeal (m : (ℓ : Loc Cert.LruStepRefIdeal.nD Cert.LruStepRefIdeal.τ Cert.LruStepRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffk (m : (ℓ : Loc Cert.Ffk.nD Cert.Ffk.τ Cert.Ffk.sig) → Buf (Elt Bits) ℓ) : Prop :=
  True

def Pre_FfkIdeal (m : (ℓ : Loc Cert.FfkIdeal.nD Cert.FfkIdeal.τ Cert.FfkIdeal.sig) → Buf (Elt Ideal) ℓ) : Prop :=
  True

def Pre_FfkRefIdeal (m : (ℓ : Loc Cert.FfkRefIdeal.nD Cert.FfkRefIdeal.τ Cert.FfkRefIdeal.sig) → Buf (Elt Ideal) ℓ) : Prop :=
  True

def Pre_Nml (m : (ℓ : Loc Cert.Nml.nD Cert.Nml.τ Cert.Nml.sig) → Buf (Elt Bits) ℓ) : Prop :=
  True

def Pre_NmlIdeal (m : (ℓ : Loc Cert.NmlIdeal.nD Cert.NmlIdeal.τ Cert.NmlIdeal.sig) → Buf (Elt Ideal) ℓ) : Prop :=
  True

def Pre_NmlRefIdeal (m : (ℓ : Loc Cert.NmlRefIdeal.nD Cert.NmlRefIdeal.τ Cert.NmlRefIdeal.sig) → Buf (Elt Ideal) ℓ) : Prop :=
  True

def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsRefIdeal (m : (ℓ : Loc Cert.NmsRefIdeal.nD Cert.NmsRefIdeal.τ Cert.NmsRefIdeal.sig) → Buf (Elt Ideal) ℓ) : Prop :=
  True

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsRefIdeal (m : (ℓ : Loc Cert.FfsRefIdeal.nD Cert.FfsRefIdeal.τ Cert.FfsRefIdeal.sig) → Buf (Elt Ideal) ℓ) : Prop :=
  True

def Pre_Nls (m : (ℓ : Loc Cert.Nls.nD Cert.Nls.τ Cert.Nls.sig) → Buf (Elt Bits) ℓ) : Prop :=
  True

def Pre_NlsIdeal (m : (ℓ : Loc Cert.NlsIdeal.nD Cert.NlsIdeal.τ Cert.NlsIdeal.sig) → Buf (Elt Ideal) ℓ) : Prop :=
  True

def Pre_NlsRefIdeal (m : (ℓ : Loc Cert.NlsRefIdeal.nD Cert.NlsRefIdeal.τ Cert.NlsRefIdeal.sig) → Buf (Elt Ideal) ℓ) : Prop :=
  True

def Pre_Nss (m : (ℓ : Loc Cert.Nss.nD Cert.Nss.τ Cert.Nss.sig) → Buf (Elt Bits) ℓ) : Prop :=
  True

def Pre_NssIdeal (m : (ℓ : Loc Cert.NssIdeal.nD Cert.NssIdeal.τ Cert.NssIdeal.sig) → Buf (Elt Ideal) ℓ) : Prop :=
  True

def Pre_NssRefIdeal (m : (ℓ : Loc Cert.NssRefIdeal.nD Cert.NssRefIdeal.τ Cert.NssRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9))
      ∧ r.2.sem = fun _ => 0)

def quiescent_LruStep [hLruStep : Cert.LruStep.Facts] : Prop :=
  ∀ (m : (ℓ : Loc Cert.LruStep.nD Cert.LruStep.τ Cert.LruStep.sig) → Buf (Elt Bits) ℓ) (g : Dev Cert.LruStep.nD → PrngReg), Pre_LruStep m →
    θ_run (Cert.LruStep.defs (F := Bits)) (onTc (τ := Cert.LruStep.τ) (Cert.LruStep.main (F := Bits))) ⟨m, fun _ => 0, g⟩ (fun r => (∀ c : Dev Cert.LruStep.nD,
      r.2.mem ((c.tc : Thread Cert.LruStep.nD Cert.LruStep.τ).loc Cert.LruStep.main_arg0) = m ((c.tc : Thread Cert.LruStep.nD Cert.LruStep.τ).loc Cert.LruStep.main_arg0)
      ∧ r.2.mem ((c.tc : Thread Cert.LruStep.nD Cert.LruStep.τ).loc Cert.LruStep.main_arg1) = m ((c.tc : Thread Cert.LruStep.nD Cert.LruStep.τ).loc Cert.LruStep.main_arg1)
      ∧ r.2.mem ((c.tc : Thread Cert.LruStep.nD Cert.LruStep.τ).loc Cert.LruStep.main_arg2) = m ((c.tc : Thread Cert.LruStep.nD Cert.LruStep.τ).loc Cert.LruStep.main_arg2)
      ∧ r.2.mem ((c.tc : Thread Cert.LruStep.nD Cert.LruStep.τ).loc Cert.LruStep.main_arg3) = m ((c.tc : Thread Cert.LruStep.nD Cert.LruStep.τ).loc Cert.LruStep.main_arg3)
      ∧ r.2.mem ((c.tc : Thread Cert.LruStep.nD Cert.LruStep.τ).loc Cert.LruStep.main_arg4) = m ((c.tc : Thread Cert.LruStep.nD Cert.LruStep.τ).loc Cert.LruStep.main_arg4)
      ∧ r.2.mem ((c.tc : Thread Cert.LruStep.nD Cert.LruStep.τ).loc Cert.LruStep.main_arg5) = m ((c.tc : Thread Cert.LruStep.nD Cert.LruStep.τ).loc Cert.LruStep.main_arg5)
      ∧ r.2.mem ((c.tc : Thread Cert.LruStep.nD Cert.LruStep.τ).loc Cert.LruStep.main_arg6) = m ((c.tc : Thread Cert.LruStep.nD Cert.LruStep.τ).loc Cert.LruStep.main_arg6)
      ∧ r.2.mem ((c.tc : Thread Cert.LruStep.nD Cert.LruStep.τ).loc Cert.LruStep.main_arg7) = m ((c.tc : Thread Cert.LruStep.nD Cert.LruStep.τ).loc Cert.LruStep.main_arg7)
      ∧ r.2.mem ((c.tc : Thread Cert.LruStep.nD Cert.LruStep.τ).loc Cert.LruStep.main_arg8) = m ((c.tc : Thread Cert.LruStep.nD Cert.LruStep.τ).loc Cert.LruStep.main_arg8)
      ∧ r.2.mem ((c.tc : Thread Cert.LruStep.nD Cert.LruStep.τ).loc Cert.LruStep.main_arg9) = m ((c.tc : Thread Cert.LruStep.nD Cert.LruStep.τ).loc Cert.LruStep.main_arg9))
      ∧ r.2.sem = fun _ => 0)

def quiescent_LruStepIdeal [hLruStepIdeal : Cert.LruStepIdeal.Facts] : Prop :=
  ∀ (m : (ℓ : Loc Cert.LruStepIdeal.nD Cert.LruStepIdeal.τ Cert.LruStepIdeal.sig) → Buf (Elt Ideal) ℓ) (g : Dev Cert.LruStepIdeal.nD → PrngReg), Pre_LruStepIdeal m →
    θ_run (Cert.LruStepIdeal.defs (F := Ideal)) (onTc (τ := Cert.LruStepIdeal.τ) (Cert.LruStepIdeal.main (F := Ideal))) ⟨m, fun _ => 0, g⟩ (fun r => (∀ c : Dev Cert.LruStepIdeal.nD,
      r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
      ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
      ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
      ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
      ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
      ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
      ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
      ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
      ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
      ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9))
      ∧ r.2.sem = fun _ => 0)

def quiescent_LruStepRefIdeal [hLruStepRefIdeal : Cert.LruStepRefIdeal.Facts] : Prop :=
  ∀ (m : (ℓ : Loc Cert.LruStepRefIdeal.nD Cert.LruStepRefIdeal.τ Cert.LruStepRefIdeal.sig) → Buf (Elt Ideal) ℓ) (g : Dev Cert.LruStepRefIdeal.nD → PrngReg), Pre_LruStepRefIdeal m →
    θ_run (Cert.LruStepRefIdeal.defs (F := Ideal)) (onTc (τ := Cert.LruStepRefIdeal.τ) (Cert.LruStepRefIdeal.main (F := Ideal))) ⟨m, fun _ => 0, g⟩ (fun r => (∀ c : Dev Cert.LruStepRefIdeal.nD,
      r.2.mem ((c.tc : Thread Cert.LruStepRefIdeal.nD Cert.LruStepRefIdeal.τ).loc Cert.LruStepRefIdeal.main_arg0) = m ((c.tc : Thread Cert.LruStepRefIdeal.nD Cert.LruStepRefIdeal.τ).loc Cert.LruStepRefIdeal.main_arg0)
      ∧ r.2.mem ((c.tc : Thread Cert.LruStepRefIdeal.nD Cert.LruStepRefIdeal.τ).loc Cert.LruStepRefIdeal.main_arg1) = m ((c.tc : Thread Cert.LruStepRefIdeal.nD Cert.LruStepRefIdeal.τ).loc Cert.LruStepRefIdeal.main_arg1)
      ∧ r.2.mem ((c.tc : Thread Cert.LruStepRefIdeal.nD Cert.LruStepRefIdeal.τ).loc Cert.LruStepRefIdeal.main_arg2) = m ((c.tc : Thread Cert.LruStepRefIdeal.nD Cert.LruStepRefIdeal.τ).loc Cert.LruStepRefIdeal.main_arg2)
      ∧ r.2.mem ((c.tc : Thread Cert.LruStepRefIdeal.nD Cert.LruStepRefIdeal.τ).loc Cert.LruStepRefIdeal.main_arg3) = m ((c.tc : Thread Cert.LruStepRefIdeal.nD Cert.LruStepRefIdeal.τ).loc Cert.LruStepRefIdeal.main_arg3)
      ∧ r.2.mem ((c.tc : Thread Cert.LruStepRefIdeal.nD Cert.LruStepRefIdeal.τ).loc Cert.LruStepRefIdeal.main_arg4) = m ((c.tc : Thread Cert.LruStepRefIdeal.nD Cert.LruStepRefIdeal.τ).loc Cert.LruStepRefIdeal.main_arg4)
      ∧ r.2.mem ((c.tc : Thread Cert.LruStepRefIdeal.nD Cert.LruStepRefIdeal.τ).loc Cert.LruStepRefIdeal.main_arg5) = m ((c.tc : Thread Cert.LruStepRefIdeal.nD Cert.LruStepRefIdeal.τ).loc Cert.LruStepRefIdeal.main_arg5)
      ∧ r.2.mem ((c.tc : Thread Cert.LruStepRefIdeal.nD Cert.LruStepRefIdeal.τ).loc Cert.LruStepRefIdeal.main_arg6) = m ((c.tc : Thread Cert.LruStepRefIdeal.nD Cert.LruStepRefIdeal.τ).loc Cert.LruStepRefIdeal.main_arg6)
      ∧ r.2.mem ((c.tc : Thread Cert.LruStepRefIdeal.nD Cert.LruStepRefIdeal.τ).loc Cert.LruStepRefIdeal.main_arg7) = m ((c.tc : Thread Cert.LruStepRefIdeal.nD Cert.LruStepRefIdeal.τ).loc Cert.LruStepRefIdeal.main_arg7)
      ∧ r.2.mem ((c.tc : Thread Cert.LruStepRefIdeal.nD Cert.LruStepRefIdeal.τ).loc Cert.LruStepRefIdeal.main_arg8) = m ((c.tc : Thread Cert.LruStepRefIdeal.nD Cert.LruStepRefIdeal.τ).loc Cert.LruStepRefIdeal.main_arg8)
      ∧ r.2.mem ((c.tc : Thread Cert.LruStepRefIdeal.nD Cert.LruStepRefIdeal.τ).loc Cert.LruStepRefIdeal.main_arg9) = m ((c.tc : Thread Cert.LruStepRefIdeal.nD Cert.LruStepRefIdeal.τ).loc Cert.LruStepRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Ffk [hFfk : Cert.Ffk.Facts] : Prop :=
  ∀ (m : (ℓ : Loc Cert.Ffk.nD Cert.Ffk.τ Cert.Ffk.sig) → Buf (Elt Bits) ℓ) (g : Dev Cert.Ffk.nD → PrngReg), Pre_Ffk m →
    θ_run (Cert.Ffk.defs (F := Bits)) (onTc (τ := Cert.Ffk.τ) (Cert.Ffk.main (F := Bits))) ⟨m, fun _ => 0, g⟩ (fun r => (∀ c : Dev Cert.Ffk.nD,
      r.2.mem ((c.tc : Thread Cert.Ffk.nD Cert.Ffk.τ).loc Cert.Ffk.main_arg0) = m ((c.tc : Thread Cert.Ffk.nD Cert.Ffk.τ).loc Cert.Ffk.main_arg0)
      ∧ r.2.mem ((c.tc : Thread Cert.Ffk.nD Cert.Ffk.τ).loc Cert.Ffk.main_arg1) = m ((c.tc : Thread Cert.Ffk.nD Cert.Ffk.τ).loc Cert.Ffk.main_arg1)
      ∧ r.2.mem ((c.tc : Thread Cert.Ffk.nD Cert.Ffk.τ).loc Cert.Ffk.main_arg2) = m ((c.tc : Thread Cert.Ffk.nD Cert.Ffk.τ).loc Cert.Ffk.main_arg2)
      ∧ r.2.mem ((c.tc : Thread Cert.Ffk.nD Cert.Ffk.τ).loc Cert.Ffk.main_arg3) = m ((c.tc : Thread Cert.Ffk.nD Cert.Ffk.τ).loc Cert.Ffk.main_arg3)
      ∧ r.2.mem ((c.tc : Thread Cert.Ffk.nD Cert.Ffk.τ).loc Cert.Ffk.main_arg4) = m ((c.tc : Thread Cert.Ffk.nD Cert.Ffk.τ).loc Cert.Ffk.main_arg4)
      ∧ r.2.mem ((c.tc : Thread Cert.Ffk.nD Cert.Ffk.τ).loc Cert.Ffk.main_arg5) = m ((c.tc : Thread Cert.Ffk.nD Cert.Ffk.τ).loc Cert.Ffk.main_arg5)
      ∧ r.2.mem ((c.tc : Thread Cert.Ffk.nD Cert.Ffk.τ).loc Cert.Ffk.main_arg6) = m ((c.tc : Thread Cert.Ffk.nD Cert.Ffk.τ).loc Cert.Ffk.main_arg6)
      ∧ r.2.mem ((c.tc : Thread Cert.Ffk.nD Cert.Ffk.τ).loc Cert.Ffk.main_arg7) = m ((c.tc : Thread Cert.Ffk.nD Cert.Ffk.τ).loc Cert.Ffk.main_arg7))
      ∧ r.2.sem = fun _ => 0)

def quiescent_FfkIdeal [hFfkIdeal : Cert.FfkIdeal.Facts] : Prop :=
  ∀ (m : (ℓ : Loc Cert.FfkIdeal.nD Cert.FfkIdeal.τ Cert.FfkIdeal.sig) → Buf (Elt Ideal) ℓ) (g : Dev Cert.FfkIdeal.nD → PrngReg), Pre_FfkIdeal m →
    θ_run (Cert.FfkIdeal.defs (F := Ideal)) (onTc (τ := Cert.FfkIdeal.τ) (Cert.FfkIdeal.main (F := Ideal))) ⟨m, fun _ => 0, g⟩ (fun r => (∀ c : Dev Cert.FfkIdeal.nD,
      r.2.mem ((c.tc : Thread Cert.FfkIdeal.nD Cert.FfkIdeal.τ).loc Cert.FfkIdeal.main_arg0) = m ((c.tc : Thread Cert.FfkIdeal.nD Cert.FfkIdeal.τ).loc Cert.FfkIdeal.main_arg0)
      ∧ r.2.mem ((c.tc : Thread Cert.FfkIdeal.nD Cert.FfkIdeal.τ).loc Cert.FfkIdeal.main_arg1) = m ((c.tc : Thread Cert.FfkIdeal.nD Cert.FfkIdeal.τ).loc Cert.FfkIdeal.main_arg1)
      ∧ r.2.mem ((c.tc : Thread Cert.FfkIdeal.nD Cert.FfkIdeal.τ).loc Cert.FfkIdeal.main_arg2) = m ((c.tc : Thread Cert.FfkIdeal.nD Cert.FfkIdeal.τ).loc Cert.FfkIdeal.main_arg2)
      ∧ r.2.mem ((c.tc : Thread Cert.FfkIdeal.nD Cert.FfkIdeal.τ).loc Cert.FfkIdeal.main_arg3) = m ((c.tc : Thread Cert.FfkIdeal.nD Cert.FfkIdeal.τ).loc Cert.FfkIdeal.main_arg3)
      ∧ r.2.mem ((c.tc : Thread Cert.FfkIdeal.nD Cert.FfkIdeal.τ).loc Cert.FfkIdeal.main_arg4) = m ((c.tc : Thread Cert.FfkIdeal.nD Cert.FfkIdeal.τ).loc Cert.FfkIdeal.main_arg4)
      ∧ r.2.mem ((c.tc : Thread Cert.FfkIdeal.nD Cert.FfkIdeal.τ).loc Cert.FfkIdeal.main_arg5) = m ((c.tc : Thread Cert.FfkIdeal.nD Cert.FfkIdeal.τ).loc Cert.FfkIdeal.main_arg5)
      ∧ r.2.mem ((c.tc : Thread Cert.FfkIdeal.nD Cert.FfkIdeal.τ).loc Cert.FfkIdeal.main_arg6) = m ((c.tc : Thread Cert.FfkIdeal.nD Cert.FfkIdeal.τ).loc Cert.FfkIdeal.main_arg6)
      ∧ r.2.mem ((c.tc : Thread Cert.FfkIdeal.nD Cert.FfkIdeal.τ).loc Cert.FfkIdeal.main_arg7) = m ((c.tc : Thread Cert.FfkIdeal.nD Cert.FfkIdeal.τ).loc Cert.FfkIdeal.main_arg7))
      ∧ r.2.sem = fun _ => 0)

def quiescent_FfkRefIdeal [hFfkRefIdeal : Cert.FfkRefIdeal.Facts] : Prop :=
  ∀ (m : (ℓ : Loc Cert.FfkRefIdeal.nD Cert.FfkRefIdeal.τ Cert.FfkRefIdeal.sig) → Buf (Elt Ideal) ℓ) (g : Dev Cert.FfkRefIdeal.nD → PrngReg), Pre_FfkRefIdeal m →
    θ_run (Cert.FfkRefIdeal.defs (F := Ideal)) (onTc (τ := Cert.FfkRefIdeal.τ) (Cert.FfkRefIdeal.main (F := Ideal))) ⟨m, fun _ => 0, g⟩ (fun r => (∀ c : Dev Cert.FfkRefIdeal.nD,
      r.2.mem ((c.tc : Thread Cert.FfkRefIdeal.nD Cert.FfkRefIdeal.τ).loc Cert.FfkRefIdeal.main_arg0) = m ((c.tc : Thread Cert.FfkRefIdeal.nD Cert.FfkRefIdeal.τ).loc Cert.FfkRefIdeal.main_arg0)
      ∧ r.2.mem ((c.tc : Thread Cert.FfkRefIdeal.nD Cert.FfkRefIdeal.τ).loc Cert.FfkRefIdeal.main_arg1) = m ((c.tc : Thread Cert.FfkRefIdeal.nD Cert.FfkRefIdeal.τ).loc Cert.FfkRefIdeal.main_arg1)
      ∧ r.2.mem ((c.tc : Thread Cert.FfkRefIdeal.nD Cert.FfkRefIdeal.τ).loc Cert.FfkRefIdeal.main_arg2) = m ((c.tc : Thread Cert.FfkRefIdeal.nD Cert.FfkRefIdeal.τ).loc Cert.FfkRefIdeal.main_arg2)
      ∧ r.2.mem ((c.tc : Thread Cert.FfkRefIdeal.nD Cert.FfkRefIdeal.τ).loc Cert.FfkRefIdeal.main_arg3) = m ((c.tc : Thread Cert.FfkRefIdeal.nD Cert.FfkRefIdeal.τ).loc Cert.FfkRefIdeal.main_arg3)
      ∧ r.2.mem ((c.tc : Thread Cert.FfkRefIdeal.nD Cert.FfkRefIdeal.τ).loc Cert.FfkRefIdeal.main_arg4) = m ((c.tc : Thread Cert.FfkRefIdeal.nD Cert.FfkRefIdeal.τ).loc Cert.FfkRefIdeal.main_arg4)
      ∧ r.2.mem ((c.tc : Thread Cert.FfkRefIdeal.nD Cert.FfkRefIdeal.τ).loc Cert.FfkRefIdeal.main_arg5) = m ((c.tc : Thread Cert.FfkRefIdeal.nD Cert.FfkRefIdeal.τ).loc Cert.FfkRefIdeal.main_arg5)
      ∧ r.2.mem ((c.tc : Thread Cert.FfkRefIdeal.nD Cert.FfkRefIdeal.τ).loc Cert.FfkRefIdeal.main_arg6) = m ((c.tc : Thread Cert.FfkRefIdeal.nD Cert.FfkRefIdeal.τ).loc Cert.FfkRefIdeal.main_arg6)
      ∧ r.2.mem ((c.tc : Thread Cert.FfkRefIdeal.nD Cert.FfkRefIdeal.τ).loc Cert.FfkRefIdeal.main_arg7) = m ((c.tc : Thread Cert.FfkRefIdeal.nD Cert.FfkRefIdeal.τ).loc Cert.FfkRefIdeal.main_arg7))
      ∧ r.2.sem = fun _ => 0)

def quiescent_Nml [hNml : Cert.Nml.Facts] : Prop :=
  ∀ (m : (ℓ : Loc Cert.Nml.nD Cert.Nml.τ Cert.Nml.sig) → Buf (Elt Bits) ℓ) (g : Dev Cert.Nml.nD → PrngReg), Pre_Nml m →
    θ_run (Cert.Nml.defs (F := Bits)) (onTc (τ := Cert.Nml.τ) (Cert.Nml.main (F := Bits))) ⟨m, fun _ => 0, g⟩ (fun r => (∀ c : Dev Cert.Nml.nD,
      r.2.mem ((c.tc : Thread Cert.Nml.nD Cert.Nml.τ).loc Cert.Nml.main_arg0) = m ((c.tc : Thread Cert.Nml.nD Cert.Nml.τ).loc Cert.Nml.main_arg0)
      ∧ r.2.mem ((c.tc : Thread Cert.Nml.nD Cert.Nml.τ).loc Cert.Nml.main_arg1) = m ((c.tc : Thread Cert.Nml.nD Cert.Nml.τ).loc Cert.Nml.main_arg1)
      ∧ r.2.mem ((c.tc : Thread Cert.Nml.nD Cert.Nml.τ).loc Cert.Nml.main_arg2) = m ((c.tc : Thread Cert.Nml.nD Cert.Nml.τ).loc Cert.Nml.main_arg2)
      ∧ r.2.mem ((c.tc : Thread Cert.Nml.nD Cert.Nml.τ).loc Cert.Nml.main_arg3) = m ((c.tc : Thread Cert.Nml.nD Cert.Nml.τ).loc Cert.Nml.main_arg3))
      ∧ r.2.sem = fun _ => 0)

def quiescent_NmlIdeal [hNmlIdeal : Cert.NmlIdeal.Facts] : Prop :=
  ∀ (m : (ℓ : Loc Cert.NmlIdeal.nD Cert.NmlIdeal.τ Cert.NmlIdeal.sig) → Buf (Elt Ideal) ℓ) (g : Dev Cert.NmlIdeal.nD → PrngReg), Pre_NmlIdeal m →
    θ_run (Cert.NmlIdeal.defs (F := Ideal)) (onTc (τ := Cert.NmlIdeal.τ) (Cert.NmlIdeal.main (F := Ideal))) ⟨m, fun _ => 0, g⟩ (fun r => (∀ c : Dev Cert.NmlIdeal.nD,
      r.2.mem ((c.tc : Thread Cert.NmlIdeal.nD Cert.NmlIdeal.τ).loc Cert.NmlIdeal.main_arg0) = m ((c.tc : Thread Cert.NmlIdeal.nD Cert.NmlIdeal.τ).loc Cert.NmlIdeal.main_arg0)
      ∧ r.2.mem ((c.tc : Thread Cert.NmlIdeal.nD Cert.NmlIdeal.τ).loc Cert.NmlIdeal.main_arg1) = m ((c.tc : Thread Cert.NmlIdeal.nD Cert.NmlIdeal.τ).loc Cert.NmlIdeal.main_arg1)
      ∧ r.2.mem ((c.tc : Thread Cert.NmlIdeal.nD Cert.NmlIdeal.τ).loc Cert.NmlIdeal.main_arg2) = m ((c.tc : Thread Cert.NmlIdeal.nD Cert.NmlIdeal.τ).loc Cert.NmlIdeal.main_arg2)
      ∧ r.2.mem ((c.tc : Thread Cert.NmlIdeal.nD Cert.NmlIdeal.τ).loc Cert.NmlIdeal.main_arg3) = m ((c.tc : Thread Cert.NmlIdeal.nD Cert.NmlIdeal.τ).loc Cert.NmlIdeal.main_arg3))
      ∧ r.2.sem = fun _ => 0)

def quiescent_NmlRefIdeal [hNmlRefIdeal : Cert.NmlRefIdeal.Facts] : Prop :=
  ∀ (m : (ℓ : Loc Cert.NmlRefIdeal.nD Cert.NmlRefIdeal.τ Cert.NmlRefIdeal.sig) → Buf (Elt Ideal) ℓ) (g : Dev Cert.NmlRefIdeal.nD → PrngReg), Pre_NmlRefIdeal m →
    θ_run (Cert.NmlRefIdeal.defs (F := Ideal)) (onTc (τ := Cert.NmlRefIdeal.τ) (Cert.NmlRefIdeal.main (F := Ideal))) ⟨m, fun _ => 0, g⟩ (fun r => (∀ c : Dev Cert.NmlRefIdeal.nD,
      r.2.mem ((c.tc : Thread Cert.NmlRefIdeal.nD Cert.NmlRefIdeal.τ).loc Cert.NmlRefIdeal.main_arg0) = m ((c.tc : Thread Cert.NmlRefIdeal.nD Cert.NmlRefIdeal.τ).loc Cert.NmlRefIdeal.main_arg0)
      ∧ r.2.mem ((c.tc : Thread Cert.NmlRefIdeal.nD Cert.NmlRefIdeal.τ).loc Cert.NmlRefIdeal.main_arg1) = m ((c.tc : Thread Cert.NmlRefIdeal.nD Cert.NmlRefIdeal.τ).loc Cert.NmlRefIdeal.main_arg1)
      ∧ r.2.mem ((c.tc : Thread Cert.NmlRefIdeal.nD Cert.NmlRefIdeal.τ).loc Cert.NmlRefIdeal.main_arg2) = m ((c.tc : Thread Cert.NmlRefIdeal.nD Cert.NmlRefIdeal.τ).loc Cert.NmlRefIdeal.main_arg2)
      ∧ r.2.mem ((c.tc : Thread Cert.NmlRefIdeal.nD Cert.NmlRefIdeal.τ).loc Cert.NmlRefIdeal.main_arg3) = m ((c.tc : Thread Cert.NmlRefIdeal.nD Cert.NmlRefIdeal.τ).loc Cert.NmlRefIdeal.main_arg3))
      ∧ r.2.sem = fun _ => 0)

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1)
      ∧ r.2.mem ((c.tc : Thread Cert.Nms.nD Cert.Nms.τ).loc Cert.Nms.main_arg2) = m ((c.tc : Thread Cert.Nms.nD Cert.Nms.τ).loc Cert.Nms.main_arg2))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
      ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1)
      ∧ r.2.mem ((c.tc : Thread Cert.NmsRefIdeal.nD Cert.NmsRefIdeal.τ).loc Cert.NmsRefIdeal.main_arg2) = m ((c.tc : Thread Cert.NmsRefIdeal.nD Cert.NmsRefIdeal.τ).loc Cert.NmsRefIdeal.main_arg2))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4)
      ∧ r.2.mem ((c.tc : Thread Cert.Ffs.nD Cert.Ffs.τ).loc Cert.Ffs.main_arg5) = m ((c.tc : Thread Cert.Ffs.nD Cert.Ffs.τ).loc Cert.Ffs.main_arg5)
      ∧ r.2.mem ((c.tc : Thread Cert.Ffs.nD Cert.Ffs.τ).loc Cert.Ffs.main_arg6) = m ((c.tc : Thread Cert.Ffs.nD Cert.Ffs.τ).loc Cert.Ffs.main_arg6)
      ∧ r.2.mem ((c.tc : Thread Cert.Ffs.nD Cert.Ffs.τ).loc Cert.Ffs.main_arg7) = m ((c.tc : Thread Cert.Ffs.nD Cert.Ffs.τ).loc Cert.Ffs.main_arg7)
      ∧ r.2.mem ((c.tc : Thread Cert.Ffs.nD Cert.Ffs.τ).loc Cert.Ffs.main_arg8) = m ((c.tc : Thread Cert.Ffs.nD Cert.Ffs.τ).loc Cert.Ffs.main_arg8))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
      ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
      ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
      ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7)
      ∧ r.2.mem ((c.tc : Thread Cert.FfsIdeal.nD Cert.FfsIdeal.τ).loc Cert.FfsIdeal.main_arg8) = m ((c.tc : Thread Cert.FfsIdeal.nD Cert.FfsIdeal.τ).loc Cert.FfsIdeal.main_arg8))
      ∧ r.2.sem = fun _ => 0)

def quiescent_FfsRefIdeal [hFfsRefIdeal : Cert.FfsRefIdeal.Facts] : Prop :=
  ∀ (m : (ℓ : Loc Cert.FfsRefIdeal.nD Cert.FfsRefIdeal.τ Cert.FfsRefIdeal.sig) → Buf (Elt Ideal) ℓ) (g : Dev Cert.FfsRefIdeal.nD → PrngReg), Pre_FfsRefIdeal m →
    θ_run (Cert.FfsRefIdeal.defs (F := Ideal)) (onTc (τ := Cert.FfsRefIdeal.τ) (Cert.FfsRefIdeal.main (F := Ideal))) ⟨m, fun _ => 0, g⟩ (fun r => (∀ c : Dev Cert.FfsRefIdeal.nD,
      r.2.mem ((c.tc : Thread Cert.FfsRefIdeal.nD Cert.FfsRefIdeal.τ).loc Cert.FfsRefIdeal.main_arg0) = m ((c.tc : Thread Cert.FfsRefIdeal.nD Cert.FfsRefIdeal.τ).loc Cert.FfsRefIdeal.main_arg0)
      ∧ r.2.mem ((c.tc : Thread Cert.FfsRefIdeal.nD Cert.FfsRefIdeal.τ).loc Cert.FfsRefIdeal.main_arg1) = m ((c.tc : Thread Cert.FfsRefIdeal.nD Cert.FfsRefIdeal.τ).loc Cert.FfsRefIdeal.main_arg1)
      ∧ r.2.mem ((c.tc : Thread Cert.FfsRefIdeal.nD Cert.FfsRefIdeal.τ).loc Cert.FfsRefIdeal.main_arg2) = m ((c.tc : Thread Cert.FfsRefIdeal.nD Cert.FfsRefIdeal.τ).loc Cert.FfsRefIdeal.main_arg2)
      ∧ r.2.mem ((c.tc : Thread Cert.FfsRefIdeal.nD Cert.FfsRefIdeal.τ).loc Cert.FfsRefIdeal.main_arg3) = m ((c.tc : Thread Cert.FfsRefIdeal.nD Cert.FfsRefIdeal.τ).loc Cert.FfsRefIdeal.main_arg3)
      ∧ r.2.mem ((c.tc : Thread Cert.FfsRefIdeal.nD Cert.FfsRefIdeal.τ).loc Cert.FfsRefIdeal.main_arg4) = m ((c.tc : Thread Cert.FfsRefIdeal.nD Cert.FfsRefIdeal.τ).loc Cert.FfsRefIdeal.main_arg4)
      ∧ r.2.mem ((c.tc : Thread Cert.FfsRefIdeal.nD Cert.FfsRefIdeal.τ).loc Cert.FfsRefIdeal.main_arg5) = m ((c.tc : Thread Cert.FfsRefIdeal.nD Cert.FfsRefIdeal.τ).loc Cert.FfsRefIdeal.main_arg5)
      ∧ r.2.mem ((c.tc : Thread Cert.FfsRefIdeal.nD Cert.FfsRefIdeal.τ).loc Cert.FfsRefIdeal.main_arg6) = m ((c.tc : Thread Cert.FfsRefIdeal.nD Cert.FfsRefIdeal.τ).loc Cert.FfsRefIdeal.main_arg6)
      ∧ r.2.mem ((c.tc : Thread Cert.FfsRefIdeal.nD Cert.FfsRefIdeal.τ).loc Cert.FfsRefIdeal.main_arg7) = m ((c.tc : Thread Cert.FfsRefIdeal.nD Cert.FfsRefIdeal.τ).loc Cert.FfsRefIdeal.main_arg7)
      ∧ r.2.mem ((c.tc : Thread Cert.FfsRefIdeal.nD Cert.FfsRefIdeal.τ).loc Cert.FfsRefIdeal.main_arg8) = m ((c.tc : Thread Cert.FfsRefIdeal.nD Cert.FfsRefIdeal.τ).loc Cert.FfsRefIdeal.main_arg8))
      ∧ r.2.sem = fun _ => 0)

def quiescent_Nls [hNls : Cert.Nls.Facts] : Prop :=
  ∀ (m : (ℓ : Loc Cert.Nls.nD Cert.Nls.τ Cert.Nls.sig) → Buf (Elt Bits) ℓ) (g : Dev Cert.Nls.nD → PrngReg), Pre_Nls m →
    θ_run (Cert.Nls.defs (F := Bits)) (onTc (τ := Cert.Nls.τ) (Cert.Nls.main (F := Bits))) ⟨m, fun _ => 0, g⟩ (fun r => (∀ c : Dev Cert.Nls.nD,
      r.2.mem ((c.tc : Thread Cert.Nls.nD Cert.Nls.τ).loc Cert.Nls.main_arg0) = m ((c.tc : Thread Cert.Nls.nD Cert.Nls.τ).loc Cert.Nls.main_arg0)
      ∧ r.2.mem ((c.tc : Thread Cert.Nls.nD Cert.Nls.τ).loc Cert.Nls.main_arg1) = m ((c.tc : Thread Cert.Nls.nD Cert.Nls.τ).loc Cert.Nls.main_arg1)
      ∧ r.2.mem ((c.tc : Thread Cert.Nls.nD Cert.Nls.τ).loc Cert.Nls.main_arg2) = m ((c.tc : Thread Cert.Nls.nD Cert.Nls.τ).loc Cert.Nls.main_arg2)
      ∧ r.2.mem ((c.tc : Thread Cert.Nls.nD Cert.Nls.τ).loc Cert.Nls.main_arg3) = m ((c.tc : Thread Cert.Nls.nD Cert.Nls.τ).loc Cert.Nls.main_arg3))
      ∧ r.2.sem = fun _ => 0)

def quiescent_NlsIdeal [hNlsIdeal : Cert.NlsIdeal.Facts] : Prop :=
  ∀ (m : (ℓ : Loc Cert.NlsIdeal.nD Cert.NlsIdeal.τ Cert.NlsIdeal.sig) → Buf (Elt Ideal) ℓ) (g : Dev Cert.NlsIdeal.nD → PrngReg), Pre_NlsIdeal m →
    θ_run (Cert.NlsIdeal.defs (F := Ideal)) (onTc (τ := Cert.NlsIdeal.τ) (Cert.NlsIdeal.main (F := Ideal))) ⟨m, fun _ => 0, g⟩ (fun r => (∀ c : Dev Cert.NlsIdeal.nD,
      r.2.mem ((c.tc : Thread Cert.NlsIdeal.nD Cert.NlsIdeal.τ).loc Cert.NlsIdeal.main_arg0) = m ((c.tc : Thread Cert.NlsIdeal.nD Cert.NlsIdeal.τ).loc Cert.NlsIdeal.main_arg0)
      ∧ r.2.mem ((c.tc : Thread Cert.NlsIdeal.nD Cert.NlsIdeal.τ).loc Cert.NlsIdeal.main_arg1) = m ((c.tc : Thread Cert.NlsIdeal.nD Cert.NlsIdeal.τ).loc Cert.NlsIdeal.main_arg1)
      ∧ r.2.mem ((c.tc : Thread Cert.NlsIdeal.nD Cert.NlsIdeal.τ).loc Cert.NlsIdeal.main_arg2) = m ((c.tc : Thread Cert.NlsIdeal.nD Cert.NlsIdeal.τ).loc Cert.NlsIdeal.main_arg2)
      ∧ r.2.mem ((c.tc : Thread Cert.NlsIdeal.nD Cert.NlsIdeal.τ).loc Cert.NlsIdeal.main_arg3) = m ((c.tc : Thread Cert.NlsIdeal.nD Cert.NlsIdeal.τ).loc Cert.NlsIdeal.main_arg3))
      ∧ r.2.sem = fun _ => 0)

def quiescent_NlsRefIdeal [hNlsRefIdeal : Cert.NlsRefIdeal.Facts] : Prop :=
  ∀ (m : (ℓ : Loc Cert.NlsRefIdeal.nD Cert.NlsRefIdeal.τ Cert.NlsRefIdeal.sig) → Buf (Elt Ideal) ℓ) (g : Dev Cert.NlsRefIdeal.nD → PrngReg), Pre_NlsRefIdeal m →
    θ_run (Cert.NlsRefIdeal.defs (F := Ideal)) (onTc (τ := Cert.NlsRefIdeal.τ) (Cert.NlsRefIdeal.main (F := Ideal))) ⟨m, fun _ => 0, g⟩ (fun r => (∀ c : Dev Cert.NlsRefIdeal.nD,
      r.2.mem ((c.tc : Thread Cert.NlsRefIdeal.nD Cert.NlsRefIdeal.τ).loc Cert.NlsRefIdeal.main_arg0) = m ((c.tc : Thread Cert.NlsRefIdeal.nD Cert.NlsRefIdeal.τ).loc Cert.NlsRefIdeal.main_arg0)
      ∧ r.2.mem ((c.tc : Thread Cert.NlsRefIdeal.nD Cert.NlsRefIdeal.τ).loc Cert.NlsRefIdeal.main_arg1) = m ((c.tc : Thread Cert.NlsRefIdeal.nD Cert.NlsRefIdeal.τ).loc Cert.NlsRefIdeal.main_arg1)
      ∧ r.2.mem ((c.tc : Thread Cert.NlsRefIdeal.nD Cert.NlsRefIdeal.τ).loc Cert.NlsRefIdeal.main_arg2) = m ((c.tc : Thread Cert.NlsRefIdeal.nD Cert.NlsRefIdeal.τ).loc Cert.NlsRefIdeal.main_arg2)
      ∧ r.2.mem ((c.tc : Thread Cert.NlsRefIdeal.nD Cert.NlsRefIdeal.τ).loc Cert.NlsRefIdeal.main_arg3) = m ((c.tc : Thread Cert.NlsRefIdeal.nD Cert.NlsRefIdeal.τ).loc Cert.NlsRefIdeal.main_arg3))
      ∧ r.2.sem = fun _ => 0)

def quiescent_Nss [hNss : Cert.Nss.Facts] : Prop :=
  ∀ (m : (ℓ : Loc Cert.Nss.nD Cert.Nss.τ Cert.Nss.sig) → Buf (Elt Bits) ℓ) (g : Dev Cert.Nss.nD → PrngReg), Pre_Nss m →
    θ_run (Cert.Nss.defs (F := Bits)) (onTc (τ := Cert.Nss.τ) (Cert.Nss.main (F := Bits))) ⟨m, fun _ => 0, g⟩ (fun r => (∀ c : Dev Cert.Nss.nD,
      r.2.mem ((c.tc : Thread Cert.Nss.nD Cert.Nss.τ).loc Cert.Nss.main_arg0) = m ((c.tc : Thread Cert.Nss.nD Cert.Nss.τ).loc Cert.Nss.main_arg0)
      ∧ r.2.mem ((c.tc : Thread Cert.Nss.nD Cert.Nss.τ).loc Cert.Nss.main_arg1) = m ((c.tc : Thread Cert.Nss.nD Cert.Nss.τ).loc Cert.Nss.main_arg1)
      ∧ r.2.mem ((c.tc : Thread Cert.Nss.nD Cert.Nss.τ).loc Cert.Nss.main_arg2) = m ((c.tc : Thread Cert.Nss.nD Cert.Nss.τ).loc Cert.Nss.main_arg2))
      ∧ r.2.sem = fun _ => 0)

def quiescent_NssIdeal [hNssIdeal : Cert.NssIdeal.Facts] : Prop :=
  ∀ (m : (ℓ : Loc Cert.NssIdeal.nD Cert.NssIdeal.τ Cert.NssIdeal.sig) → Buf (Elt Ideal) ℓ) (g : Dev Cert.NssIdeal.nD → PrngReg), Pre_NssIdeal m →
    θ_run (Cert.NssIdeal.defs (F := Ideal)) (onTc (τ := Cert.NssIdeal.τ) (Cert.NssIdeal.main (F := Ideal))) ⟨m, fun _ => 0, g⟩ (fun r => (∀ c : Dev Cert.NssIdeal.nD,
      r.2.mem ((c.tc : Thread Cert.NssIdeal.nD Cert.NssIdeal.τ).loc Cert.NssIdeal.main_arg0) = m ((c.tc : Thread Cert.NssIdeal.nD Cert.NssIdeal.τ).loc Cert.NssIdeal.main_arg0)
      ∧ r.2.mem ((c.tc : Thread Cert.NssIdeal.nD Cert.NssIdeal.τ).loc Cert.NssIdeal.main_arg1) = m ((c.tc : Thread Cert.NssIdeal.nD Cert.NssIdeal.τ).loc Cert.NssIdeal.main_arg1)
      ∧ r.2.mem ((c.tc : Thread Cert.NssIdeal.nD Cert.NssIdeal.τ).loc Cert.NssIdeal.main_arg2) = m ((c.tc : Thread Cert.NssIdeal.nD Cert.NssIdeal.τ).loc Cert.NssIdeal.main_arg2))
      ∧ r.2.sem = fun _ => 0)

def quiescent_NssRefIdeal [hNssRefIdeal : Cert.NssRefIdeal.Facts] : Prop :=
  ∀ (m : (ℓ : Loc Cert.NssRefIdeal.nD Cert.NssRefIdeal.τ Cert.NssRefIdeal.sig) → Buf (Elt Ideal) ℓ) (g : Dev Cert.NssRefIdeal.nD → PrngReg), Pre_NssRefIdeal m →
    θ_run (Cert.NssRefIdeal.defs (F := Ideal)) (onTc (τ := Cert.NssRefIdeal.τ) (Cert.NssRefIdeal.main (F := Ideal))) ⟨m, fun _ => 0, g⟩ (fun r => (∀ c : Dev Cert.NssRefIdeal.nD,
      r.2.mem ((c.tc : Thread Cert.NssRefIdeal.nD Cert.NssRefIdeal.τ).loc Cert.NssRefIdeal.main_arg0) = m ((c.tc : Thread Cert.NssRefIdeal.nD Cert.NssRefIdeal.τ).loc Cert.NssRefIdeal.main_arg0)
      ∧ r.2.mem ((c.tc : Thread Cert.NssRefIdeal.nD Cert.NssRefIdeal.τ).loc Cert.NssRefIdeal.main_arg1) = m ((c.tc : Thread Cert.NssRefIdeal.nD Cert.NssRefIdeal.τ).loc Cert.NssRefIdeal.main_arg1)
      ∧ r.2.mem ((c.tc : Thread Cert.NssRefIdeal.nD Cert.NssRefIdeal.τ).loc Cert.NssRefIdeal.main_arg2) = m ((c.tc : Thread Cert.NssRefIdeal.nD Cert.NssRefIdeal.τ).loc Cert.NssRefIdeal.main_arg2))
      ∧ r.2.sem = fun _ => 0)

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) →
    ∃ (v0 : (c : Dev Cert.LruIdeal.nD) → Buf (Elt Ideal) ((c.tc : Thread Cert.LruIdeal.nD Cert.LruIdeal.τ).loc Cert.LruIdeal.main_v9_0)) (v1 : (c : Dev Cert.LruIdeal.nD) → Buf (Elt Ideal) ((c.tc : Thread Cert.LruIdeal.nD Cert.LruIdeal.τ).loc Cert.LruIdeal.main_v9_1)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v9_0) = v0 c
          ∧ r.2.mem ((c.tc : Thread Cert.LruIdeal.nD Cert.LruIdeal.τ).loc Cert.LruIdeal.main_v9_1) = v1 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v100) = v0 c
          ∧ r.2.mem ((c.tc : Thread Cert.LruRefIdeal.nD Cert.LruRefIdeal.τ).loc Cert.LruRefIdeal.main_v101) = v1 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)
      ∧ m' ((c.tc : Thread Cert.SsdRefIdeal.nD Cert.SsdRefIdeal.τ).loc Cert.SsdRefIdeal.main_arg9) = m ((c.tc : Thread Cert.SsdIdeal.nD Cert.SsdIdeal.τ).loc Cert.SsdIdeal.main_arg9)) →
    ∃ (v0 : (c : Dev Cert.SsdIdeal.nD) → Buf (Elt Ideal) ((c.tc : Thread Cert.SsdIdeal.nD Cert.SsdIdeal.τ).loc Cert.SsdIdeal.main_v11_0)) (v1 : (c : Dev Cert.SsdIdeal.nD) → Buf (Elt Ideal) ((c.tc : Thread Cert.SsdIdeal.nD Cert.SsdIdeal.τ).loc Cert.SsdIdeal.main_v11_1)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v11_0) = v0 c
          ∧ r.2.mem ((c.tc : Thread Cert.SsdIdeal.nD Cert.SsdIdeal.τ).loc Cert.SsdIdeal.main_v11_1) = v1 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v91) = v0 c
          ∧ r.2.mem ((c.tc : Thread Cert.SsdRefIdeal.nD Cert.SsdRefIdeal.τ).loc Cert.SsdRefIdeal.main_v92) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9))

def preserves_LruStep_LruStepIdeal : Prop :=
  True

def algebraic_LruStepIdeal_LruStepRefIdeal [hLruStepIdeal : Cert.LruStepIdeal.Facts] [hLruStepRefIdeal : Cert.LruStepRefIdeal.Facts] : Prop :=
  ∀ (m : (ℓ : Loc Cert.LruStepIdeal.nD Cert.LruStepIdeal.τ Cert.LruStepIdeal.sig) → Buf (Elt Ideal) ℓ) (g : Dev Cert.LruStepIdeal.nD → PrngReg)
    (m' : (ℓ : Loc Cert.LruStepRefIdeal.nD Cert.LruStepRefIdeal.τ Cert.LruStepRefIdeal.sig) → Buf (Elt Ideal) ℓ) (g' : Dev Cert.LruStepRefIdeal.nD → PrngReg), Pre_LruStepIdeal m →
    (∀ c : Dev Cert.LruStepIdeal.nD,
      m' ((c.tc : Thread Cert.LruStepRefIdeal.nD Cert.LruStepRefIdeal.τ).loc Cert.LruStepRefIdeal.main_arg0) = m ((c.tc : Thread Cert.LruStepIdeal.nD Cert.LruStepIdeal.τ).loc Cert.LruStepIdeal.main_arg0)
      ∧ m' ((c.tc : Thread Cert.LruStepRefIdeal.nD Cert.LruStepRefIdeal.τ).loc Cert.LruStepRefIdeal.main_arg1) = m ((c.tc : Thread Cert.LruStepIdeal.nD Cert.LruStepIdeal.τ).loc Cert.LruStepIdeal.main_arg1)
      ∧ m' ((c.tc : Thread Cert.LruStepRefIdeal.nD Cert.LruStepRefIdeal.τ).loc Cert.LruStepRefIdeal.main_arg2) = m ((c.tc : Thread Cert.LruStepIdeal.nD Cert.LruStepIdeal.τ).loc Cert.LruStepIdeal.main_arg2)
      ∧ m' ((c.tc : Thread Cert.LruStepRefIdeal.nD Cert.LruStepRefIdeal.τ).loc Cert.LruStepRefIdeal.main_arg3) = m ((c.tc : Thread Cert.LruStepIdeal.nD Cert.LruStepIdeal.τ).loc Cert.LruStepIdeal.main_arg3)
      ∧ m' ((c.tc : Thread Cert.LruStepRefIdeal.nD Cert.LruStepRefIdeal.τ).loc Cert.LruStepRefIdeal.main_arg4) = m ((c.tc : Thread Cert.LruStepIdeal.nD Cert.LruStepIdeal.τ).loc Cert.LruStepIdeal.main_arg4)
      ∧ m' ((c.tc : Thread Cert.LruStepRefIdeal.nD Cert.LruStepRefIdeal.τ).loc Cert.LruStepRefIdeal.main_arg5) = m ((c.tc : Thread Cert.LruStepIdeal.nD Cert.LruStepIdeal.τ).loc Cert.LruStepIdeal.main_arg5)
      ∧ m' ((c.tc : Thread Cert.LruStepRefIdeal.nD Cert.LruStepRefIdeal.τ).loc Cert.LruStepRefIdeal.main_arg6) = m ((c.tc : Thread Cert.LruStepIdeal.nD Cert.LruStepIdeal.τ).loc Cert.LruStepIdeal.main_arg6)
      ∧ m' ((c.tc : Thread Cert.LruStepRefIdeal.nD Cert.LruStepRefIdeal.τ).loc Cert.LruStepRefIdeal.main_arg7) = m ((c.tc : Thread Cert.LruStepIdeal.nD Cert.LruStepIdeal.τ).loc Cert.LruStepIdeal.main_arg7)
      ∧ m' ((c.tc : Thread Cert.LruStepRefIdeal.nD Cert.LruStepRefIdeal.τ).loc Cert.LruStepRefIdeal.main_arg8) = m ((c.tc : Thread Cert.LruStepIdeal.nD Cert.LruStepIdeal.τ).loc Cert.LruStepIdeal.main_arg8)
      ∧ m' ((c.tc : Thread Cert.LruStepRefIdeal.nD Cert.LruStepRefIdeal.τ).loc Cert.LruStepRefIdeal.main_arg9) = m ((c.tc : Thread Cert.LruStepIdeal.nD Cert.LruStepIdeal.τ).loc Cert.LruStepIdeal.main_arg9)) →
    ∃ (v0 : (c : Dev Cert.LruStepIdeal.nD) → Buf (Elt Ideal) ((c.tc : Thread Cert.LruStepIdeal.nD Cert.LruStepIdeal.τ).loc Cert.LruStepIdeal.main_v7_0)) (v1 : (c : Dev Cert.LruStepIdeal.nD) → Buf (Elt Ideal) ((c.tc : Thread Cert.LruStepIdeal.nD Cert.LruStepIdeal.τ).loc Cert.LruStepIdeal.main_v7_1)),
      θ_run (Cert.LruStepIdeal.defs (F := Ideal)) (onTc (τ := Cert.LruStepIdeal.τ) (Cert.LruStepIdeal.main (F := Ideal))) ⟨m, fun _ => 0, g⟩ (fun r => ∀ c : Dev Cert.LruStepIdeal.nD,
          r.2.mem ((c.tc : Thread Cert.LruStepIdeal.nD Cert.LruStepIdeal.τ).loc Cert.LruStepIdeal.main_v7_0) = v0 c
          ∧ r.2.mem ((c.tc : Thread Cert.LruStepIdeal.nD Cert.LruStepIdeal.τ).loc Cert.LruStepIdeal.main_v7_1) = v1 c
          ∧ r.2.mem ((c.tc : Thread Cert.LruStepIdeal.nD Cert.LruStepIdeal.τ).loc Cert.LruStepIdeal.main_arg0) = m ((c.tc : Thread Cert.LruStepIdeal.nD Cert.LruStepIdeal.τ).loc Cert.LruStepIdeal.main_arg0)
          ∧ r.2.mem ((c.tc : Thread Cert.LruStepIdeal.nD Cert.LruStepIdeal.τ).loc Cert.LruStepIdeal.main_arg1) = m ((c.tc : Thread Cert.LruStepIdeal.nD Cert.LruStepIdeal.τ).loc Cert.LruStepIdeal.main_arg1)
          ∧ r.2.mem ((c.tc : Thread Cert.LruStepIdeal.nD Cert.LruStepIdeal.τ).loc Cert.LruStepIdeal.main_arg2) = m ((c.tc : Thread Cert.LruStepIdeal.nD Cert.LruStepIdeal.τ).loc Cert.LruStepIdeal.main_arg2)
          ∧ r.2.mem ((c.tc : Thread Cert.LruStepIdeal.nD Cert.LruStepIdeal.τ).loc Cert.LruStepIdeal.main_arg3) = m ((c.tc : Thread Cert.LruStepIdeal.nD Cert.LruStepIdeal.τ).loc Cert.LruStepIdeal.main_arg3)
          ∧ r.2.mem ((c.tc : Thread Cert.LruStepIdeal.nD Cert.LruStepIdeal.τ).loc Cert.LruStepIdeal.main_arg4) = m ((c.tc : Thread Cert.LruStepIdeal.nD Cert.LruStepIdeal.τ).loc Cert.LruStepIdeal.main_arg4)
          ∧ r.2.mem ((c.tc : Thread Cert.LruStepIdeal.nD Cert.LruStepIdeal.τ).loc Cert.LruStepIdeal.main_arg5) = m ((c.tc : Thread Cert.LruStepIdeal.nD Cert.LruStepIdeal.τ).loc Cert.LruStepIdeal.main_arg5)
          ∧ r.2.mem ((c.tc : Thread Cert.LruStepIdeal.nD Cert.LruStepIdeal.τ).loc Cert.LruStepIdeal.main_arg6) = m ((c.tc : Thread Cert.LruStepIdeal.nD Cert.LruStepIdeal.τ).loc Cert.LruStepIdeal.main_arg6)
          ∧ r.2.mem ((c.tc : Thread Cert.LruStepIdeal.nD Cert.LruStepIdeal.τ).loc Cert.LruStepIdeal.main_arg7) = m ((c.tc : Thread Cert.LruStepIdeal.nD Cert.LruStepIdeal.τ).loc Cert.LruStepIdeal.main_arg7)
          ∧ r.2.mem ((c.tc : Thread Cert.LruStepIdeal.nD Cert.LruStepIdeal.τ).loc Cert.LruStepIdeal.main_arg8) = m ((c.tc : Thread Cert.LruStepIdeal.nD Cert.LruStepIdeal.τ).loc Cert.LruStepIdeal.main_arg8)
          ∧ r.2.mem ((c.tc : Thread Cert.LruStepIdeal.nD Cert.LruStepIdeal.τ).loc Cert.LruStepIdeal.main_arg9) = m ((c.tc : Thread Cert.LruStepIdeal.nD Cert.LruStepIdeal.τ).loc Cert.LruStepIdeal.main_arg9))
      ∧ θ_run (Cert.LruStepRefIdeal.defs (F := Ideal)) (onTc (τ := Cert.LruStepRefIdeal.τ) (Cert.LruStepRefIdeal.main (F := Ideal))) ⟨m', fun _ => 0, g'⟩ (fun r => ∀ c : Dev Cert.LruStepRefIdeal.nD,
          r.2.mem ((c.tc : Thread Cert.LruStepRefIdeal.nD Cert.LruStepRefIdeal.τ).loc Cert.LruStepRefIdeal.main_v93) = v0 c
          ∧ r.2.mem ((c.tc : Thread Cert.LruStepRefIdeal.nD Cert.LruStepRefIdeal.τ).loc Cert.LruStepRefIdeal.main_v77) = v1 c
          ∧ r.2.mem ((c.tc : Thread Cert.LruStepRefIdeal.nD Cert.LruStepRefIdeal.τ).loc Cert.LruStepRefIdeal.main_arg0) = m' ((c.tc : Thread Cert.LruStepRefIdeal.nD Cert.LruStepRefIdeal.τ).loc Cert.LruStepRefIdeal.main_arg0)
          ∧ r.2.mem ((c.tc : Thread Cert.LruStepRefIdeal.nD Cert.LruStepRefIdeal.τ).loc Cert.LruStepRefIdeal.main_arg1) = m' ((c.tc : Thread Cert.LruStepRefIdeal.nD Cert.LruStepRefIdeal.τ).loc Cert.LruStepRefIdeal.main_arg1)
          ∧ r.2.mem ((c.tc : Thread Cert.LruStepRefIdeal.nD Cert.LruStepRefIdeal.τ).loc Cert.LruStepRefIdeal.main_arg2) = m' ((c.tc : Thread Cert.LruStepRefIdeal.nD Cert.LruStepRefIdeal.τ).loc Cert.LruStepRefIdeal.main_arg2)
          ∧ r.2.mem ((c.tc : Thread Cert.LruStepRefIdeal.nD Cert.LruStepRefIdeal.τ).loc Cert.LruStepRefIdeal.main_arg3) = m' ((c.tc : Thread Cert.LruStepRefIdeal.nD Cert.LruStepRefIdeal.τ).loc Cert.LruStepRefIdeal.main_arg3)
          ∧ r.2.mem ((c.tc : Thread Cert.LruStepRefIdeal.nD Cert.LruStepRefIdeal.τ).loc Cert.LruStepRefIdeal.main_arg4) = m' ((c.tc : Thread Cert.LruStepRefIdeal.nD Cert.LruStepRefIdeal.τ).loc Cert.LruStepRefIdeal.main_arg4)
          ∧ r.2.mem ((c.tc : Thread Cert.LruStepRefIdeal.nD Cert.LruStepRefIdeal.τ).loc Cert.LruStepRefIdeal.main_arg5) = m' ((c.tc : Thread Cert.LruStepRefIdeal.nD Cert.LruStepRefIdeal.τ).loc Cert.LruStepRefIdeal.main_arg5)
          ∧ r.2.mem ((c.tc : Thread Cert.LruStepRefIdeal.nD Cert.LruStepRefIdeal.τ).loc Cert.LruStepRefIdeal.main_arg6) = m' ((c.tc : Thread Cert.LruStepRefIdeal.nD Cert.LruStepRefIdeal.τ).loc Cert.LruStepRefIdeal.main_arg6)
          ∧ r.2.mem ((c.tc : Thread Cert.LruStepRefIdeal.nD Cert.LruStepRefIdeal.τ).loc Cert.LruStepRefIdeal.main_arg7) = m' ((c.tc : Thread Cert.LruStepRefIdeal.nD Cert.LruStepRefIdeal.τ).loc Cert.LruStepRefIdeal.main_arg7)
          ∧ r.2.mem ((c.tc : Thread Cert.LruStepRefIdeal.nD Cert.LruStepRefIdeal.τ).loc Cert.LruStepRefIdeal.main_arg8) = m' ((c.tc : Thread Cert.LruStepRefIdeal.nD Cert.LruStepRefIdeal.τ).loc Cert.LruStepRefIdeal.main_arg8)
          ∧ r.2.mem ((c.tc : Thread Cert.LruStepRefIdeal.nD Cert.LruStepRefIdeal.τ).loc Cert.LruStepRefIdeal.main_arg9) = m' ((c.tc : Thread Cert.LruStepRefIdeal.nD Cert.LruStepRefIdeal.τ).loc Cert.LruStepRefIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Ffk_FfkIdeal : Prop :=
  True

def algebraic_FfkIdeal_FfkRefIdeal [hFfkIdeal : Cert.FfkIdeal.Facts] [hFfkRefIdeal : Cert.FfkRefIdeal.Facts] : Prop :=
  ∀ (m : (ℓ : Loc Cert.FfkIdeal.nD Cert.FfkIdeal.τ Cert.FfkIdeal.sig) → Buf (Elt Ideal) ℓ) (g : Dev Cert.FfkIdeal.nD → PrngReg)
    (m' : (ℓ : Loc Cert.FfkRefIdeal.nD Cert.FfkRefIdeal.τ Cert.FfkRefIdeal.sig) → Buf (Elt Ideal) ℓ) (g' : Dev Cert.FfkRefIdeal.nD → PrngReg), Pre_FfkIdeal m →
    (∀ c : Dev Cert.FfkIdeal.nD,
      m' ((c.tc : Thread Cert.FfkRefIdeal.nD Cert.FfkRefIdeal.τ).loc Cert.FfkRefIdeal.main_arg0) = m ((c.tc : Thread Cert.FfkIdeal.nD Cert.FfkIdeal.τ).loc Cert.FfkIdeal.main_arg0)
      ∧ m' ((c.tc : Thread Cert.FfkRefIdeal.nD Cert.FfkRefIdeal.τ).loc Cert.FfkRefIdeal.main_arg1) = m ((c.tc : Thread Cert.FfkIdeal.nD Cert.FfkIdeal.τ).loc Cert.FfkIdeal.main_arg1)
      ∧ m' ((c.tc : Thread Cert.FfkRefIdeal.nD Cert.FfkRefIdeal.τ).loc Cert.FfkRefIdeal.main_arg2) = m ((c.tc : Thread Cert.FfkIdeal.nD Cert.FfkIdeal.τ).loc Cert.FfkIdeal.main_arg2)
      ∧ m' ((c.tc : Thread Cert.FfkRefIdeal.nD Cert.FfkRefIdeal.τ).loc Cert.FfkRefIdeal.main_arg3) = m ((c.tc : Thread Cert.FfkIdeal.nD Cert.FfkIdeal.τ).loc Cert.FfkIdeal.main_arg3)
      ∧ m' ((c.tc : Thread Cert.FfkRefIdeal.nD Cert.FfkRefIdeal.τ).loc Cert.FfkRefIdeal.main_arg4) = m ((c.tc : Thread Cert.FfkIdeal.nD Cert.FfkIdeal.τ).loc Cert.FfkIdeal.main_arg4)
      ∧ m' ((c.tc : Thread Cert.FfkRefIdeal.nD Cert.FfkRefIdeal.τ).loc Cert.FfkRefIdeal.main_arg5) = m ((c.tc : Thread Cert.FfkIdeal.nD Cert.FfkIdeal.τ).loc Cert.FfkIdeal.main_arg5)
      ∧ m' ((c.tc : Thread Cert.FfkRefIdeal.nD Cert.FfkRefIdeal.τ).loc Cert.FfkRefIdeal.main_arg6) = m ((c.tc : Thread Cert.FfkIdeal.nD Cert.FfkIdeal.τ).loc Cert.FfkIdeal.main_arg6)
      ∧ m' ((c.tc : Thread Cert.FfkRefIdeal.nD Cert.FfkRefIdeal.τ).loc Cert.FfkRefIdeal.main_arg7) = m ((c.tc : Thread Cert.FfkIdeal.nD Cert.FfkIdeal.τ).loc Cert.FfkIdeal.main_arg7)) →
    ∃ (v0 : (c : Dev Cert.FfkIdeal.nD) → Buf (Elt Ideal) ((c.tc : Thread Cert.FfkIdeal.nD Cert.FfkIdeal.τ).loc Cert.FfkIdeal.main_v7)),
      θ_run (Cert.FfkIdeal.defs (F := Ideal)) (onTc (τ := Cert.FfkIdeal.τ) (Cert.FfkIdeal.main (F := Ideal))) ⟨m, fun _ => 0, g⟩ (fun r => ∀ c : Dev Cert.FfkIdeal.nD,
          r.2.mem ((c.tc : Thread Cert.FfkIdeal.nD Cert.FfkIdeal.τ).loc Cert.FfkIdeal.main_v7) = v0 c
          ∧ r.2.mem ((c.tc : Thread Cert.FfkIdeal.nD Cert.FfkIdeal.τ).loc Cert.FfkIdeal.main_arg0) = m ((c.tc : Thread Cert.FfkIdeal.nD Cert.FfkIdeal.τ).loc Cert.FfkIdeal.main_arg0)
          ∧ r.2.mem ((c.tc : Thread Cert.FfkIdeal.nD Cert.FfkIdeal.τ).loc Cert.FfkIdeal.main_arg1) = m ((c.tc : Thread Cert.FfkIdeal.nD Cert.FfkIdeal.τ).loc Cert.FfkIdeal.main_arg1)
          ∧ r.2.mem ((c.tc : Thread Cert.FfkIdeal.nD Cert.FfkIdeal.τ).loc Cert.FfkIdeal.main_arg2) = m ((c.tc : Thread Cert.FfkIdeal.nD Cert.FfkIdeal.τ).loc Cert.FfkIdeal.main_arg2)
          ∧ r.2.mem ((c.tc : Thread Cert.FfkIdeal.nD Cert.FfkIdeal.τ).loc Cert.FfkIdeal.main_arg3) = m ((c.tc : Thread Cert.FfkIdeal.nD Cert.FfkIdeal.τ).loc Cert.FfkIdeal.main_arg3)
          ∧ r.2.mem ((c.tc : Thread Cert.FfkIdeal.nD Cert.FfkIdeal.τ).loc Cert.FfkIdeal.main_arg4) = m ((c.tc : Thread Cert.FfkIdeal.nD Cert.FfkIdeal.τ).loc Cert.FfkIdeal.main_arg4)
          ∧ r.2.mem ((c.tc : Thread Cert.FfkIdeal.nD Cert.FfkIdeal.τ).loc Cert.FfkIdeal.main_arg5) = m ((c.tc : Thread Cert.FfkIdeal.nD Cert.FfkIdeal.τ).loc Cert.FfkIdeal.main_arg5)
          ∧ r.2.mem ((c.tc : Thread Cert.FfkIdeal.nD Cert.FfkIdeal.τ).loc Cert.FfkIdeal.main_arg6) = m ((c.tc : Thread Cert.FfkIdeal.nD Cert.FfkIdeal.τ).loc Cert.FfkIdeal.main_arg6)
          ∧ r.2.mem ((c.tc : Thread Cert.FfkIdeal.nD Cert.FfkIdeal.τ).loc Cert.FfkIdeal.main_arg7) = m ((c.tc : Thread Cert.FfkIdeal.nD Cert.FfkIdeal.τ).loc Cert.FfkIdeal.main_arg7))
      ∧ θ_run (Cert.FfkRefIdeal.defs (F := Ideal)) (onTc (τ := Cert.FfkRefIdeal.τ) (Cert.FfkRefIdeal.main (F := Ideal))) ⟨m', fun _ => 0, g'⟩ (fun r => ∀ c : Dev Cert.FfkRefIdeal.nD,
          r.2.mem ((c.tc : Thread Cert.FfkRefIdeal.nD Cert.FfkRefIdeal.τ).loc Cert.FfkRefIdeal.main_v46) = v0 c
          ∧ r.2.mem ((c.tc : Thread Cert.FfkRefIdeal.nD Cert.FfkRefIdeal.τ).loc Cert.FfkRefIdeal.main_arg0) = m' ((c.tc : Thread Cert.FfkRefIdeal.nD Cert.FfkRefIdeal.τ).loc Cert.FfkRefIdeal.main_arg0)
          ∧ r.2.mem ((c.tc : Thread Cert.FfkRefIdeal.nD Cert.FfkRefIdeal.τ).loc Cert.FfkRefIdeal.main_arg1) = m' ((c.tc : Thread Cert.FfkRefIdeal.nD Cert.FfkRefIdeal.τ).loc Cert.FfkRefIdeal.main_arg1)
          ∧ r.2.mem ((c.tc : Thread Cert.FfkRefIdeal.nD Cert.FfkRefIdeal.τ).loc Cert.FfkRefIdeal.main_arg2) = m' ((c.tc : Thread Cert.FfkRefIdeal.nD Cert.FfkRefIdeal.τ).loc Cert.FfkRefIdeal.main_arg2)
          ∧ r.2.mem ((c.tc : Thread Cert.FfkRefIdeal.nD Cert.FfkRefIdeal.τ).loc Cert.FfkRefIdeal.main_arg3) = m' ((c.tc : Thread Cert.FfkRefIdeal.nD Cert.FfkRefIdeal.τ).loc Cert.FfkRefIdeal.main_arg3)
          ∧ r.2.mem ((c.tc : Thread Cert.FfkRefIdeal.nD Cert.FfkRefIdeal.τ).loc Cert.FfkRefIdeal.main_arg4) = m' ((c.tc : Thread Cert.FfkRefIdeal.nD Cert.FfkRefIdeal.τ).loc Cert.FfkRefIdeal.main_arg4)
          ∧ r.2.mem ((c.tc : Thread Cert.FfkRefIdeal.nD Cert.FfkRefIdeal.τ).loc Cert.FfkRefIdeal.main_arg5) = m' ((c.tc : Thread Cert.FfkRefIdeal.nD Cert.FfkRefIdeal.τ).loc Cert.FfkRefIdeal.main_arg5)
          ∧ r.2.mem ((c.tc : Thread Cert.FfkRefIdeal.nD Cert.FfkRefIdeal.τ).loc Cert.FfkRefIdeal.main_arg6) = m' ((c.tc : Thread Cert.FfkRefIdeal.nD Cert.FfkRefIdeal.τ).loc Cert.FfkRefIdeal.main_arg6)
          ∧ r.2.mem ((c.tc : Thread Cert.FfkRefIdeal.nD Cert.FfkRefIdeal.τ).loc Cert.FfkRefIdeal.main_arg7) = m' ((c.tc : Thread Cert.FfkRefIdeal.nD Cert.FfkRefIdeal.τ).loc Cert.FfkRefIdeal.main_arg7))

def preserves_Nml_NmlIdeal : Prop :=
  True

def algebraic_NmlIdeal_NmlRefIdeal [hNmlIdeal : Cert.NmlIdeal.Facts] [hNmlRefIdeal : Cert.NmlRefIdeal.Facts] : Prop :=
  ∀ (m : (ℓ : Loc Cert.NmlIdeal.nD Cert.NmlIdeal.τ Cert.NmlIdeal.sig) → Buf (Elt Ideal) ℓ) (g : Dev Cert.NmlIdeal.nD → PrngReg)
    (m' : (ℓ : Loc Cert.NmlRefIdeal.nD Cert.NmlRefIdeal.τ Cert.NmlRefIdeal.sig) → Buf (Elt Ideal) ℓ) (g' : Dev Cert.NmlRefIdeal.nD → PrngReg), Pre_NmlIdeal m →
    (∀ c : Dev Cert.NmlIdeal.nD,
      m' ((c.tc : Thread Cert.NmlRefIdeal.nD Cert.NmlRefIdeal.τ).loc Cert.NmlRefIdeal.main_arg0) = m ((c.tc : Thread Cert.NmlIdeal.nD Cert.NmlIdeal.τ).loc Cert.NmlIdeal.main_arg0)
      ∧ m' ((c.tc : Thread Cert.NmlRefIdeal.nD Cert.NmlRefIdeal.τ).loc Cert.NmlRefIdeal.main_arg1) = m ((c.tc : Thread Cert.NmlIdeal.nD Cert.NmlIdeal.τ).loc Cert.NmlIdeal.main_arg1)
      ∧ m' ((c.tc : Thread Cert.NmlRefIdeal.nD Cert.NmlRefIdeal.τ).loc Cert.NmlRefIdeal.main_arg2) = m ((c.tc : Thread Cert.NmlIdeal.nD Cert.NmlIdeal.τ).loc Cert.NmlIdeal.main_arg2)
      ∧ m' ((c.tc : Thread Cert.NmlRefIdeal.nD Cert.NmlRefIdeal.τ).loc Cert.NmlRefIdeal.main_arg3) = m ((c.tc : Thread Cert.NmlIdeal.nD Cert.NmlIdeal.τ).loc Cert.NmlIdeal.main_arg3)) →
    ∃ (v0 : (c : Dev Cert.NmlIdeal.nD) → Buf (Elt Ideal) ((c.tc : Thread Cert.NmlIdeal.nD Cert.NmlIdeal.τ).loc Cert.NmlIdeal.main_v3)),
      θ_run (Cert.NmlIdeal.defs (F := Ideal)) (onTc (τ := Cert.NmlIdeal.τ) (Cert.NmlIdeal.main (F := Ideal))) ⟨m, fun _ => 0, g⟩ (fun r => ∀ c : Dev Cert.NmlIdeal.nD,
          r.2.mem ((c.tc : Thread Cert.NmlIdeal.nD Cert.NmlIdeal.τ).loc Cert.NmlIdeal.main_v3) = v0 c
          ∧ r.2.mem ((c.tc : Thread Cert.NmlIdeal.nD Cert.NmlIdeal.τ).loc Cert.NmlIdeal.main_arg0) = m ((c.tc : Thread Cert.NmlIdeal.nD Cert.NmlIdeal.τ).loc Cert.NmlIdeal.main_arg0)
          ∧ r.2.mem ((c.tc : Thread Cert.NmlIdeal.nD Cert.NmlIdeal.τ).loc Cert.NmlIdeal.main_arg1) = m ((c.tc : Thread Cert.NmlIdeal.nD Cert.NmlIdeal.τ).loc Cert.NmlIdeal.main_arg1)
          ∧ r.2.mem ((c.tc : Thread Cert.NmlIdeal.nD Cert.NmlIdeal.τ).loc Cert.NmlIdeal.main_arg2) = m ((c.tc : Thread Cert.NmlIdeal.nD Cert.NmlIdeal.τ).loc Cert.NmlIdeal.main_arg2)
          ∧ r.2.mem ((c.tc : Thread Cert.NmlIdeal.nD Cert.NmlIdeal.τ).loc Cert.NmlIdeal.main_arg3) = m ((c.tc : Thread Cert.NmlIdeal.nD Cert.NmlIdeal.τ).loc Cert.NmlIdeal.main_arg3))
      ∧ θ_run (Cert.NmlRefIdeal.defs (F := Ideal)) (onTc (τ := Cert.NmlRefIdeal.τ) (Cert.NmlRefIdeal.main (F := Ideal))) ⟨m', fun _ => 0, g'⟩ (fun r => ∀ c : Dev Cert.NmlRefIdeal.nD,
          r.2.mem ((c.tc : Thread Cert.NmlRefIdeal.nD Cert.NmlRefIdeal.τ).loc Cert.NmlRefIdeal.main_v16) = v0 c
          ∧ r.2.mem ((c.tc : Thread Cert.NmlRefIdeal.nD Cert.NmlRefIdeal.τ).loc Cert.NmlRefIdeal.main_arg0) = m' ((c.tc : Thread Cert.NmlRefIdeal.nD Cert.NmlRefIdeal.τ).loc Cert.NmlRefIdeal.main_arg0)
          ∧ r.2.mem ((c.tc : Thread Cert.NmlRefIdeal.nD Cert.NmlRefIdeal.τ).loc Cert.NmlRefIdeal.main_arg1) = m' ((c.tc : Thread Cert.NmlRefIdeal.nD Cert.NmlRefIdeal.τ).loc Cert.NmlRefIdeal.main_arg1)
          ∧ r.2.mem ((c.tc : Thread Cert.NmlRefIdeal.nD Cert.NmlRefIdeal.τ).loc Cert.NmlRefIdeal.main_arg2) = m' ((c.tc : Thread Cert.NmlRefIdeal.nD Cert.NmlRefIdeal.τ).loc Cert.NmlRefIdeal.main_arg2)
          ∧ r.2.mem ((c.tc : Thread Cert.NmlRefIdeal.nD Cert.NmlRefIdeal.τ).loc Cert.NmlRefIdeal.main_arg3) = m' ((c.tc : Thread Cert.NmlRefIdeal.nD Cert.NmlRefIdeal.τ).loc Cert.NmlRefIdeal.main_arg3))

def preserves_Nms_NmsIdeal : Prop :=
  True

def algebraic_NmsIdeal_NmsRefIdeal [hNmsIdeal : Cert.NmsIdeal.Facts] [hNmsRefIdeal : Cert.NmsRefIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)
      ∧ m' ((c.tc : Thread Cert.NmsRefIdeal.nD Cert.NmsRefIdeal.τ).loc Cert.NmsRefIdeal.main_arg2) = m ((c.tc : Thread Cert.NmsIdeal.nD Cert.NmsIdeal.τ).loc Cert.NmsIdeal.main_arg2)) →
    ∃ (v0 : (c : Dev Cert.NmsIdeal.nD) → Buf (Elt Ideal) ((c.tc : Thread Cert.NmsIdeal.nD Cert.NmsIdeal.τ).loc Cert.NmsIdeal.main_v8_0)) (v1 : (c : Dev Cert.NmsIdeal.nD) → Buf (Elt Ideal) ((c.tc : Thread Cert.NmsIdeal.nD Cert.NmsIdeal.τ).loc Cert.NmsIdeal.main_v8_1)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v8_0) = v0 c
          ∧ r.2.mem ((c.tc : Thread Cert.NmsIdeal.nD Cert.NmsIdeal.τ).loc Cert.NmsIdeal.main_v8_1) = v1 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1)
          ∧ r.2.mem ((c.tc : Thread Cert.NmsIdeal.nD Cert.NmsIdeal.τ).loc Cert.NmsIdeal.main_arg2) = m ((c.tc : Thread Cert.NmsIdeal.nD Cert.NmsIdeal.τ).loc Cert.NmsIdeal.main_arg2))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v17) = v0 c
          ∧ r.2.mem ((c.tc : Thread Cert.NmsRefIdeal.nD Cert.NmsRefIdeal.τ).loc Cert.NmsRefIdeal.main_v18) = v1 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1)
          ∧ r.2.mem ((c.tc : Thread Cert.NmsRefIdeal.nD Cert.NmsRefIdeal.τ).loc Cert.NmsRefIdeal.main_arg2) = m' ((c.tc : Thread Cert.NmsRefIdeal.nD Cert.NmsRefIdeal.τ).loc Cert.NmsRefIdeal.main_arg2))

def preserves_Ffs_FfsIdeal : Prop :=
  True

def algebraic_FfsIdeal_FfsRefIdeal [hFfsIdeal : Cert.FfsIdeal.Facts] [hFfsRefIdeal : Cert.FfsRefIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsRefIdeal.nD Cert.FfsRefIdeal.τ Cert.FfsRefIdeal.sig) → Buf (Elt Ideal) ℓ) (g' : Dev Cert.FfsRefIdeal.nD → PrngReg), Pre_FfsIdeal m →
    (∀ c : Dev Cert.FfsIdeal.nD,
      m' ((c.tc : Thread Cert.FfsRefIdeal.nD Cert.FfsRefIdeal.τ).loc Cert.FfsRefIdeal.main_arg0) = m ((c.tc : Thread Cert.FfsIdeal.nD Cert.FfsIdeal.τ).loc Cert.FfsIdeal.main_arg0)
      ∧ m' ((c.tc : Thread Cert.FfsRefIdeal.nD Cert.FfsRefIdeal.τ).loc Cert.FfsRefIdeal.main_arg1) = m ((c.tc : Thread Cert.FfsIdeal.nD Cert.FfsIdeal.τ).loc Cert.FfsIdeal.main_arg1)
      ∧ m' ((c.tc : Thread Cert.FfsRefIdeal.nD Cert.FfsRefIdeal.τ).loc Cert.FfsRefIdeal.main_arg2) = m ((c.tc : Thread Cert.FfsIdeal.nD Cert.FfsIdeal.τ).loc Cert.FfsIdeal.main_arg2)
      ∧ m' ((c.tc : Thread Cert.FfsRefIdeal.nD Cert.FfsRefIdeal.τ).loc Cert.FfsRefIdeal.main_arg3) = m ((c.tc : Thread Cert.FfsIdeal.nD Cert.FfsIdeal.τ).loc Cert.FfsIdeal.main_arg3)
      ∧ m' ((c.tc : Thread Cert.FfsRefIdeal.nD Cert.FfsRefIdeal.τ).loc Cert.FfsRefIdeal.main_arg4) = m ((c.tc : Thread Cert.FfsIdeal.nD Cert.FfsIdeal.τ).loc Cert.FfsIdeal.main_arg4)
      ∧ m' ((c.tc : Thread Cert.FfsRefIdeal.nD Cert.FfsRefIdeal.τ).loc Cert.FfsRefIdeal.main_arg5) = m ((c.tc : Thread Cert.FfsIdeal.nD Cert.FfsIdeal.τ).loc Cert.FfsIdeal.main_arg5)
      ∧ m' ((c.tc : Thread Cert.FfsRefIdeal.nD Cert.FfsRefIdeal.τ).loc Cert.FfsRefIdeal.main_arg6) = m ((c.tc : Thread Cert.FfsIdeal.nD Cert.FfsIdeal.τ).loc Cert.FfsIdeal.main_arg6)
      ∧ m' ((c.tc : Thread Cert.FfsRefIdeal.nD Cert.FfsRefIdeal.τ).loc Cert.FfsRefIdeal.main_arg7) = m ((c.tc : Thread Cert.FfsIdeal.nD Cert.FfsIdeal.τ).loc Cert.FfsIdeal.main_arg7)
      ∧ m' ((c.tc : Thread Cert.FfsRefIdeal.nD Cert.FfsRefIdeal.τ).loc Cert.FfsRefIdeal.main_arg8) = m ((c.tc : Thread Cert.FfsIdeal.nD Cert.FfsIdeal.τ).loc Cert.FfsIdeal.main_arg8)) →
    ∃ (v0 : (c : Dev Cert.FfsIdeal.nD) → Buf (Elt Ideal) ((c.tc : Thread Cert.FfsIdeal.nD Cert.FfsIdeal.τ).loc Cert.FfsIdeal.main_v7)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v7) = v0 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
          ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5)
          ∧ r.2.mem ((c.tc : Thread Cert.FfsIdeal.nD Cert.FfsIdeal.τ).loc Cert.FfsIdeal.main_arg6) = m ((c.tc : Thread Cert.FfsIdeal.nD Cert.FfsIdeal.τ).loc Cert.FfsIdeal.main_arg6)
          ∧ r.2.mem ((c.tc : Thread Cert.FfsIdeal.nD Cert.FfsIdeal.τ).loc Cert.FfsIdeal.main_arg7) = m ((c.tc : Thread Cert.FfsIdeal.nD Cert.FfsIdeal.τ).loc Cert.FfsIdeal.main_arg7)
          ∧ r.2.mem ((c.tc : Thread Cert.FfsIdeal.nD Cert.FfsIdeal.τ).loc Cert.FfsIdeal.main_arg8) = m ((c.tc : Thread Cert.FfsIdeal.nD Cert.FfsIdeal.τ).loc Cert.FfsIdeal.main_arg8))
      ∧ θ_run (Cert.FfsRefIdeal.defs (F := Ideal)) (onTc (τ := Cert.FfsRefIdeal.τ) (Cert.FfsRefIdeal.main (F := Ideal))) ⟨m', fun _ => 0, g'⟩ (fun r => ∀ c : Dev Cert.FfsRefIdeal.nD,
          r.2.mem ((c.tc : Thread Cert.FfsRefIdeal.nD Cert.FfsRefIdeal.τ).loc Cert.FfsRefIdeal.main_v49) = v0 c
          ∧ r.2.mem ((c.tc : Thread Cert.FfsRefIdeal.nD Cert.FfsRefIdeal.τ).loc Cert.FfsRefIdeal.main_arg0) = m' ((c.tc : Thread Cert.FfsRefIdeal.nD Cert.FfsRefIdeal.τ).loc Cert.FfsRefIdeal.main_arg0)
          ∧ r.2.mem ((c.tc : Thread Cert.FfsRefIdeal.nD Cert.FfsRefIdeal.τ).loc Cert.FfsRefIdeal.main_arg1) = m' ((c.tc : Thread Cert.FfsRefIdeal.nD Cert.FfsRefIdeal.τ).loc Cert.FfsRefIdeal.main_arg1)
          ∧ r.2.mem ((c.tc : Thread Cert.FfsRefIdeal.nD Cert.FfsRefIdeal.τ).loc Cert.FfsRefIdeal.main_arg2) = m' ((c.tc : Thread Cert.FfsRefIdeal.nD Cert.FfsRefIdeal.τ).loc Cert.FfsRefIdeal.main_arg2)
          ∧ r.2.mem ((c.tc : Thread Cert.FfsRefIdeal.nD Cert.FfsRefIdeal.τ).loc Cert.FfsRefIdeal.main_arg3) = m' ((c.tc : Thread Cert.FfsRefIdeal.nD Cert.FfsRefIdeal.τ).loc Cert.FfsRefIdeal.main_arg3)
          ∧ r.2.mem ((c.tc : Thread Cert.FfsRefIdeal.nD Cert.FfsRefIdeal.τ).loc Cert.FfsRefIdeal.main_arg4) = m' ((c.tc : Thread Cert.FfsRefIdeal.nD Cert.FfsRefIdeal.τ).loc Cert.FfsRefIdeal.main_arg4)
          ∧ r.2.mem ((c.tc : Thread Cert.FfsRefIdeal.nD Cert.FfsRefIdeal.τ).loc Cert.FfsRefIdeal.main_arg5) = m' ((c.tc : Thread Cert.FfsRefIdeal.nD Cert.FfsRefIdeal.τ).loc Cert.FfsRefIdeal.main_arg5)
          ∧ r.2.mem ((c.tc : Thread Cert.FfsRefIdeal.nD Cert.FfsRefIdeal.τ).loc Cert.FfsRefIdeal.main_arg6) = m' ((c.tc : Thread Cert.FfsRefIdeal.nD Cert.FfsRefIdeal.τ).loc Cert.FfsRefIdeal.main_arg6)
          ∧ r.2.mem ((c.tc : Thread Cert.FfsRefIdeal.nD Cert.FfsRefIdeal.τ).loc Cert.FfsRefIdeal.main_arg7) = m' ((c.tc : Thread Cert.FfsRefIdeal.nD Cert.FfsRefIdeal.τ).loc Cert.FfsRefIdeal.main_arg7)
          ∧ r.2.mem ((c.tc : Thread Cert.FfsRefIdeal.nD Cert.FfsRefIdeal.τ).loc Cert.FfsRefIdeal.main_arg8) = m' ((c.tc : Thread Cert.FfsRefIdeal.nD Cert.FfsRefIdeal.τ).loc Cert.FfsRefIdeal.main_arg8))

def preserves_Nls_NlsIdeal : Prop :=
  True

def algebraic_NlsIdeal_NlsRefIdeal [hNlsIdeal : Cert.NlsIdeal.Facts] [hNlsRefIdeal : Cert.NlsRefIdeal.Facts] : Prop :=
  ∀ (m : (ℓ : Loc Cert.NlsIdeal.nD Cert.NlsIdeal.τ Cert.NlsIdeal.sig) → Buf (Elt Ideal) ℓ) (g : Dev Cert.NlsIdeal.nD → PrngReg)
    (m' : (ℓ : Loc Cert.NlsRefIdeal.nD Cert.NlsRefIdeal.τ Cert.NlsRefIdeal.sig) → Buf (Elt Ideal) ℓ) (g' : Dev Cert.NlsRefIdeal.nD → PrngReg), Pre_NlsIdeal m →
    (∀ c : Dev Cert.NlsIdeal.nD,
      m' ((c.tc : Thread Cert.NlsRefIdeal.nD Cert.NlsRefIdeal.τ).loc Cert.NlsRefIdeal.main_arg0) = m ((c.tc : Thread Cert.NlsIdeal.nD Cert.NlsIdeal.τ).loc Cert.NlsIdeal.main_arg0)
      ∧ m' ((c.tc : Thread Cert.NlsRefIdeal.nD Cert.NlsRefIdeal.τ).loc Cert.NlsRefIdeal.main_arg1) = m ((c.tc : Thread Cert.NlsIdeal.nD Cert.NlsIdeal.τ).loc Cert.NlsIdeal.main_arg1)
      ∧ m' ((c.tc : Thread Cert.NlsRefIdeal.nD Cert.NlsRefIdeal.τ).loc Cert.NlsRefIdeal.main_arg2) = m ((c.tc : Thread Cert.NlsIdeal.nD Cert.NlsIdeal.τ).loc Cert.NlsIdeal.main_arg2)
      ∧ m' ((c.tc : Thread Cert.NlsRefIdeal.nD Cert.NlsRefIdeal.τ).loc Cert.NlsRefIdeal.main_arg3) = m ((c.tc : Thread Cert.NlsIdeal.nD Cert.NlsIdeal.τ).loc Cert.NlsIdeal.main_arg3)) →
    ∃ (v0 : (c : Dev Cert.NlsIdeal.nD) → Buf (Elt Ideal) ((c.tc : Thread Cert.NlsIdeal.nD Cert.NlsIdeal.τ).loc Cert.NlsIdeal.main_v3)),
      θ_run (Cert.NlsIdeal.defs (F := Ideal)) (onTc (τ := Cert.NlsIdeal.τ) (Cert.NlsIdeal.main (F := Ideal))) ⟨m, fun _ => 0, g⟩ (fun r => ∀ c : Dev Cert.NlsIdeal.nD,
          r.2.mem ((c.tc : Thread Cert.NlsIdeal.nD Cert.NlsIdeal.τ).loc Cert.NlsIdeal.main_v3) = v0 c
          ∧ r.2.mem ((c.tc : Thread Cert.NlsIdeal.nD Cert.NlsIdeal.τ).loc Cert.NlsIdeal.main_arg0) = m ((c.tc : Thread Cert.NlsIdeal.nD Cert.NlsIdeal.τ).loc Cert.NlsIdeal.main_arg0)
          ∧ r.2.mem ((c.tc : Thread Cert.NlsIdeal.nD Cert.NlsIdeal.τ).loc Cert.NlsIdeal.main_arg1) = m ((c.tc : Thread Cert.NlsIdeal.nD Cert.NlsIdeal.τ).loc Cert.NlsIdeal.main_arg1)
          ∧ r.2.mem ((c.tc : Thread Cert.NlsIdeal.nD Cert.NlsIdeal.τ).loc Cert.NlsIdeal.main_arg2) = m ((c.tc : Thread Cert.NlsIdeal.nD Cert.NlsIdeal.τ).loc Cert.NlsIdeal.main_arg2)
          ∧ r.2.mem ((c.tc : Thread Cert.NlsIdeal.nD Cert.NlsIdeal.τ).loc Cert.NlsIdeal.main_arg3) = m ((c.tc : Thread Cert.NlsIdeal.nD Cert.NlsIdeal.τ).loc Cert.NlsIdeal.main_arg3))
      ∧ θ_run (Cert.NlsRefIdeal.defs (F := Ideal)) (onTc (τ := Cert.NlsRefIdeal.τ) (Cert.NlsRefIdeal.main (F := Ideal))) ⟨m', fun _ => 0, g'⟩ (fun r => ∀ c : Dev Cert.NlsRefIdeal.nD,
          r.2.mem ((c.tc : Thread Cert.NlsRefIdeal.nD Cert.NlsRefIdeal.τ).loc Cert.NlsRefIdeal.main_v16) = v0 c
          ∧ r.2.mem ((c.tc : Thread Cert.NlsRefIdeal.nD Cert.NlsRefIdeal.τ).loc Cert.NlsRefIdeal.main_arg0) = m' ((c.tc : Thread Cert.NlsRefIdeal.nD Cert.NlsRefIdeal.τ).loc Cert.NlsRefIdeal.main_arg0)
          ∧ r.2.mem ((c.tc : Thread Cert.NlsRefIdeal.nD Cert.NlsRefIdeal.τ).loc Cert.NlsRefIdeal.main_arg1) = m' ((c.tc : Thread Cert.NlsRefIdeal.nD Cert.NlsRefIdeal.τ).loc Cert.NlsRefIdeal.main_arg1)
          ∧ r.2.mem ((c.tc : Thread Cert.NlsRefIdeal.nD Cert.NlsRefIdeal.τ).loc Cert.NlsRefIdeal.main_arg2) = m' ((c.tc : Thread Cert.NlsRefIdeal.nD Cert.NlsRefIdeal.τ).loc Cert.NlsRefIdeal.main_arg2)
          ∧ r.2.mem ((c.tc : Thread Cert.NlsRefIdeal.nD Cert.NlsRefIdeal.τ).loc Cert.NlsRefIdeal.main_arg3) = m' ((c.tc : Thread Cert.NlsRefIdeal.nD Cert.NlsRefIdeal.τ).loc Cert.NlsRefIdeal.main_arg3))

def preserves_Nss_NssIdeal : Prop :=
  True

def algebraic_NssIdeal_NssRefIdeal [hNssIdeal : Cert.NssIdeal.Facts] [hNssRefIdeal : Cert.NssRefIdeal.Facts] : Prop :=
  ∀ (m : (ℓ : Loc Cert.NssIdeal.nD Cert.NssIdeal.τ Cert.NssIdeal.sig) → Buf (Elt Ideal) ℓ) (g : Dev Cert.NssIdeal.nD → PrngReg)
    (m' : (ℓ : Loc Cert.NssRefIdeal.nD Cert.NssRefIdeal.τ Cert.NssRefIdeal.sig) → Buf (Elt Ideal) ℓ) (g' : Dev Cert.NssRefIdeal.nD → PrngReg), Pre_NssIdeal m →
    (∀ c : Dev Cert.NssIdeal.nD,
      m' ((c.tc : Thread Cert.NssRefIdeal.nD Cert.NssRefIdeal.τ).loc Cert.NssRefIdeal.main_arg0) = m ((c.tc : Thread Cert.NssIdeal.nD Cert.NssIdeal.τ).loc Cert.NssIdeal.main_arg0)
      ∧ m' ((c.tc : Thread Cert.NssRefIdeal.nD Cert.NssRefIdeal.τ).loc Cert.NssRefIdeal.main_arg1) = m ((c.tc : Thread Cert.NssIdeal.nD Cert.NssIdeal.τ).loc Cert.NssIdeal.main_arg1)
      ∧ m' ((c.tc : Thread Cert.NssRefIdeal.nD Cert.NssRefIdeal.τ).loc Cert.NssRefIdeal.main_arg2) = m ((c.tc : Thread Cert.NssIdeal.nD Cert.NssIdeal.τ).loc Cert.NssIdeal.main_arg2)) →
    ∃ (v0 : (c : Dev Cert.NssIdeal.nD) → Buf (Elt Ideal) ((c.tc : Thread Cert.NssIdeal.nD Cert.NssIdeal.τ).loc Cert.NssIdeal.main_v8_0)) (v1 : (c : Dev Cert.NssIdeal.nD) → Buf (Elt Ideal) ((c.tc : Thread Cert.NssIdeal.nD Cert.NssIdeal.τ).loc Cert.NssIdeal.main_v8_1)),
      θ_run (Cert.NssIdeal.defs (F := Ideal)) (onTc (τ := Cert.NssIdeal.τ) (Cert.NssIdeal.main (F := Ideal))) ⟨m, fun _ => 0, g⟩ (fun r => ∀ c : Dev Cert.NssIdeal.nD,
          r.2.mem ((c.tc : Thread Cert.NssIdeal.nD Cert.NssIdeal.τ).loc Cert.NssIdeal.main_v8_0) = v0 c
          ∧ r.2.mem ((c.tc : Thread Cert.NssIdeal.nD Cert.NssIdeal.τ).loc Cert.NssIdeal.main_v8_1) = v1 c
          ∧ r.2.mem ((c.tc : Thread Cert.NssIdeal.nD Cert.NssIdeal.τ).loc Cert.NssIdeal.main_arg0) = m ((c.tc : Thread Cert.NssIdeal.nD Cert.NssIdeal.τ).loc Cert.NssIdeal.main_arg0)
          ∧ r.2.mem ((c.tc : Thread Cert.NssIdeal.nD Cert.NssIdeal.τ).loc Cert.NssIdeal.main_arg1) = m ((c.tc : Thread Cert.NssIdeal.nD Cert.NssIdeal.τ).loc Cert.NssIdeal.main_arg1)
          ∧ r.2.mem ((c.tc : Thread Cert.NssIdeal.nD Cert.NssIdeal.τ).loc Cert.NssIdeal.main_arg2) = m ((c.tc : Thread Cert.NssIdeal.nD Cert.NssIdeal.τ).loc Cert.NssIdeal.main_arg2))
      ∧ θ_run (Cert.NssRefIdeal.defs (F := Ideal)) (onTc (τ := Cert.NssRefIdeal.τ) (Cert.NssRefIdeal.main (F := Ideal))) ⟨m', fun _ => 0, g'⟩ (fun r => ∀ c : Dev Cert.NssRefIdeal.nD,
          r.2.mem ((c.tc : Thread Cert.NssRefIdeal.nD Cert.NssRefIdeal.τ).loc Cert.NssRefIdeal.main_v17) = v0 c
          ∧ r.2.mem ((c.tc : Thread Cert.NssRefIdeal.nD Cert.NssRefIdeal.τ).loc Cert.NssRefIdeal.main_v18) = v1 c
          ∧ r.2.mem ((c.tc : Thread Cert.NssRefIdeal.nD Cert.NssRefIdeal.τ).loc Cert.NssRefIdeal.main_arg0) = m' ((c.tc : Thread Cert.NssRefIdeal.nD Cert.NssRefIdeal.τ).loc Cert.NssRefIdeal.main_arg0)
          ∧ r.2.mem ((c.tc : Thread Cert.NssRefIdeal.nD Cert.NssRefIdeal.τ).loc Cert.NssRefIdeal.main_arg1) = m' ((c.tc : Thread Cert.NssRefIdeal.nD Cert.NssRefIdeal.τ).loc Cert.NssRefIdeal.main_arg1)
          ∧ r.2.mem ((c.tc : Thread Cert.NssRefIdeal.nD Cert.NssRefIdeal.τ).loc Cert.NssRefIdeal.main_arg2) = m' ((c.tc : Thread Cert.NssRefIdeal.nD Cert.NssRefIdeal.τ).loc Cert.NssRefIdeal.main_arg2))

def Claim : Prop :=
  ∃ (hLru : Cert.Lru.Facts) (hLruIdeal : Cert.LruIdeal.Facts) (hLruRefIdeal : Cert.LruRefIdeal.Facts) (hSsd : Cert.Ssd.Facts) (hSsdIdeal : Cert.SsdIdeal.Facts) (hSsdRefIdeal : Cert.SsdRefIdeal.Facts) (hLruStep : Cert.LruStep.Facts) (hLruStepIdeal : Cert.LruStepIdeal.Facts) (hLruStepRefIdeal : Cert.LruStepRefIdeal.Facts) (hFfn : Cert.Ffn.Facts) (hFfnIdeal : Cert.FfnIdeal.Facts) (hFfnRefIdeal : Cert.FfnRefIdeal.Facts) (hFfk : Cert.Ffk.Facts) (hFfkIdeal : Cert.FfkIdeal.Facts) (hFfkRefIdeal : Cert.FfkRefIdeal.Facts) (hNml : Cert.Nml.Facts) (hNmlIdeal : Cert.NmlIdeal.Facts) (hNmlRefIdeal : Cert.NmlRefIdeal.Facts) (hNms : Cert.Nms.Facts) (hNmsIdeal : Cert.NmsIdeal.Facts) (hNmsRefIdeal : Cert.NmsRefIdeal.Facts) (hFfs : Cert.Ffs.Facts) (hFfsIdeal : Cert.FfsIdeal.Facts) (hFfsRefIdeal : Cert.FfsRefIdeal.Facts) (hNls : Cert.Nls.Facts) (hNlsIdeal : Cert.NlsIdeal.Facts) (hNlsRefIdeal : Cert.NlsRefIdeal.Facts) (hNss : Cert.Nss.Facts) (hNssIdeal : Cert.NssIdeal.Facts) (hNssRefIdeal : Cert.NssRefIdeal.Facts),
    quiescent_Lru (hLru := hLru)
    ∧ quiescent_LruIdeal (hLruIdeal := hLruIdeal)
    ∧ quiescent_LruRefIdeal (hLruRefIdeal := hLruRefIdeal)
    ∧ quiescent_Ssd (hSsd := hSsd)
    ∧ quiescent_SsdIdeal (hSsdIdeal := hSsdIdeal)
    ∧ quiescent_SsdRefIdeal (hSsdRefIdeal := hSsdRefIdeal)
    ∧ quiescent_LruStep (hLruStep := hLruStep)
    ∧ quiescent_LruStepIdeal (hLruStepIdeal := hLruStepIdeal)
    ∧ quiescent_LruStepRefIdeal (hLruStepRefIdeal := hLruStepRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ffk (hFfk := hFfk)
    ∧ quiescent_FfkIdeal (hFfkIdeal := hFfkIdeal)
    ∧ quiescent_FfkRefIdeal (hFfkRefIdeal := hFfkRefIdeal)
    ∧ quiescent_Nml (hNml := hNml)
    ∧ quiescent_NmlIdeal (hNmlIdeal := hNmlIdeal)
    ∧ quiescent_NmlRefIdeal (hNmlRefIdeal := hNmlRefIdeal)
    ∧ quiescent_Nms (hNms := hNms)
    ∧ quiescent_NmsIdeal (hNmsIdeal := hNmsIdeal)
    ∧ quiescent_NmsRefIdeal (hNmsRefIdeal := hNmsRefIdeal)
    ∧ quiescent_Ffs (hFfs := hFfs)
    ∧ quiescent_FfsIdeal (hFfsIdeal := hFfsIdeal)
    ∧ quiescent_FfsRefIdeal (hFfsRefIdeal := hFfsRefIdeal)
    ∧ quiescent_Nls (hNls := hNls)
    ∧ quiescent_NlsIdeal (hNlsIdeal := hNlsIdeal)
    ∧ quiescent_NlsRefIdeal (hNlsRefIdeal := hNlsRefIdeal)
    ∧ quiescent_Nss (hNss := hNss)
    ∧ quiescent_NssIdeal (hNssIdeal := hNssIdeal)
    ∧ quiescent_NssRefIdeal (hNssRefIdeal := hNssRefIdeal)
    ∧ preserves_Lru_LruIdeal
    ∧ algebraic_LruIdeal_LruRefIdeal (hLruIdeal := hLruIdeal) (hLruRefIdeal := hLruRefIdeal)
    ∧ preserves_Ssd_SsdIdeal
    ∧ algebraic_SsdIdeal_SsdRefIdeal (hSsdIdeal := hSsdIdeal) (hSsdRefIdeal := hSsdRefIdeal)
    ∧ preserves_LruStep_LruStepIdeal
    ∧ algebraic_LruStepIdeal_LruStepRefIdeal (hLruStepIdeal := hLruStepIdeal) (hLruStepRefIdeal := hLruStepRefIdeal)
    ∧ preserves_Ffn_FfnIdeal
    ∧ algebraic_FfnIdeal_FfnRefIdeal (hFfnIdeal := hFfnIdeal) (hFfnRefIdeal := hFfnRefIdeal)
    ∧ preserves_Ffk_FfkIdeal
    ∧ algebraic_FfkIdeal_FfkRefIdeal (hFfkIdeal := hFfkIdeal) (hFfkRefIdeal := hFfkRefIdeal)
    ∧ preserves_Nml_NmlIdeal
    ∧ algebraic_NmlIdeal_NmlRefIdeal (hNmlIdeal := hNmlIdeal) (hNmlRefIdeal := hNmlRefIdeal)
    ∧ preserves_Nms_NmsIdeal
    ∧ algebraic_NmsIdeal_NmsRefIdeal (hNmsIdeal := hNmsIdeal) (hNmsRefIdeal := hNmsRefIdeal)
    ∧ preserves_Ffs_FfsIdeal
    ∧ algebraic_FfsIdeal_FfsRefIdeal (hFfsIdeal := hFfsIdeal) (hFfsRefIdeal := hFfsRefIdeal)
    ∧ preserves_Nls_NlsIdeal
    ∧ algebraic_NlsIdeal_NlsRefIdeal (hNlsIdeal := hNlsIdeal) (hNlsRefIdeal := hNlsRefIdeal)
    ∧ preserves_Nss_NssIdeal
    ∧ algebraic_NssIdeal_NssRefIdeal (hNssIdeal := hNssIdeal) (hNssRefIdeal := hNssRefIdeal)
-- ==== Lru.lean ====
abbrev S16384x2048 : Shape := ⟨2, ![16384, 2048]⟩
abbrev S3x1024 : Shape := ⟨2, ![3, 1024]⟩
abbrev S1024 : Shape := ⟨1, ![1024]⟩
abbrev S4x1024 : Shape := ⟨2, ![4, 1024]⟩
abbrev S8x128x128 : Shape := ⟨3, ![8, 128, 128]⟩
abbrev S1x1024 : Shape := ⟨2, ![1, 1024]⟩
abbrev S8x128x256 : Shape := ⟨3, ![8, 128, 256]⟩
abbrev S_ : Shape := ⟨0, ![]⟩
abbrev S8x1024 : Shape := ⟨2, ![8, 1024]⟩
abbrev S1x8x1024 : Shape := ⟨3, ![1, 8, 1024]⟩
abbrev S1x1x1024 : Shape := ⟨3, ![1, 1, 1024]⟩
abbrev S16384x1024 : Shape := ⟨2, ![16384, 1024]⟩
abbrev S8x1x1024 : Shape := ⟨3, ![8, 1, 1024]⟩
abbrev S128x1024 : Shape := ⟨2, ![128, 1024]⟩
abbrev S136x1024 : Shape := ⟨2, ![136, 1024]⟩
abbrev S128x128 : Shape := ⟨2, ![128, 128]⟩
abbrev S1x128x256 : Shape := ⟨3, ![1, 128, 256]⟩
abbrev S128x256 : Shape := ⟨2, ![128, 256]⟩
abbrev S120x1024 : Shape := ⟨2, ![120, 1024]⟩
abbrev S16x1024 : Shape := ⟨2, ![16, 1024]⟩
abbrev S112x1024 : Shape := ⟨2, ![112, 1024]⟩
abbrev S32x1024 : Shape := ⟨2, ![32, 1024]⟩
abbrev S96x1024 : Shape := ⟨2, ![96, 1024]⟩
abbrev S64x1024 : Shape := ⟨2, ![64, 1024]⟩

abbrev nBuf : Space → Nat
  | .hbm => 23
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S3x1024, .f32⟩
  | .hbm, ⟨2, _⟩ => ⟨S1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S8x128x256, .f32⟩
  | .hbm, ⟨12, _⟩ => ⟨S8x128x256, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S8x1024, .f32⟩
  | .hbm, ⟨19, _⟩ => ⟨S1x8x1024, .f32⟩
  | .hbm, ⟨20, _⟩ => ⟨S1x1x1024, .f32⟩
  | .hbm, ⟨21, _⟩ => ⟨S16384x1024, .bf16⟩
  | .hbm, ⟨22, _⟩ => ⟨S8x1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x8x1024, .f32⟩
  | .local _ .vmem, ⟨5, _⟩ => ⟨S1x1x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .bf16⟩
  | .local _ .vmem, ⟨14, _⟩ => ⟨S1x1x1024, .f32⟩
  | .local _ .vmem, ⟨15, _⟩ => ⟨S1x1x1024, .f32⟩
  | .local _ .vmem, ⟨16, _⟩ => ⟨S136x1024, .f32⟩
  | .local _ .vmem, ⟨17, _⟩ => ⟨S8x1024, .f32⟩
  | .local _ .vmem, ⟨18, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v233 : BitVec 1 := Scalar.cmpi .eq arg1 c15_i32
  let v234 : BitVec 32 := Scalar.extui v233
  let c0_i32_96 : BitVec 32 := 0#32
  let v235 : BitVec 1 := Scalar.cmpi .ne v234 c0_i32_96
  v235

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== LruRefIdeal.lean ====
abbrev S16384x2048 : Shape := ⟨2, ![16384, 2048]⟩
abbrev S3x1024 : Shape := ⟨2, ![3, 1024]⟩
abbrev S1024 : Shape := ⟨1, ![1024]⟩
abbrev S4x1024 : Shape := ⟨2, ![4, 1024]⟩
abbrev S8x128x128 : Shape := ⟨3, ![8, 128, 128]⟩
abbrev S16384x1024 : Shape := ⟨2, ![16384, 1024]⟩
abbrev S8x2048x1024 : Shape := ⟨3, ![8, 2048, 1024]⟩
abbrev S1x3x1024 : Shape := ⟨3, ![1, 3, 1024]⟩
abbrev S8x3x1024 : Shape := ⟨3, ![8, 3, 1024]⟩
abbrev S8x2051x1024 : Shape := ⟨3, ![8, 2051, 1024]⟩
abbrev S1x1024 : Shape := ⟨2, ![1, 1024]⟩
abbrev S1x1x1024 : Shape := ⟨3, ![1, 1, 1024]⟩
abbrev S_ : Shape := ⟨0, ![]⟩
abbrev S8x2048x8x128 : Shape := ⟨4, ![8, 2048, 8, 128]⟩
abbrev S8x128x8x2048 : Shape := ⟨4, ![8, 128, 8, 2048]⟩
abbrev S8x1024 : Shape := ⟨2, ![8, 1024]⟩
abbrev S2048x8x1024 : Shape := ⟨3, ![2048, 8, 1024]⟩
abbrev S1x8x1024 : Shape := ⟨3, ![1, 8, 1024]⟩
abbrev S8x1x1024 : Shape := ⟨3, ![8, 1, 1024]⟩

abbrev nBuf : Space → Nat
  | .hbm => 160
  | .vmem => 0
  | .smem => 0
  | _ => 0

abbrev hbmTy0_0 (i : Nat) : BufTy := match i % 128 with
  | 0 => ⟨S16384x2048, .f32⟩
  | 1 => ⟨S3x1024, .f32⟩
  | 2 => ⟨S1024, .f32⟩
  | 3 => ⟨S4x1024, .f32⟩
  | 4 => ⟨S1024, .f32⟩
  | 5 => ⟨S8x128x128, .f32⟩
  | 6 => ⟨S1024, .f32⟩
  | 7 => ⟨S8x128x128, .f32⟩
  | 8 => ⟨S1024, .f32⟩
  | 9 => ⟨S1024, .f32⟩
  | 10 => ⟨S16384x1024, .f32⟩
  | 11 => ⟨S8x2048x1024, .f32⟩
  | 12 => ⟨S1x3x1024, .f32⟩
  | 13 => ⟨S8x3x1024, .f32⟩
  | 14 => ⟨S8x2051x1024, .f32⟩
  | 15 => ⟨S8x2048x1024, .f32⟩
  | 16 => ⟨S1x1024, .f32⟩
  | 17 => ⟨S1024, .f32⟩
  | 18 => ⟨S1x1x1024, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S8x2048x1024, .f32⟩
  | 25 => ⟨S1x1024, .f32⟩
  | 26 => ⟨S1024, .f32⟩
  | 27 => ⟨S1x1x1024, .f32⟩
  | 28 => ⟨S8x2048x1024, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2048x8x128, .f32⟩
  | 49 => ⟨S8x128x8x2048, .f32⟩
  | 50 => ⟨S8x2048x8x128, .f32⟩
  | 51 => ⟨S8x2048x1024, .f32⟩
  | 52 => ⟨S1x1x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S_, .f32⟩
  | 61 => ⟨S8x2048x1024, .f32⟩
  | 62 => ⟨S8x2048x1024, .f32⟩
  | 63 => ⟨S8x128x8x2048, .f32⟩
  | 64 => ⟨S8x2048x8x128, .f32⟩
  | 65 => ⟨S8x2048x1024, .f32⟩
  | 66 => ⟨S1x1x1024, .f32⟩
  | 67 => ⟨S8x2048x1024, .f32⟩
  | 68 => ⟨S8x2048x1024, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S_, .f32⟩
  | 75 => ⟨S8x2048x1024, .f32⟩
  | 76 => ⟨S8x2048x1024, .f32⟩
  | 77 => ⟨S_, .f32⟩
  | 78 => ⟨S8x2048x1024, .f32⟩
  | 79 => ⟨S8x2048x1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .f32⟩
  | 86 => ⟨S1024, .i1⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1x1x1024, .f32⟩
  | 96 => ⟨S8x2048x1024, .f32⟩
  | 97 => ⟨S8x2048x1024, .f32⟩
  | 98 => ⟨S8x2048x1024, .f32⟩
  | 99 => ⟨S_, .f32⟩
  | 100 => ⟨S8x2048x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S8x1024, .f32⟩
  | 108 => ⟨S2048x8x1024, .f32⟩
  | 109 => ⟨S2048x8x1024, .f32⟩
  | 110 => ⟨S_, .f32⟩
  | 111 => ⟨S2048x8x1024, .f32⟩
  | 112 => ⟨S_, .i32⟩
  | 113 => ⟨S2048x8x1024, .f32⟩
  | 114 => ⟨S2048x8x1024, .f32⟩
  | 115 => ⟨S_, .i32⟩
  | 116 => ⟨S8x1024, .f32⟩
  | 117 => ⟨S2048x8x1024, .f32⟩
  | 118 => ⟨S_, .i32⟩
  | 119 => ⟨S_, .i1⟩
  | 120 => ⟨S_, .i32⟩
  | 121 => ⟨S_, .i32⟩
  | 122 => ⟨S1x8x1024, .f32⟩
  | 123 => ⟨S8x1024, .f32⟩
  | 124 => ⟨S_, .i32⟩
  | 125 => ⟨S_, .i32⟩
  | 126 => ⟨S1x8x1024, .f32⟩
  | 127 => ⟨S8x1024, .f32⟩
  | _ => ⟨S16384x2048, .f32⟩

abbrev hbmTy0_1 (i : Nat) : BufTy := match i % 128 with
  | 0 => ⟨S8x1024, .f32⟩
  | 1 => ⟨S8x1024, .f32⟩
  | 2 => ⟨S1x8x1024, .f32⟩
  | 3 => ⟨S_, .i32⟩
  | 4 => ⟨S_, .i32⟩
  | 5 => ⟨S2048x8x1024, .f32⟩
  | 6 => ⟨S_, .i32⟩
  | 7 => ⟨S_, .i32⟩
  | 8 => ⟨S16384x1024, .f32⟩
  | 9 => ⟨S8x2048x1024, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S8x2048x1024, .f32⟩
  | 16 => ⟨S_, .f32⟩
  | 17 => ⟨S8x2048x1024, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | 26 => ⟨S8x2048x1024, .f32⟩
  | 27 => ⟨S8x2048x1024, .f32⟩
  | 28 => ⟨S8x2048x1024, .f32⟩
  | 29 => ⟨S16384x1024, .f32⟩
  | 30 => ⟨S16384x1024, .bf16⟩
  | 31 => ⟨S8x1x1024, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_cst_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_2 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_6 : Ref sig .tc := ⟨.hbm, 110, rfl⟩
abbrev main_v80 : Ref sig .tc := ⟨.hbm, 111, rfl⟩
abbrev main_c : Ref sig .tc := ⟨.hbm, 112, rfl⟩
abbrev main_v81_0 : Ref sig .tc := ⟨.hbm, 113, rfl⟩
abbrev main_v81_1 : Ref sig .tc := ⟨.hbm, 114, rfl⟩
abbrev main_v81_2 : Ref sig .tc := ⟨.hbm, 115, rfl⟩
abbrev main_v81_3 : Ref sig .tc := ⟨.hbm, 116, rfl⟩
abbrev main_v81_4 : Ref sig .tc := ⟨.hbm, 117, rfl⟩
abbrev main_while0c_c_15 : Ref sig .tc := ⟨.hbm, 118, rfl⟩
abbrev main_while0c_v102 : Ref sig .tc := ⟨.hbm, 119, rfl⟩
abbrev main_while0b_call1_c : Ref sig .tc := ⟨.hbm, 120, rfl⟩
abbrev main_while0b_call1_c_0 : Ref sig .tc := ⟨.hbm, 121, rfl⟩
abbrev main_while0b_call1_v0 : Ref sig .tc := ⟨.hbm, 122, rfl⟩
abbrev main_while0b_v102 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_v0 : Ref sig .tc := ⟨.hbm, 126, rfl⟩
abbrev main_while0b_v103 : Ref sig .tc := ⟨.hbm, 127, rfl⟩
abbrev main_while0b_v104 : Ref sig .tc := ⟨.hbm, 128, rfl⟩
abbrev main_while0b_v105 : Ref sig .tc := ⟨.hbm, 129, rfl⟩
abbrev main_while0b_call3_v0 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_v106 : Ref sig .tc := ⟨.hbm, 133, rfl⟩
abbrev main_while0b_c_15 : Ref sig .tc := ⟨.hbm, 134, rfl⟩
abbrev main_while0b_v107 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_7 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_8 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_9 : Ref sig .tc := ⟨.hbm, 148, rfl⟩
abbrev main_v92 : Ref sig .tc := ⟨.hbm, 149, rfl⟩
abbrev main_v93 : Ref sig .tc := ⟨.hbm, 150, rfl⟩
abbrev main_cst_10 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩

abbrev nD : Nat := 1
abbrev τ : Topo := Topo.v7x

variable {F : FTy → Type} [FloatOps F]

abbrev main_while0_count : Scf.Loop 32 := ⟨0#32, 2048#32, 1#32⟩
-- ==== Ssd.lean ====
abbrev S16384x6144 : Shape := ⟨2, ![16384, 6144]⟩
abbrev S16384x128 : Shape := ⟨2, ![16384, 128]⟩
abbrev S3x4096 : Shape := ⟨2, ![3, 4096]⟩
abbrev S1x8x256x128 : Shape := ⟨4, ![1, 8, 256, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S1x4096 : Shape := ⟨2, ![1, 4096]⟩
abbrev S_ : Shape := ⟨0, ![]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S8x4096 : Shape := ⟨2, ![8, 4096]⟩
abbrev S1x8x4096 : Shape := ⟨3, ![1, 8, 4096]⟩
abbrev S16384x2048 : Shape := ⟨2, ![16384, 2048]⟩
abbrev S8x8x256x128 : Shape := ⟨4, ![8, 8, 256, 128]⟩
abbrev S128x4096 : Shape := ⟨2, ![128, 4096]⟩
abbrev S128x2048 : Shape := ⟨2, ![128, 2048]⟩
abbrev S128x128 : Shape := ⟨2, ![128, 128]⟩
abbrev S136x4096 : Shape := ⟨2, ![136, 4096]⟩
abbrev S8x128x256 : Shape := ⟨3, ![8, 128, 256]⟩
abbrev S1x1x256x128 : Shape := ⟨4, ![1, 1, 256, 128]⟩
abbrev S256x128 : Shape := ⟨2, ![256, 128]⟩
abbrev S128x256 : Shape := ⟨2, ![128, 256]⟩
abbrev S1x128x256 : Shape := ⟨3, ![1, 128, 256]⟩
abbrev S128x1024 : Shape := ⟨2, ![128, 1024]⟩
abbrev S128x1 : Shape := ⟨2, ![128, 1]⟩
abbrev S1x1 : Shape := ⟨2, ![1, 1]⟩
abbrev S1x256 : Shape := ⟨2, ![1, 256]⟩

abbrev nBuf : Space → Nat
  | .hbm => 29
  | .vmem => 21
  | .smem => 0
  | _ => 0

abbrev bufTy : (tb : Table) → Fin (tcTables nBuf tb) → BufTy
  | .hbm, ⟨0, _⟩ => ⟨S16384x6144, .f32⟩
  | .hbm, ⟨1, _⟩ => ⟨S16384x128, .f32⟩
  | .hbm, ⟨2, _⟩ => ⟨S3x4096, .f32⟩
  | .hbm, ⟨3, _⟩ => ⟨S1x8x256x128, .f32⟩
  | .hbm, ⟨4, _⟩ => ⟨S4x4096, .f32⟩
  | .hbm, ⟨5, _⟩ => ⟨S4096, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S2048, .f32⟩
  | .hbm, ⟨10, _⟩ => ⟨S1x4096, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S32x64, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S_, .i32⟩
  | .hbm, ⟨24, _⟩ => ⟨S_, .f32⟩
  | .hbm, ⟨25, _⟩ => ⟨S8x4096, .f32⟩
  | .hbm, ⟨26, _⟩ => ⟨S1x8x4096, .f32⟩
  | .hbm, ⟨27, _⟩ => ⟨S16384x2048, .bf16⟩
  | .hbm, ⟨28, _⟩ => ⟨S8x8x256x128, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x8x4096, .f32⟩
  | .local _ .vmem, ⟨7, _⟩ => ⟨S1x8x256x128, .f32⟩
  | .local _ .vmem, ⟨8, _⟩ => ⟨S4x4096, .f32⟩
  | .local _ .vmem, ⟨9, _⟩ => ⟨S1x4096, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S128x2048, .bf16⟩
  | .local _ .vmem, ⟨15, _⟩ => ⟨S128x2048, .bf16⟩
  | .local _ .vmem, ⟨16, _⟩ => ⟨S1x8x256x128, .f32⟩
  | .local _ .vmem, ⟨17, _⟩ => ⟨S1x8x256x128, .f32⟩
  | .local _ .vmem, ⟨18, _⟩ => ⟨S136x4096, .f32⟩
  | .local _ .vmem, ⟨19, _⟩ => ⟨S8x4096, .f32⟩
  | .local _ .vmem, ⟨20, _⟩ => ⟨S8x128x256, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v1578 : BitVec 1 := Scalar.cmpi .eq arg1 c15_i32
  let v1579 : BitVec 32 := Scalar.extui v1578
  let c0_i32_305 : BitVec 32 := 0#32
  let v1580 : BitVec 1 := Scalar.cmpi .ne v1579 c0_i32_305
  v1580

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdRefIdeal.lean ====
abbrev S16384x6144 : Shape := ⟨2, ![16384, 6144]⟩
abbrev S16384x128 : Shape := ⟨2, ![16384, 128]⟩
abbrev S3x4096 : Shape := ⟨2, ![3, 4096]⟩
abbrev S1x8x256x128 : Shape := ⟨4, ![1, 8, 256, 128]⟩
abbrev S4x4096 : Shape := ⟨2, ![4, 4096]⟩
abbrev S4096 : Shape := ⟨1, ![4096]⟩
abbrev S32 : Shape := ⟨1, ![32]⟩
abbrev S2048 : Shape := ⟨1, ![2048]⟩
abbrev S16384x4096 : Shape := ⟨2, ![16384, 4096]⟩
abbrev S8x2048x4096 : Shape := ⟨3, ![8, 2048, 4096]⟩
abbrev S1x3x4096 : Shape := ⟨3, ![1, 3, 4096]⟩
abbrev S8x3x4096 : Shape := ⟨3, ![8, 3, 4096]⟩
abbrev S8x2051x4096 : Shape := ⟨3, ![8, 2051, 4096]⟩
abbrev S1x4096 : Shape := ⟨2, ![1, 4096]⟩
abbrev S1x1x4096 : Shape := ⟨3, ![1, 1, 4096]⟩
abbrev S_ : Shape := ⟨0, ![]⟩
abbrev S8x2048x2048 : Shape := ⟨3, ![8, 2048, 2048]⟩
abbrev S8x16x128x8x4x64 : Shape := ⟨6, ![8, 16, 128, 8, 4, 64]⟩
abbrev S8x2048x1024 : Shape := ⟨3, ![8, 2048, 1024]⟩
abbrev S8x16x128x8x128 : Shape := ⟨5, ![8, 16, 128, 8, 128]⟩
abbrev S16384x32 : Shape := ⟨2, ![16384, 32]⟩
abbrev S1x32 : Shape := ⟨2, ![1, 32]⟩
abbrev S8x16x128x8x4 : Shape := ⟨5, ![8, 16, 128, 8, 4]⟩
abbrev S8x16x128x8x4x1 : Shape := ⟨6, ![8, 16, 128, 8, 4, 1]⟩
abbrev S128x128 : Shape := ⟨2, ![128, 128]⟩
abbrev S1x8x4x64x128 : Shape := ⟨5, ![1, 8, 4, 64, 128]⟩
abbrev S8x8x4x64x128 : Shape := ⟨5, ![8, 8, 4, 64, 128]⟩
abbrev S16x8x128x8x4x64 : Shape := ⟨6, ![16, 8, 128, 8, 4, 64]⟩
abbrev S16x8x128x8x4 : Shape := ⟨5, ![16, 8, 128, 8, 4]⟩
abbrev S16x8x128x8x128 : Shape := ⟨5, ![16, 8, 128, 8, 128]⟩
abbrev S1x8x128x8x4x64 : Shape := ⟨6, ![1, 8, 128, 8, 4, 64]⟩
abbrev S8x128x8x4x64 : Shape := ⟨5, ![8, 128, 8, 4, 64]⟩
abbrev S1x8x128x8x4 : Shape := ⟨5, ![1, 8, 128, 8, 4]⟩
abbrev S8x128x8x4 : Shape := ⟨4, ![8, 128, 8, 4]⟩
abbrev S1x8x128x8x128 : Shape := ⟨5, ![1, 8, 128, 8, 128]⟩
abbrev S8x128x8x128 : Shape := ⟨4, ![8, 128, 8, 128]⟩
abbrev S8x8x4x128 : Shape := ⟨4, ![8, 8, 4, 128]⟩
abbrev S8x8x4x128x1 : Shape := ⟨5, ![8, 8, 4, 128, 1]⟩
abbrev S8x8x4x1x128 : Shape := ⟨5, ![8, 8, 4, 1, 128]⟩
abbrev S8x8x4x128x128 : Shape := ⟨5, ![8, 8, 4, 128, 128]⟩
abbrev S8x8x128x128 : Shape := ⟨4, ![8, 8, 128, 128]⟩
abbrev S8x8x1x128x128 : Shape := ⟨5, ![8, 8, 1, 128, 128]⟩
abbrev S8x128x8x4x1 : Shape := ⟨5, ![8, 128, 8, 4, 1]⟩
abbrev S8x1x8x4 : Shape := ⟨4, ![8, 1, 8, 4]⟩
abbrev S8x8x4 : Shape := ⟨3, ![8, 8, 4]⟩
abbrev S8x8x4x1x1 : Shape := ⟨5, ![8, 8, 4, 1, 1]⟩
abbrev S8x4 : Shape := ⟨2, ![8, 4]⟩
abbrev S8x4x1 : Shape := ⟨3, ![8, 4, 1]⟩
abbrev S1x1x8x4x1 : Shape := ⟨5, ![1, 1, 8, 4, 1]⟩
abbrev S16384x2048 : Shape := ⟨2, ![16384, 2048]⟩
abbrev S16384x8x256 : Shape := ⟨3, ![16384, 8, 256]⟩
abbrev S16384x8 : Shape := ⟨2, ![16384, 8]⟩
abbrev S16384x8x1 : Shape := ⟨3, ![16384, 8, 1]⟩
abbrev S1x2048 : Shape := ⟨2, ![1, 2048]⟩
abbrev S8x8x256x128 : Shape := ⟨4, ![8, 8, 256, 128]⟩

abbrev nBuf : Space → Nat
  | .hbm => 253
  | .vmem => 0
  | .smem => 0
  | _ => 0

abbrev hbmTy0_0 (i : Nat) : BufTy := match i % 128 with
  | 0 => ⟨S16384x6144, .f32⟩
  | 1 => ⟨S16384x128, .f32⟩
  | 2 => ⟨S3x4096, .f32⟩
  | 3 => ⟨S1x8x256x128, .f32⟩
  | 4 => ⟨S4x4096, .f32⟩
  | 5 => ⟨S4096, .f32⟩
  | 6 => ⟨S32, .f32⟩
  | 7 => ⟨S32, .f32⟩
  | 8 => ⟨S32, .f32⟩
  | 9 => ⟨S2048, .f32⟩
  | 10 => ⟨S16384x4096, .f32⟩
  | 11 => ⟨S8x2048x4096, .f32⟩
  | 12 => ⟨S1x3x4096, .f32⟩
  | 13 => ⟨S8x3x4096, .f32⟩
  | 14 => ⟨S8x2051x4096, .f32⟩
  | 15 => ⟨S8x2048x4096, .f32⟩
  | 16 => ⟨S1x4096, .f32⟩
  | 17 => ⟨S4096, .f32⟩
  | 18 => ⟨S1x1x4096, .f32⟩
  | 19 => ⟨S8x2048x4096, .f32⟩
  | 20 => ⟨S8x2048x4096, .f32⟩
  | 21 => ⟨S_, .f32⟩
  | 22 => ⟨S8x2048x4096, .f32⟩
  | 23 => ⟨S8x2048x4096, .f32⟩
  | 24 => ⟨S8x2048x4096, .f32⟩
  | 25 => ⟨S1x4096, .f32⟩
  | 26 => ⟨S4096, .f32⟩
  | 27 => ⟨S1x1x4096, .f32⟩
  | 28 => ⟨S8x2048x4096, .f32⟩
  | 29 => ⟨S8x2048x4096, .f32⟩
  | 30 => ⟨S8x2048x4096, .f32⟩
  | 31 => ⟨S8x2048x4096, .f32⟩
  | 32 => ⟨S1x4096, .f32⟩
  | 33 => ⟨S4096, .f32⟩
  | 34 => ⟨S1x1x4096, .f32⟩
  | 35 => ⟨S8x2048x4096, .f32⟩
  | 36 => ⟨S8x2048x4096, .f32⟩
  | 37 => ⟨S8x2048x4096, .f32⟩
  | 38 => ⟨S8x2048x4096, .f32⟩
  | 39 => ⟨S1x4096, .f32⟩
  | 40 => ⟨S4096, .f32⟩
  | 41 => ⟨S1x1x4096, .f32⟩
  | 42 => ⟨S8x2048x4096, .f32⟩
  | 43 => ⟨S8x2048x4096, .f32⟩
  | 44 => ⟨S8x2048x4096, .f32⟩
  | 45 => ⟨S1x1x4096, .f32⟩
  | 46 => ⟨S8x2048x4096, .f32⟩
  | 47 => ⟨S8x2048x4096, .f32⟩
  | 48 => ⟨S8x2048x4096, .f32⟩
  | 49 => ⟨S8x2048x4096, .f32⟩
  | 50 => ⟨S_, .f32⟩
  | 51 => ⟨S8x2048x4096, .f32⟩
  | 52 => ⟨S8x2048x4096, .f32⟩
  | 53 => ⟨S_, .f32⟩
  | 54 => ⟨S8x2048x4096, .f32⟩
  | 55 => ⟨S8x2048x4096, .f32⟩
  | 56 => ⟨S8x2048x4096, .f32⟩
  | 57 => ⟨S8x2048x2048, .f32⟩
  | 58 => ⟨S8x16x128x8x4x64, .f32⟩
  | 59 => ⟨S8x2048x1024, .f32⟩
  | 60 => ⟨S8x16x128x8x128, .f32⟩
  | 61 => ⟨S8x2048x1024, .f32⟩
  | 62 => ⟨S8x16x128x8x128, .f32⟩
  | 63 => ⟨S16384x32, .f32⟩
  | 64 => ⟨S1x32, .f32⟩
  | 65 => ⟨S16384x32, .f32⟩
  | 66 => ⟨S16384x32, .f32⟩
  | 67 => ⟨S_, .f32⟩
  | 68 => ⟨S16384x32, .f32⟩
  | 69 => ⟨S16384x32, .f32⟩
  | 70 => ⟨S16384x32, .f32⟩
  | 71 => ⟨S16384x32, .f32⟩
  | 72 => ⟨S16384x32, .i1⟩
  | 73 => ⟨S16384x32, .f32⟩
  | 74 => ⟨S16384x32, .f32⟩
  | 75 => ⟨S16384x32, .f32⟩
  | 76 => ⟨S16384x32, .f32⟩
  | 77 => ⟨S16384x32, .f32⟩
  | 78 => ⟨S16384x32, .f32⟩
  | 79 => ⟨S16384x32, .f32⟩
  | 80 => ⟨S16384x32, .f32⟩
  | 81 => ⟨S32, .f32⟩
  | 82 => ⟨S32, .f32⟩
  | 83 => ⟨S1x32, .f32⟩
  | 84 => ⟨S16384x32, .f32⟩
  | 85 => ⟨S16384x32, .f32⟩
  | 86 => ⟨S8x16x128x8x4, .f32⟩
  | 87 => ⟨S8x16x128x8x4, .f32⟩
  | 88 => ⟨S8x16x128x8x4x1, .f32⟩
  | 89 => ⟨S8x16x128x8x4x64, .f32⟩
  | 90 => ⟨S8x16x128x8x4x64, .f32⟩
  | 91 => ⟨S_, .i1⟩
  | 92 => ⟨S128x128, .i1⟩
  | 93 => ⟨S128x128, .i32⟩
  | 94 => ⟨S_, .i32⟩
  | 95 => ⟨S128x128, .i32⟩
  | 96 => ⟨S128x128, .i32⟩
  | 97 => ⟨S128x128, .i32⟩
  | 98 => ⟨S128x128, .i1⟩
  | 99 => ⟨S_, .i1⟩
  | 100 => ⟨S128x128, .i1⟩
  | 101 => ⟨S128x128, .i1⟩
  | 102 => ⟨S1x8x4x64x128, .f32⟩
  | 103 => ⟨S8x8x4x64x128, .f32⟩
  | 104 => ⟨S16x8x128x8x4x64, .f32⟩
  | 105 => ⟨S16x8x128x8x4x64, .f32⟩
  | 106 => ⟨S16x8x128x8x4, .f32⟩
  | 107 => ⟨S16x8x128x8x128, .f32⟩
  | 108 => ⟨S16x8x128x8x128, .f32⟩
  | 109 => ⟨S_, .f32⟩
  | 110 => ⟨S16x8x128x8x4x64, .f32⟩
  | 111 => ⟨S_, .i32⟩
  | 112 => ⟨S16x8x128x8x4x64, .f32⟩
  | 113 => ⟨S16x8x128x8x4x64, .f32⟩
  | 114 => ⟨S16x8x128x8x4, .f32⟩
  | 115 => ⟨S16x8x128x8x128, .f32⟩
  | 116 => ⟨S16x8x128x8x128, .f32⟩
  | 117 => ⟨S128x128, .i1⟩
  | 118 => ⟨S32, .f32⟩
  | 119 => ⟨S_, .i32⟩
  | 120 => ⟨S8x8x4x64x128, .f32⟩
  | 121 => ⟨S16x8x128x8x4x64, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S16384x6144, .f32⟩

abbrev hbmTy0_1 (i : Nat) : BufTy := match i % 128 with
  | 0 => ⟨S_, .i32⟩
  | 1 => ⟨S1x8x128x8x4x64, .f32⟩
  | 2 => ⟨S8x128x8x4x64, .f32⟩
  | 3 => ⟨S_, .i32⟩
  | 4 => ⟨S_, .i32⟩
  | 5 => ⟨S_, .i32⟩
  | 6 => ⟨S_, .i32⟩
  | 7 => ⟨S_, .i32⟩
  | 8 => ⟨S1x8x128x8x4x64, .f32⟩
  | 9 => ⟨S8x128x8x4x64, .f32⟩
  | 10 => ⟨S_, .i32⟩
  | 11 => ⟨S_, .i32⟩
  | 12 => ⟨S_, .i32⟩
  | 13 => ⟨S_, .i32⟩
  | 14 => ⟨S1x8x128x8x4, .f32⟩
  | 15 => ⟨S8x128x8x4, .f32⟩
  | 16 => ⟨S_, .i32⟩
  | 17 => ⟨S_, .i32⟩
  | 18 => ⟨S_, .i32⟩
  | 19 => ⟨S_, .i32⟩
  | 20 => ⟨S1x8x128x8x128, .f32⟩
  | 21 => ⟨S8x128x8x128, .f32⟩
  | 22 => ⟨S_, .i32⟩
  | 23 => ⟨S_, .i32⟩
  | 24 => ⟨S_, .i32⟩
  | 25 => ⟨S_, .i32⟩
  | 26 => ⟨S1x8x128x8x128, .f32⟩
  | 27 => ⟨S8x128x8x128, .f32⟩
  | 28 => ⟨S_, .f32⟩
  | 29 => ⟨S_, .f32⟩
  | 30 => ⟨S8x128x8x4, .f32⟩
  | 31 => ⟨S8x8x4x128, .f32⟩
  | 32 => ⟨S8x8x4x128x1, .f32⟩
  | 33 => ⟨S8x8x4x1x128, .f32⟩
  | 34 => ⟨S8x8x4x128x128, .f32⟩
  | 35 => ⟨S8x8x4x128x128, .f32⟩
  | 36 => ⟨S8x8x4x128x128, .f32⟩
  | 37 => ⟨S_, .f32⟩
  | 38 => ⟨S_, .f32⟩
  | 39 => ⟨S8x8x4x128x128, .i1⟩
  | 40 => ⟨S8x8x4x128x128, .f32⟩
  | 41 => ⟨S8x8x4x128x128, .f32⟩
  | 42 => ⟨S8x8x4x128x128, .f32⟩
  | 43 => ⟨S_, .f32⟩
  | 44 => ⟨S_, .f32⟩
  | 45 => ⟨S8x8x4x128x128, .i1⟩
  | 46 => ⟨S8x8x4x128x128, .f32⟩
  | 47 => ⟨S8x8x4x128x128, .f32⟩
  | 48 => ⟨S8x8x128x128, .f32⟩
  | 49 => ⟨S8x8x1x128x128, .f32⟩
  | 50 => ⟨S8x8x4x128x128, .f32⟩
  | 51 => ⟨S8x8x4x128x128, .f32⟩
  | 52 => ⟨S8x8x4x64x128, .f32⟩
  | 53 => ⟨S8x128x8x4x64, .f32⟩
  | 54 => ⟨S8x8x4x64x128, .f32⟩
  | 55 => ⟨S8x128x8x4x64, .f32⟩
  | 56 => ⟨S8x128x8x4, .f32⟩
  | 57 => ⟨S8x128x8x4x1, .f32⟩
  | 58 => ⟨S8x128x8x4x64, .f32⟩
  | 59 => ⟨S8x128x8x4x64, .f32⟩
  | 60 => ⟨S8x1x8x4, .f32⟩
  | 61 => ⟨S8x128x8x4, .f32⟩
  | 62 => ⟨S8x128x8x4, .f32⟩
  | 63 => ⟨S8x128x8x4, .f32⟩
  | 64 => ⟨S8x128x8x4x1, .f32⟩
  | 65 => ⟨S8x128x8x4x64, .f32⟩
  | 66 => ⟨S8x128x8x4x64, .f32⟩
  | 67 => ⟨S8x8x4x64x128, .f32⟩
  | 68 => ⟨S8x1x8x4, .f32⟩
  | 69 => ⟨S8x8x4, .f32⟩
  | 70 => ⟨S8x8x4, .f32⟩
  | 71 => ⟨S8x8x4x1x1, .f32⟩
  | 72 => ⟨S8x8x4x64x128, .f32⟩
  | 73 => ⟨S8x8x4x64x128, .f32⟩
  | 74 => ⟨S8x8x4x64x128, .f32⟩
  | 75 => ⟨S8x128x8x4x64, .f32⟩
  | 76 => ⟨S8x4, .f32⟩
  | 77 => ⟨S8x4x1, .f32⟩
  | 78 => ⟨S1x1x8x4x1, .f32⟩
  | 79 => ⟨S8x128x8x4x64, .f32⟩
  | 80 => ⟨S8x128x8x4x64, .f32⟩
  | 81 => ⟨S8x128x8x4x64, .f32⟩
  | 82 => ⟨S1x8x128x8x4x64, .f32⟩
  | 83 => ⟨S_, .i32⟩
  | 84 => ⟨S_, .i32⟩
  | 85 => ⟨S_, .i32⟩
  | 86 => ⟨S_, .i32⟩
  | 87 => ⟨S_, .i32⟩
  | 88 => ⟨S16x8x128x8x4x64, .f32⟩
  | 89 => ⟨S_, .i32⟩
  | 90 => ⟨S_, .i32⟩
  | 91 => ⟨S16384x2048, .f32⟩
  | 92 => ⟨S8x2048x2048, .f32⟩
  | 93 => ⟨S8x16x128x8x4x64, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S8x2048x2048, .f32⟩
  | 105 => ⟨S16384x8x256, .f32⟩
  | 106 => ⟨S16384x8x256, .f32⟩
  | 107 => ⟨S_, .f32⟩
  | 108 => ⟨S16384x8, .f32⟩
  | 109 => ⟨S16384x8x1, .f32⟩
  | 110 => ⟨S_, .f32⟩
  | 111 => ⟨S16384x8x1, .f32⟩
  | 112 => ⟨S16384x8x1, .f32⟩
  | 113 => ⟨S_, .f32⟩
  | 114 => ⟨S16384x8x1, .f32⟩
  | 115 => ⟨S16384x8x1, .f32⟩
  | 116 => ⟨S16384x8x1, .f32⟩
  | 117 => ⟨S16384x8x256, .f32⟩
  | 118 => ⟨S16384x8x256, .f32⟩
  | 119 => ⟨S16384x2048, .f32⟩
  | 120 => ⟨S1x2048, .f32⟩
  | 121 => ⟨S16384x2048, .f32⟩
  | 122 => ⟨S16384x2048, .f32⟩
  | 123 => ⟨S16384x2048, .bf16⟩
  | 124 => ⟨S8x8x256x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c : Ref sig .tc := ⟨.hbm, 91, rfl⟩
abbrev main_v59 : Ref sig .tc := ⟨.hbm, 92, rfl⟩
abbrev main_call2_v0 : Ref sig .tc := ⟨.hbm, 93, rfl⟩
abbrev main_call2_c : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_c_0 : Ref sig .tc := ⟨.hbm, 99, rfl⟩
abbrev main_call2_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_0 : Ref sig .tc := ⟨.hbm, 109, rfl⟩
abbrev main_v68 : Ref sig .tc := ⟨.hbm, 110, rfl⟩
abbrev main_c_1 : Ref sig .tc := ⟨.hbm, 111, rfl⟩
abbrev main_v69_0 : Ref sig .tc := ⟨.hbm, 112, rfl⟩
abbrev main_v69_1 : Ref sig .tc := ⟨.hbm, 113, rfl⟩
abbrev main_v69_2 : Ref sig .tc := ⟨.hbm, 114, rfl⟩
abbrev main_v69_3 : Ref sig .tc := ⟨.hbm, 115, rfl⟩
abbrev main_v69_4 : Ref sig .tc := ⟨.hbm, 116, rfl⟩
abbrev main_v69_5 : Ref sig .tc := ⟨.hbm, 117, rfl⟩
abbrev main_v69_6 : Ref sig .tc := ⟨.hbm, 118, rfl⟩
abbrev main_v69_7 : Ref sig .tc := ⟨.hbm, 119, rfl⟩
abbrev main_v69_8 : Ref sig .tc := ⟨.hbm, 120, rfl⟩
abbrev main_v69_9 : Ref sig .tc := ⟨.hbm, 121, rfl⟩
abbrev main_while0c_c_14 : Ref sig .tc := ⟨.hbm, 122, rfl⟩
abbrev main_while0c_v93 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_call3_c_1 : Ref sig .tc := ⟨.hbm, 126, rfl⟩
abbrev main_while0b_call3_c_2 : Ref sig .tc := ⟨.hbm, 127, rfl⟩
abbrev main_while0b_call3_c_3 : Ref sig .tc := ⟨.hbm, 128, rfl⟩
abbrev main_while0b_call3_v0 : Ref sig .tc := ⟨.hbm, 129, rfl⟩
abbrev main_while0b_v93 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_c_3 : Ref sig .tc := ⟨.hbm, 135, rfl⟩
abbrev main_while0b_call4_v0 : Ref sig .tc := ⟨.hbm, 136, rfl⟩
abbrev main_while0b_v94 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_c_2 : Ref sig .tc := ⟨.hbm, 141, rfl⟩
abbrev main_while0b_call5_v0 : Ref sig .tc := ⟨.hbm, 142, rfl⟩
abbrev main_while0b_v95 : Ref sig .tc := ⟨.hbm, 143, rfl⟩
abbrev main_while0b_call6_c : Ref sig .tc := ⟨.hbm, 144, rfl⟩
abbrev main_while0b_call6_c_0 : Ref sig .tc := ⟨.hbm, 145, rfl⟩
abbrev main_while0b_call6_c_1 : Ref sig .tc := ⟨.hbm, 146, rfl⟩
abbrev main_while0b_call6_c_2 : Ref sig .tc := ⟨.hbm, 147, rfl⟩
abbrev main_while0b_call6_v0 : Ref sig .tc := ⟨.hbm, 148, rfl⟩
abbrev main_while0b_v96 : Ref sig .tc := ⟨.hbm, 149, rfl⟩
abbrev main_while0b_call7_c : Ref sig .tc := ⟨.hbm, 150, rfl⟩
abbrev main_while0b_call7_c_0 : Ref sig .tc := ⟨.hbm, 151, rfl⟩
abbrev main_while0b_call7_c_1 : Ref sig .tc := ⟨.hbm, 152, rfl⟩
abbrev main_while0b_call7_c_2 : Ref sig .tc := ⟨.hbm, 153, rfl⟩
abbrev main_while0b_call7_v0 : Ref sig .tc := ⟨.hbm, 154, rfl⟩
abbrev main_while0b_v97 : Ref sig .tc := ⟨.hbm, 155, rfl⟩
abbrev main_while0b_call8_call0_cst : Ref sig .tc := ⟨.hbm, 156, rfl⟩
abbrev main_while0b_call8_call0_v0 : Ref sig .tc := ⟨.hbm, 157, rfl⟩
abbrev main_while0b_v98 : Ref sig .tc := ⟨.hbm, 158, rfl⟩
abbrev main_while0b_v99 : Ref sig .tc := ⟨.hbm, 159, rfl⟩
abbrev main_while0b_v100 : Ref sig .tc := ⟨.hbm, 160, rfl⟩
abbrev main_while0b_v101 : Ref sig .tc := ⟨.hbm, 161, rfl⟩
abbrev main_while0b_v102 : Ref sig .tc := ⟨.hbm, 162, rfl⟩
abbrev main_while0b_v103 : Ref sig .tc := ⟨.hbm, 163, rfl⟩
abbrev main_while0b_v104 : Ref sig .tc := ⟨.hbm, 164, rfl⟩
abbrev main_while0b_cst_14 : Ref sig .tc := ⟨.hbm, 165, rfl⟩
abbrev main_while0b_call9_v0 : Ref sig .tc := ⟨.hbm, 166, rfl⟩
abbrev main_while0b_call9_v1 : Ref sig .tc := ⟨.hbm, 167, rfl⟩
abbrev main_while0b_call9_v2 : Ref sig .tc := ⟨.hbm, 168, rfl⟩
abbrev main_while0b_v105 : Ref sig .tc := ⟨.hbm, 169, rfl⟩
abbrev main_while0b_v106 : Ref sig .tc := ⟨.hbm, 170, rfl⟩
abbrev main_while0b_cst_15 : Ref sig .tc := ⟨.hbm, 171, rfl⟩
abbrev main_while0b_call10_v0 : Ref sig .tc := ⟨.hbm, 172, rfl⟩
abbrev main_while0b_call10_v1 : Ref sig .tc := ⟨.hbm, 173, rfl⟩
abbrev main_while0b_call10_v2 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_v115 : Ref sig .tc := ⟨.hbm, 183, rfl⟩
abbrev main_while0b_v116 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_v124 : Ref sig .tc := ⟨.hbm, 192, rfl⟩
abbrev main_while0b_v125 : Ref sig .tc := ⟨.hbm, 193, rfl⟩
abbrev main_while0b_v126 : Ref sig .tc := ⟨.hbm, 194, rfl⟩
abbrev main_while0b_v127 : Ref sig .tc := ⟨.hbm, 195, rfl⟩
abbrev main_while0b_v128 : Ref sig .tc := ⟨.hbm, 196, rfl⟩
abbrev main_while0b_v129 : Ref sig .tc := ⟨.hbm, 197, rfl⟩
abbrev main_while0b_v130 : Ref sig .tc := ⟨.hbm, 198, rfl⟩
abbrev main_while0b_v131 : Ref sig .tc := ⟨.hbm, 199, rfl⟩
abbrev main_while0b_v132 : Ref sig .tc := ⟨.hbm, 200, rfl⟩
abbrev main_while0b_v133 : Ref sig .tc := ⟨.hbm, 201, rfl⟩
abbrev main_while0b_v134 : Ref sig .tc := ⟨.hbm, 202, rfl⟩
abbrev main_while0b_v135 : Ref sig .tc := ⟨.hbm, 203, rfl⟩
abbrev main_while0b_v136 : Ref sig .tc := ⟨.hbm, 204, rfl⟩
abbrev main_while0b_v137 : Ref sig .tc := ⟨.hbm, 205, rfl⟩
abbrev main_while0b_v138 : Ref sig .tc := ⟨.hbm, 206, rfl⟩
abbrev main_while0b_v139 : Ref sig .tc := ⟨.hbm, 207, rfl⟩
abbrev main_while0b_v140 : Ref sig .tc := ⟨.hbm, 208, rfl⟩
abbrev main_while0b_v141 : Ref sig .tc := ⟨.hbm, 209, rfl⟩
abbrev main_while0b_call11_v0 : Ref sig .tc := ⟨.hbm, 210, rfl⟩
abbrev main_while0b_call11_c : Ref sig .tc := ⟨.hbm, 211, rfl⟩
abbrev main_while0b_call11_c_0 : Ref sig .tc := ⟨.hbm, 212, rfl⟩
abbrev main_while0b_call11_c_1 : Ref sig .tc := ⟨.hbm, 213, rfl⟩
abbrev main_while0b_call11_c_2 : Ref sig .tc := ⟨.hbm, 214, rfl⟩
abbrev main_while0b_call11_c_3 : Ref sig .tc := ⟨.hbm, 215, rfl⟩
abbrev main_while0b_v142 : Ref sig .tc := ⟨.hbm, 216, rfl⟩
abbrev main_while0b_c_16 : Ref sig .tc := ⟨.hbm, 217, rfl⟩
abbrev main_while0b_v143 : Ref sig .tc := ⟨.hbm, 218, rfl⟩
abbrev main_v70 : Ref sig .tc := ⟨.hbm, 219, rfl⟩
abbrev main_v71 : Ref sig .tc := ⟨.hbm, 220, rfl⟩
abbrev main_v72 : Ref sig .tc := ⟨.hbm, 221, rfl⟩
abbrev main_v73 : Ref sig .tc := ⟨.hbm, 222, rfl⟩
abbrev main_call12_v0 : Ref sig .tc := ⟨.hbm, 223, rfl⟩
abbrev main_call12_v1 : Ref sig .tc := ⟨.hbm, 224, rfl⟩
abbrev main_call12_cst : Ref sig .tc := ⟨.hbm, 225, rfl⟩
abbrev main_call12_v2 : Ref sig .tc := ⟨.hbm, 226, rfl⟩
abbrev main_call12_v3 : Ref sig .tc := ⟨.hbm, 227, rfl⟩
abbrev main_call12_cst_0 : Ref sig .tc := ⟨.hbm, 228, rfl⟩
abbrev main_call12_v4 : Ref sig .tc := ⟨.hbm, 229, rfl⟩
abbrev main_call12_v5 : Ref sig .tc := ⟨.hbm, 230, rfl⟩
abbrev main_v74 : Ref sig .tc := ⟨.hbm, 231, rfl⟩
abbrev main_v75 : Ref sig .tc := ⟨.hbm, 232, rfl⟩
abbrev main_v76 : Ref sig .tc := ⟨.hbm, 233, rfl⟩
abbrev main_v77 : Ref sig .tc := ⟨.hbm, 234, rfl⟩
abbrev main_cst_2 : Ref sig .tc := ⟨.hbm, 235, rfl⟩
abbrev main_v78 : Ref sig .tc := ⟨.hbm, 236, rfl⟩
abbrev main_v79 : Ref sig .tc := ⟨.hbm, 237, rfl⟩
abbrev main_cst_3 : Ref sig .tc := ⟨.hbm, 238, rfl⟩
abbrev main_v80 : Ref sig .tc := ⟨.hbm, 239, rfl⟩
abbrev main_v81 : Ref sig .tc := ⟨.hbm, 240, rfl⟩
abbrev main_cst_4 : Ref sig .tc := ⟨.hbm, 241, rfl⟩
abbrev main_v82 : Ref sig .tc := ⟨.hbm, 242, rfl⟩
abbrev main_v83 : Ref sig .tc := ⟨.hbm, 243, rfl⟩
abbrev main_v84 : Ref sig .tc := ⟨.hbm, 244, rfl⟩
abbrev main_v85 : Ref sig .tc := ⟨.hbm, 245, rfl⟩
abbrev main_v86 : Ref sig .tc := ⟨.hbm, 246, rfl⟩
abbrev main_v87 : Ref sig .tc := ⟨.hbm, 247, rfl⟩
abbrev main_v88 : Ref sig .tc := ⟨.hbm, 248, rfl⟩
abbrev main_v89 : Ref sig .tc := ⟨.hbm, 249, rfl⟩
abbrev main_v90 : Ref sig .tc := ⟨.hbm, 250, rfl⟩
abbrev main_v91 : Ref sig .tc := ⟨.hbm, 251, rfl⟩
abbrev main_v92 : Ref sig .tc := ⟨.hbm, 252, rfl⟩

abbrev nD : Nat := 1
abbrev τ : Topo := Topo.v7x

variable {F : FTy → Type} [FloatOps F]

abbrev main_while0_count : Scf.Loop 32 := ⟨0#32, 16#32, 1#32⟩
-- ==== LruStep.lean ====
abbrev S256x2048 : Shape := ⟨2, ![256, 2048]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S8x128x128 : Shape := ⟨3, ![8, 128, 128]⟩
abbrev S1x1024 : Shape := ⟨2, ![1, 1024]⟩
abbrev S8x128x256 : Shape := ⟨3, ![8, 128, 256]⟩
abbrev S128x3072 : Shape := ⟨2, ![128, 3072]⟩
abbrev S128x128 : Shape := ⟨2, ![128, 128]⟩
abbrev S1x128x256 : Shape := ⟨3, ![1, 128, 256]⟩
abbrev S128x256 : Shape := ⟨2, ![128, 256]⟩

abbrev nBuf : Space → Nat
  | .hbm => 19
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S8x128x256, .f32⟩
  | .hbm, ⟨12, _⟩ => ⟨S8x128x256, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S128x3072, .f32⟩
  | .hbm, ⟨17, _⟩ => ⟨S128x1024, .bf16⟩
  | .hbm, ⟨18, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S128x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LruStepRefIdeal.lean ====
abbrev S256x2048 : Shape := ⟨2, ![256, 2048]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S8x128x128 : Shape := ⟨3, ![8, 128, 128]⟩
abbrev S128x1x1024 : Shape := ⟨3, ![128, 1, 1024]⟩
abbrev S128x4x1024 : Shape := ⟨3, ![128, 4, 1024]⟩
abbrev S1x1024 : Shape := ⟨2, ![1, 1024]⟩
abbrev S1x1x1024 : Shape := ⟨3, ![1, 1, 1024]⟩
abbrev S_ : Shape := ⟨0, ![]⟩
abbrev S128x8x128 : Shape := ⟨3, ![128, 8, 128]⟩

abbrev nBuf : Space → Nat
  | .hbm => 128
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S128x1024, .f32⟩
  | .hbm, ⟨11, _⟩ => ⟨S128x1x1024, .f32⟩
  | .hbm, ⟨12, _⟩ => ⟨S128x4x1024, .f32⟩
  | .hbm, ⟨13, _⟩ => ⟨S128x1x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S_, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S128x1x1024, .f32⟩
  | .hbm, ⟨41, _⟩ => ⟨S128x1x1024, .f32⟩
  | .hbm, ⟨42, _⟩ => ⟨S128x1x1024, .f32⟩
  | .hbm, ⟨43, _⟩ => ⟨S1x1x1024, .f32⟩
  | .hbm, ⟨44, _⟩ => ⟨S128x1x1024, .f32⟩
  | .hbm, ⟨45, _⟩ => ⟨S128x1x1024, .f32⟩
  | .hbm, ⟨46, _⟩ => ⟨S128x1024, .f32⟩
  | .hbm, ⟨47, _⟩ => ⟨S128x8x128, .f32⟩
  | .hbm, ⟨48, _⟩ => ⟨S8x128x128, .f32⟩
  | .hbm, ⟨49, _⟩ => ⟨S128x8x128, .f32⟩
  | .hbm, ⟨50, _⟩ => ⟨S128x1024, .f32⟩
  | .hbm, ⟨51, _⟩ => ⟨S1x1024, .f32⟩
  | .hbm, ⟨52, _⟩ => ⟨S128x1024, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S8x128x128, .f32⟩
  | .hbm, ⟨63, _⟩ => ⟨S128x8x128, .f32⟩
  | .hbm, ⟨64, _⟩ => ⟨S128x1024, .f32⟩
  | .hbm, ⟨65, _⟩ => ⟨S1x1024, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S_, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .i1⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1x1024, .f32⟩
  | .hbm, ⟨95, _⟩ => ⟨S128x1024, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S_, .f32⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S128x1024, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S128x1024, .f32⟩
  | .hbm, ⟨110, _⟩ => ⟨S128x1024, .f32⟩
  | .hbm, ⟨111, _⟩ => ⟨S_, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S_, .f32⟩
  | .hbm, ⟨120, _⟩ => ⟨S128x1024, .f32⟩
  | .hbm, ⟨121, _⟩ => ⟨S128x1024, .f32⟩
  | .hbm, ⟨122, _⟩ => ⟨S_, .f32⟩
  | .hbm, ⟨123, _⟩ => ⟨S128x1024, .f32⟩
  | .hbm, ⟨124, _⟩ => ⟨S128x1024, .f32⟩
  | .hbm, ⟨125, _⟩ => ⟨S128x1024, .f32⟩
  | .hbm, ⟨126, _⟩ => ⟨S128x1024, .f32⟩
  | .hbm, ⟨127, _⟩ => ⟨S128x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_5 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_6 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_7 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_8 : Ref sig .tc := ⟨.hbm, 119, rfl⟩
abbrev main_v87 : Ref sig .tc := ⟨.hbm, 120, rfl⟩
abbrev main_v88 : Ref sig .tc := ⟨.hbm, 121, rfl⟩
abbrev main_cst_9 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Ffn.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Ffk.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S2048x1024, .bf16⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfkRefIdeal.lean ====
abbrev S16384x2048 : Shape := ⟨2, ![16384, 2048]⟩
abbrev S16384x1024 : Shape := ⟨2, ![16384, 1024]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Nml.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NmlIdeal.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S16384x2048 : Shape := ⟨2, ![16384, 2048]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NmlRefIdeal.lean ====
abbrev S16384x1024 : Shape := ⟨2, ![16384, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Nms.lean ====
abbrev S16384x1024 : Shape := ⟨2, ![16384, 1024]⟩
abbrev S1024 : Shape := ⟨1, ![1024]⟩
abbrev S1024x6176 : Shape := ⟨2, ![1024, 6176]⟩
abbrev S1024x4096 : Shape := ⟨2, ![1024, 4096]⟩
abbrev S1024x2048 : Shape := ⟨2, ![1024, 2048]⟩
abbrev S1024x6144 : Shape := ⟨2, ![1024, 6144]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S16384x6144 : Shape := ⟨2, ![16384, 6144]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S1024x4096, .f32⟩
  | .hbm, ⟨4, _⟩ => ⟨S1024x2048, .f32⟩
  | .hbm, ⟨5, _⟩ => ⟨S1024x6144, .f32⟩
  | .hbm, ⟨6, _⟩ => ⟨S1024x6144, .bf16⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S16384x6144, .f32⟩
  | .hbm, ⟨14, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== NmsIdeal.lean ====
abbrev S16384x1024 : Shape := ⟨2, ![16384, 1024]⟩
abbrev S1024 : Shape := ⟨1, ![1024]⟩
abbrev S1024x6176 : Shape := ⟨2, ![1024, 6176]⟩
abbrev S1024x4096 : Shape := ⟨2, ![1024, 4096]⟩
abbrev S1024x2048 : Shape := ⟨2, ![1024, 2048]⟩
abbrev S1024x6144 : Shape := ⟨2, ![1024, 6144]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S16384x6144 : Shape := ⟨2, ![16384, 6144]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S1024x4096, .f32⟩
  | .hbm, ⟨4, _⟩ => ⟨S1024x2048, .f32⟩
  | .hbm, ⟨5, _⟩ => ⟨S1024x6144, .f32⟩
  | .hbm, ⟨6, _⟩ => ⟨S1024x6144, .bf16⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S16384x6144, .f32⟩
  | .hbm, ⟨14, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== NmsRefIdeal.lean ====
abbrev S16384x1024 : Shape := ⟨2, ![16384, 1024]⟩
abbrev S1024 : Shape := ⟨1, ![1024]⟩
abbrev S1024x6176 : Shape := ⟨2, ![1024, 6176]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6176 : Shape := ⟨2, ![16384, 6176]⟩
abbrev S16384x2048 : Shape := ⟨2, ![16384, 2048]⟩
abbrev S16384x4096 : Shape := ⟨2, ![16384, 4096]⟩
abbrev S16384x32 : Shape := ⟨2, ![16384, 32]⟩
abbrev S16384x6144 : Shape := ⟨2, ![16384, 6144]⟩
abbrev S16384x128 : Shape := ⟨2, ![16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6176, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6176, .f32⟩
  | .hbm, ⟨20, _⟩ => ⟨S16384x2048, .f32⟩
  | .hbm, ⟨21, _⟩ => ⟨S16384x4096, .f32⟩
  | .hbm, ⟨22, _⟩ => ⟨S16384x32, .f32⟩
  | .hbm, ⟨23, _⟩ => ⟨S16384x6144, .f32⟩
  | .hbm, ⟨24, _⟩ => ⟨S_, .i32⟩
  | .hbm, ⟨25, _⟩ => ⟨S_, .f32⟩
  | .hbm, ⟨26, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Ffs.lean ====
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256 : Shape := ⟨1, ![256]⟩
abbrev S256x1 : Shape := ⟨2, ![256, 1]⟩

abbrev nBuf : Space → Nat
  | .hbm => 17
  | .vmem => 10
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfsRefIdeal.lean ====
abbrev S256x1024 : Shape := ⟨2, ![256, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S256x4096 : Shape := ⟨2, ![256, 4096]⟩

abbrev nBuf : Space → Nat
  | .hbm => 70
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S256x1024, .f32⟩
  | .hbm, ⟨10, _⟩ => ⟨S256x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x4096, .f32⟩
  | .hbm, ⟨48, _⟩ => ⟨S_, .f32⟩
  | .hbm, ⟨49, _⟩ => ⟨S256x4096, .f32⟩
  | .hbm, ⟨50, _⟩ => ⟨S256x4096, .f32⟩
  | .hbm, ⟨51, _⟩ => ⟨S256x4096, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S256x1, .f32⟩
  | .hbm, ⟨64, _⟩ => ⟨S256x1024, .f32⟩
  | .hbm, ⟨65, _⟩ => ⟨S256x1024, .f32⟩
  | .hbm, ⟨66, _⟩ => ⟨S1x1024, .f32⟩
  | .hbm, ⟨67, _⟩ => ⟨S256x1024, .f32⟩
  | .hbm, ⟨68, _⟩ => ⟨S256x1024, .f32⟩
  | .hbm, ⟨69, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Nls.lean ====
abbrev S256x1024 : Shape := ⟨2, ![256, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S1x1024, .f32⟩
  | .hbm, ⟨5, _⟩ => ⟨S1024x2048, .bf16⟩
  | .hbm, ⟨6, _⟩ => ⟨S1x2048, .f32⟩
  | .hbm, ⟨7, _⟩ => ⟨S256x2048, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NlsRefIdeal.lean ====
abbrev S256x1024 : Shape := ⟨2, ![256, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Nss.lean ====
abbrev S256x1024 : Shape := ⟨2, ![256, 1024]⟩
abbrev S1024 : Shape := ⟨1, ![1024]⟩
abbrev S1024x6176 : Shape := ⟨2, ![1024, 6176]⟩
abbrev S1024x4096 : Shape := ⟨2, ![1024, 4096]⟩
abbrev S1024x2048 : Shape := ⟨2, ![1024, 2048]⟩
abbrev S1024x6144 : Shape := ⟨2, ![1024, 6144]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S256x6144 : Shape := ⟨2, ![256, 6144]⟩
abbrev S256x128 : Shape := ⟨2, ![256, 128]⟩
abbrev S1024x1024 : Shape := ⟨2, ![1024, 1024]⟩
abbrev S256 : Shape := ⟨1, ![256]⟩
abbrev S256x1 : Shape := ⟨2, ![256, 1]⟩

abbrev nBuf : Space → Nat
  | .hbm => 15
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6176, .f32⟩
  | .hbm, ⟨3, _⟩ => ⟨S1024x4096, .f32⟩
  | .hbm, ⟨4, _⟩ => ⟨S1024x2048, .f32⟩
  | .hbm, ⟨5, _⟩ => ⟨S1024x6144, .f32⟩
  | .hbm, ⟨6, _⟩ => ⟨S1024x6144, .bf16⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S256x6144, .f32⟩
  | .hbm, ⟨14, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S256x1024, .f32⟩
  | .local _ .vmem, ⟨6, _⟩ => ⟨S256x1024, .f32⟩
  | .local _ .vmem, ⟨7, _⟩ => ⟨S256x128, .f32⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== NssRefIdeal.lean ====
abbrev S256x1024 : Shape := ⟨2, ![256, 1024]⟩
abbrev S1024 : Shape := ⟨1, ![1024]⟩
abbrev S1024x6176 : Shape := ⟨2, ![1024, 6176]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x6176 : Shape := ⟨2, ![256, 6176]⟩
abbrev S256x2048 : Shape := ⟨2, ![256, 2048]⟩
abbrev S256x4096 : Shape := ⟨2, ![256, 4096]⟩
abbrev S256x32 : Shape := ⟨2, ![256, 32]⟩
abbrev S256x6144 : Shape := ⟨2, ![256, 6144]⟩
abbrev S256x128 : Shape := ⟨2, ![256, 128]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6176, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x6176, .f32⟩
  | .hbm, ⟨20, _⟩ => ⟨S256x2048, .f32⟩
  | .hbm, ⟨21, _⟩ => ⟨S256x4096, .f32⟩
  | .hbm, ⟨22, _⟩ => ⟨S256x32, .f32⟩
  | .hbm, ⟨23, _⟩ => ⟨S256x6144, .f32⟩
  | .hbm, ⟨24, _⟩ => ⟨S_, .i32⟩
  | .hbm, ⟨25, _⟩ => ⟨S_, .f32⟩
  | .hbm, ⟨26, _⟩ => ⟨S256x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Math.Gates.lean ====
/-
  The scalar functions of the RG-LRU layer over the extended reals: the softplus of the decay parameter, the log-decay, and
  the two spellings of the input's factor `√(1 − a²)`, one by `tanh` and one by `expm1`.
-/
module

public import Idealize.ShloMosaic.Lib.Pointwise

@[expose] public section

noncomputable section

namespace Cert.Gates

open Idealize.ShloMosaic

/-- The constant −8, as its f32 pattern. -/
abbrev negEight : EReal := Ideal.ofBits FTy.f32 3238002688#32

/-- The constant 2, as its f32 pattern. -/
abbrev two32 : EReal := Ideal.ofBits FTy.f32 1073741824#32

/-- `softplus(−λ)`. -/
def softplusNeg (l : EReal) : EReal := max (-l) 0 + Ideal.log1p (Ideal.exp (-max (-l) l))

/-- The log of the decay of one unit: `−8 · r · softplus(−λ)` with `r` the recurrence gate of pre-activation `u`. -/
def logDecay (u l : EReal) : EReal := negEight * Ideal.logistic u * softplusNeg l

theorem exp_nonneg (x : EReal) : 0 ≤ Ideal.exp x := by
  induction x with
  | bot => exact le_refl _
  | top => exact le_top
  | coe r => exact EReal.coe_nonneg.mpr (Real.exp_pos r).le

theorem exp_le_one {x : EReal} (h : x ≤ 0) : Ideal.exp x ≤ 1 := by
  induction x with
  | bot => exact zero_le_one
  | top => exact absurd h (by simp)
  | coe r => exact EReal.coe_le_coe_iff.mpr (Real.exp_le_one_iff.mpr (EReal.coe_le_coe_iff.mp h))

theorem logistic_nonneg (x : EReal) : 0 ≤ Ideal.logistic x := by
  induction x with
  | bot => simp
  | top => simp
  | coe r => rw [Ideal.logistic_coe]; exact EReal.coe_nonneg.mpr (inv_nonneg.mpr (by positivity))

theorem log1p_nonneg {x : EReal} (h : 0 ≤ x) : 0 ≤ Ideal.log1p x := by
  induction x with
  | bot => exact absurd h (by simp)
  | top => exact le_top
  | coe r =>
    have hr : (0 : ℝ) ≤ r := EReal.coe_nonneg.mp h
    show 0 ≤ Ideal.log (((1 + r : ℝ)) : EReal)
    show (0 : EReal) ≤ (if 1 + r ≤ 0 then ⊥ else (Real.log (1 + r) : EReal))
    rw [if_neg (by linarith)]
    exact EReal.coe_nonneg.mpr (Real.log_nonneg (by linarith))

theorem softplusNeg_nonneg (l : EReal) : 0 ≤ softplusNeg l :=
  add_nonneg (le_max_right _ _) (log1p_nonneg (exp_nonneg _))

theorem two32_eq : two32 = ((2 : ℝ) : EReal) := by
  simp [Ideal.ofBits, Ideal.ieee, -EReal.coe_mul]; norm_num

theorem negEight_eq : negEight = ((-8 : ℝ) : EReal) := by
  simp [Ideal.ofBits, Ideal.ieee, -EReal.coe_mul]; norm_num

theorem negEight_neg : negEight ≤ 0 := by
  rw [negEight_eq]; exact EReal.coe_le_coe_iff.mpr (by norm_num)

theorem logDecay_nonpos (u l : EReal) : logDecay u l ≤ 0 :=
  mul_nonpos_of_nonpos_of_nonneg (mul_nonpos_of_nonpos_of_nonneg negEight_neg (logistic_nonneg u)) (softplusNeg_nonneg l)

/-- `−tanh x · ((eˣ)² + 1) = −(e²ˣ − 1)` for `x ≤ 0`. -/
theorem tanh_factor {x : EReal} (h : x ≤ 0) :
    (0 - Ideal.tanh x) * (Ideal.exp x * Ideal.exp x + 1) = -(Ideal.exp (two32 * x) - 1) := by
  rw [two32_eq]
  induction x with
  | bot =>
    rw [EReal.coe_mul_bot_of_pos (by norm_num : (0 : ℝ) < 2)]
    simp
  | top => exact absurd h (by simp)
  | coe r =>
    rw [← EReal.coe_mul]
    simp only [Ideal.tanh_coe, Ideal.exp_coe]
    norm_cast
    rw [Real.tanh_eq_sinh_div_cosh, Real.sinh_eq, Real.cosh_eq, two_mul, Real.exp_add, Real.exp_neg]
    have := Real.exp_pos r
    field_simp
    ring

/-- The decay of one unit, between 0 and 1. -/
def decay (u l : EReal) : EReal := Ideal.exp (logDecay u l)

theorem decay_nonneg (u l : EReal) : 0 ≤ decay u l := exp_nonneg _

theorem decay_le_one (u l : EReal) : decay u l ≤ 1 := exp_le_one (logDecay_nonpos u l)

/-- What one unit adds to its state: `√(1 − a²) · i · x`, with `i` the input gate of pre-activation `v`, the factor by
    `tanh`. -/
def drive (u l v x : EReal) : EReal :=
  Ideal.sqrt ((0 - Ideal.tanh (logDecay u l)) * (decay u l * decay u l + 1)) * Ideal.logistic v * x

/-- The same with the factor by `expm1`. -/
theorem drive_eq (u l v x : EReal) :
    drive u l v x = Ideal.sqrt (-(Ideal.exp (two32 * logDecay u l) - 1)) * Ideal.logistic v * x := by
  unfold drive decay
  rw [tanh_factor (logDecay_nonpos u l)]

/-- The tanh form of the gelu. -/
def gelu (x : EReal) : EReal :=
  Ideal.ofBits FTy.f32 1056964608#32 * x
    * (1 + Ideal.tanh (Ideal.ofBits FTy.f32 1061962282#32 * (x + Ideal.ofBits FTy.f32 1027024659#32 * (x * x * x))))

end Cert.Gates
-- ==== Proof.Math.Scan.lean ====
/-
  The linear recurrence `h ← a·h + b` over the extended reals, and the log-step (doubling) evaluation of a block of it.
  `state a b h0 n` is the state after `n` steps. A doubling step combines every row with the row `s` above it; after the
  steps 1, 2, 4, … every row holds the pair `(A, B)` with `A·h0 + B` the state after that row. Multiplication does not
  distribute over addition everywhere on the extended reals; it does by factors between 0 and 1, which the decays are.
-/
module

public import Idealize.ShloMosaic.Lib.Pointwise

@[expose] public section

noncomputable section

namespace Cert.Scan

/-- The state of the recurrence after `n` steps from `h0`. -/
def state (a b : Nat → EReal) (h0 : EReal) : Nat → EReal
  | 0 => h0
  | n + 1 => a n * state a b h0 n + b n

/-- The state after `m + n` steps is the state after `n` steps of the later part, from the state after `m`. -/
theorem state_add (a b : Nat → EReal) (h0 : EReal) (m n : Nat) :
    state a b h0 (m + n) = state (fun i => a (m + i)) (fun i => b (m + i)) (state a b h0 m) n := by
  induction n with
  | zero => rfl
  | succ n ih => exact congrArg (fun z => a (m + n) * z + b (m + n)) ih

/-- The state depends on the coefficients of the steps made only. -/
theorem state_congr {a b a' b' : Nat → EReal} {h0 : EReal} {n : Nat} (ha : ∀ i, i < n → a i = a' i)
    (hb : ∀ i, i < n → b i = b' i) : state a b h0 n = state a' b' h0 n := by
  induction n with
  | zero => rfl
  | succ n ih =>
    show a n * state a b h0 n + b n = a' n * state a' b' h0 n + b' n
    rw [ih (fun i hi => ha i (Nat.lt_succ_of_lt hi)) (fun i hi => hb i (Nat.lt_succ_of_lt hi)), ha n (Nat.lt_succ_self n),
      hb n (Nat.lt_succ_self n)]

/-- A column of the block moved down by `s` rows, the first `s` rows being `z`. -/
def shift (s : Nat) (z : EReal) (A : Fin 128 → EReal) (r : Fin 128) : EReal :=
  if r.val < s then z else A ⟨r.val - s, by omega⟩

/-- The decays after the doubling step `s`. -/
def mulStep (s : Nat) (A : Fin 128 → EReal) (r : Fin 128) : EReal := A r * shift s 1 A r

/-- The inputs after the doubling step `s`. -/
def addStep (s : Nat) (A B : Fin 128 → EReal) (r : Fin 128) : EReal := A r * shift s 0 B r + B r

/-- What holds before the doubling step `s`: the decays are between 0 and 1, and row `r` carries the recurrence over its
    last `s` steps (all its steps, where there are fewer). -/
structure Inv (a b : Nat → EReal) (h0 : EReal) (s : Nat) (A B : Fin 128 → EReal) : Prop where
  nonneg : ∀ r, 0 ≤ A r
  le_one : ∀ r, A r ≤ 1
  eq : ∀ r, A r * state a b h0 (r.val + 1 - s) + B r = state a b h0 (r.val + 1)

/-- Before the first step. -/
theorem Inv.start {a b : Nat → EReal} {h0 : EReal} {A B : Fin 128 → EReal} (hA : ∀ r, A r = a r.val)
    (hB : ∀ r, B r = b r.val) (h0a : ∀ r, 0 ≤ A r) (h1a : ∀ r, A r ≤ 1) : Inv a b h0 1 A B :=
  ⟨h0a, h1a, fun r => by rw [hA, hB, Nat.add_sub_cancel]; rfl⟩

theorem shift_nonneg {s : Nat} {A : Fin 128 → EReal} (h : ∀ r, 0 ≤ A r) (r : Fin 128) : 0 ≤ shift s 1 A r := by
  unfold shift; split
  · exact zero_le_one
  · exact h _

theorem shift_le_one {s : Nat} {A : Fin 128 → EReal} (h : ∀ r, A r ≤ 1) (r : Fin 128) : shift s 1 A r ≤ 1 := by
  unfold shift; split
  · exact le_refl _
  · exact h _

/-- One doubling step. -/
theorem Inv.step {a b : Nat → EReal} {h0 : EReal} {s : Nat} {A B : Fin 128 → EReal} (hs : 0 < s)
    (h : Inv a b h0 s A B) : Inv a b h0 (s + s) (mulStep s A) (addStep s A B) where
  nonneg r := mul_nonneg (h.nonneg r) (shift_nonneg h.nonneg r)
  le_one r := mul_le_one₀ (h.le_one r) (shift_nonneg h.nonneg r) (shift_le_one h.le_one r)
  eq r := by
    have hr := h.eq r
    unfold mulStep addStep shift
    by_cases hlt : r.val < s
    · rw [if_pos hlt, if_pos hlt, mul_one, mul_zero, zero_add, show r.val + 1 - (s + s) = r.val + 1 - s by omega]
      exact hr
    · rw [if_neg hlt, if_neg hlt]
      have hq := h.eq ⟨r.val - s, by omega⟩
      dsimp only at hq
      rw [show r.val - s + 1 = r.val + 1 - s by omega, show r.val + 1 - s - s = r.val + 1 - (s + s) by omega] at hq
      rw [← hr, ← hq, EReal.left_distrib_of_nonneg_of_ne_top (h.nonneg r)
        (ne_top_of_le_ne_top (EReal.coe_ne_top 1) (h.le_one r)), mul_assoc, add_assoc]

/-- After the last step the pair of a row is the whole recurrence up to it. -/
theorem Inv.done {a b : Nat → EReal} {h0 : EReal} {A B : Fin 128 → EReal} (h : Inv a b h0 128 A B) (r : Fin 128) :
    A r * h0 + B r = state a b h0 (r.val + 1) := by
  have hr := h.eq r
  rwa [show r.val + 1 - 128 = 0 by omega] at hr

end Cert.Scan
-- ==== Proof.Math.Lru.lean ====
/-
  The RG-LRU recurrence of one sequence over the extended reals. `seq` is the input with the three rows of convolution
  state in front: `seq (t + 3)` is the input at time `t`. The convolution, the two block-diagonal gates, the decay, the
  drive and the state follow as functions of `seq` and the layer's parameters.
-/
module

public import proofs.«01_k».proof.Proof.Math.Gates
public import proofs.«01_k».proof.Proof.Math.Scan

@[expose] public section

noncomputable section

namespace Cert.Lru

open Idealize.ShloMosaic Cert.Gates Cert.Scan

/-- The parameters of one RG-LRU layer: the convolution's four taps and its bias, the two gates' eight 128 × 128 blocks
    and their biases, the decay parameter. -/
structure Params where
  cw : Fin 4 → Fin 1024 → EReal
  cb : Fin 1024 → EReal
  wa : Fin 8 → Fin 128 → Fin 128 → EReal
  wx : Fin 8 → Fin 128 → Fin 128 → EReal
  ba : Fin 1024 → EReal
  bx : Fin 1024 → EReal
  lam : Fin 1024 → EReal

/-- A block-diagonal product: column `j` reads the 128 columns of its own block. -/
def blockDot (v : Fin 1024 → EReal) (w : Fin 8 → Fin 128 → Fin 128 → EReal) (j : Fin 1024) : EReal :=
  ∑ k : Fin 128, v ⟨128 * (j.val / 128) + k.val, by omega⟩
    * w ⟨j.val / 128, by omega⟩ k ⟨j.val % 128, by omega⟩

/-- A ladder over the eight blocks of 128 columns picks the column's block. -/
theorem ladder (f : Fin 8 → Fin 128 → EReal) (f0 : Fin 128 → EReal) (h0 : ∀ l, f0 l = f 0 l) (j : Fin 1024) :
    (if h : j.val < 128 then f0 ⟨j.val, h⟩
     else if h : j.val - 128 < 128 then f 1 ⟨j.val - 128, h⟩
     else if h : j.val - 128 - 128 < 128 then f 2 ⟨j.val - 128 - 128, h⟩
     else if h : j.val - 128 - 128 - 128 < 128 then f 3 ⟨j.val - 128 - 128 - 128, h⟩
     else if h : j.val - 128 - 128 - 128 - 128 < 128 then f 4 ⟨j.val - 128 - 128 - 128 - 128, h⟩
     else if h : j.val - 128 - 128 - 128 - 128 - 128 < 128 then f 5 ⟨j.val - 128 - 128 - 128 - 128 - 128, h⟩
     else if h : j.val - 128 - 128 - 128 - 128 - 128 - 128 < 128 then f 6 ⟨j.val - 128 - 128 - 128 - 128 - 128 - 128, h⟩
     else f 7 ⟨j.val - 128 - 128 - 128 - 128 - 128 - 128 - 128, by omega⟩)
      = f ⟨j.val / 128, by omega⟩ ⟨j.val % 128, by omega⟩ := by
  have key : ∀ (q : Fin 8) (l : Fin 128), j.val = 128 * q.val + l.val →
      f q l = f ⟨j.val / 128, by omega⟩ ⟨j.val % 128, by omega⟩ := fun q l h =>
    congrArg₂ f (Fin.ext (by dsimp only; omega)) (Fin.ext (by dsimp only; omega))
  split
  · rw [h0]; exact key 0 _ (by simp)
  repeat' split
  · exact key 1 _ (by simp; omega)
  · exact key 2 _ (by simp; omega)
  · exact key 3 _ (by simp; omega)
  · exact key 4 _ (by simp; omega)
  · exact key 5 _ (by simp; omega)
  · exact key 6 _ (by simp; omega)
  · exact key 7 _ (by simp; omega)

/-- The sequence of batch entry `b`: the three rows of convolution state, then the entry's 2048 rows of the projection's
    second half. -/
def inputs (proj : Fin 16384 → Fin 2048 → EReal) (c0 : Fin 3 → Fin 1024 → EReal) (b n : Nat) (j : Fin 1024) : EReal :=
  if h : n < 3 then c0 ⟨n, h⟩ j
  else if h : 2048 * b + (n - 3) < 16384 then proj ⟨2048 * b + (n - 3), h⟩ ⟨1024 + j.val, by omega⟩ else 0

theorem inputs_front (proj : Fin 16384 → Fin 2048 → EReal) (c0 : Fin 3 → Fin 1024 → EReal) (b : Nat) (q : Fin 3) (j : Fin 1024) :
    inputs proj c0 b q.val j = c0 q j := dif_pos q.isLt

theorem inputs_row (proj : Fin 16384 → Fin 2048 → EReal) (c0 : Fin 3 → Fin 1024 → EReal) (b n : Nat) (j : Fin 1024)
    {i : Fin 16384} (h3 : 3 ≤ n) (hi : i.val = 2048 * b + (n - 3)) :
    inputs proj c0 b n j = proj i ⟨1024 + j.val, by omega⟩ := by
  unfold inputs
  rw [dif_neg (by omega), dif_pos (by omega : 2048 * b + (n - 3) < 16384)]
  exact congrArg (proj · _) (Fin.ext hi.symm)

namespace Params

variable (P : Params) (seq : Nat → Fin 1024 → EReal) (h0 : Fin 1024 → EReal)

/-- The convolution at time `t`. -/
def conv (t : Nat) (j : Fin 1024) : EReal :=
  (((P.cb j + P.cw 3 j * seq (t + 3) j) + P.cw 0 j * seq t j) + P.cw 1 j * seq (t + 1) j) + P.cw 2 j * seq (t + 2) j

/-- The recurrence gate's pre-activation. -/
def preA (t : Nat) (j : Fin 1024) : EReal := blockDot (P.conv seq t) P.wa j + P.ba j

/-- The input gate's pre-activation. -/
def preX (t : Nat) (j : Fin 1024) : EReal := blockDot (P.conv seq t) P.wx j + P.bx j

/-- The decay of unit `j` at time `t`. -/
def decayAt (j : Fin 1024) (t : Nat) : EReal := decay (P.preA seq t j) (P.lam j)

/-- What unit `j` takes in at time `t`. -/
def driveAt (j : Fin 1024) (t : Nat) : EReal := drive (P.preA seq t j) (P.lam j) (P.preX seq t j) (P.conv seq t j)

/-- The state of unit `j` after `t` steps. -/
def stateAt (j : Fin 1024) (t : Nat) : EReal := state (P.decayAt seq j) (P.driveAt seq j) (h0 j) t

/-- Running the layer on the later part of the sequence from the state reached goes on with the same states. -/
theorem stateAt_add (j : Fin 1024) (m n : Nat) :
    P.stateAt seq h0 j (m + n) = P.stateAt (fun i => seq (m + i)) (fun j => P.stateAt seq h0 j m) j n :=
  state_add _ _ _ m n

end Params

end Cert.Lru
-- ==== Proof.Lru.Payload.lean ====
/-
  The RG-LRU kernel: what one grid point computes from the block it loads, read at row `r`, column `j`.
-/
module

public import proofs.«01_k».proof.Proof.Gen.LruIdeal.Value
public import proofs.«01_k».proof.Proof.Math.Lru

@[expose] public section

noncomputable section

open Idealize.ShloMosaic Idealize.ShloMosaic.TcCoe Idealize.SL.Sem

namespace Cert.LruIdeal.Val

open Cert.LruIdeal Cert.LruIdeal.Gen Cert.Scan Cert.Gates Cert.Lru

/-! ### The doubling steps -/

/-- The row number of each element. -/
abbrev rows : IVec S128x1024 32 := iota .tc S128x1024 32 [0] iota_S128x1024_d0_w32

/-- A select on `row ≥ s`. -/
theorem select_row {s n : Nat} (hs : s < 128) (hn : n < 128) (x y : EReal) :
    Scalar.select (IntOp.cmpi .sge (BitVec.ofNat 32 n) (BitVec.ofNat 32 s)) x y = if n < s then y else x := by
  have hcmp : IntOp.cmpi .sge (BitVec.ofNat 32 n) (BitVec.ofNat 32 s) = 1#1 ↔ s ≤ n := by
    have e : ∀ m, m < 128 → (BitVec.ofNat 32 m).toInt = m := fun m hm => by
      rw [BitVec.toInt_ofNat', Int.bmod_eq_of_le] <;> omega
    refine IntOp.cmpi_sge.trans ?_
    rw [e n hn, e s hs]
    exact Int.ofNat_le
  unfold Scalar.select
  by_cases h : n < s
  · rw [if_pos h]; exact if_neg (fun hh => absurd (hcmp.mp hh) (by omega))
  · rw [if_neg h]; exact if_pos (hcmp.mpr (by omega))

/-- The same with a product above row `s` and zero before it. -/
theorem select_row_mul {s n : Nat} (hs : s < 128) (hn : n < 128) (a x : EReal) :
    Scalar.select (IntOp.cmpi .sge (BitVec.ofNat 32 n) (BitVec.ofNat 32 s)) (a * x) 0 = a * (if n < s then 0 else x) := by
  rw [select_row hs hn]
  split
  · rw [mul_zero]
  · rfl

/-- A rotation by `s` rows reads row `r − s` from row `s` on. -/
theorem rot_row {s : Nat} (hs : s < 128) (r : Fin 128) (f : Fin 128 → EReal) (z : EReal) :
    (if r.val < s then z else f ⟨(r.val + 128 - s) % 128, Nat.mod_lt _ (by decide)⟩) = shift s z f r := by
  unfold shift
  split
  · rfl
  · exact congrArg f (Fin.ext (by dsimp only; omega))

variable (A B : FVec Ideal S128x1024 .f32) (r : Fin 128) (j : Fin 1024)

theorem pay31_at (v106 : FVec Ideal S128x1024 .f32) (v107 : Vec Ideal S1x1024 .f32) :
    k0_pay31 v106 v107 (ix2 r j) = mulStep 1 (fun r => k0_pay30 v106 v107 (ix2 r j)) r := by
  unfold mulStep
  rw [← rot_row (by decide) r]
  pointwise [k0_pay31]
  rw [select_row (s := 1) (by decide) r.isLt]

theorem pay33_at : k0_pay33 rows A (ix2 r j) = mulStep 2 (fun r => A (ix2 r j)) r := by
  unfold mulStep
  rw [← rot_row (by decide) r]
  pointwise [k0_pay33]
  rw [select_row (s := 2) (by decide) r.isLt]

theorem pay34_at : k0_pay34 rows A (ix2 r j) = mulStep 4 (fun r => k0_pay33 rows A (ix2 r j)) r := by
  unfold mulStep
  rw [← rot_row (by decide) r]
  pointwise [k0_pay34]
  rw [select_row (s := 4) (by decide) r.isLt]

theorem pay35_at : k0_pay35 rows A (ix2 r j) = mulStep 8 (fun r => k0_pay34 rows A (ix2 r j)) r := by
  unfold mulStep shift
  pointwise [k0_pay35]
  rfl

theorem pay36_at : k0_pay36 rows A (ix2 r j) = mulStep 16 (fun r => k0_pay35 rows A (ix2 r j)) r := by
  unfold mulStep shift
  pointwise [k0_pay36]
  rfl

theorem pay38_at : k0_pay36 rows A (ix2 r j) * k0_pay38 rows A (ix2 r j) = mulStep 32 (fun r => k0_pay36 rows A (ix2 r j)) r := by
  unfold mulStep shift
  pointwise [k0_pay38]
  rfl

theorem pay37_at : k0_pay37 rows A B (ix2 r j)
    = addStep 32 (fun r => k0_pay36 rows A (ix2 r j)) (addStep 16 (fun r => k0_pay35 rows A (ix2 r j))
        (addStep 8 (fun r => k0_pay34 rows A (ix2 r j)) (addStep 4 (fun r => k0_pay33 rows A (ix2 r j))
          (fun r => B (ix2 r j))))) r := by
  have e4 : addStep 4 (fun r => k0_pay33 rows A (ix2 r j)) (fun r => B (ix2 r j))
      = fun r : Fin 128 => k0_pay33 rows A (ix2 r j)
        * (if r.val < 4 then 0 else B (ix2 ⟨(r.val + 128 - 4) % 128, Nat.mod_lt _ (by decide)⟩ j)) + B (ix2 r j) := by
    funext r
    rw [rot_row (by decide) r (fun r => B (ix2 r j))]
    rfl
  rw [e4]
  unfold addStep shift
  pointwise [k0_pay37]
  simp (disch := omega) only [select_row_mul (s := 4)]
  rfl

/-- The last two steps and the carried state: the block of states. -/
theorem pay39_at (C D E : FVec Ideal S128x1024 .f32) (hc : Vec Ideal S1x1024 .f32) :
    k0_pay39 C D E hc (ix2 r j)
      = mulStep 64 (fun r => C (ix2 r j) * E (ix2 r j)) r * hc (ix2 0 j)
        + addStep 64 (fun r => C (ix2 r j) * E (ix2 r j)) (fun r => D (ix2 r j)) r := by
  unfold addStep mulStep shift
  pointwise [k0_pay39]
  rfl

/-! ### The gates -/

variable (x s5 s6 s7 : Vec Ideal S128x1024 .f32) (cw : Fin 4 → Vec Ideal S1x1024 .f32) (cb : Vec Ideal S1x1024 .f32)
  (W : Fin 8 → Vec Ideal S1x128x256 .bf16) (ba bx lam : Vec Ideal S1x1024 .f32)

/-- The layer's parameters, from what the grid point loads. -/
def params : Params where
  cw q j := cw q (ix2 0 j)
  cb j := cb (ix2 0 j)
  wa q k l := W q (ix3 0 k ⟨l.val, by omega⟩)
  wx q k l := W q (ix3 0 k ⟨128 + l.val, by omega⟩)
  ba j := ba (ix2 0 j)
  bx j := bx (ix2 0 j)
  lam j := lam (ix2 0 j)

/-- The first taps of the convolution. -/
abbrev taps : FVec Ideal S128x1024 .f32 := k0_pay7 x cb (cw 3) (cw 0) s5

/-- The convolution of the block. -/
abbrev convo : FVec Ideal S128x1024 .f32 := k0_pay9 (taps x s5 cw cb) s6 (k0_pay8 (cw 1)) (cw 2) s7

/-- The input gate of the block. -/
abbrev inGate : FVec Ideal S128x1024 .f32 :=
  k0_pay27 (convo x s5 s6 s7 cw cb)
    (k0_pay12 (taps x s5 cw cb) s6 (k0_pay8 (cw 1)) (cw 2) s7 (W 0))
    (k0_pay15 (taps x s5 cw cb) s6 (k0_pay8 (cw 1)) (cw 2) s7 (W 1))
    (k0_pay18 (taps x s5 cw cb) s6 (k0_pay8 (cw 1)) (cw 2) s7 (W 2))
    (k0_pay21 (taps x s5 cw cb) s6 (k0_pay8 (cw 1)) (cw 2) s7 (W 3))
    (k0_pay22 (taps x s5 cw cb) s6 (k0_pay8 (cw 1)) (cw 2) s7) (W 4) (W 5) (W 6) (W 7) bx

/-- The recurrence gate of the block, times −8. -/
abbrev recGate : FVec Ideal S128x1024 .f32 :=
  k0_pay28 (convo x s5 s6 s7 cw cb)
    (k0_pay11 (taps x s5 cw cb) s6 (k0_pay8 (cw 1)) (cw 2) s7 (W 0))
    (k0_pay14 (taps x s5 cw cb) s6 (k0_pay8 (cw 1)) (cw 2) s7 (W 1))
    (k0_pay17 (taps x s5 cw cb) s6 (k0_pay8 (cw 1)) (cw 2) s7 (W 2))
    (k0_pay20 (taps x s5 cw cb) s6 (k0_pay8 (cw 1)) (cw 2) s7 (W 3))
    (k0_pay22 (taps x s5 cw cb) s6 (k0_pay8 (cw 1)) (cw 2) s7) (W 4) (W 5) (W 6) (W 7) ba

theorem inGate_at : inGate x s5 s6 s7 cw cb W bx (ix2 r j)
    = Ideal.logistic (blockDot (fun j => convo x s5 s6 s7 cw cb (ix2 r j))
        (params cw cb W ba bx lam).wx j + bx (ix2 0 j)) := by
  unfold inGate
  generalize hc : convo x s5 s6 s7 cw cb = c
  pointwise [k0_pay27, k0_pay12, k0_pay15, k0_pay18, k0_pay21, k0_pay22, k0_pay10, k0_pay13, k0_pay16, k0_pay19,
    k0_pay23, k0_pay24, k0_pay25, k0_pay26, dot_S128x128_S128x256_S128x256_1_0_0_1_n_n, hc]
  congr 2
  exact ladder (fun q l => ∑ k : Fin 128, c (ix2 r ⟨128 * q.val + k.val, by omega⟩) * W q (ix3 0 k ⟨128 + l.val, by omega⟩))
    (fun l => ∑ k : Fin 128, c (ix2 r ⟨k.val, by omega⟩) * W 0 (ix3 0 k ⟨128 + l.val, by omega⟩)) (fun l => by simp) j

theorem recGate_at : recGate x s5 s6 s7 cw cb W ba (ix2 r j)
    = negEight * Ideal.logistic (blockDot (fun j => convo x s5 s6 s7 cw cb (ix2 r j))
        (params cw cb W ba bx lam).wa j + ba (ix2 0 j)) := by
  unfold recGate
  generalize hc : convo x s5 s6 s7 cw cb = c
  pointwise [k0_pay28, k0_pay11, k0_pay14, k0_pay17, k0_pay20, k0_pay22, k0_pay10, k0_pay13, k0_pay16, k0_pay19,
    k0_pay23, k0_pay24, k0_pay25, k0_pay26, dot_S128x128_S128x256_S128x256_1_0_0_1_n_n, hc]
  congr 3
  exact ladder (fun q l => ∑ k : Fin 128, c (ix2 r ⟨128 * q.val + k.val, by omega⟩) * W q (ix3 0 k ⟨l.val, by omega⟩))
    (fun l => ∑ k : Fin 128, c (ix2 r ⟨k.val, by omega⟩) * W 0 (ix3 0 k ⟨l.val, by omega⟩)) (fun l => by simp) j

theorem pay29_at (v106 : FVec Ideal S128x1024 .f32) (l : Vec Ideal S1x1024 .f32) :
    k0_pay29 v106 l (ix2 r j) = v106 (ix2 r j) * softplusNeg (l (ix2 0 j)) := by
  pointwise [k0_pay29]
  unfold softplusNeg
  simp only [zero_sub]
  have habs : ∀ z : EReal, FloatOps.absf (F := Ideal) (φ := .f32) z = max z (-z) := fun _ => rfl
  rw [habs, neg_neg]

theorem pay30_at (v106 : FVec Ideal S128x1024 .f32) (l : Vec Ideal S1x1024 .f32) :
    k0_pay30 v106 l (ix2 r j) = Ideal.exp (k0_pay29 v106 l (ix2 r j)) := by
  pointwise [k0_pay30]

theorem pay32_at (v36 v104 v106 : FVec Ideal S128x1024 .f32) (l : Vec Ideal S1x1024 .f32) :
    k0_pay32 v36 v104 v106 l (ix2 r j)
      = addStep 2 (fun r => k0_pay31 v106 l (ix2 r j)) (addStep 1 (fun r => k0_pay30 v106 l (ix2 r j))
          (fun r => Ideal.sqrt ((0 - Ideal.tanh (k0_pay29 v106 l (ix2 r j)))
            * (k0_pay30 v106 l (ix2 r j) * k0_pay30 v106 l (ix2 r j) + 1)) * v104 (ix2 r j) * v36 (ix2 r j))) r := by
  unfold addStep
  simp only [← rot_row (show 1 < 128 by decide), ← rot_row (show 2 < 128 by decide)]
  pointwise [k0_pay32]
  simp (disch := omega) only [select_row_mul (s := 1), select_row_mul (s := 2)]

/-! ### The grid point -/

/-- The block the grid point loads, as the part of the sequence it works on: the three shifted loads and the block itself
    are the sequence's rows at the four taps. -/
structure Loads (seq : Nat → Fin 1024 → EReal) : Prop where
  x : ∀ (r : Fin 128) (j : Fin 1024), x (ix2 r j) = seq (r.val + 3) j
  s5 : ∀ (r : Fin 128) (j : Fin 1024), s5 (ix2 r j) = seq r.val j
  s6 : ∀ (r : Fin 128) (j : Fin 1024), s6 (ix2 r j) = seq (r.val + 1) j
  s7 : ∀ (r : Fin 128) (j : Fin 1024), s7 (ix2 r j) = seq (r.val + 2) j

variable {x s5 s6 s7} {seq : Nat → Fin 1024 → EReal} (hl : Loads x s5 s6 s7 seq)
include hl

theorem convo_at : convo x s5 s6 s7 cw cb (ix2 r j) = (params cw cb W ba bx lam).conv seq r.val j := by
  unfold convo taps
  pointwise [k0_pay9, k0_pay8, k0_pay7]
  rw [hl.x, hl.s5, hl.s6, hl.s7]
  rfl

theorem inGate_eq : inGate x s5 s6 s7 cw cb W bx (ix2 r j)
    = Ideal.logistic ((params cw cb W ba bx lam).preX seq r.val j) := by
  rw [inGate_at r j x s5 s6 s7 cw cb W ba bx lam, funext fun j => convo_at r j cw cb W ba bx lam hl]
  rfl

theorem logDecay_at : k0_pay29 (recGate x s5 s6 s7 cw cb W ba) lam (ix2 r j)
    = logDecay ((params cw cb W ba bx lam).preA seq r.val j) (lam (ix2 0 j)) := by
  rw [pay29_at, recGate_at r j x s5 s6 s7 cw cb W ba bx lam, funext fun j => convo_at r j cw cb W ba bx lam hl]
  rfl

theorem decay_at : k0_pay30 (recGate x s5 s6 s7 cw cb W ba) lam (ix2 r j)
    = (params cw cb W ba bx lam).decayAt seq j r.val := by
  rw [pay30_at, logDecay_at r j cw cb W ba bx lam hl]
  rfl

/-- The decays after the seven doubling steps' first six, as the body holds them. -/
abbrev decays (x s5 s6 s7 : Vec Ideal S128x1024 .f32) : FVec Ideal S128x1024 .f32 :=
  k0_pay31 (recGate x s5 s6 s7 cw cb W ba) lam

/-- The drives after the first two doubling steps, as the body holds them. -/
abbrev drives (x s5 s6 s7 : Vec Ideal S128x1024 .f32) : FVec Ideal S128x1024 .f32 :=
  k0_pay32 (convo x s5 s6 s7 cw cb) (inGate x s5 s6 s7 cw cb W bx) (recGate x s5 s6 s7 cw cb W ba) lam

/-- THE BLOCK OF STATES: row `r` is the recurrence's state after `r + 1` steps from the carried state. -/
theorem states_at (hc : Vec Ideal S1x1024 .f32) :
    k0_pay39 (k0_pay36 rows (decays cw cb W ba lam x s5 s6 s7))
        (k0_pay37 rows (decays cw cb W ba lam x s5 s6 s7) (drives cw cb W ba bx lam x s5 s6 s7))
        (k0_pay38 rows (decays cw cb W ba lam x s5 s6 s7)) hc (ix2 r j)
      = (params cw cb W ba bx lam).stateAt seq (fun j => hc (ix2 0 j)) j (r.val + 1) := by
  have hD := fun r : Fin 128 => decay_at r j cw cb W ba bx lam hl
  have hA1 := fun r : Fin 128 => (pay31_at r j (recGate x s5 s6 s7 cw cb W ba) lam).trans
    (congrFun (congrArg (mulStep 1) (funext hD)) r)
  have hB2 := fun r : Fin 128 => pay32_at r j (convo x s5 s6 s7 cw cb) (inGate x s5 s6 s7 cw cb W bx)
    (recGate x s5 s6 s7 cw cb W ba) lam
  simp only [hD, hA1, inGate_eq _ j cw cb W ba bx lam hl, convo_at _ j cw cb W ba bx lam hl,
    logDecay_at _ j cw cb W ba bx lam hl] at hB2
  have i1 : Inv ((params cw cb W ba bx lam).decayAt seq j) ((params cw cb W ba bx lam).driveAt seq j) (hc (ix2 0 j)) 1
      (fun r => (params cw cb W ba bx lam).decayAt seq j r.val) (fun r => (params cw cb W ba bx lam).driveAt seq j r.val) :=
    .start (fun _ => rfl) (fun _ => rfl) (fun _ => decay_nonneg _ _) (fun _ => decay_le_one _ _)
  have h := ((((((i1.step (by decide)).step (by decide)).step (by decide)).step (by decide)).step (by decide)).step
    (by decide)).step (by decide) |>.done r
  rw [pay39_at]
  simp only [pay38_at]
  simp only [pay37_at, pay36_at, pay35_at, pay34_at, pay33_at, decays, drives, hA1, hB2]
  exact h

omit hl

/-- What the grid point stores to the output block. -/
theorem y_at (C D E : FVec Ideal S128x1024 .f32) (hc : Vec Ideal S1x1024 .f32) (g : Vec Ideal S128x1024 .f32) :
    k0_pay41 C D E hc g (ix2 r j) = k0_pay39 C D E hc (ix2 r j) * gelu (g (ix2 r j)) := by
  pointwise [k0_pay41]
  rfl

/-- The carried state is the last row's. -/
theorem carry_at (C D E : FVec Ideal S128x1024 .f32) (hc : Vec Ideal S1x1024 .f32) :
    k0_pay40 C D E hc (ix2 0 j) = k0_pay39 C D E hc (ix2 127 j) := by
  pointwise [k0_pay40]

/-- The last state written out is the last row's. -/
theorem last_at (h : FVec Ideal S128x1024 .f32) : k0_pay1 h (ix3 0 0 j) = h (ix2 127 j) := by
  pointwise [k0_pay1]

/-- The carried rows are the block's last eight. -/
theorem tail_at (x : Vec Ideal S128x1024 .f32) (q : Fin 8) : k0_pay6 x (ix2 q j) = x (ix2 ⟨120 + q.val, by omega⟩ j) := by
  pointwise [k0_pay6]

theorem first_at (v : Vec Ideal S1x8x1024 .f32) (q : Fin 8) : k0_pay2 v (ix2 q j) = v (ix3 0 q j) := by
  pointwise [k0_pay2]

theorem first_state_at (v : Vec Ideal S1x1x1024 .f32) : k0_pay3 v (ix2 0 j) = v (ix3 0 0 j) := by
  pointwise [k0_pay3]

end Cert.LruIdeal.Val
-- ==== Proof.Lru.Point.lean ====
/-
  The RG-LRU kernel: what each grid point leaves in the output blocks and in the scratch it carries, as the payloads of the
  blocks it loads. The first chunk of a sequence starts the carried rows and the carried state from the arguments; every
  other chunk goes on with what the chunk before left.
-/
module

public import proofs.«01_k».proof.Proof.Lru.Payload

@[expose] public section

noncomputable section

open Idealize.ShloMosaic Idealize.ShloMosaic.TcCoe Idealize.SL.Sem

namespace Cert.LruIdeal.Val

open Cert.LruIdeal Cert.LruIdeal.Gen Cert.Scan Cert.Gates Cert.Lru

theorem hz : (![0, 0] : Fin 2 → Nat) = fun _ => 0 := funext fun a => by fin_cases a <;> rfl
theorem hz3 : (![0, 0, 0] : Fin 3 → Nat) = fun _ => 0 := funext fun a => by fin_cases a <;> rfl

/-! ### The padded block -/

/-- The eight carried rows followed by the block, as the body lays them out. -/
def padded (carry : Vec Ideal S8x1024 .f32) (x : Vec Ideal S128x1024 .f32) : Vec Ideal S136x1024 .f32 :=
  View.canon (Val := Elt Ideal) (s := S136x1024) (e := .f32)
    [⟨Rect.unit (s := S136x1024) ![8, 0] S128x1024.size inb_S136x1024_S128x1024_8_0, k0_pay5 x⟩,
      ⟨Rect.unit (s := S136x1024) ![0, 0] S8x1024.size inb_S136x1024_S8x1024_0_0, k0_pay4 carry⟩]

theorem padded_hi (carry : Vec Ideal S8x1024 .f32) (x : Vec Ideal S128x1024 .f32) (r : Fin 128) (j : Fin 1024) :
    padded carry x (ix2 (⟨8 + r.val, by omega⟩ : Fin 136) j) = x (ix2 r j) := by
  have e : (Rect.unit (s := S136x1024) ![8, 0] S128x1024.size inb_S136x1024_S128x1024_8_0).emb (ix2 r j)
      = (ix2 (⟨8 + r.val, by omega⟩ : Fin 136) j : S136x1024.Idx) := funext fun a => Fin.ext (by
    match a with
    | ⟨0, _⟩ => show 8 + 1 * r.val = 8 + r.val; omega
    | ⟨1, _⟩ => show 0 + 1 * j.val = j.val; omega)
  rw [← e]
  refine (View.canon_cons_emb _ _ _ _).trans ?_
  exact congrFun (shapeCast_self x _) _

theorem padded_lo (carry : Vec Ideal S8x1024 .f32) (x : Vec Ideal S128x1024 .f32) (q : Fin 8) (j : Fin 1024) :
    padded carry x (ix2 (⟨q.val, by omega⟩ : Fin 136) j) = carry (ix2 q j) := by
  have e : (Rect.unit (s := S136x1024) ![0, 0] S8x1024.size inb_S136x1024_S8x1024_0_0).emb (ix2 q j)
      = (ix2 (⟨q.val, by omega⟩ : Fin 136) j : S136x1024.Idx) := funext fun a => Fin.ext (by
    match a with
    | ⟨0, _⟩ => show 0 + 1 * q.val = q.val; omega
    | ⟨1, _⟩ => show 0 + 1 * j.val = j.val; omega)
  refine (View.canon_cons_of_not_mem _ _ fun hm => ?_).trans ?_
  · obtain ⟨y, hy⟩ := LoadRect.exists_idx_of_mem _ hm
    have h0 : 8 + 1 * (y 0).val = q.val := congrArg (fun z : S136x1024.Idx => (z 0).val) hy
    omega
  · rw [← e]
    refine (View.canon_cons_emb _ _ _ _).trans ?_
    exact congrFun (shapeCast_self carry _) _

/-- The block shifted down by `8 − o` rows over the carried rows: the load at row offset `o`. -/
def shifted (o : Nat) (ho : o ≤ 8) (carry : Vec Ideal S8x1024 .f32) (x : Vec Ideal S128x1024 .f32) : Vec Ideal S128x1024 .f32 :=
  fun i => padded carry x (ix2 (⟨o + (i 0).val, by have := (i 0).isLt; dsimp at this; omega⟩ : Fin 136) (i 1))

theorem shifted_eq {o : Nat} (ho : o ≤ 8) (inb : ∀ a, (![o, 0] : Fin 2 → Nat) a + S128x1024.size a ≤ S136x1024.size a)
    (v : View sig .tc .vmem S136x1024 .f32) (carry : Vec Ideal S8x1024 .f32) (x : Vec Ideal S128x1024 .f32) :
    v.readCov (Val := Elt Ideal) [⟨Rect.unit (s := S136x1024) ![8, 0] S128x1024.size inb_S136x1024_S128x1024_8_0, k0_pay5 x⟩,
      ⟨Rect.unit (s := S136x1024) ![0, 0] S8x1024.size inb_S136x1024_S8x1024_0_0, k0_pay4 carry⟩]
      (Rect.unit (s := S136x1024) ![o, 0] S128x1024.size inb).toLoadRect = shifted o ho carry x := by
  rw [View.readCov_eq_canon']
  funext i
  refine congrArg (padded carry x) (funext fun a => Fin.ext ?_)
  match a with
  | ⟨0, _⟩ => show o + 1 * (i 0).val = o + (i 0).val; omega
  | ⟨1, _⟩ => show 0 + 1 * (i 1).val = (i 1).val; omega

/-- What the point works on: the carried rows end with the three rows before the block. -/
theorem loads_of {carry : Vec Ideal S8x1024 .f32} {x : Vec Ideal S128x1024 .f32} {seq : Nat → Fin 1024 → EReal}
    (hc : ∀ (q : Fin 8) (j : Fin 1024), 5 ≤ q.val → carry (ix2 q j) = seq (q.val - 5) j)
    (hx : ∀ (r : Fin 128) (j : Fin 1024), x (ix2 r j) = seq (3 + r.val) j) :
    Loads x (shifted 5 (by decide) carry x) (shifted 6 (by decide) carry x) (shifted 7 (by decide) carry x) seq := by
  have hp : ∀ (n : Nat) (hn : n < 136) (j : Fin 1024), 5 ≤ n → padded carry x (ix2 (⟨n, hn⟩ : Fin 136) j) = seq (n - 5) j := by
    intro n hn j h5
    by_cases h : n < 8
    · exact (padded_lo carry x ⟨n, h⟩ j).trans (hc ⟨n, h⟩ j h5)
    · obtain ⟨r, rfl⟩ : ∃ r, n = 8 + r := ⟨n - 8, by omega⟩
      exact (padded_hi carry x ⟨r, by omega⟩ j).trans ((hx ⟨r, by omega⟩ j).trans (congrArg (seq · j) (by dsimp only; omega)))
  exact ⟨fun r j => (hx r j).trans (congrArg (seq · j) (Nat.add_comm _ _)),
    fun r j => (hp _ _ j (Nat.le_add_right _ _)).trans (congrArg (seq · j) (by show 5 + r.val - 5 = _; omega)),
    fun r j => (hp _ _ j (by show 5 ≤ 6 + r.val; omega)).trans (congrArg (seq · j) (by show 6 + r.val - 5 = _; omega)),
    fun r j => (hp _ _ j (by show 5 ≤ 7 + r.val; omega)).trans (congrArg (seq · j) (by show 7 + r.val - 5 = _; omega))⟩

/-! ### One point -/

/-- The convolution's taps, one row each. -/
def tapRow (v : Vec Ideal S4x1024 .f32) (q : Fin 4) : Vec Ideal S1x1024 .f32 :=
  fun i => v (ix2 q (i 1))

/-- The gates' blocks. -/
def gateBlock (v : Vec Ideal S8x128x256 .bf16) (q : Fin 8) : Vec Ideal S1x128x256 .bf16 :=
  fun i => v (ix3 q (i 1) (i 2))

theorem tapRow_eq (v : Vec Ideal S4x1024 .f32) (q : Nat) (hq : q < 4)
    (inb : ∀ a, (![q, 0] : Fin 2 → Nat) a + S1x1024.size a ≤ S4x1024.size a) :
    View.ld v (Rect.unit ![q, 0] S1x1024.size inb) = tapRow v ⟨q, hq⟩ := funext fun i => by
  refine congrArg v (funext fun a => Fin.ext ?_)
  match a with
  | ⟨0, _⟩ => have := (i 0).isLt; dsimp at this; show q + 1 * (i 0).val = q; omega
  | ⟨1, _⟩ => show 0 + 1 * (i 1).val = (i 1).val; omega

theorem gateBlock_eq (v : Vec Ideal S8x128x256 .bf16) (q : Nat) (hq : q < 8)
    (inb : ∀ a, (![q, 0, 0] : Fin 3 → Nat) a + S1x128x256.size a ≤ S8x128x256.size a) :
    View.ld v (Rect.unit ![q, 0, 0] S1x128x256.size inb) = gateBlock v ⟨q, hq⟩ := funext fun i => by
  refine congrArg v (funext fun a => Fin.ext ?_)
  match a with
  | ⟨0, _⟩ => have := (i 0).isLt; dsimp at this; show q + 1 * (i 0).val = q; omega
  | ⟨1, _⟩ => show 0 + 1 * (i 1).val = (i 1).val; omega
  | ⟨2, _⟩ => show 0 + 1 * (i 2).val = (i 2).val; omega

section One

variable (g x : Vec Ideal S128x1024 .f32) (carry : Vec Ideal S8x1024 .f32) (hc : Vec Ideal S1x1024 .f32)
  (cw : Vec Ideal S4x1024 .f32) (cb : Vec Ideal S1x1024 .f32) (W : Vec Ideal S8x128x256 .bf16) (ba bx lam : Vec Ideal S1x1024 .f32)

/-- The decays held after the first doubling step. -/
abbrev dec : FVec Ideal S128x1024 .f32 :=
  decays (tapRow cw) cb (gateBlock W) ba lam x (shifted 5 (by decide) carry x) (shifted 6 (by decide) carry x) (shifted 7 (by decide) carry x)

/-- The drives held after the second doubling step. -/
abbrev drv : FVec Ideal S128x1024 .f32 :=
  drives (tapRow cw) cb (gateBlock W) ba bx lam x (shifted 5 (by decide) carry x) (shifted 6 (by decide) carry x) (shifted 7 (by decide) carry x)

/-- The block of states the point computes. -/
def ptStates : FVec Ideal S128x1024 .f32 :=
  k0_pay39 (k0_pay36 rows (dec x carry cw cb W ba lam)) (k0_pay37 rows (dec x carry cw cb W ba lam) (drv x carry cw cb W ba bx lam))
    (k0_pay38 rows (dec x carry cw cb W ba lam)) hc

/-- The output block the point stores. -/
def ptOut : FVec Ideal S128x1024 .bf16 :=
  k0_pay41 (k0_pay36 rows (dec x carry cw cb W ba lam)) (k0_pay37 rows (dec x carry cw cb W ba lam) (drv x carry cw cb W ba bx lam))
    (k0_pay38 rows (dec x carry cw cb W ba lam)) hc g

/-- The state the point carries on. -/
def ptCarry : FVec Ideal S1x1024 .f32 :=
  k0_pay40 (k0_pay36 rows (dec x carry cw cb W ba lam)) (k0_pay37 rows (dec x carry cw cb W ba lam) (drv x carry cw cb W ba bx lam))
    (k0_pay38 rows (dec x carry cw cb W ba lam)) hc

end One

/-! ### The points of the run -/

variable (m : (ℓ : Loc nD τ sig) → Buf (Elt Ideal) ℓ) (c : Dev nD) (t : Fin cfg0.N)

/-- The output block at the first chunk of a sequence. -/
theorem out_A (h0 : t.val % 16 = 0) (h1 : ¬t.val % 16 = 15) :
    (outsAt0 m c t.val t.isLt).1
      = ptOut (iblk m c 0 t) (iblk m c 1 t) (k0_pay2 (iblk m c 2 t)) (k0_pay3 (iblk m c 3 t)) (iblk m c 4 t) (iblk m c 5 t) (iblk m c 6 t) (iblk m c 7 t) (iblk m c 8 t) (iblk m c 9 t) := by
  rw [outsAt0_A m c t h0 h1]
  dsimp only
  unfold out0_A_10
  rw [View.read_writes_junk_eq_canon]
  unfold kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The carried rows at the first chunk of a sequence. -/
theorem carry_A (h0 : t.val % 16 = 0) (h1 : ¬t.val % 16 = 15) :
    (outsAt0 m c t.val t.isLt).2.2.1
      = k0_pay6 (iblk m c 1 t) := by
  rw [outsAt0_A m c t h0 h1]
  dsimp only
  unfold sout0_A_1
  rw [View.read_writes_junk_eq_canon]
  unfold kernelRun0_A
  dsimp only
  sl_unfold_words
  rw [View.canon_cons_unit_zero hz]
  simp only [View.readAt_eq_ld, (hs0_1 t).read_unread, View.ld_unit_zero (S := S128x1024) hz]

/-- The carried state at the first chunk of a sequence. -/
theorem state_A (h0 : t.val % 16 = 0) (h1 : ¬t.val % 16 = 15) :
    (outsAt0 m c t.val t.isLt).2.2.2
      = ptCarry (iblk m c 1 t) (k0_pay2 (iblk m c 2 t)) (k0_pay3 (iblk m c 3 t)) (iblk m c 4 t) (iblk m c 5 t) (iblk m c 6 t) (iblk m c 7 t) (iblk m c 8 t) (iblk m c 9 t) := by
  rw [outsAt0_A m c t h0 h1]
  dsimp only
  unfold sout0_A_2
  rw [View.read_writes_junk_eq_canon]
  unfold kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The output block at a chunk in the middle. -/
theorem out_B (h0 : ¬t.val % 16 = 0) (h1 : ¬t.val % 16 = 15) :
    (outsAt0 m c t.val t.isLt).1
      = ptOut (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 4 t) (iblk m c 5 t) (iblk m c 6 t) (iblk m c 7 t) (iblk m c 8 t) (iblk m c 9 t) := by
  rw [outsAt0_B m c t h0 h1]
  dsimp only
  unfold out0_B_10
  rw [View.read_writes_junk_eq_canon]
  unfold kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The carried rows at a chunk in the middle. -/
theorem carry_B (h0 : ¬t.val % 16 = 0) (h1 : ¬t.val % 16 = 15) :
    (outsAt0 m c t.val t.isLt).2.2.1
      = k0_pay6 (iblk m c 1 t) := by
  rw [outsAt0_B m c t h0 h1]
  dsimp only
  unfold sout0_B_1
  rw [View.read_writes_junk_eq_canon]
  unfold kernelRun0_B
  dsimp only
  sl_unfold_words
  rw [View.canon_cons_unit_zero hz]
  simp only [View.readAt_eq_ld, (hs0_1 t).read_unread, View.ld_unit_zero (S := S128x1024) hz]

/-- The carried state at a chunk in the middle. -/
theorem state_B (h0 : ¬t.val % 16 = 0) (h1 : ¬t.val % 16 = 15) :
    (outsAt0 m c t.val t.isLt).2.2.2
      = ptCarry (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 4 t) (iblk m c 5 t) (iblk m c 6 t) (iblk m c 7 t) (iblk m c 8 t) (iblk m c 9 t) := by
  rw [outsAt0_B m c t h0 h1]
  dsimp only
  unfold sout0_B_2
  rw [View.read_writes_junk_eq_canon]
  unfold kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The output block at the last chunk. -/
theorem out_C (h0 : ¬t.val % 16 = 0) (h1 : t.val % 16 = 15) :
    (outsAt0 m c t.val t.isLt).1
      = ptOut (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 4 t) (iblk m c 5 t) (iblk m c 6 t) (iblk m c 7 t) (iblk m c 8 t) (iblk m c 9 t) := by
  rw [outsAt0_C m c t h0 h1]
  dsimp only
  unfold out0_C_10
  rw [View.read_writes_junk_eq_canon]
  unfold kernelRun0_C
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The carried rows at the last chunk. -/
theorem carry_C (h0 : ¬t.val % 16 = 0) (h1 : t.val % 16 = 15) :
    (outsAt0 m c t.val t.isLt).2.2.1
      = k0_pay6 (iblk m c 1 t) := by
  rw [outsAt0_C m c t h0 h1]
  dsimp only
  unfold sout0_C_1
  rw [View.read_writes_junk_eq_canon]
  unfold kernelRun0_C
  dsimp only
  sl_unfold_words
  rw [View.canon_cons_unit_zero hz]
  simp only [View.readAt_eq_ld, (hs0_1 t).read_unread, View.ld_unit_zero (S := S128x1024) hz]

/-- The carried state at the last chunk. -/
theorem state_C (h0 : ¬t.val % 16 = 0) (h1 : t.val % 16 = 15) :
    (outsAt0 m c t.val t.isLt).2.2.2
      = ptCarry (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 4 t) (iblk m c 5 t) (iblk m c 6 t) (iblk m c 7 t) (iblk m c 8 t) (iblk m c 9 t) := by
  rw [outsAt0_C m c t h0 h1]
  dsimp only
  unfold sout0_C_2
  rw [View.read_writes_junk_eq_canon]
  unfold kernelRun0_C
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

/-- The last state written out at the last chunk. -/
theorem last_C (h0 : ¬t.val % 16 = 0) (h1 : t.val % 16 = 15) :
    (outsAt0 m c t.val t.isLt).2.1
      = k0_pay1 (ptStates (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 4 t) (iblk m c 5 t) (iblk m c 6 t) (iblk m c 7 t) (iblk m c 8 t) (iblk m c 9 t)) := by
  rw [outsAt0_C m c t h0 h1]
  dsimp only
  unfold out0_C_11
  rw [View.read_writes_junk_eq_canon]
  unfold kernelRun0_C
  dsimp only
  sl_unfold_words
  rw [View.canon_cons_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread, View.ld_unit_zero (S := S128x1024) hz, View.ld_unit_zero (S := S1x1024) hz,
    View.ld_unit_zero (S := S8x1024) hz, View.ld_unit_zero (S := S1x8x1024) hz3, View.ld_unit_zero (S := S1x1x1024) hz3,
    View.readCov_unit_zero (S := S8x1024) _ hz, View.readCov_unit_zero (S := S1x1024) _ hz,
    shifted_eq (o := 5) (by decide), shifted_eq (o := 6) (by decide), shifted_eq (o := 7) (by decide)]
  simp only [tapRow_eq _ 0 (by decide), tapRow_eq _ 1 (by decide), tapRow_eq _ 2 (by decide), tapRow_eq _ 3 (by decide),
    gateBlock_eq _ 0 (by decide), gateBlock_eq _ 1 (by decide), gateBlock_eq _ 2 (by decide), gateBlock_eq _ 3 (by decide),
    gateBlock_eq _ 4 (by decide), gateBlock_eq _ 5 (by decide), gateBlock_eq _ 6 (by decide), gateBlock_eq _ 7 (by decide)]
  rfl

end Cert.LruIdeal.Val
-- ==== Proof.Lru.Blocks.lean ====
/-
  The RG-LRU kernel: the blocks its grid points read, as parts of the argument arrays; by induction over the points, the
  states they pass on; and the two arrays its write-backs leave.
-/
module

public import proofs.«01_k».proof.Proof.Lru.Point
public import proofs.«01_k».proof.Proof.Gen.LruIdeal.Value

@[expose] public section

noncomputable section

open Idealize.ShloMosaic Idealize.ShloMosaic.TcCoe Idealize.SL.Sem

namespace Cert.LruIdeal.Val

open Cert.LruIdeal Cert.LruIdeal.Gen Cert.Scan Cert.Gates Cert.Lru

variable (m : (ℓ : Loc nD τ sig) → Buf (Elt Ideal) ℓ) (c : Dev nD)

/-! ## What the host leaves for the region -/

/-- A vector laid out as a one-row matrix is read at its column. -/
theorem row_at (v : FVec Ideal S1024 .f32) (j : Fin 1024) :
    shapeCast S1x1024 v shapeCasts_S1024_S1x1024 (ix2 (0 : Fin 1) j) = v (ix1 j) := by
  pointwise []

theorem V_cb (j : Fin 1024) : V m c main_v0 (ix2 (0 : Fin 1) j) = m ((c : Thread nD τ).loc main_arg4) (ix1 j) := by
  have e : V m c main_v0 = shapeCast S1x1024 (m ((c : Thread nD τ).loc main_arg4) : FVec Ideal S1024 .f32) shapeCasts_S1024_S1x1024 := by
    unfold V hostOps0 hostOps0_1 hostOps0_2; after_results; rfl
  exact (congrFun e _).trans (row_at _ j)

theorem V_ba (j : Fin 1024) : V m c main_v3 (ix2 (0 : Fin 1) j) = m ((c : Thread nD τ).loc main_arg6) (ix1 j) := by
  have e : V m c main_v3 = shapeCast S1x1024 (m ((c : Thread nD τ).loc main_arg6) : FVec Ideal S1024 .f32) shapeCasts_S1024_S1x1024 := by
    unfold V hostOps0 hostOps0_1 hostOps0_2; after_results; rfl
  exact (congrFun e _).trans (row_at _ j)

theorem V_bx (j : Fin 1024) : V m c main_v4 (ix2 (0 : Fin 1) j) = m ((c : Thread nD τ).loc main_arg8) (ix1 j) := by
  have e : V m c main_v4 = shapeCast S1x1024 (m ((c : Thread nD τ).loc main_arg8) : FVec Ideal S1024 .f32) shapeCasts_S1024_S1x1024 := by
    unfold V hostOps0 hostOps0_1 hostOps0_2; after_results; rfl
  exact (congrFun e _).trans (row_at _ j)

theorem V_lam (j : Fin 1024) : V m c main_v5 (ix2 (0 : Fin 1) j) = m ((c : Thread nD τ).loc main_arg9) (ix1 j) := by
  have e : V m c main_v5 = shapeCast S1x1024 (m ((c : Thread nD τ).loc main_arg9) : FVec Ideal S1024 .f32) shapeCasts_S1024_S1x1024 := by
    unfold V hostOps0 hostOps0_1 hostOps0_2; after_results; rfl
  exact (congrFun e _).trans (row_at _ j)

theorem V_h0 (j : Fin 1024) : V m c main_v8 (ix3 (0 : Fin 1) (0 : Fin 1) j) = m ((c : Thread nD τ).loc main_arg2) (ix1 j) := by
  have e : V m c main_v8 = shapeCast S1x1x1024 (m ((c : Thread nD τ).loc main_arg2) : FVec Ideal S1024 .f32) shapeCasts_S1024_S1x1x1024 := by
    unfold V hostOps0 hostOps0_1 hostOps0_2; after_results; rfl
  exact (congrFun e _).trans (by pointwise [])

/-- The two gates' blocks side by side. -/
theorem V_gates (q : Fin 8) (k : Fin 128) (l : Fin 256) : V m c main_v2 (ix3 q k l)
    = if h : l.val < 128 then m ((c : Thread nD τ).loc main_arg5) (ix3 q k ⟨l.val, h⟩)
      else m ((c : Thread nD τ).loc main_arg7) (ix3 q k ⟨l.val - 128, by omega⟩) := by
  have e : V m c main_v2 = (truncf .bf16 (concatenate S8x128x256 2 [⟨S8x128x128, (m ((c : Thread nD τ).loc main_arg5) : FVec Ideal S8x128x128 .f32)⟩,
      ⟨S8x128x128, (m ((c : Thread nD τ).loc main_arg7) : FVec Ideal S8x128x128 .f32)⟩] concatenates_S8x128x128_S8x128x128_S8x128x256_d2 :
        FVec Ideal S8x128x256 .f32) bitsLt_bf16_f32 : FVec Ideal S8x128x256 .bf16) := by
    unfold V hostOps0 hostOps0_1 hostOps0_2; after_results; rfl
  exact (congrFun e _).trans (by pointwise [])

/-- The convolution state below five rows of padding. -/
theorem V_conv0 (q : Fin 8) (j : Fin 1024) (h : 5 ≤ q.val) : V m c main_v7 (ix3 (0 : Fin 1) q j)
    = m ((c : Thread nD τ).loc main_arg1) (ix2 (⟨q.val - 5, by omega⟩ : Fin 3) j) := by
  have e : V m c main_v7 = broadcastInDim S1x8x1024 ![1, 2] bcast_S8x1024_S1x8x1024_1_2
      (pad S8x1024 ![5, 0] ![0, 0] ![0, 0] (m ((c : Thread nD τ).loc main_arg1) : FVec Ideal S3x1024 .f32)
        (sitofp .f32 (constantI S_ 32 0#32)) pads_S3x1024_S8x1024_500_000 h_S_ : FVec Ideal S8x1024 .f32) := by
    unfold V hostOps0 hostOps0_1 hostOps0_2; after_results; rfl
  exact (congrFun e _).trans (by
    pointwise []
    exact dif_pos fun a => by
      match a with
      | ⟨0, _⟩ => exact ⟨h, Nat.mod_one _, (Nat.div_one _).trans_lt (show q.val - 5 < 3 by omega)⟩
      | ⟨1, _⟩ => exact ⟨Nat.zero_le _, Nat.mod_one _, (Nat.div_one _).trans_lt j.isLt⟩)

/-! ## The blocks a grid point reads -/

theorem idx_rows : ∀ t : Fin cfg0.N, win0_0.index t = ![t.val, 0] ∧ win0_1.index t = ![t.val, 1]
    ∧ win0_10.index t = ![t.val, 0] ∧ win0_11.index t = ![t.val / 16, 0, 0] := (by decide +kernel : ∀ t : Fin grid0.N, _)

theorem iblk_gate (t : Fin cfg0.N) (r : Fin 128) (j : Fin 1024) (h : 128 * t.val + r.val < 16384) :
    iblk m c 0 t (ix2 r j) = m ((c : Thread nD τ).loc main_arg0) (ix2 (⟨128 * t.val + r.val, h⟩ : Fin 16384) (⟨j.val, by omega⟩ : Fin 2048)) := by
  obtain ⟨e0, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 128 + 1 * r.val = 128 * t.val + r.val
              rw [e0]; simp; omega
  | ⟨1, _⟩ => show win0_0.index t 1 * 1024 + 1 * j.val = j.val
              rw [e0]; simp

theorem iblk_x (t : Fin cfg0.N) (r : Fin 128) (j : Fin 1024) (h : 128 * t.val + r.val < 16384) :
    iblk m c 1 t (ix2 r j) = m ((c : Thread nD τ).loc main_arg0) (ix2 (⟨128 * t.val + r.val, h⟩ : Fin 16384) (⟨1024 + j.val, by omega⟩ : Fin 2048)) := by
  obtain ⟨-, e1, -⟩ := idx_rows t
  unfold iblk
  rw [View.read_apply]
  refine Eq.trans (congrArg (V m c main_arg0) (funext fun a => Fin.ext ?_)) (congrFun (V_main_arg0 m c) _)
  match a with
  | ⟨0, _⟩ => show win0_1.index t 0 * 128 + 1 * r.val = 128 * t.val + r.val
              rw [e1]; simp; omega
  | ⟨1, _⟩ => show win0_1.index t 1 * 1024 + 1 * j.val = 1024 + j.val
              rw [e1]; simp

/-- A block index map that is zero everywhere starts every block at the array's origin. -/
theorem origin (s : Fin 2 → Nat) : (fun a => (![0, 0] : Fin 2 → Nat) a * s a) = fun _ => 0 :=
  funext fun a => by fin_cases a <;> exact Nat.zero_mul _

theorem origin3 (s : Fin 3 → Nat) : (fun a => (![0, 0, 0] : Fin 3 → Nat) a * s a) = fun _ => 0 :=
  funext fun a => by fin_cases a <;> exact Nat.zero_mul _

theorem iblk_conv0 (t : Fin cfg0.N) (q : Fin 8) (j : Fin 1024) (h : 5 ≤ q.val) :
    iblk m c 2 t (ix3 (0 : Fin 1) q j) = m ((c : Thread nD τ).loc main_arg1) (ix2 (⟨q.val - 5, by omega⟩ : Fin 3) j) :=
  (congrFun (Memref.read_access_unit_zero (Elt Ideal) main_v7 (origin3 _) (fun a => by rw [congrFun (origin3 _) a]; simp) (V m c main_v7)) _).trans
    (V_conv0 m c q j h)

theorem iblk_h0 (t : Fin cfg0.N) (j : Fin 1024) :
    iblk m c 3 t (ix3 (0 : Fin 1) (0 : Fin 1) j) = m ((c : Thread nD τ).loc main_arg2) (ix1 j) :=
  (congrFun (Memref.read_access_unit_zero (Elt Ideal) main_v8 (origin3 _) (fun a => by rw [congrFun (origin3 _) a]; simp) (V m c main_v8)) _).trans
    (V_h0 m c j)

theorem iblk_cw (t : Fin cfg0.N) (q : Fin 4) (j : Fin 1024) :
    iblk m c 4 t (ix2 q j) = m ((c : Thread nD τ).loc main_arg3) (ix2 q j) :=
  (congrFun (Memref.read_access_unit_zero (Elt Ideal) main_arg3 (origin _) (fun a => by rw [congrFun (origin _) a]; simp) (V m c main_arg3)) _).trans
    (congrFun (V_main_arg3 m c) _)

theorem iblk_gates (t : Fin cfg0.N) (q : Fin 8) (k : Fin 128) (l : Fin 256) : iblk m c 6 t (ix3 q k l)
    = if h : l.val < 128 then m ((c : Thread nD τ).loc main_arg5) (ix3 q k ⟨l.val, h⟩)
      else m ((c : Thread nD τ).loc main_arg7) (ix3 q k ⟨l.val - 128, by omega⟩) :=
  (congrFun (Memref.read_access_unit_zero (Elt Ideal) main_v2 (origin3 _) (fun a => by rw [congrFun (origin3 _) a]; simp) (V m c main_v2)) _).trans
    (V_gates m c q k l)

theorem iblk_cb (t : Fin cfg0.N) (j : Fin 1024) :
    iblk m c 5 t (ix2 (0 : Fin 1) j) = m ((c : Thread nD τ).loc main_arg4) (ix1 j) :=
  (congrFun (Memref.read_access_unit_zero (Elt Ideal) main_v0 (origin _) (fun a => by rw [congrFun (origin _) a]; simp) (V m c main_v0)) _).trans
    (V_cb m c j)

theorem iblk_ba (t : Fin cfg0.N) (j : Fin 1024) :
    iblk m c 7 t (ix2 (0 : Fin 1) j) = m ((c : Thread nD τ).loc main_arg6) (ix1 j) :=
  (congrFun (Memref.read_access_unit_zero (Elt Ideal) main_v3 (origin _) (fun a => by rw [congrFun (origin _) a]; simp) (V m c main_v3)) _).trans
    (V_ba m c j)

theorem iblk_bx (t : Fin cfg0.N) (j : Fin 1024) :
    iblk m c 8 t (ix2 (0 : Fin 1) j) = m ((c : Thread nD τ).loc main_arg8) (ix1 j) :=
  (congrFun (Memref.read_access_unit_zero (Elt Ideal) main_v4 (origin _) (fun a => by rw [congrFun (origin _) a]; simp) (V m c main_v4)) _).trans
    (V_bx m c j)

theorem iblk_lam (t : Fin cfg0.N) (j : Fin 1024) :
    iblk m c 9 t (ix2 (0 : Fin 1) j) = m ((c : Thread nD τ).loc main_arg9) (ix1 j) :=
  (congrFun (Memref.read_access_unit_zero (Elt Ideal) main_v5 (origin _) (fun a => by rw [congrFun (origin _) a]; simp) (V m c main_v5)) _).trans
    (V_lam m c j)

/-! ## The states -/

/-- The layer's parameters, as the arguments hold them. -/
def layer : Params where
  cw q j := m ((c : Thread nD τ).loc main_arg3) (ix2 q j)
  cb j := m ((c : Thread nD τ).loc main_arg4) (ix1 j)
  wa q k l := m ((c : Thread nD τ).loc main_arg5) (ix3 q k l)
  wx q k l := m ((c : Thread nD τ).loc main_arg7) (ix3 q k l)
  ba j := m ((c : Thread nD τ).loc main_arg6) (ix1 j)
  bx j := m ((c : Thread nD τ).loc main_arg8) (ix1 j)
  lam j := m ((c : Thread nD τ).loc main_arg9) (ix1 j)

/-- The projection. -/
abbrev proj (i : Fin 16384) (k : Fin 2048) : EReal := m ((c : Thread nD τ).loc main_arg0) (ix2 i k)

/-- The convolution state. -/
abbrev conv0 (q : Fin 3) (j : Fin 1024) : EReal := m ((c : Thread nD τ).loc main_arg1) (ix2 q j)

/-- Batch entry `b`'s sequence. -/
abbrev seqs (b : Nat) : Nat → Fin 1024 → EReal := inputs (proj m c) (conv0 m c) b

/-- The state of unit `j` of batch entry `b` after `n` steps. -/
def states (b : Nat) (j : Fin 1024) (n : Nat) : EReal :=
  (layer m c).stateAt (seqs m c b) (fun j => m ((c : Thread nD τ).loc main_arg2) (ix1 j)) j n

theorem params_eq (t : Fin cfg0.N) :
    params (tapRow (iblk m c 4 t)) (iblk m c 5 t) (gateBlock (iblk m c 6 t)) (iblk m c 7 t) (iblk m c 8 t) (iblk m c 9 t) = layer m c := by
  have ew : ∀ (q : Fin 8) (k l : Fin 128), gateBlock (iblk m c 6 t) q (ix3 0 k ⟨l.val, by omega⟩)
      = m ((c : Thread nD τ).loc main_arg5) (ix3 q k l) := fun q k l =>
    (iblk_gates m c t q k _).trans (dif_pos l.isLt)
  have ex : ∀ (q : Fin 8) (k l : Fin 128), gateBlock (iblk m c 6 t) q (ix3 0 k ⟨128 + l.val, by omega⟩)
      = m ((c : Thread nD τ).loc main_arg7) (ix3 q k l) := fun q k l =>
    (iblk_gates m c t q k _).trans ((dif_neg (show ¬128 + l.val < 128 by omega)).trans
      (congrArg (fun z => m ((c : Thread nD τ).loc main_arg7) (ix3 q k z)) (Fin.ext (show 128 + l.val - 128 = l.val by omega))))
  have ec : ∀ (q : Fin 4) (j : Fin 1024), tapRow (iblk m c 4 t) q (ix2 0 j) = m ((c : Thread nD τ).loc main_arg3) (ix2 q j) :=
    fun q j => iblk_cw m c t q j
  unfold params layer
  simp only [ew, ex, ec, iblk_cb, iblk_ba, iblk_bx, iblk_lam]

/-- What point `t` receives, and what it makes of it. -/
structure Point (t : Fin cfg0.N) (carry : Vec Ideal S8x1024 .f32) (hc : Vec Ideal S1x1024 .f32) : Prop where
  rows_in : ∀ (q : Fin 8) (j : Fin 1024), 5 ≤ q.val → carry (ix2 q j) = seqs m c (t.val / 16) (128 * (t.val % 16) + (q.val - 5)) j
  state_in : ∀ j : Fin 1024, hc (ix2 0 j) = states m c (t.val / 16) j (128 * (t.val % 16))
  out : (outsAt0 m c t.val t.isLt).1 = ptOut (iblk m c 0 t) (iblk m c 1 t) carry hc (iblk m c 4 t) (iblk m c 5 t) (iblk m c 6 t) (iblk m c 7 t) (iblk m c 8 t) (iblk m c 9 t)
  carry_eq : (outsAt0 m c t.val t.isLt).2.2.1 = k0_pay6 (iblk m c 1 t)
  state_eq : (outsAt0 m c t.val t.isLt).2.2.2 = ptCarry (iblk m c 1 t) carry hc (iblk m c 4 t) (iblk m c 5 t) (iblk m c 6 t) (iblk m c 7 t) (iblk m c 8 t) (iblk m c 9 t)
  last : t.val % 16 = 15 → (outsAt0 m c t.val t.isLt).2.1
    = k0_pay1 (ptStates (iblk m c 1 t) carry hc (iblk m c 4 t) (iblk m c 5 t) (iblk m c 6 t) (iblk m c 7 t) (iblk m c 8 t) (iblk m c 9 t))

theorem x_eq (t : Fin cfg0.N) (r : Fin 128) (j : Fin 1024) :
    iblk m c 1 t (ix2 r j) = seqs m c (t.val / 16) (128 * (t.val % 16) + (3 + r.val)) j := by
  have ht : t.val < 128 := lt_of_lt_of_eq t.isLt N_0
  have := r.isLt
  rw [iblk_x m c t r j (by omega)]
  exact (inputs_row (proj m c) (conv0 m c) (t.val / 16) (128 * (t.val % 16) + (3 + r.val)) j (i := ⟨128 * t.val + r.val, by omega⟩) (by omega) (by dsimp only; omega)).symm

variable {m c} {t : Fin cfg0.N} {carry : Vec Ideal S8x1024 .f32} {hc : Vec Ideal S1x1024 .f32}

/-- The block of states a point computes. -/
theorem Point.states_eq (h : Point m c t carry hc) (r : Fin 128) (j : Fin 1024) :
    ptStates (iblk m c 1 t) carry hc (iblk m c 4 t) (iblk m c 5 t) (iblk m c 6 t) (iblk m c 7 t) (iblk m c 8 t) (iblk m c 9 t) (ix2 r j)
      = states m c (t.val / 16) j (128 * (t.val % 16) + (r.val + 1)) := by
  unfold ptStates
  rw [states_at r j _ _ _ _ _ _ (loads_of (seq := fun n => seqs m c (t.val / 16) (128 * (t.val % 16) + n)) h.rows_in (x_eq m c t)),
    params_eq, funext h.state_in]
  exact (Params.stateAt_add _ _ _ _ _ _).symm

theorem Point.state_out (h : Point m c t carry hc) (j : Fin 1024) :
    (outsAt0 m c t.val t.isLt).2.2.2 (ix2 0 j) = states m c (t.val / 16) j (128 * (t.val % 16) + 128) := by
  rw [h.state_eq]
  have e : (127 : Fin 128).val + 1 = 128 := rfl
  rw [← e]
  exact (carry_at j _ _ _ _).trans (h.states_eq 127 j)

theorem Point.rows_out (h : Point m c t carry hc) (q : Fin 8) (j : Fin 1024) (hq : 5 ≤ q.val) :
    (outsAt0 m c t.val t.isLt).2.2.1 (ix2 q j) = seqs m c (t.val / 16) (128 * (t.val % 16) + 128 + (q.val - 5)) j := by
  rw [h.carry_eq, tail_at, x_eq]
  exact congrArg (seqs m c (t.val / 16) · j) (by dsimp only; omega)

variable (m c)

/-- The first point of a sequence receives the arguments' states. -/
theorem first_point (t : Fin cfg0.N) (h0 : t.val % 16 = 0) : Point m c t (k0_pay2 (iblk m c 2 t)) (k0_pay3 (iblk m c 3 t)) := by
  have h1 : ¬t.val % 16 = 15 := by omega
  refine ⟨fun q j hq => ?_, fun j => ?_, out_A m c t h0 h1, carry_A m c t h0 h1, state_A m c t h0 h1, fun h => absurd h h1⟩
  · rw [first_at, iblk_conv0 m c t q j hq, h0]
    exact (inputs_front (proj m c) (conv0 m c) (t.val / 16) _ j).symm.trans (congrArg (seqs m c (t.val / 16) · j) (Nat.zero_add _).symm)
  · rw [first_state_at, iblk_h0, h0]
    rfl

/-- Every point receives the states its predecessors computed. -/
theorem points (n : Nat) : ∀ t : Fin cfg0.N, t.val = n → ∃ carry hc, Point m c t carry hc := by
  induction n with
  | zero => exact fun t ht => ⟨_, _, first_point m c t (by rw [ht])⟩
  | succ n ih =>
    intro t ht
    by_cases h0 : t.val % 16 = 0
    · exact ⟨_, _, first_point m c t h0⟩
    · have hlt : t.val - 1 < cfg0.N := Nat.lt_of_le_of_lt (Nat.sub_le _ _) t.isLt
      obtain ⟨carry, hc, h⟩ := ih ⟨t.val - 1, hlt⟩ (by dsimp only; omega)
      have e1 : (t.val - 1) / 16 = t.val / 16 := by omega
      have e2 : 128 * ((t.val - 1) % 16) + 128 = 128 * (t.val % 16) := by omega
      have hr := h.rows_out
      have hs := h.state_out
      dsimp only at hr hs
      rw [e1, e2] at hr hs
      by_cases h1 : t.val % 16 = 15
      · exact ⟨_, _, hr, hs, out_C m c t h0 h1, carry_C m c t h0 h1, state_C m c t h0 h1, fun _ => last_C m c t h0 h1⟩
      · exact ⟨_, _, hr, hs, out_B m c t h0 h1, carry_B m c t h0 h1, state_B m c t h0 h1, fun h => absurd h h1⟩

/-! ## The arrays the write-backs leave -/

/-- The output: the states times the gate's gelu. -/
def G (c : Dev nD) : Buf (Elt Ideal) ((c : Thread nD τ).loc main_v9_0) := fun i : S16384x1024.Idx =>
  states m c ((i 0).val / 2048) (i 1) ((i 0).val % 2048 + 1)
    * gelu (m ((c : Thread nD τ).loc main_arg0) (ix2 (i 0) (⟨(i 1).val, by have := (i 1).isLt; dsimp at this; omega⟩ : Fin 2048)))

/-- The last states. -/
def H (c : Dev nD) : Buf (Elt Ideal) ((c : Thread nD τ).loc main_v9_1) := fun i : S8x1x1024.Idx =>
  states m c (i 0).val (i 2) 2048

theorem flushed_G (t : Fin cfg0.N) : (dats m 0 c).flushed 10 t = (win0_10.blk t).view.read (Elt Ideal) (G m c) := by
  obtain ⟨-, -, e10, -⟩ := idx_rows t
  have ht : t.val < 128 := lt_of_lt_of_eq t.isLt N_0
  obtain ⟨carry, hc, h⟩ := points m c t.val t rfl
  rw [Value.flushed10 m c t]
  funext q
  obtain ⟨r, j, rfl⟩ : ∃ (r : Fin 128) (j : Fin 1024), q = ix2 r j := ⟨q 0, q 1, Shape.Idx.norm2 (n0 := 128) (n1 := 1024) q⟩
  have hr : 128 * t.val + r.val < 16384 := by have := r.isLt; omega
  have hq : (win0_10.blk t).view.emb (ix2 r j) = ix2 (⟨128 * t.val + r, hr⟩ : Fin 16384) j := funext fun a => Fin.ext (by
    match a with
    | ⟨0, _⟩ => show win0_10.index t 0 * 128 + 1 * r.val = 128 * t.val + r.val
                rw [e10]; simp; omega
    | ⟨1, _⟩ => show win0_10.index t 1 * 1024 + 1 * j.val = j.val
                rw [e10]; simp)
  rw [View.read_apply, hq]
  show (outsAt0 m c t.val t.isLt).1 (ix2 r j) = _
  rw [h.out]
  refine (y_at r j _ _ _ _ _).trans ?_
  refine (congrArg₂ (fun a b => a * gelu b) (h.states_eq r j) (iblk_gate m c t r j hr)).trans ?_
  show _ = states m c ((128 * t.val + r.val) / 2048) j ((128 * t.val + r.val) % 2048 + 1) * _
  have := r.isLt
  rw [show (128 * t.val + r.val) / 2048 = t.val / 16 from by omega,
    show (128 * t.val + r.val) % 2048 + 1 = 128 * (t.val % 16) + (r.val + 1) from by omega]
  rfl

theorem flushed_H (t : Fin cfg0.N) (hf : (cfg0.win 11).flush t = true) :
    (dats m 0 c).flushed 11 t = (win0_11.blk t).view.read (Elt Ideal) (H m c) := by
  obtain ⟨-, -, -, e11⟩ := idx_rows t
  have ht : t.val < 128 := lt_of_lt_of_eq t.isLt N_0
  have h15 : t.val % 16 = 15 := (flush0_11 t).mp hf
  obtain ⟨carry, hc, h⟩ := points m c t.val t rfl
  rw [Value.flushed11 m c t]
  funext q
  obtain ⟨j, rfl⟩ : ∃ j : Fin 1024, q = ix3 (0 : Fin 1) (0 : Fin 1) j := ⟨q 2, funext fun a => by
    match a with
    | ⟨0, _⟩ => exact Subsingleton.elim (α := Fin 1) _ _
    | ⟨1, _⟩ => exact Subsingleton.elim (α := Fin 1) _ _
    | ⟨2, _⟩ => rfl⟩
  have hq : (win0_11.blk t).view.emb (ix3 (0 : Fin 1) (0 : Fin 1) j) = ix3 (⟨t.val / 16, by omega⟩ : Fin 8) (0 : Fin 1) j := funext fun a => Fin.ext (by
    match a with
    | ⟨0, _⟩ => show win0_11.index t 0 * 1 + 1 * 0 = t.val / 16
                rw [e11]; simp
    | ⟨1, _⟩ => show win0_11.index t 1 * 1 + 1 * 0 = 0
                rw [e11]; simp
    | ⟨2, _⟩ => show win0_11.index t 2 * 1024 + 1 * j.val = j.val
                rw [e11]; simp)
  rw [View.read_apply, hq]
  show (outsAt0 m c t.val t.isLt).2.1 (ix3 (0 : Fin 1) (0 : Fin 1) j) = _
  rw [h.last h15]
  refine (last_at j _).trans ((h.states_eq 127 j).trans ?_)
  have e : 128 * (t.val % 16) + ((127 : Fin 128).val + 1) = 2048 := by rw [h15]; rfl
  rw [e]
  rfl

theorem final_G : (dats m 0 c).arrAt 10 cfg0.N = G m c :=
  (dats m 0 c).arrAt_eq_of_cover 10 (G m c) (fun t _ => flushed_G m c t) fun i => (Value.covered_iff10 i).2 (by
    have h0 : (i 0).val < 16384 := (i 0).isLt; have h1 : (i 1).val < 1024 := (i 1).isLt; omega)

theorem final_H : (dats m 0 c).arrAt 11 cfg0.N = H m c :=
  (dats m 0 c).arrAt_eq_of_cover 11 (H m c) (flushed_H m c) fun i => (Value.covered_iff11 i).2 (by
    have h0 : (i 0).val < 8 := (i 0).isLt; have h1 : (i 1).val < 1 := (i 1).isLt; have h2 : (i 2).val < 1024 := (i 2).isLt; omega)

end Cert.LruIdeal.Val
-- ==== Proof.Lru.Trip.lean ====
/-
  The RG-LRU reference's run over its loop's step: the loop's carried buffers hold the states of any sequence that starts at
  `init` and goes on by `step`, so the results are read off that sequence's last state.
-/
module

public import proofs.«01_k».proof.Proof.Gen.LruRefIdeal.Run
public import proofs.«01_k».proof.Proof.Gen.LruRefIdeal.Step

@[expose] public section

noncomputable section

open Idealize.ShloMosaic Idealize.ShloMosaic.TcCoe Idealize.SL.Sem Idealize.ShloMosaic.StableHlo

namespace Cert.LruRefIdeal.Trip

open Cert.LruRefIdeal Cert.LruRefIdeal.Gen Cert.LruRefIdeal.Value
open Cert.LruRefIdeal.Step (State step init)

variable {F : FTy → Type} [FloatOps F]

/-- The carried buffers hold the state `s` before trip `j`. -/
structure At (W : Valuation τ sig (Elt F)) (s : State F) (j : ℕ) : Prop where
  decays : W (Proc.devRef .tc main_v81_0) = s.main_v81_0
  drives : W (Proc.devRef .tc main_v81_1) = s.main_v81_1
  trip : W (Proc.devRef .tc main_v81_2) = constantI S_ 32 (BitVec.ofNat 32 j)
  last : W (Proc.devRef .tc main_v81_3) = s.main_v81_3
  all : W (Proc.devRef .tc main_v81_4) = s.main_v81_4

variable {W : Valuation τ sig (Elt F)} {s : State F} {j : ℕ}

set_option maxRecDepth 8192 in
/-- A trip's new state. -/
theorem state_eq (h : At W s j) : res_main_while0b_v105 W = Step.b9 j s := by
  unfold res_main_while0b_v105 Step.b9 Step.b8 Step.b7 Step.b6 Step.b5 Step.b4 Step.b3 Step.b2 Step.b1 Step.b0
  rw [h.decays, h.drives, h.trip, h.last]
  try rfl

set_option maxRecDepth 8192 in
/-- A trip's list of the states so far. -/
theorem list_eq (h : At W s j) : step_main_v81_4 W = Step.b13 j s := by
  unfold step_main_v81_4 Step.b13 Step.b12 Step.b11 Step.b10
  rw [state_eq h, h.all, h.trip]
  try rfl

/-- A trip steps the state and the trip's number. -/
theorem At.next (h : At W s j) : At (STEP W) (step j s) (j + 1) where
  decays := (STEP_main_v81_0 W).trans h.decays
  drives := (STEP_main_v81_1 W).trans h.drives
  trip := (STEP_main_v81_2 W).trans (by
    unfold step_main_v81_2
    rw [h.trip]
    funext i
    show BitVec.ofNat 32 j + 1#32 = BitVec.ofNat 32 (j + 1)
    simp only [BitVec.ofNat_add])
  last := (STEP_main_v81_3 W).trans (state_eq h)
  all := (STEP_main_v81_4 W).trans (list_eq h)

/-- The state before the first trip. -/
abbrev first (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

variable (m : (ℓ : Loc nD τ sig) → Buf (Elt F) ℓ) (c : Dev nD)

set_option maxRecDepth 65536 in
set_option maxHeartbeats 500000 in
/-- The loop is entered at `first`. -/
theorem entry : At (entryContents preI m c) (first m c) 0 := by
  constructor <;> (simp only [entryContents, afterL_cons, afterL_nil]; after_reads_simp) <;> rfl

/-- Before trip `k` the carried buffers hold the sequence's `k`-th state. -/
theorem at_trip {it : ℕ → State F} (h0 : it 0 = first m c) (hs : ∀ n, it (n + 1) = step n (it n)) (k : ℕ) :
    At (STEP^[k] (entryContents preI m c)) (it k) k := by
  induction k with
  | zero => exact h0 ▸ entry m c
  | succ k ih => rw [Function.iterate_succ_apply', hs k]; exact ih.next

variable {it : ℕ → State F}

set_option maxRecDepth 8192 in
/-- The first result, read off the last state. -/
theorem out_100 (h0 : it 0 = first m c) (hs : ∀ n, it (n + 1) = step n (it n)) :
    out_main_v100 (STEP^[2048] (entryContents preI m c)) = Step.R_main_v100 (it 2048) (m ((c.tc : Thread nD τ).loc main_arg0)) := by
  unfold out_main_v100 Step.R_main_v100
  rw [(at_trip m c h0 hs 2048).all, iter_main_arg0 m c 2048]
  try rfl

set_option maxRecDepth 8192 in
/-- The second result, read off the last state. -/
theorem out_101 (h0 : it 0 = first m c) (hs : ∀ n, it (n + 1) = step n (it n)) :
    out_main_v101 (STEP^[2048] (entryContents preI m c)) = Step.R_main_v101 (it 2048) := by
  unfold out_main_v101 Step.R_main_v101
  rw [(at_trip m c h0 hs 2048).last]
  try rfl

end Cert.LruRefIdeal.Trip
-- ==== Proof.Lru.Ref.lean ====
/-
  The RG-LRU reference: its values at an index are the layer's sequence, convolution, gates, decay and drive; the states of
  its loop are the layer's states.
-/
module

public import proofs.«01_k».proof.Proof.Lru.Trip
public import proofs.«01_k».proof.Proof.Math.Lru
public import Idealize.ShloMosaic.Lib.Pointwise
public import Idealize.ShloMosaic.Lib.DynamicIndex

@[expose] public section

noncomputable section

open Idealize.ShloMosaic Idealize.ShloMosaic.TcCoe Idealize.SL.Sem

namespace Cert.LruRefIdeal.Val

open Cert.LruRefIdeal Cert.LruRefIdeal.Gen Cert.Gates Cert.Lru Cert.Scan

variable (x0 : Vec Ideal S16384x2048 .f32) (x1 : Vec Ideal S3x1024 .f32) (x2 : Vec Ideal S1024 .f32)
  (x3 : Vec Ideal S4x1024 .f32) (x4 : Vec Ideal S1024 .f32) (x5 : Vec Ideal S8x128x128 .f32) (x6 : Vec Ideal S1024 .f32)
  (x7 : Vec Ideal S8x128x128 .f32) (x8 : Vec Ideal S1024 .f32) (x9 : Vec Ideal S1024 .f32)

/-- The layer's parameters, as the arguments hold them. -/
def layer : Params where
  cw q j := x3 (ix2 q j)
  cb j := x4 (ix1 j)
  wa q k l := x5 (ix3 q k l)
  wx q k l := x7 (ix3 q k l)
  ba j := x6 (ix1 j)
  bx j := x8 (ix1 j)
  lam j := x9 (ix1 j)

/-- Batch entry `b`'s sequence. -/
abbrev seqs (b : Nat) : Nat → Fin 1024 → EReal := inputs (fun i k => x0 (ix2 i k)) (fun q j => x1 (ix2 q j)) b

variable (b : Fin 8) (t : Fin 2048) (j : Fin 1024)

/-- The convolution state followed by the projection's second half. -/
theorem seq_at (n : Fin 2051) : Step.A_main_v4 (F := Ideal) x0 x1 x2 x3 x4 x5 x6 x7 x8 x9 (ix3 b n j) = seqs x0 x1 b.val n.val j := by
  have e : Step.A_main_v4 (F := Ideal) x0 x1 x2 x3 x4 x5 x6 x7 x8 x9 (ix3 b n j)
      = if h : n.val < 3 then x1 (ix2 ⟨n.val, h⟩ j)
        else x0 (ix2 ⟨2048 * b.val + (n.val - 3), by omega⟩ ⟨1024 + j.val, by omega⟩) := by
    pointwise [Step.A_main_v0, Step.A_main_v1, Step.A_main_v2, Step.A_main_v3, Step.A_main_v4]
    simp only [Nat.mul_comm]
  rw [e]
  split
  · next h => exact (inputs_front (fun i k => x0 (ix2 i k)) (fun q j => x1 (ix2 q j)) b.val ⟨n.val, h⟩ j).symm
  · next h => exact (inputs_row (fun i k => x0 (ix2 i k)) (fun q j => x1 (ix2 q j)) b.val n.val j (by omega) rfl).symm

theorem conv_at : Step.A_main_v36 (F := Ideal) x0 x1 x2 x3 x4 x5 x6 x7 x8 x9 (ix3 b t j)
    = (layer x3 x4 x5 x6 x7 x8 x9).conv (seqs x0 x1 b.val) t.val j := by
  have e : Step.A_main_v36 (F := Ideal) x0 x1 x2 x3 x4 x5 x6 x7 x8 x9 (ix3 b t j)
      = x4 (ix1 j) + (((0 + seqs x0 x1 b.val t.val j * x3 (ix2 0 j)) + seqs x0 x1 b.val (t.val + 1) j * x3 (ix2 1 j)
        + seqs x0 x1 b.val (t.val + 2) j * x3 (ix2 2 j)) + seqs x0 x1 b.val (t.val + 3) j * x3 (ix2 3 j)) := by
    pointwise [Step.A_main_v5, Step.A_main_v6, Step.A_main_v7, Step.A_main_v8, Step.A_main_v9, Step.A_main_v10, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_v32, Step.A_main_v33, Step.A_main_v34, Step.A_main_v35, Step.A_main_v36, Step.K_main_v11, Step.K_main_cst]
    simp only [seq_at, Nat.add_comm]
  rw [e]
  unfold Params.conv layer
  dsimp only
  rw [zero_add, mul_comm (x3 (ix2 0 j)), mul_comm (x3 (ix2 1 j)), mul_comm (x3 (ix2 2 j)), mul_comm (x3 (ix2 3 j))]
  ac_rfl

/-- The recurrence gate's product. -/
theorem dotA_at : Step.A_main_v40 (F := Ideal) x0 x1 x2 x3 x4 x5 x6 x7 x8 x9 (ix3 b t j)
    = blockDot ((layer x3 x4 x5 x6 x7 x8 x9).conv (seqs x0 x1 b.val) t.val) (layer x3 x4 x5 x6 x7 x8 x9).wa j := by
  rw [← funext fun j => conv_at x0 x1 x2 x3 x4 x5 x6 x7 x8 x9 b t j]
  unfold blockDot
  pointwise [Step.A_main_v37, Step.A_main_v38, Step.A_main_v39, Step.A_main_v40, dot_S8x128x128_S8x2048x8x128_S8x128x8x2048_1_3_2_01_0_2]
  exact Finset.sum_congr rfl fun k _ => (mul_comm _ _).trans (by simp only [Nat.mul_comm]; rfl)

/-- The input gate's product. -/
theorem dotX_at : Step.A_main_v52 (F := Ideal) x0 x1 x2 x3 x4 x5 x6 x7 x8 x9 (ix3 b t j)
    = blockDot ((layer x3 x4 x5 x6 x7 x8 x9).conv (seqs x0 x1 b.val) t.val) (layer x3 x4 x5 x6 x7 x8 x9).wx j := by
  rw [← funext fun j => conv_at x0 x1 x2 x3 x4 x5 x6 x7 x8 x9 b t j]
  unfold blockDot
  pointwise [Step.A_main_v37, Step.A_main_v50, Step.A_main_v51, Step.A_main_v52, dot_S8x128x128_S8x2048x8x128_S8x128x8x2048_1_3_2_01_0_2]
  exact Finset.sum_congr rfl fun k _ => (mul_comm _ _).trans (by simp only [Nat.mul_comm]; rfl)

theorem gateA_at : Step.A_main_v49 (F := Ideal) x0 x1 x2 x3 x4 x5 x6 x7 x8 x9 (ix3 b t j)
    = Ideal.logistic ((layer x3 x4 x5 x6 x7 x8 x9).preA (seqs x0 x1 b.val) t.val j) := by
  unfold Params.preA
  rw [← dotA_at x0 x1 x2 x3 x4 x5 x6 x7 x8 x9 b t j]
  pointwise [Step.A_main_v41, Step.A_main_v42, Step.A_main_v43, Step.A_main_v44, Step.A_main_v45, Step.A_main_v47, Step.A_main_v49, Step.K_main_v46, Step.K_main_v48, Step.K_main_cst_0, Step.K_main_cst_1]
  rfl

theorem gateX_at : Step.A_main_v61 (F := Ideal) x0 x1 x2 x3 x4 x5 x6 x7 x8 x9 (ix3 b t j)
    = Ideal.logistic ((layer x3 x4 x5 x6 x7 x8 x9).preX (seqs x0 x1 b.val) t.val j) := by
  unfold Params.preX
  rw [← dotX_at x0 x1 x2 x3 x4 x5 x6 x7 x8 x9 b t j]
  pointwise [Step.A_main_v53, Step.A_main_v54, Step.A_main_v55, Step.A_main_v56, Step.A_main_v57, Step.A_main_v59, Step.A_main_v61, Step.K_main_v58, Step.K_main_v60, Step.K_main_cst_2, Step.K_main_cst_3]
  rfl

theorem absf_eq (z : EReal) : FloatOps.absf (F := Ideal) (φ := .f32) z = max z (-z) := rfl

theorem softplus_at : Step.A_main_v65 (F := Ideal) x0 x1 x2 x3 x4 x5 x6 x7 x8 x9 (ix1 j) = softplusNeg (x9 (ix1 j)) := by
  pointwise [Step.A_main_v64, Step.A_main_v65, Step.A_main_call0_v1, Step.A_main_call0_v3, Step.A_main_call0_v4, Step.A_main_call0_v6, Step.A_main_call0_v7, Step.A_main_call0_v8, Step.A_main_call0_v9, Step.A_main_call0_v10, Step.A_main_call0_v11, Step.K_main_call0_v0, Step.K_main_call0_v2, Step.K_main_call0_v5, Step.K_main_call0_cst]
  rw [if_neg (not_not_intro rfl), absf_eq]
  unfold softplusNeg
  congr 4
  rw [neg_neg, max_comm]

theorem logDecay_at : Step.A_main_v68 (F := Ideal) x0 x1 x2 x3 x4 x5 x6 x7 x8 x9 (ix3 b t j)
    = logDecay ((layer x3 x4 x5 x6 x7 x8 x9).preA (seqs x0 x1 b.val) t.val j) (x9 (ix1 j)) := by
  unfold logDecay
  rw [← gateA_at x0 x1 x2 x3 x4 x5 x6 x7 x8 x9 b t j, ← softplus_at x0 x1 x2 x3 x4 x5 x6 x7 x8 x9 j]
  pointwise [Step.A_main_v63, Step.A_main_v66, Step.A_main_v67, Step.A_main_v68, Step.K_main_v62, Step.K_main_cst_4]

theorem decay_at : Step.A_main_v78 (F := Ideal) x0 x1 x2 x3 x4 x5 x6 x7 x8 x9 (ix3 t b j)
    = (layer x3 x4 x5 x6 x7 x8 x9).decayAt (seqs x0 x1 b.val) j t.val := by
  unfold Params.decayAt decay
  refine Eq.trans ?_ (congrArg Ideal.exp (logDecay_at x0 x1 x2 x3 x4 x5 x6 x7 x8 x9 b t j))
  pointwise [Step.A_main_v69, Step.A_main_v78]

theorem drive_at : Step.A_main_v79 (F := Ideal) x0 x1 x2 x3 x4 x5 x6 x7 x8 x9 (ix3 t b j)
    = (layer x3 x4 x5 x6 x7 x8 x9).driveAt (seqs x0 x1 b.val) j t.val := by
  unfold Params.driveAt
  rw [drive_eq, ← gateX_at x0 x1 x2 x3 x4 x5 x6 x7 x8 x9 b t j, ← conv_at x0 x1 x2 x3 x4 x5 x6 x7 x8 x9 b t j]
  refine Eq.trans ?_ (congrArg (fun z => Ideal.sqrt (-(Ideal.exp (two32 * z) - 1)) * _ * _) (logDecay_at x0 x1 x2 x3 x4 x5 x6 x7 x8 x9 b t j))
  pointwise [Step.A_main_v71, Step.A_main_v72, Step.A_main_v73, Step.A_main_v74, Step.A_main_v75, Step.A_main_v76, Step.A_main_v79, Step.K_main_v70, Step.K_main_cst_5]

/-- The loop's states. -/
def runs (n : Nat) : Step.State Ideal :=
  Nat.rec (Step.init x0 x1 x2 x3 x4 x5 x6 x7 x8 x9) (fun k s => Step.step k s) n

theorem start_eq (k : Nat) (hk : k < 2048) : (BitVec.ofNat 32 k).toInt = (k : Int) := by
  rw [BitVec.toInt_ofNat', Int.bmod_def]
  omega

theorem starts (k : Nat) (hk : k < 2048) (f : Fin 3 → IVec S_ 32)
    (h0 : f 0 = constantI S_ 32 (BitVec.ofNat 32 k)) (h1 : f 1 = constantI S_ 32 0#32) (h2 : f 2 = constantI S_ 32 0#32)
    (a : Fin 3) : (f a (Shape.Idx.first h_S_)).toInt = ((![k, 0, 0] : Fin 3 → Nat) a : Int) := by
  match a with
  | ⟨0, _⟩ => exact (congrArg (fun z : IVec S_ 32 => (z (Shape.Idx.first h_S_)).toInt) h0).trans (start_eq k hk)
  | ⟨1, _⟩ => exact congrArg (fun z : IVec S_ 32 => (z (Shape.Idx.first h_S_)).toInt) h1
  | ⟨2, _⟩ => exact congrArg (fun z : IVec S_ 32 => (z (Shape.Idx.first h_S_)).toInt) h2

theorem row_slices (k : Nat) (hk : k < 2048) : S2048x8x1024.Slices ![k, 0, 0] S1x8x1024 :=
  ⟨rfl, fun a => by
    match a with
    | ⟨0, _⟩ => show k + 1 ≤ 2048; omega
    | ⟨1, _⟩ => exact le_refl 8
    | ⟨2, _⟩ => exact le_refl 1024⟩

/-- A trip's new state. -/
theorem next_at (k : Nat) (hk : k < 2048) (s : Step.State Ideal) :
    Step.b9 k s (ix2 b j) = s.main_v81_0 (ix3 (⟨k, hk⟩ : Fin 2048) b j) * s.main_v81_3 (ix2 b j)
      + s.main_v81_1 (ix3 (⟨k, hk⟩ : Fin 2048) b j) := by
  unfold Step.b9 Step.b8 Step.b7 Step.b6 Step.b3 Step.b2
  rw [Host.dynamicSlice_eq_extractStridedSlice S1x8x1024 s.main_v81_0 _ ![k, 0, 0] _ (row_slices k hk) (starts k hk _ rfl rfl rfl),
    Host.dynamicSlice_eq_extractStridedSlice S1x8x1024 s.main_v81_1 _ ![k, 0, 0] _ (row_slices k hk) (starts k hk _ rfl rfl rfl)]
  pointwise

/-- A trip writes its new state to its own row of the list. -/
theorem list_at (k : Nat) (hk : k < 2048) (s : Step.State Ideal) :
    Step.b13 k s (ix3 t b j) = if t.val = k then Step.b9 k s (ix2 b j) else s.main_v81_4 (ix3 t b j) := by
  unfold Step.b13 Step.b10
  rw [Host.dynamicUpdateSlice_eq_updateSlice s.main_v81_4 _ _ _ ![k, 0, 0] (fun a => by
      rw [starts k hk _ rfl rfl rfl]
      match a with
      | ⟨0, _⟩ => show (min (max (k : Int) 0) ((2048 - 1 : Nat) : Int)).toNat = k; omega
      | ⟨1, _⟩ => rfl
      | ⟨2, _⟩ => rfl) (row_slices k hk)]
  pointwise
  split
  · next h => exact (if_pos (by omega)).symm
  · next h => exact (if_neg (by omega)).symm

/-- The layer's state of unit `j` of batch entry `b` after `n` steps. -/
abbrev states (b : Nat) (j : Fin 1024) (n : Nat) : EReal :=
  (layer x3 x4 x5 x6 x7 x8 x9).stateAt (seqs x0 x1 b) (fun j => x2 (ix1 j)) j n

theorem coeffs (n : Nat) : (runs x0 x1 x2 x3 x4 x5 x6 x7 x8 x9 n).main_v81_0 = Step.A_main_v78 x0 x1 x2 x3 x4 x5 x6 x7 x8 x9 ∧ (runs x0 x1 x2 x3 x4 x5 x6 x7 x8 x9 n).main_v81_1 = Step.A_main_v79 x0 x1 x2 x3 x4 x5 x6 x7 x8 x9 := by
  induction n with
  | zero => exact ⟨rfl, rfl⟩
  | succ n ih => exact ih

/-- After `n` trips the loop carries the layer's state after `n` steps. -/
theorem last_at (n : Nat) (hn : n ≤ 2048) :
    (runs x0 x1 x2 x3 x4 x5 x6 x7 x8 x9 n).main_v81_3 (ix2 b j) = states x0 x1 x2 x3 x4 x5 x6 x7 x8 x9 b.val j n := by
  induction n with
  | zero =>
    show Step.A_main_v77 (F := Ideal) x0 x1 x2 x3 x4 x5 x6 x7 x8 x9 (ix2 b j) = x2 (ix1 j)
    pointwise [Step.A_main_v77]
  | succ n ih =>
    refine (next_at b j n (by omega) (runs x0 x1 x2 x3 x4 x5 x6 x7 x8 x9 n)).trans ?_
    rw [(coeffs x0 x1 x2 x3 x4 x5 x6 x7 x8 x9 n).1, (coeffs x0 x1 x2 x3 x4 x5 x6 x7 x8 x9 n).2, ih (by omega), decay_at, drive_at]
    rfl

/-- After `n` trips the list's first `n` rows are the states after each step. -/
theorem all_at (n : Nat) (hn : n ≤ 2048) (ht : t.val < n) :
    (runs x0 x1 x2 x3 x4 x5 x6 x7 x8 x9 n).main_v81_4 (ix3 t b j) = states x0 x1 x2 x3 x4 x5 x6 x7 x8 x9 b.val j (t.val + 1) := by
  induction n with
  | zero => omega
  | succ n ih =>
    refine (list_at b t j n (by omega) (runs x0 x1 x2 x3 x4 x5 x6 x7 x8 x9 n)).trans ?_
    split
    · next h => rw [h]; exact last_at x0 x1 x2 x3 x4 x5 x6 x7 x8 x9 b j (n + 1) hn
    · next h => exact ih (by omega) (by omega)

/-- The first result: every state times the gelu of its gate. -/
theorem out_at (i : Fin 16384) : Step.R_main_v100 (runs x0 x1 x2 x3 x4 x5 x6 x7 x8 x9 2048) x0 (ix2 i j)
    = states x0 x1 x2 x3 x4 x5 x6 x7 x8 x9 (i.val / 2048) j (i.val % 2048 + 1) * gelu (x0 (ix2 i ⟨j.val, by omega⟩)) := by
  have e := all_at x0 x1 x2 x3 x4 x5 x6 x7 x8 x9 ⟨i.val / 2048, by omega⟩ ⟨i.val % 2048, by omega⟩ j 2048 (le_refl _) (by dsimp only; omega)
  refine Eq.trans ?_ (congrArg (· * gelu (x0 (ix2 i ⟨j.val, by omega⟩))) e)
  unfold gelu
  pointwise [Step.R_main_v100]
  rw [mul_left_comm (x0 _), ← mul_assoc (Ideal.ofBits FTy.f32 1056964608#32) (x0 _)]

/-- The second result: the last state. -/
theorem fin_at : Step.R_main_v101 (runs x0 x1 x2 x3 x4 x5 x6 x7 x8 x9 2048) (ix3 b (0 : Fin 1) j) = states x0 x1 x2 x3 x4 x5 x6 x7 x8 x9 b.val j 2048 := by
  refine Eq.trans ?_ (last_at x0 x1 x2 x3 x4 x5 x6 x7 x8 x9 b j 2048 (le_refl _))
  pointwise [Step.R_main_v101]

end Cert.LruRefIdeal.Val
-- ==== Proof.Lru.Claim.lean ====
/-
  The claims of the RG-LRU prompt kernel.
-/
module

public import proofs.«01_k».proof.Defs
public import proofs.«01_k».proof.Proof.Lru.Blocks
public import proofs.«01_k».proof.Proof.Lru.Ref
public import proofs.«01_k».proof.Proof.Gen.Lru.Frame
public import Idealize.ShloMosaic.Lib.Quiescent

@[expose] public section

noncomputable section

open Idealize.ShloMosaic Idealize.ShloMosaic.TcCoe Idealize.SL.Sem

namespace Cert.Lru.Claims

theorem frame_p : Cert.quiescent_Lru := fun m ρ _ => Cert.Lru.Gen.frame m ρ

theorem frame_pi : Cert.quiescent_LruIdeal := fun m ρ _ => Cert.LruIdeal.Gen.frame m ρ

theorem frame_ri : Cert.quiescent_LruRefIdeal := fun m ρ _ =>
  (θ_run Cert.LruRefIdeal.defs _ _).mono
    (fun r h => ⟨fun c => (h c).2.2, sem_eq_zero_of_no_sems (by decide) r.2⟩)
    (Cert.LruRefIdeal.Value.run (F := Ideal) m ρ)

/-- Both programs end with the layer's states: the kernel's arrays are `G` and `H` (`final_G`, `final_H`), the
    reference's results read the same states at every index (`out_at`, `fin_at`). -/
theorem algebraic : Cert.algebraic_LruIdeal_LruRefIdeal := by
  intro m ρ m' ρ' _ hagree
  refine ⟨fun c => Cert.LruIdeal.Val.G m c, fun c => Cert.LruIdeal.Val.H m c, ?_, ?_⟩
  · exact (θ_run Cert.LruIdeal.defs _ _).mono
      (fun _ h c => ⟨(h c).1.trans (Cert.LruIdeal.Val.final_G m c), (h c).2.1.trans (Cert.LruIdeal.Val.final_H m c), (h c).2.2⟩)
      (Cert.LruIdeal.Value.run_blocks (F := Ideal) m ρ)
  · refine (θ_run Cert.LruRefIdeal.defs _ _).mono
      (fun _ h c => ⟨((h c).1.trans (Cert.LruRefIdeal.Trip.out_100 m' c
          (it := Cert.LruRefIdeal.Val.runs _ _ _ _ _ _ _ _ _ _) rfl fun _ => rfl)).trans ?_,
        ((h c).2.1.trans (Cert.LruRefIdeal.Trip.out_101 m' c
          (it := Cert.LruRefIdeal.Val.runs _ _ _ _ _ _ _ _ _ _) rfl fun _ => rfl)).trans ?_, (h c).2.2⟩)
      (Cert.LruRefIdeal.Value.run (F := Ideal) m' ρ')
    · obtain ⟨e0, e1, e2, e3, e4, e5, e6, e7, e8, e9⟩ := hagree c
      rw [e0, e1, e2, e3, e4, e5, e6, e7, e8, e9]
      funext q
      obtain ⟨i, j, rfl⟩ : ∃ (i : Fin 16384) (j : Fin 1024), q = ix2 i j := ⟨q 0, q 1, Shape.Idx.norm2 (n0 := 16384) (n1 := 1024) q⟩
      exact Cert.LruRefIdeal.Val.out_at _ _ _ _ _ _ _ _ _ _ j i
    · obtain ⟨e0, e1, e2, e3, e4, e5, e6, e7, e8, e9⟩ := hagree c
      rw [e0, e1, e2, e3, e4, e5, e6, e7, e8, e9]
      funext q
      obtain ⟨b, j, rfl⟩ : ∃ (b : Fin 8) (j : Fin 1024), q = ix3 b (0 : Fin 1) j := ⟨q 0, q 2, funext fun a => by
        match a with
        | ⟨0, _⟩ => rfl
        | ⟨1, _⟩ => exact Subsingleton.elim (α := Fin 1) _ _
        | ⟨2, _⟩ => rfl⟩
      exact Cert.LruRefIdeal.Val.fin_at _ _ _ _ _ _ _ _ _ _ b j

end Cert.Lru.Claims
-- ==== Proof.Ssd.Pieces.lean ====
/-
  The SSD kernel: what one grid point computes for one pair of heads and for one group, written once with the pair's and the
  group's number as parameters, and that the kernel's own text for every pair and every group is that.
-/
module

public import proofs.«01_k».proof.Proof.Gen.SsdIdeal.Value
public import Idealize.ShloMosaic.Lib.Pointwise

@[expose] public section

noncomputable section

open Idealize.ShloMosaic Idealize.ShloMosaic.TcCoe Idealize.SL.Sem

namespace Cert.SsdIdeal.Val

open Cert.SsdIdeal Cert.SsdIdeal.Gen

/-- What a point computes before it looks at a group: the convolved columns, the cumulative log-decays and what is made of
    them. -/
structure Pre where
  xs : FVec Ideal S128x2048 .f32
  B : FVec Ideal S128x1024 .f32
  C : FVec Ideal S128x1024 .f32
  cs : FVec Ideal S128x128 .f32
  csT : FVec Ideal S128x128 .f32
  dtT : FVec Ideal S128x128 .f32
  ecs : FVec Ideal S128x128 .f32
  wd : FVec Ideal S128x128 .f32
  tot : FVec Ideal S1x128 .f32

/-- The triangle `row ≥ column`. -/
abbrev causal : IVec S128x128 1 := k0_pay30

/-- The column of each element. -/
abbrev lane : IVec S128x128 32 := iota .tc S128x128 32 [1] iota_S128x128_d1_w32

/-- The group of a pair of heads. -/
abbrev groupOf (n : Fin 16) : Fin 8 := ⟨n.val / 2, by omega⟩

theorem sl_x : ∀ n : Fin 16, S128x2048.Slices ![0, 128 * n.val] S128x128 := by decide
theorem sl_b : ∀ g : Fin 8, S128x1024.Slices ![0, 128 * g.val] S128x128 := by decide
theorem sl_col : ∀ h : Fin 32, S128x128.Slices ![0, h.val] S128x1 := by decide
theorem sl_row : ∀ h : Fin 32, S128x128.Slices ![h.val, 0] S1x128 := by decide
theorem sl_one : ∀ h : Fin 32, S1x128.Slices ![0, h.val] S1x1 := by decide
theorem sl_half : ∀ n : Fin 16, S128x256.Slices ![0, 128 * (n.val % 2)] S128x128 := by decide

/-- The two heads of a pair. -/
abbrev lo (n : Fin 16) : Fin 32 := ⟨2 * n.val, by omega⟩
abbrev hi (n : Fin 16) : Fin 32 := ⟨2 * n.val + 1, by omega⟩

variable (P : Pre)

/-- A pair's columns of the input. -/
def Pre.x (n : Fin 16) : FVec Ideal S128x128 .f32 := extractStridedSlice S128x128 ![0, 128 * n.val] P.xs (sl_x n)

/-- A group's columns of `B`, transposed. -/
def Pre.bT (g : Fin 8) : FVec Ideal S128x128 .bf16 :=
  truncf .bf16 (transpose S128x128 [1, 0] (extractStridedSlice S128x128 ![0, 128 * g.val] P.B (sl_b g) : FVec Ideal S128x128 .f32)
    transposes_S128x128_p1_0_S128x128 : FVec Ideal S128x128 .f32) bitsLt_bf16_f32

/-- A group's columns of `C`. -/
def Pre.c (g : Fin 8) : FVec Ideal S128x128 .bf16 :=
  truncf .bf16 (extractStridedSlice S128x128 ![0, 128 * g.val] P.C (sl_b g) : FVec Ideal S128x128 .f32) bitsLt_bf16_f32

/-- The products of a group's rows of `C` and `B`. -/
def Pre.cb (g : Fin 8) : FVec Ideal S128x128 .f32 :=
  matmul dot_S128x128_S128x128_S128x128_1_0_0_1_n_n none (P.c g) (P.bT g) (constant S128x128 .f32 0x00000000#32)

/-- What the chunk's rows read off a group's state. -/
def Pre.off (g : Fin 8) (hT : Vec Ideal S1x128x256 .f32) : FVec Ideal S128x256 .f32 :=
  matmul dot_S128x128_S128x256_S128x256_1_0_0_1_n_n none (P.c g)
    (truncf .bf16 (shapeCast S128x256 hT shapeCasts_S1x128x256_S128x256 : FVec Ideal S128x256 .f32) bitsLt_bf16_f32 : FVec Ideal S128x256 .bf16) (constant S128x256 .f32 0x00000000#32)

/-- One head's scores. -/
def Pre.score (g : Fin 8) (h : Fin 32) : FVec Ideal S128x128 .bf16 :=
  truncf .bf16 (mulf (mulf (P.cb g) (select causal (exp (subf
      (broadcastTo S128x128 (extractStridedSlice S128x1 ![0, h.val] P.cs (sl_col h) : FVec Ideal S128x1 .f32) broadcasts_S128x1_S128x128 : FVec Ideal S128x128 .f32)
      (broadcastTo S128x128 (extractStridedSlice S1x128 ![h.val, 0] P.csT (sl_row h) : FVec Ideal S1x128 .f32) broadcasts_S1x128_S128x128)))
      (broadcast S128x128 (Scalar.ofBits .f32 0x00000000#32) : FVec Ideal S128x128 .f32)))
    (broadcastTo S128x128 (extractStridedSlice S1x128 ![h.val, 0] P.dtT (sl_row h) : FVec Ideal S1x128 .f32) broadcasts_S1x128_S128x128)) bitsLt_bf16_f32

/-- The column of the pair's first head where the lane is in the first half, else the second's. -/
def expand (v : FVec Ideal S128x128 .f32) (n : Fin 16) : FVec Ideal S128x128 .f32 :=
  select (cmpi .slt lane (broadcast S128x128 64#32))
    (broadcastTo S128x128 (shapeCast S128x1 (extractStridedSlice S128x1 ![0, 2 * n.val] v (sl_col (lo n)) : FVec Ideal S128x1 .f32) shapeCasts_S128x1_S128x1 : FVec Ideal S128x1 .f32) broadcasts_S128x1_S128x128 : FVec Ideal S128x128 .f32)
    (broadcastTo S128x128 (shapeCast S128x1 (extractStridedSlice S128x1 ![0, 2 * n.val + 1] v (sl_col (hi n)) : FVec Ideal S128x1 .f32) shapeCasts_S128x1_S128x1 : FVec Ideal S128x1 .f32) broadcasts_S128x1_S128x128 : FVec Ideal S128x128 .f32)

/-- The same of a row. -/
def expandRow (v : FVec Ideal S1x128 .f32) (n : Fin 16) : FVec Ideal S1x128 .f32 :=
  select (cmpi .slt (extractStridedSlice S1x128 ![0, 0] lane slices_S128x128_o0_0_S1x128 : IVec S1x128 32) (broadcast S1x128 64#32))
    (broadcastTo S1x128 (shapeCast S1x1 (extractStridedSlice S1x1 ![0, 2 * n.val] v (sl_one (lo n)) : FVec Ideal S1x1 .f32) shapeCasts_S1x1_S1x1 : FVec Ideal S1x1 .f32) broadcasts_S1x1_S1x128 : FVec Ideal S1x128 .f32)
    (broadcastTo S1x128 (shapeCast S1x1 (extractStridedSlice S1x1 ![0, 2 * n.val + 1] v (sl_one (hi n)) : FVec Ideal S1x1 .f32) shapeCasts_S1x1_S1x1 : FVec Ideal S1x1 .f32) broadcasts_S1x1_S1x128 : FVec Ideal S1x128 .f32)

/-- A pair's two halves of the input, the other half zero, one above the other. -/
def Pre.halves (n : Fin 16) : FVec Ideal S256x128 .bf16 :=
  concatenate S256x128 0 [
    ⟨S128x128, (truncf .bf16 (select (cmpi .slt lane (broadcast S128x128 64#32)) (P.x n) (broadcast S128x128 (Scalar.ofBits .f32 0x00000000#32) : FVec Ideal S128x128 .f32)) bitsLt_bf16_f32 : FVec Ideal S128x128 .bf16)⟩,
    ⟨S128x128, (truncf .bf16 (select (cmpi .sge lane (broadcast S128x128 64#32)) (P.x n) (broadcast S128x128 (Scalar.ofBits .f32 0x00000000#32) : FVec Ideal S128x128 .f32)) bitsLt_bf16_f32 : FVec Ideal S128x128 .bf16)⟩]
    concatenates_S128x128_S128x128_S256x128_d0

/-- A pair's two scores side by side. -/
def Pre.scores (n : Fin 16) : FVec Ideal S128x256 .bf16 :=
  concatenate S128x256 1 [⟨S128x128, P.score (groupOf n) (lo n)⟩, ⟨S128x128, P.score (groupOf n) (hi n)⟩] concatenates_S128x128_S128x128_S128x256_d1

/-- One pair's outputs. -/
def Pre.y (n : Fin 16) (hT : Vec Ideal S1x128x256 .f32) (d : Vec Ideal S1x128 .f32) : FVec Ideal S128x128 .f32 :=
  addf (addf (matmul dot_S128x256_S256x128_S128x128_1_0_0_1_n_n none (P.scores n) (P.halves n) (constant S128x128 .f32 0x00000000#32))
    (mulf (extractStridedSlice S128x128 ![0, 128 * (n.val % 2)] (P.off (groupOf n) hT) (sl_half n)) (expand P.ecs n)))
    (mulf (P.x n) (broadcastTo S128x128 (shapeCast S1x128 d shapeCasts_S1x128_S1x128 : FVec Ideal S1x128 .f32) broadcasts_S1x128_S128x128))

/-- A pair's inputs weighted for the state. -/
def Pre.weighted (n : Fin 16) : FVec Ideal S128x128 .bf16 := truncf .bf16 (mulf (P.x n) (expand P.wd n)) bitsLt_bf16_f32

/-- The two pairs of a group. -/
abbrev pair0 (g : Fin 8) : Fin 16 := ⟨2 * g.val, by omega⟩
abbrev pair1 (g : Fin 8) : Fin 16 := ⟨2 * g.val + 1, by omega⟩

/-- One group's state after the chunk. -/
def Pre.state (g : Fin 8) (hT : Vec Ideal S1x128x256 .f32) : FVec Ideal S1x128x256 .f32 :=
  shapeCast S1x128x256 (addf
    (mulf (shapeCast S128x256 hT shapeCasts_S1x128x256_S128x256 : FVec Ideal S128x256 .f32)
      (broadcastTo S128x256 (concatenate S1x256 1 [⟨S1x128, expandRow P.tot (pair0 g)⟩, ⟨S1x128, expandRow P.tot (pair1 g)⟩]
        concatenates_S1x128_S1x128_S1x256_d1 : FVec Ideal S1x256 .f32) broadcasts_S1x256_S128x256))
    (matmul dot_S128x128_S128x256_S128x256_1_0_0_1_n_n none (P.bT g)
      (concatenate S128x256 1 [⟨S128x128, P.weighted (pair0 g)⟩, ⟨S128x128, P.weighted (pair1 g)⟩] concatenates_S128x128_S128x128_S128x256_d1 : FVec Ideal S128x256 .bf16)
      (constant S128x256 .f32 0x00000000#32)) : FVec Ideal S128x256 .f32) shapeCasts_S128x256_S1x128x256

/-! ### The kernel's own text -/

variable (hT : Vec Ideal S1x128x256 .f32) (d : Vec Ideal S1x128 .f32)

/-- The kernel's text for the first fifteen pairs. -/
def payY : Fin 15 → FVec Ideal S128x128 .f32
  | ⟨0, _⟩ => k0_pay49 lane P.ecs (k0_pay44 P.C hT) (k0_pay45 P.xs) (k0_pay46 P.B P.C causal P.cs P.csT P.dtT) (k0_pay47 P.xs lane) (k0_pay48 P.xs lane) d
  | ⟨1, _⟩ => k0_pay55 causal lane P.cs P.csT P.dtT P.ecs (k0_pay42 P.B P.C) (k0_pay44 P.C hT) (k0_pay52 P.xs) (k0_pay53 causal P.cs P.csT (k0_pay42 P.B P.C)) (k0_pay54 P.dtT) d
  | ⟨2, _⟩ => k0_pay67 causal lane P.cs P.csT P.dtT P.ecs (k0_pay62 P.B P.C) (k0_pay64 P.C hT) (k0_pay65 P.xs) (k0_pay66 P.B P.C causal P.cs P.csT P.dtT) d
  | ⟨3, _⟩ => k0_pay77 lane P.ecs (k0_pay64 P.C hT) (k0_pay73 P.xs) (k0_pay74 causal P.cs P.csT P.dtT (k0_pay62 P.B P.C)) (k0_pay75 P.xs lane) (k0_pay76 P.xs lane) d
  | ⟨4, _⟩ => k0_pay87 lane P.ecs (k0_pay83 P.C hT) (k0_pay84 P.xs) (k0_pay85 P.B P.C causal P.cs P.csT P.dtT) (k0_pay86 P.xs lane) d
  | ⟨5, _⟩ => k0_pay92 causal lane P.cs P.csT P.dtT P.ecs (k0_pay81 P.B P.C) (k0_pay83 P.C hT) (k0_pay90 P.xs) (k0_pay91 causal P.cs P.csT P.dtT (k0_pay81 P.B P.C)) d
  | ⟨6, _⟩ => k0_pay105 causal lane P.csT P.dtT P.ecs (k0_pay99 P.B P.C) (k0_pay101 P.C hT) (k0_pay102 P.xs) (k0_pay103 P.B P.C causal P.cs P.csT P.dtT) (k0_pay104 P.cs) d
  | ⟨7, _⟩ => k0_pay114 lane P.ecs (k0_pay101 P.C hT) (k0_pay111 P.xs) (k0_pay112 causal P.cs P.csT P.dtT (k0_pay99 P.B P.C)) (k0_pay113 P.xs lane) (constant S128x128 .f32 0x00000000#32) d
  | ⟨8, _⟩ => k0_pay125 lane P.ecs (k0_pay122 (k0_pay117 P.C) hT) (k0_pay123 P.xs) (k0_pay124 P.xs causal lane P.cs P.csT P.dtT (k0_pay116 P.B) (k0_pay117 P.C)) d
  | ⟨9, _⟩ => k0_pay132 causal lane P.dtT P.ecs (k0_pay120 (k0_pay116 P.B) (k0_pay117 P.C)) (k0_pay122 (k0_pay117 P.C) hT) (k0_pay128 P.xs) (k0_pay129 causal P.cs P.csT P.dtT (k0_pay120 (k0_pay116 P.B) (k0_pay117 P.C))) (k0_pay130 P.cs) (k0_pay131 P.csT) d
  | ⟨10, _⟩ => k0_pay144 causal lane P.dtT P.ecs (k0_pay137 P.B P.C) (k0_pay139 P.C hT) (k0_pay140 P.xs) (k0_pay141 P.B P.C causal P.cs P.csT P.dtT) (k0_pay142 P.csT) (k0_pay143 P.cs) d
  | ⟨11, _⟩ => k0_pay151 lane P.ecs (k0_pay148 P.xs) (k0_pay149 P.xs causal lane P.cs P.csT P.dtT (k0_pay137 P.B P.C)) (k0_pay150 (k0_pay139 P.C hT)) d
  | ⟨12, _⟩ => k0_pay162 lane P.ecs (k0_pay159 P.xs) (k0_pay160 P.xs causal lane P.cs P.csT P.dtT (k0_pay153 P.C) (k0_pay154 P.B)) (k0_pay161 (k0_pay153 P.C) hT) 64#32 d
  | ⟨13, _⟩ => k0_pay169 causal lane P.dtT P.ecs (k0_pay156 (k0_pay153 P.C) (k0_pay154 P.B)) (k0_pay158 (k0_pay153 P.C) hT) (k0_pay165 P.xs) (k0_pay166 causal P.cs P.csT P.dtT (k0_pay156 (k0_pay153 P.C) (k0_pay154 P.B))) (k0_pay167 P.cs) (k0_pay168 P.csT) d
  | ⟨14, _⟩ => k0_pay180 causal lane P.dtT P.ecs (k0_pay174 P.B P.C) (k0_pay176 P.C hT) (k0_pay177 P.xs) (k0_pay178 P.B P.C causal P.cs P.csT P.dtT) (k0_pay179 P.cs P.csT) d

set_option maxRecDepth 8192 in
theorem payY_eq (n : Fin 15) : payY P hT d n = P.y ⟨n.val, by omega⟩ hT d := by
  fin_cases n <;> rfl

/-- The kernel's text for the groups' states. -/
def payState : Fin 8 → FVec Ideal S1x128x256 .f32
  | ⟨0, _⟩ => k0_pay59 lane P.tot (k0_pay41 P.B) (k0_pay43 hT) (k0_pay50 lane P.wd (k0_pay45 P.xs)) (k0_pay51 lane P.tot) (k0_pay52 P.xs) (k0_pay56 lane) (k0_pay57 P.wd) (k0_pay58 P.wd)
  | ⟨1, _⟩ => k0_pay78 lane P.wd P.tot (k0_pay61 P.B) (k0_pay63 hT) (k0_pay71 (k0_pay65 P.xs) (k0_pay68 lane) (k0_pay69 P.wd) (k0_pay70 P.wd)) (k0_pay72 lane P.tot) (k0_pay73 P.xs)
  | ⟨2, _⟩ => k0_pay96 lane P.tot (k0_pay80 P.B) (k0_pay82 hT) (k0_pay88 lane P.wd (k0_pay84 P.xs)) (k0_pay89 lane P.tot) (k0_pay90 P.xs) (k0_pay93 lane) (k0_pay94 P.wd) (k0_pay95 P.wd)
  | ⟨3, _⟩ => k0_pay115 lane P.wd P.tot (k0_pay98 P.B) (k0_pay100 hT) (k0_pay109 (k0_pay102 P.xs) (k0_pay106 lane) (k0_pay107 P.wd) (k0_pay108 P.wd)) (k0_pay110 lane P.tot) (k0_pay111 P.xs)
  | ⟨4, _⟩ => k0_pay134 lane P.tot (k0_pay119 (k0_pay116 P.B)) (k0_pay121 hT) (k0_pay126 lane P.wd (k0_pay123 P.xs)) (k0_pay127 lane P.tot) (k0_pay128 P.xs) (k0_pay133 lane P.wd)
  | ⟨5, _⟩ => k0_pay152 lane P.wd P.tot (k0_pay136 P.B) (k0_pay138 hT) (k0_pay146 (k0_pay145 lane P.wd (k0_pay140 P.xs))) (k0_pay147 lane P.tot) (k0_pay148 P.xs)
  | ⟨6, _⟩ => k0_pay171 lane P.tot (k0_pay155 (k0_pay154 P.B)) (k0_pay157 hT) (k0_pay163 lane P.wd (k0_pay159 P.xs)) (k0_pay164 lane P.tot) (k0_pay170 lane P.wd (k0_pay165 P.xs))
  | ⟨7, _⟩ => k0_pay188 lane P.wd P.tot (k0_pay173 P.B) (k0_pay175 hT) (k0_pay181 lane P.wd (k0_pay177 P.xs)) (k0_pay183 P.tot (k0_pay182 lane)) (k0_pay184 P.xs)

set_option maxRecDepth 8192 in
theorem payState_eq (g : Fin 8) : payState P hT g = P.state g hT := by
  fin_cases g <;> rfl

/-- The kernel's text for the pairs' outputs side by side. -/
def payAll (hT : Fin 8 → Vec Ideal S1x128x256 .f32) (d : Fin 16 → Vec Ideal S1x128 .f32) : FVec Ideal S128x2048 .f32 :=
  k0_pay189 lane P.ecs (payY P (hT 0) (d 0) 0) (payY P (hT 0) (d 1) 1) (payY P (hT 1) (d 2) 2) (payY P (hT 1) (d 3) 3) (payY P (hT 2) (d 4) 4) (payY P (hT 2) (d 5) 5) (payY P (hT 3) (d 6) 6) (payY P (hT 3) (d 7) 7) (payY P (hT 4) (d 8) 8) (payY P (hT 4) (d 9) 9) (payY P (hT 5) (d 10) 10) (payY P (hT 5) (d 11) 11) (payY P (hT 6) (d 12) 12) (payY P (hT 6) (d 13) 13) (payY P (hT 7) (d 14) 14)
    (k0_pay184 P.xs) (k0_pay185 P.xs causal lane P.cs P.csT P.dtT (k0_pay174 P.B P.C)) (k0_pay186 (k0_pay176 P.C (hT 7))) k0_pay187 (d 15)

set_option maxRecDepth 8192 in
theorem payAll_eq (hT : Fin 8 → Vec Ideal S1x128x256 .f32) (d : Fin 16 → Vec Ideal S1x128 .f32) :
    payAll P hT d = concatenate S128x2048 1 [⟨S128x128, P.y 0 (hT 0) (d 0)⟩, ⟨S128x128, P.y 1 (hT 0) (d 1)⟩, ⟨S128x128, P.y 2 (hT 1) (d 2)⟩, ⟨S128x128, P.y 3 (hT 1) (d 3)⟩, ⟨S128x128, P.y 4 (hT 2) (d 4)⟩, ⟨S128x128, P.y 5 (hT 2) (d 5)⟩, ⟨S128x128, P.y 6 (hT 3) (d 6)⟩, ⟨S128x128, P.y 7 (hT 3) (d 7)⟩, ⟨S128x128, P.y 8 (hT 4) (d 8)⟩, ⟨S128x128, P.y 9 (hT 4) (d 9)⟩, ⟨S128x128, P.y 10 (hT 5) (d 10)⟩, ⟨S128x128, P.y 11 (hT 5) (d 11)⟩, ⟨S128x128, P.y 12 (hT 6) (d 12)⟩, ⟨S128x128, P.y 13 (hT 6) (d 13)⟩, ⟨S128x128, P.y 14 (hT 7) (d 14)⟩, ⟨S128x128, P.y 15 (hT 7) (d 15)⟩]
      concatenates_S128x128_S128x128_S128x128_S128x128_S128x128_S128x128_S128x128_S128x128_S128x128_S128x128_S128x128_S128x128_S128x128_S128x128_S128x128_S128x128_S128x2048_d1 := by
  unfold payAll
  simp only [payY_eq]
  rfl

/-- The kernel's text for the gate, the norm and the output. -/
def payOut (y z : FVec Ideal S128x2048 .f32) (ng : Vec Ideal S1x2048 .f32) : FVec Ideal S128x2048 .bf16 :=
  k0_pay1 (k0_pay198 (k0_pay191 y (k0_pay190 z)) (k0_pay192 y (k0_pay190 z)) (k0_pay193 y (k0_pay190 z)) (k0_pay194 y (k0_pay190 z))
    (k0_pay195 y (k0_pay190 z)) (k0_pay196 y (k0_pay190 z)) (k0_pay197 y (k0_pay190 z)) ng)

end Cert.SsdIdeal.Val
-- ==== Proof.Ssd.Read.lean ====
/-
  The SSD kernel: the pieces of one grid point, read at a row and a column.
-/
module

public import proofs.«01_k».proof.Proof.Ssd.Pieces

@[expose] public section

noncomputable section

open Idealize.ShloMosaic Idealize.ShloMosaic.TcCoe Idealize.SL.Sem

namespace Cert.SsdIdeal.Val

open Cert.SsdIdeal Cert.SsdIdeal.Gen

variable (P : Pre)

theorem Pre.x_at (n : Fin 16) (r j : Fin 128) : P.x n (ix2 r j) = P.xs (ix2 r (⟨128 * n.val + j.val, by omega⟩ : Fin 2048)) := by
  pointwise [Pre.x]

theorem Pre.bT_at (g : Fin 8) (s k : Fin 128) : P.bT g (ix2 s k) = P.B (ix2 k (⟨128 * g.val + s.val, by omega⟩ : Fin 1024)) := by
  pointwise [Pre.bT]

theorem Pre.c_at (g : Fin 8) (r s : Fin 128) : P.c g (ix2 r s) = P.C (ix2 r (⟨128 * g.val + s.val, by omega⟩ : Fin 1024)) := by
  pointwise [Pre.c]

theorem Pre.cb_at (g : Fin 8) (r k : Fin 128) : P.cb g (ix2 r k) = ∑ s : Fin 128, P.c g (ix2 r s) * P.bT g (ix2 s k) := by
  pointwise [Pre.cb, dot_S128x128_S128x128_S128x128_1_0_0_1_n_n]

theorem Pre.off_at (g : Fin 8) (hT : Vec Ideal S1x128x256 .f32) (r : Fin 128) (j : Fin 256) :
    P.off g hT (ix2 r j) = ∑ s : Fin 128, P.c g (ix2 r s) * hT (ix3 0 s j) := by
  pointwise [Pre.off, dot_S128x128_S128x256_S128x256_1_0_0_1_n_n]

theorem toInt_small {n : Nat} (h : n < 128) : (BitVec.ofNat 32 n).toInt = n := by
  rw [BitVec.toInt_ofNat', Int.bmod_eq_of_le] <;> omega

/-- A select on `m ≤ n`. -/
theorem select_ge {n m : Nat} (hn : n < 128) (hm : m < 128) (x y : EReal) :
    Scalar.select (IntOp.cmpi .sge (BitVec.ofNat 32 n) (BitVec.ofNat 32 m)) x y = if m ≤ n then x else y := by
  have e : IntOp.cmpi .sge (BitVec.ofNat 32 n) (BitVec.ofNat 32 m) = 1#1 ↔ m ≤ n := by
    refine IntOp.cmpi_sge.trans ?_
    rw [toInt_small hn, toInt_small hm]
    exact Int.ofNat_le
  unfold Scalar.select
  by_cases h : m ≤ n
  · rw [if_pos h]; exact if_pos (e.mpr h)
  · rw [if_neg h]; exact if_neg fun hh => h (e.mp hh)

/-- A select on `n < m`. -/
theorem select_lt {n m : Nat} (hn : n < 128) (hm : m < 128) (x y : EReal) :
    Scalar.select (IntOp.cmpi .slt (BitVec.ofNat 32 n) (BitVec.ofNat 32 m)) x y = if n < m then x else y := by
  have e : IntOp.cmpi .slt (BitVec.ofNat 32 n) (BitVec.ofNat 32 m) = 1#1 ↔ n < m := by
    refine IntOp.cmpi_slt.trans ?_
    rw [toInt_small hn, toInt_small hm]
    exact Int.ofNat_lt
  unfold Scalar.select
  by_cases h : n < m
  · rw [if_pos h]; exact if_pos (e.mpr h)
  · rw [if_neg h]; exact if_neg fun hh => h (e.mp hh)

theorem causal_at (r k : Fin 128) (x y : EReal) : Scalar.select (causal (ix2 r k)) x y = if k.val ≤ r.val then x else y := by
  pointwise [causal, k0_pay30]
  exact select_ge r.isLt k.isLt x y

theorem Pre.score_at (g : Fin 8) (h : Fin 32) (r k : Fin 128) :
    P.score g h (ix2 r k) = P.cb g (ix2 r k) * (if k.val ≤ r.val then Ideal.exp (P.cs (ix2 r (⟨h.val, by omega⟩ : Fin 128))
      - P.csT (ix2 (⟨h.val, by omega⟩ : Fin 128) k)) else 0) * P.dtT (ix2 (⟨h.val, by omega⟩ : Fin 128) k) := by
  pointwise [Pre.score]
  rw [causal_at]
  split
  · rfl
  · rw [mul_zero, zero_mul]

/-- The head of a lane of a pair. -/
def headOf (n : Fin 16) (j : Fin 128) : Fin 128 := ⟨2 * n.val + j.val / 64, by omega⟩

theorem expand_at (v : FVec Ideal S128x128 .f32) (n : Fin 16) (r j : Fin 128) :
    expand v n (ix2 r j) = v (ix2 r (headOf n j)) := by
  pointwise [expand]
  rw [select_lt j.isLt (by decide)]
  split
  · exact congrArg (fun z => v (ix2 r z)) (Fin.ext (show 2 * n.val = 2 * n.val + j.val / 64 by omega))
  · exact congrArg (fun z => v (ix2 r z)) (Fin.ext (show 2 * n.val + 1 = 2 * n.val + j.val / 64 by omega))

theorem expandRow_at (v : FVec Ideal S1x128 .f32) (n : Fin 16) (j : Fin 128) :
    expandRow v n (ix2 0 j) = v (ix2 0 (headOf n j)) := by
  pointwise [expandRow]
  rw [select_lt j.isLt (by decide)]
  split
  · exact congrArg (fun z => v (ix2 0 z)) (Fin.ext (show 2 * n.val = 2 * n.val + j.val / 64 by omega))
  · exact congrArg (fun z => v (ix2 0 z)) (Fin.ext (show 2 * n.val + 1 = 2 * n.val + j.val / 64 by omega))

theorem Pre.weighted_at (n : Fin 16) (r j : Fin 128) :
    P.weighted n (ix2 r j) = P.x n (ix2 r j) * expand P.wd n (ix2 r j) := by
  pointwise [Pre.weighted]

theorem Pre.scores_at (n : Fin 16) (r : Fin 128) (k : Fin 256) :
    P.scores n (ix2 r k) = if h : k.val < 128 then P.score (groupOf n) (lo n) (ix2 r ⟨k.val, h⟩)
      else P.score (groupOf n) (hi n) (ix2 r ⟨k.val - 128, by omega⟩) := by
  pointwise [Pre.scores]

theorem Pre.halves_at (n : Fin 16) (k : Fin 256) (j : Fin 128) :
    P.halves n (ix2 k j) = if h : k.val < 128 then (if j.val < 64 then P.x n (ix2 ⟨k.val, h⟩ j) else 0)
      else (if 64 ≤ j.val then P.x n (ix2 ⟨k.val - 128, by omega⟩ j) else 0) := by
  pointwise [Pre.halves]
  simp only [select_lt j.isLt (show 64 < 128 by decide), select_ge j.isLt (show 64 < 128 by decide)]

theorem Pre.y_at (n : Fin 16) (hT : Vec Ideal S1x128x256 .f32) (d : Vec Ideal S1x128 .f32) (r j : Fin 128) :
    P.y n hT d (ix2 r j) = (∑ k : Fin 256, P.scores n (ix2 r k) * P.halves n (ix2 k j))
      + P.off (groupOf n) hT (ix2 r (⟨128 * (n.val % 2) + j.val, by omega⟩ : Fin 256)) * expand P.ecs n (ix2 r j)
      + P.x n (ix2 r j) * d (ix2 0 j) := by
  pointwise [Pre.y, dot_S128x256_S256x128_S128x128_1_0_0_1_n_n]

theorem Pre.state_at (g : Fin 8) (hT : Vec Ideal S1x128x256 .f32) (s : Fin 128) (j : Fin 256) :
    P.state g hT (ix3 0 s j) = hT (ix3 0 s j)
        * (if h : j.val < 128 then expandRow P.tot (pair0 g) (ix2 0 ⟨j.val, h⟩) else expandRow P.tot (pair1 g) (ix2 0 ⟨j.val - 128, by omega⟩))
      + ∑ k : Fin 128, P.bT g (ix2 s k) * (if h : j.val < 128 then P.weighted (pair0 g) (ix2 k ⟨j.val, h⟩)
          else P.weighted (pair1 g) (ix2 k ⟨j.val - 128, by omega⟩)) := by
  pointwise [Pre.state, dot_S128x128_S128x256_S128x256_1_0_0_1_n_n]

end Cert.SsdIdeal.Val
-- ==== Proof.Ssd.Point.lean ====
/-
  The SSD kernel: what each grid point leaves in the output blocks and in the scratch it carries, as the payloads of the
  blocks it loads. The first chunk of a sequence starts the carried rows and the carried states from the arguments; every
  other chunk goes on with what the chunk before left.
-/
module

public import proofs.«01_k».proof.Proof.Ssd.Read
public import proofs.«01_k».proof.Proof.Gen.SsdIdeal.Value

@[expose] public section

noncomputable section

open Idealize.ShloMosaic Idealize.ShloMosaic.TcCoe Idealize.SL.Sem

namespace Cert.SsdIdeal.Val

open Cert.SsdIdeal Cert.SsdIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-! ### The padded block -/

/-- The eight carried rows followed by the block, as the body lays them out. -/
def padded (carry : Vec Ideal S8x4096 .f32) (x : Vec Ideal S128x4096 .f32) : Vec Ideal S136x4096 .f32 :=
  View.canon (Val := Elt Ideal) (s := S136x4096) (e := .f32)
    [⟨Rect.unit (s := S136x4096) ![8, 0] S128x4096.size inb_S136x4096_S128x4096_8_0, k0_pay22 x⟩,
      ⟨Rect.unit (s := S136x4096) ![0, 0] S8x4096.size inb_S136x4096_S8x4096_0_0, k0_pay21 carry⟩]

theorem padded_hi (carry : Vec Ideal S8x4096 .f32) (x : Vec Ideal S128x4096 .f32) (r : Fin 128) (j : Fin 4096) :
    padded carry x (ix2 (⟨8 + r.val, by omega⟩ : Fin 136) j) = x (ix2 r j) := by
  have e : (Rect.unit (s := S136x4096) ![8, 0] S128x4096.size inb_S136x4096_S128x4096_8_0).emb (ix2 r j)
      = (ix2 (⟨8 + r.val, by omega⟩ : Fin 136) j : S136x4096.Idx) := funext fun a => Fin.ext (by
    match a with
    | ⟨0, _⟩ => show 8 + 1 * r.val = 8 + r.val; omega
    | ⟨1, _⟩ => show 0 + 1 * j.val = j.val; omega)
  rw [← e]
  refine (View.canon_cons_emb _ _ _ _).trans ?_
  exact congrFun (shapeCast_self x _) _

theorem padded_lo (carry : Vec Ideal S8x4096 .f32) (x : Vec Ideal S128x4096 .f32) (q : Fin 8) (j : Fin 4096) :
    padded carry x (ix2 (⟨q.val, by omega⟩ : Fin 136) j) = carry (ix2 q j) := by
  have e : (Rect.unit (s := S136x4096) ![0, 0] S8x4096.size inb_S136x4096_S8x4096_0_0).emb (ix2 q j)
      = (ix2 (⟨q.val, by omega⟩ : Fin 136) j : S136x4096.Idx) := funext fun a => Fin.ext (by
    match a with
    | ⟨0, _⟩ => show 0 + 1 * q.val = q.val; omega
    | ⟨1, _⟩ => show 0 + 1 * j.val = j.val; omega)
  refine (View.canon_cons_of_not_mem _ _ fun hm => ?_).trans ?_
  · obtain ⟨y, hy⟩ := LoadRect.exists_idx_of_mem _ hm
    have h0 : 8 + 1 * (y 0).val = q.val := congrArg (fun z : S136x4096.Idx => (z 0).val) hy
    omega
  · rw [← e]
    refine (View.canon_cons_emb _ _ _ _).trans ?_
    exact congrFun (shapeCast_self carry _) _

/-- The block shifted down by `8 − o` rows over the carried rows: the load at row offset `o`. -/
def shifted (o : Nat) (ho : o ≤ 8) (carry : Vec Ideal S8x4096 .f32) (x : Vec Ideal S128x4096 .f32) : Vec Ideal S128x4096 .f32 :=
  fun i => padded carry x (ix2 (⟨o + (i 0).val, by have := (i 0).isLt; dsimp at this; omega⟩ : Fin 136) (i 1))

theorem shifted_eq {o : Nat} (ho : o ≤ 8) (inb : ∀ a, (![o, 0] : Fin 2 → Nat) a + S128x4096.size a ≤ S136x4096.size a)
    (v : View sig .tc .vmem S136x4096 .f32) (carry : Vec Ideal S8x4096 .f32) (x : Vec Ideal S128x4096 .f32) :
    v.readCov (Val := Elt Ideal) [⟨Rect.unit (s := S136x4096) ![8, 0] S128x4096.size inb_S136x4096_S128x4096_8_0, k0_pay22 x⟩,
      ⟨Rect.unit (s := S136x4096) ![0, 0] S8x4096.size inb_S136x4096_S8x4096_0_0, k0_pay21 carry⟩]
      (Rect.unit (s := S136x4096) ![o, 0] S128x4096.size inb).toLoadRect = shifted o ho carry x := by
  rw [View.readCov_eq_canon']
  funext i
  refine congrArg (padded carry x) (funext fun a => Fin.ext ?_)
  match a with
  | ⟨0, _⟩ => show o + 1 * (i 0).val = o + (i 0).val; omega
  | ⟨1, _⟩ => show 0 + 1 * (i 1).val = (i 1).val; omega

/-! ### One point -/

/-- The convolution's taps, one row each. -/
def tapRow (v : Vec Ideal S4x4096 .f32) (q : Fin 4) : Vec Ideal S1x4096 .f32 :=
  fun i => v (ix2 q (i 1))

theorem tapRow_eq (v : Vec Ideal S4x4096 .f32) (q : Nat) (hq : q < 4)
    (inb : ∀ a, (![q, 0] : Fin 2 → Nat) a + S1x4096.size a ≤ S4x4096.size a) :
    View.ld v (Rect.unit ![q, 0] S1x4096.size inb) = tapRow v ⟨q, hq⟩ := funext fun i => by
  refine congrArg v (funext fun a => Fin.ext ?_)
  match a with
  | ⟨0, _⟩ => have := (i 0).isLt; dsimp at this; show q + 1 * (i 0).val = q; omega
  | ⟨1, _⟩ => show 0 + 1 * (i 1).val = (i 1).val; omega

/-- A pair's columns of a row over the 2048 columns. -/
def pairRow (v : Vec Ideal S1x2048 .f32) (n : Fin 16) : Vec Ideal S1x128 .f32 :=
  fun i => v (ix2 0 (⟨128 * n.val + (i 1).val, by have := (i 1).isLt; dsimp at this; omega⟩ : Fin 2048))

theorem pairRow_eq (v : Vec Ideal S1x2048 .f32) (n : Nat) (hn : n < 16) {o : Nat} (ho : o = 128 * n)
    (inb : ∀ a, (![0, o] : Fin 2 → Nat) a + S1x128.size a ≤ S1x2048.size a) :
    View.ld v (Rect.unit ![0, o] S1x128.size inb) = pairRow v ⟨n, hn⟩ := funext fun i => by
  refine congrArg v (funext fun a => Fin.ext ?_)
  match a with
  | ⟨0, _⟩ => have := (i 0).isLt; dsimp at this; show 0 + 1 * (i 0).val = 0; omega
  | ⟨1, _⟩ => show o + 1 * (i 1).val = 128 * n + (i 1).val; omega

/-- One group's state. -/
def groupState (v : Vec Ideal S8x128x256 .f32) (g : Fin 8) : Vec Ideal S1x128x256 .f32 :=
  fun i => v (ix3 g (i 1) (i 2))

theorem groupState_eq (v : Vec Ideal S8x128x256 .f32) (g : Nat) (hg : g < 8)
    (inb : ∀ a, (![g, 0, 0] : Fin 3 → Nat) a + S1x128x256.size a ≤ S8x128x256.size a) :
    View.ld v (Rect.unit ![g, 0, 0] S1x128x256.size inb) = groupState v ⟨g, hg⟩ := funext fun i => by
  refine congrArg v (funext fun a => Fin.ext ?_)
  match a with
  | ⟨0, _⟩ => have := (i 0).isLt; dsimp at this; show g + 1 * (i 0).val = g; omega
  | ⟨1, _⟩ => show 0 + 1 * (i 1).val = (i 1).val; omega
  | ⟨2, _⟩ => show 0 + 1 * (i 2).val = (i 2).val; omega

/-- One group's block of the states the run starts from. -/
def startBlock (v : Vec Ideal S1x8x256x128 .f32) (g : Fin 8) : Vec Ideal S1x1x256x128 .f32 :=
  fun i => v (ix4 0 g (i 2) (i 3))

theorem startBlock_eq (v : Vec Ideal S1x8x256x128 .f32) (g : Nat) (hg : g < 8)
    (inb : ∀ a, (![0, g, 0, 0] : Fin 4 → Nat) a + S1x1x256x128.size a ≤ S1x8x256x128.size a) :
    View.ld v (Rect.unit ![0, g, 0, 0] S1x1x256x128.size inb) = startBlock v ⟨g, hg⟩ := funext fun i => by
  refine congrArg v (funext fun a => Fin.ext ?_)
  match a with
  | ⟨0, _⟩ => have := (i 0).isLt; dsimp at this; show 0 + 1 * (i 0).val = 0; omega
  | ⟨1, _⟩ => have := (i 1).isLt; dsimp at this; show g + 1 * (i 1).val = g; omega
  | ⟨2, _⟩ => show 0 + 1 * (i 2).val = (i 2).val; omega
  | ⟨3, _⟩ => show 0 + 1 * (i 3).val = (i 3).val; omega

/-- The carried state of a group as the first chunk starts it: the argument's block turned over. -/
def startState (v : Vec Ideal S1x8x256x128 .f32) : Fin 8 → FVec Ideal S1x128x256 .f32
  | ⟨0, _⟩ => k0_pay7 (startBlock v 0)
  | ⟨1, _⟩ => k0_pay8 (startBlock v 1)
  | ⟨2, _⟩ => k0_pay9 (startBlock v 2)
  | ⟨3, _⟩ => k0_pay11 (k0_pay10 (startBlock v 3))
  | ⟨4, _⟩ => k0_pay12 (startBlock v 4)
  | ⟨5, _⟩ => k0_pay13 (startBlock v 5)
  | ⟨6, _⟩ => k0_pay14 (startBlock v 6)
  | ⟨7, _⟩ => k0_pay20 (k0_pay15 (startBlock v 7))

theorem startState_eq (v : Vec Ideal S1x8x256x128 .f32) (g : Fin 8) : startState v g = k0_pay7 (startBlock v g) := by
  fin_cases g <;> rfl

/-- The block of a group's last state as the last chunk writes it: the state turned over. -/
def lastState (h : Fin 8 → Vec Ideal S1x128x256 .f32) : Fin 8 → FVec Ideal S1x1x256x128 .f32
  | ⟨0, _⟩ => k0_pay16 (h 0)
  | ⟨1, _⟩ => k0_pay17 (h 1)
  | ⟨2, _⟩ => k0_pay18 (h 2)
  | ⟨3, _⟩ => k0_pay19 (h 3)
  | ⟨4, _⟩ => k0_pay2 (h 4)
  | ⟨5, _⟩ => k0_pay3 (h 5)
  | ⟨6, _⟩ => k0_pay4 (h 6)
  | ⟨7, _⟩ => k0_pay5 (h 7)

theorem lastState_eq (h : Fin 8 → Vec Ideal S1x128x256 .f32) (g : Fin 8) : lastState h g = k0_pay16 (h g) := by
  fin_cases g <;> rfl

/-- Eight groups' states one under the other. -/
def rows (V : Fin 8 → Vec Ideal S1x128x256 .f32) : Vec Ideal S8x128x256 .f32 :=
  fun i => V (i 0) (ix3 0 (i 1) (i 2))

/-- Eight groups' last states one under the other. -/
def lastRows (V : Fin 8 → Vec Ideal S1x1x256x128 .f32) : Vec Ideal S1x8x256x128 .f32 :=
  fun i => V (i 1) (ix4 0 0 (i 2) (i 3))

/-- A load of one group's rows does not see a store into another's. -/
theorem readCov_other {k g : Nat} (h : k ≠ g) (v : View sig .tc .vmem S8x128x256 .f32) (x : Vec Ideal S1x128x256 .f32)
    (L : List (View.Piece (Elt Ideal) S8x128x256 .f32))
    (inb : ∀ a, (![k, 0, 0] : Fin 3 → Nat) a + S1x128x256.size a ≤ S8x128x256.size a)
    (inb' : ∀ a, (![g, 0, 0] : Fin 3 → Nat) a + S1x128x256.size a ≤ S8x128x256.size a) :
    v.readCov (Val := Elt Ideal) ((⟨Rect.unit (s := S8x128x256) ![k, 0, 0] (no_index S1x128x256.size) inb, x⟩ : View.Piece (Elt Ideal) S8x128x256 .f32) :: L)
        (Rect.unit (s := S8x128x256) ![g, 0, 0] (no_index S1x128x256.size) inb').toLoadRect
      = v.readCov L (Rect.unit (s := S8x128x256) ![g, 0, 0] S1x128x256.size inb').toLoadRect :=
  View.readCov_cons_of_disjoint v _ L _ (Rect.unit_disjoint (inb := inb) (inb' := inb') 0 (by
    show k + 1 ≤ g ∨ g + 1 ≤ k
    omega))

/-- A store into a group's rows is read at that group. -/
theorem canon_hit {g : Nat} (hg : g < 8) (x : Vec Ideal S1x128x256 .f32) (L : List (View.Piece (Elt Ideal) S8x128x256 .f32))
    (inb : ∀ a, (![g, 0, 0] : Fin 3 → Nat) a + S1x128x256.size a ≤ S8x128x256.size a) (s : Fin 128) (j : Fin 256) :
    View.canon (⟨Rect.unit (s := S8x128x256) ![g, 0, 0] S1x128x256.size inb, x⟩ :: L) (ix3 (⟨g, hg⟩ : Fin 8) s j)
      = x (ix3 0 s j) := by
  have e : (Rect.unit (s := S8x128x256) ![g, 0, 0] S1x128x256.size inb).emb (ix3 (0 : Fin 1) s j)
      = (ix3 (⟨g, hg⟩ : Fin 8) s j : S8x128x256.Idx) := funext fun a => Fin.ext (by
    match a with
    | ⟨0, _⟩ => show g + 1 * 0 = g; omega
    | ⟨1, _⟩ => show 0 + 1 * s.val = s.val; omega
    | ⟨2, _⟩ => show 0 + 1 * j.val = j.val; omega)
  rw [← e]
  exact View.canon_cons_emb _ _ _ _

/-- A store into another group's rows is not. -/
theorem canon_miss {k : Nat} (x : Vec Ideal S1x128x256 .f32) (L : List (View.Piece (Elt Ideal) S8x128x256 .f32))
    (inb : ∀ a, (![k, 0, 0] : Fin 3 → Nat) a + S1x128x256.size a ≤ S8x128x256.size a) {g : Fin 8} (h : k ≠ g.val) (s : Fin 128) (j : Fin 256) :
    View.canon (⟨Rect.unit (s := S8x128x256) ![k, 0, 0] S1x128x256.size inb, x⟩ :: L) (ix3 g s j)
      = View.canon L (ix3 g s j) :=
  View.canon_cons_of_not_mem _ _ fun hm => by
    obtain ⟨y, hy⟩ := LoadRect.exists_idx_of_mem _ hm
    have h0 : k + 1 * (y 0).val = g.val := congrArg (fun z : S8x128x256.Idx => (z 0).val) hy
    have := (y 0).isLt
    dsimp at this
    omega

/-- After a store into each group the scratch holds the eight of them. -/
theorem canon_rows (V : Fin 8 → Vec Ideal S1x128x256 .f32) (L : List (View.Piece (Elt Ideal) S8x128x256 .f32)) :
    View.canon (
      ⟨Rect.unit (s := S8x128x256) ![7, 0, 0] S1x128x256.size inb_S8x128x256_S1x128x256_7_0_0, V 7⟩ ::
      ⟨Rect.unit (s := S8x128x256) ![6, 0, 0] S1x128x256.size inb_S8x128x256_S1x128x256_6_0_0, V 6⟩ ::
      ⟨Rect.unit (s := S8x128x256) ![5, 0, 0] S1x128x256.size inb_S8x128x256_S1x128x256_5_0_0, V 5⟩ ::
      ⟨Rect.unit (s := S8x128x256) ![4, 0, 0] S1x128x256.size inb_S8x128x256_S1x128x256_4_0_0, V 4⟩ ::
      ⟨Rect.unit (s := S8x128x256) ![3, 0, 0] S1x128x256.size inb_S8x128x256_S1x128x256_3_0_0, V 3⟩ ::
      ⟨Rect.unit (s := S8x128x256) ![2, 0, 0] S1x128x256.size inb_S8x128x256_S1x128x256_2_0_0, V 2⟩ ::
      ⟨Rect.unit (s := S8x128x256) ![1, 0, 0] S1x128x256.size inb_S8x128x256_S1x128x256_1_0_0, V 1⟩ ::
      ⟨Rect.unit (s := S8x128x256) ![0, 0, 0] S1x128x256.size inb_S8x128x256_S1x128x256_0_0_0, V 0⟩ :: L) = rows V := by
  funext i
  obtain ⟨g, s, j, rfl⟩ : ∃ g s j, i = ix3 g s j := ⟨i 0, i 1, i 2, funext fun a => by fin_cases a <;> rfl⟩
  show _ = V g (ix3 0 s j)
  fin_cases g
  · exact (canon_miss _ _ _ (by decide) s j).trans <| (canon_miss _ _ _ (by decide) s j).trans <| (canon_miss _ _ _ (by decide) s j).trans <| (canon_miss _ _ _ (by decide) s j).trans <| (canon_miss _ _ _ (by decide) s j).trans <| (canon_miss _ _ _ (by decide) s j).trans <| (canon_miss _ _ _ (by decide) s j).trans <| canon_hit (by decide) _ _ _ s j
  · exact (canon_miss _ _ _ (by decide) s j).trans <| (canon_miss _ _ _ (by decide) s j).trans <| (canon_miss _ _ _ (by decide) s j).trans <| (canon_miss _ _ _ (by decide) s j).trans <| (canon_miss _ _ _ (by decide) s j).trans <| (canon_miss _ _ _ (by decide) s j).trans <| canon_hit (by decide) _ _ _ s j
  · exact (canon_miss _ _ _ (by decide) s j).trans <| (canon_miss _ _ _ (by decide) s j).trans <| (canon_miss _ _ _ (by decide) s j).trans <| (canon_miss _ _ _ (by decide) s j).trans <| (canon_miss _ _ _ (by decide) s j).trans <| canon_hit (by decide) _ _ _ s j
  · exact (canon_miss _ _ _ (by decide) s j).trans <| (canon_miss _ _ _ (by decide) s j).trans <| (canon_miss _ _ _ (by decide) s j).trans <| (canon_miss _ _ _ (by decide) s j).trans <| canon_hit (by decide) _ _ _ s j
  · exact (canon_miss _ _ _ (by decide) s j).trans <| (canon_miss _ _ _ (by decide) s j).trans <| (canon_miss _ _ _ (by decide) s j).trans <| canon_hit (by decide) _ _ _ s j
  · exact (canon_miss _ _ _ (by decide) s j).trans <| (canon_miss _ _ _ (by decide) s j).trans <| canon_hit (by decide) _ _ _ s j
  · exact (canon_miss _ _ _ (by decide) s j).trans <| canon_hit (by decide) _ _ _ s j
  · exact  canon_hit (by decide) _ _ _ s j

/-- The same for the eight blocks of the last states. -/
theorem lastHit {g : Nat} (hg : g < 8) (x : Vec Ideal S1x1x256x128 .f32) (L : List (View.Piece (Elt Ideal) S1x8x256x128 .f32))
    (inb : ∀ a, (![0, g, 0, 0] : Fin 4 → Nat) a + S1x1x256x128.size a ≤ S1x8x256x128.size a) (j : Fin 256) (s : Fin 128) :
    View.canon (⟨Rect.unit (s := S1x8x256x128) ![0, g, 0, 0] S1x1x256x128.size inb, x⟩ :: L) (ix4 0 (⟨g, hg⟩ : Fin 8) j s)
      = x (ix4 0 0 j s) := by
  have e : (Rect.unit (s := S1x8x256x128) ![0, g, 0, 0] S1x1x256x128.size inb).emb (ix4 (0 : Fin 1) (0 : Fin 1) j s)
      = (ix4 0 (⟨g, hg⟩ : Fin 8) j s : S1x8x256x128.Idx) := funext fun a => Fin.ext (by
    match a with
    | ⟨0, _⟩ => rfl
    | ⟨1, _⟩ => show g + 1 * 0 = g; omega
    | ⟨2, _⟩ => show 0 + 1 * j.val = j.val; omega
    | ⟨3, _⟩ => show 0 + 1 * s.val = s.val; omega)
  rw [← e]
  exact View.canon_cons_emb _ _ _ _

theorem lastMiss {k : Nat} (x : Vec Ideal S1x1x256x128 .f32) (L : List (View.Piece (Elt Ideal) S1x8x256x128 .f32))
    (inb : ∀ a, (![0, k, 0, 0] : Fin 4 → Nat) a + S1x1x256x128.size a ≤ S1x8x256x128.size a) {g : Fin 8} (h : k ≠ g.val)
    (j : Fin 256) (s : Fin 128) :
    View.canon (⟨Rect.unit (s := S1x8x256x128) ![0, k, 0, 0] S1x1x256x128.size inb, x⟩ :: L) (ix4 0 g j s)
      = View.canon L (ix4 0 g j s) :=
  View.canon_cons_of_not_mem _ _ fun hm => by
    obtain ⟨y, hy⟩ := LoadRect.exists_idx_of_mem _ hm
    have h0 : k + 1 * (y 1).val = g.val := congrArg (fun z : S1x8x256x128.Idx => (z 1).val) hy
    have := (y 1).isLt
    dsimp at this
    omega

theorem canon_lastRows (V : Fin 8 → Vec Ideal S1x1x256x128 .f32) (L : List (View.Piece (Elt Ideal) S1x8x256x128 .f32)) :
    View.canon (
      ⟨Rect.unit (s := S1x8x256x128) ![0, 7, 0, 0] S1x1x256x128.size inb_S1x8x256x128_S1x1x256x128_0_7_0_0, V 7⟩ ::
      ⟨Rect.unit (s := S1x8x256x128) ![0, 6, 0, 0] S1x1x256x128.size inb_S1x8x256x128_S1x1x256x128_0_6_0_0, V 6⟩ ::
      ⟨Rect.unit (s := S1x8x256x128) ![0, 5, 0, 0] S1x1x256x128.size inb_S1x8x256x128_S1x1x256x128_0_5_0_0, V 5⟩ ::
      ⟨Rect.unit (s := S1x8x256x128) ![0, 4, 0, 0] S1x1x256x128.size inb_S1x8x256x128_S1x1x256x128_0_4_0_0, V 4⟩ ::
      ⟨Rect.unit (s := S1x8x256x128) ![0, 3, 0, 0] S1x1x256x128.size inb_S1x8x256x128_S1x1x256x128_0_3_0_0, V 3⟩ ::
      ⟨Rect.unit (s := S1x8x256x128) ![0, 2, 0, 0] S1x1x256x128.size inb_S1x8x256x128_S1x1x256x128_0_2_0_0, V 2⟩ ::
      ⟨Rect.unit (s := S1x8x256x128) ![0, 1, 0, 0] S1x1x256x128.size inb_S1x8x256x128_S1x1x256x128_0_1_0_0, V 1⟩ ::
      ⟨Rect.unit (s := S1x8x256x128) ![0, 0, 0, 0] S1x1x256x128.size inb_S1x8x256x128_S1x1x256x128_0_0_0_0, V 0⟩ :: L) = lastRows V := by
  funext i
  obtain ⟨u, g, j, s, rfl⟩ : ∃ (u : Fin 1) (g : Fin 8) (j : Fin 256) (s : Fin 128), i = ix4 u g j s :=
    ⟨i 0, i 1, i 2, i 3, funext fun a => by fin_cases a <;> rfl⟩
  obtain rfl : u = 0 := Subsingleton.elim _ _
  show _ = V g (ix4 0 0 j s)
  fin_cases g
  · exact (lastMiss _ _ _ (by decide) j s).trans <| (lastMiss _ _ _ (by decide) j s).trans <| (lastMiss _ _ _ (by decide) j s).trans <| (lastMiss _ _ _ (by decide) j s).trans <| (lastMiss _ _ _ (by decide) j s).trans <| (lastMiss _ _ _ (by decide) j s).trans <| (lastMiss _ _ _ (by decide) j s).trans <| lastHit (by decide) _ _ _ j s
  · exact (lastMiss _ _ _ (by decide) j s).trans <| (lastMiss _ _ _ (by decide) j s).trans <| (lastMiss _ _ _ (by decide) j s).trans <| (lastMiss _ _ _ (by decide) j s).trans <| (lastMiss _ _ _ (by decide) j s).trans <| (lastMiss _ _ _ (by decide) j s).trans <| lastHit (by decide) _ _ _ j s
  · exact (lastMiss _ _ _ (by decide) j s).trans <| (lastMiss _ _ _ (by decide) j s).trans <| (lastMiss _ _ _ (by decide) j s).trans <| (lastMiss _ _ _ (by decide) j s).trans <| (lastMiss _ _ _ (by decide) j s).trans <| lastHit (by decide) _ _ _ j s
  · exact (lastMiss _ _ _ (by decide) j s).trans <| (lastMiss _ _ _ (by decide) j s).trans <| (lastMiss _ _ _ (by decide) j s).trans <| (lastMiss _ _ _ (by decide) j s).trans <| lastHit (by decide) _ _ _ j s
  · exact (lastMiss _ _ _ (by decide) j s).trans <| (lastMiss _ _ _ (by decide) j s).trans <| (lastMiss _ _ _ (by decide) j s).trans <| lastHit (by decide) _ _ _ j s
  · exact (lastMiss _ _ _ (by decide) j s).trans <| (lastMiss _ _ _ (by decide) j s).trans <| lastHit (by decide) _ _ _ j s
  · exact (lastMiss _ _ _ (by decide) j s).trans <| lastHit (by decide) _ _ _ j s
  · exact  lastHit (by decide) _ _ _ j s

section One

variable (x : Vec Ideal S128x4096 .f32) (carry : Vec Ideal S8x4096 .f32) (cw : Vec Ideal S4x4096 .f32) (cb : Vec Ideal S1x4096 .f32)
  (dt : Vec Ideal S128x128 .f32) (dtb alog : Vec Ideal S1x128 .f32)

/-- What the point computes before it looks at a group. -/
def pre : Pre where
  xs := k0_pay27 (k0_pay24 x cb (tapRow cw 3) (tapRow cw 0) (shifted 5 (by decide) carry x)) (shifted 6 (by decide) carry x)
    (k0_pay25 (tapRow cw 1)) (tapRow cw 2) (shifted 7 (by decide) carry x)
  B := k0_pay28 (k0_pay24 x cb (tapRow cw 3) (tapRow cw 0) (shifted 5 (by decide) carry x)) (shifted 6 (by decide) carry x)
    (k0_pay25 (tapRow cw 1)) (tapRow cw 2) (shifted 7 (by decide) carry x)
  C := k0_pay29 (k0_pay24 x cb (tapRow cw 3) (tapRow cw 0) (shifted 5 (by decide) carry x)) (shifted 6 (by decide) carry x)
    (k0_pay25 (tapRow cw 1)) (tapRow cw 2) (shifted 7 (by decide) carry x)
  cs := k0_pay32 dt dtb alog
  csT := k0_pay33 dt dtb alog
  dtT := k0_pay34 dt dtb
  ecs := k0_pay36 dt dtb alog
  wd := k0_pay38 (k0_pay31 dt dtb) (k0_pay37 dt dtb alog)
  tot := k0_pay39 (k0_pay35 dt dtb alog)

end One

/-! ### The points of the run -/

variable (m : (ℓ : Loc nD τ sig) → Buf (Elt Ideal) ℓ) (c : Dev nD) (t : Fin cfg0.N)

/-- The output block at the first chunk of a sequence. -/
theorem out_A (h0 : t.val % 16 = 0) (h1 : ¬t.val % 16 = 15) :
    (outsAt0 m c t.val t.isLt).1
      = payOut (payAll (pre (X0_0 m c t) (k0_pay6 (iblk m c 3 t)) (iblk m c 5 t) (iblk m c 6 t) (iblk m c 2 t) (iblk m c 7 t) (iblk m c 8 t)) (startState (iblk m c 4 t)) (pairRow (iblk m c 9 t))) (iblk m c 1 t) (iblk m c 10 t) := by
  rw [outsAt0_A m c t h0 h1]
  dsimp only
  unfold out0_A_11
  rw [View.read_writes_junk_eq_canon]
  unfold kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  rfl

/-- The carried rows at the first chunk of a sequence. -/
theorem carry_A (h0 : t.val % 16 = 0) (h1 : ¬t.val % 16 = 15) :
    (outsAt0 m c t.val t.isLt).2.2.1 = k0_pay23 (X0_0 m c t) := by
  rw [outsAt0_A m c t h0 h1]
  dsimp only
  unfold sout0_A_1
  rw [View.read_writes_junk_eq_canon]
  unfold kernelRun0_A
  dsimp only
  sl_unfold_words
  rw [View.canon_cons_unit_zero hz]
  simp only [View.readAt_eq_ld, (hs0_0 t).read_unread, View.ld_unit_zero (S := S128x4096) hz]

/-- The carried states at the first chunk of a sequence. -/
theorem state_A (h0 : t.val % 16 = 0) (h1 : ¬t.val % 16 = 15) :
    (outsAt0 m c t.val t.isLt).2.2.2
      = rows (fun g => payState (pre (X0_0 m c t) (k0_pay6 (iblk m c 3 t)) (iblk m c 5 t) (iblk m c 6 t) (iblk m c 2 t) (iblk m c 7 t) (iblk m c 8 t)) (startState (iblk m c 4 t) g) g) := by
  rw [outsAt0_A m c t h0 h1]
  dsimp only
  unfold sout0_A_2
  rw [View.read_writes_junk_eq_canon]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  exact canon_rows (fun g => payState (pre (X0_0 m c t) (k0_pay6 (iblk m c 3 t)) (iblk m c 5 t) (iblk m c 6 t) (iblk m c 2 t) (iblk m c 7 t) (iblk m c 8 t)) (startState (iblk m c 4 t) g) g) _

/-- The output block at a chunk in the middle. -/
theorem out_B (h0 : ¬t.val % 16 = 0) (h1 : ¬t.val % 16 = 15) :
    (outsAt0 m c t.val t.isLt).1
      = payOut (payAll (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2) (pairRow (iblk m c 9 t))) (iblk m c 1 t) (iblk m c 10 t) := by
  rw [outsAt0_B m c t h0 h1]
  dsimp only
  unfold out0_B_11
  rw [View.read_writes_junk_eq_canon]
  unfold kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  rfl

/-- The carried rows at a chunk in the middle. -/
theorem carry_B (h0 : ¬t.val % 16 = 0) (h1 : ¬t.val % 16 = 15) :
    (outsAt0 m c t.val t.isLt).2.2.1 = k0_pay23 (X0_0 m c t) := by
  rw [outsAt0_B m c t h0 h1]
  dsimp only
  unfold sout0_B_1
  rw [View.read_writes_junk_eq_canon]
  unfold kernelRun0_B
  dsimp only
  sl_unfold_words
  rw [View.canon_cons_unit_zero hz]
  simp only [View.readAt_eq_ld, (hs0_0 t).read_unread, View.ld_unit_zero (S := S128x4096) hz]

/-- The carried states at a chunk in the middle. -/
theorem state_B (h0 : ¬t.val % 16 = 0) (h1 : ¬t.val % 16 = 15) :
    (outsAt0 m c t.val t.isLt).2.2.2
      = rows (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g) := by
  rw [outsAt0_B m c t h0 h1]
  dsimp only
  unfold sout0_B_2
  rw [View.read_writes_junk_eq_canon]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  exact canon_rows (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g) _

/-- The output block at the last chunk. -/
theorem out_C (h0 : ¬t.val % 16 = 0) (h1 : t.val % 16 = 15) :
    (outsAt0 m c t.val t.isLt).1
      = payOut (payAll (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2) (pairRow (iblk m c 9 t))) (iblk m c 1 t) (iblk m c 10 t) := by
  rw [outsAt0_C m c t h0 h1]
  dsimp only
  unfold out0_C_11
  rw [View.read_writes_junk_eq_canon]
  unfold kernelRun0_C
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  rfl

/-- The carried rows at the last chunk. -/
theorem carry_C (h0 : ¬t.val % 16 = 0) (h1 : t.val % 16 = 15) :
    (outsAt0 m c t.val t.isLt).2.2.1 = k0_pay23 (X0_0 m c t) := by
  rw [outsAt0_C m c t h0 h1]
  dsimp only
  unfold sout0_C_1
  rw [View.read_writes_junk_eq_canon]
  unfold kernelRun0_C
  dsimp only
  sl_unfold_words
  rw [View.canon_cons_unit_zero hz]
  simp only [View.readAt_eq_ld, (hs0_0 t).read_unread, View.ld_unit_zero (S := S128x4096) hz]

/-- The carried states at the last chunk. -/
theorem state_C (h0 : ¬t.val % 16 = 0) (h1 : t.val % 16 = 15) :
    (outsAt0 m c t.val t.isLt).2.2.2
      = rows (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g) := by
  rw [outsAt0_C m c t h0 h1]
  dsimp only
  unfold sout0_C_2
  rw [View.read_writes_junk_eq_canon]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  exact canon_rows (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g) _

set_option maxHeartbeats 1000000 in
/-- The block of last states at the last chunk. -/
theorem last_C (h0 : ¬t.val % 16 = 0) (h1 : t.val % 16 = 15) :
    (outsAt0 m c t.val t.isLt).2.1
      = lastRows (lastState (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g)) := by
  rw [outsAt0_C m c t h0 h1]
  dsimp only
  unfold out0_C_12
  rw [View.read_writes_junk_eq_canon]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (Memref.isWhole_whole _).read_unread, View.ld_unit_zero (S := S128x4096) hz, View.ld_unit_zero (S := S1x4096) hz,
    View.ld_unit_zero (S := S128x2048) hz, View.ld_unit_zero (S := S1x2048) hz, View.ld_unit_zero (S := S128x128) hz, View.ld_unit_zero (S := S1x128) hz,
    View.ld_unit_zero (S := S8x4096) hz, View.ld_unit_zero (S := S1x8x4096) hz3,
    View.readCov_unit_zero (S := S8x4096) _ hz,
    shifted_eq (o := 5) (by decide), shifted_eq (o := 6) (by decide), shifted_eq (o := 7) (by decide)]
  try simp (decide := true) only [View.readCov_cons_toLoadRect, readCov_other]
  simp only [tapRow_eq _ 0 (by decide), tapRow_eq _ 1 (by decide), tapRow_eq _ 2 (by decide), tapRow_eq _ 3 (by decide),
    groupState_eq _ 0 (by decide), groupState_eq _ 1 (by decide), groupState_eq _ 2 (by decide), groupState_eq _ 3 (by decide), groupState_eq _ 4 (by decide), groupState_eq _ 5 (by decide), groupState_eq _ 6 (by decide), groupState_eq _ 7 (by decide),
    startBlock_eq _ 0 (by decide), startBlock_eq _ 1 (by decide), startBlock_eq _ 2 (by decide), startBlock_eq _ 3 (by decide), startBlock_eq _ 4 (by decide), startBlock_eq _ 5 (by decide), startBlock_eq _ 6 (by decide), startBlock_eq _ 7 (by decide),
    pairRow_eq _ 0 (by decide) (o := 0) rfl, pairRow_eq _ 1 (by decide) (o := 128) rfl, pairRow_eq _ 2 (by decide) (o := 256) rfl, pairRow_eq _ 3 (by decide) (o := 384) rfl,
    pairRow_eq _ 4 (by decide) (o := 512) rfl, pairRow_eq _ 5 (by decide) (o := 640) rfl, pairRow_eq _ 6 (by decide) (o := 768) rfl, pairRow_eq _ 7 (by decide) (o := 896) rfl,
    pairRow_eq _ 8 (by decide) (o := 1024) rfl, pairRow_eq _ 9 (by decide) (o := 1152) rfl, pairRow_eq _ 10 (by decide) (o := 1280) rfl, pairRow_eq _ 11 (by decide) (o := 1408) rfl,
    pairRow_eq _ 12 (by decide) (o := 1536) rfl, pairRow_eq _ 13 (by decide) (o := 1664) rfl, pairRow_eq _ 14 (by decide) (o := 1792) rfl, pairRow_eq _ 15 (by decide) (o := 1920) rfl]
  exact canon_lastRows (lastState (fun g => payState (pre (X0_0 m c t) ((outsAt0 m c (t.val - 1) (Nat.lt_of_le_of_lt (Nat.sub_le _ _) t.isLt)).2.2.1) (iblk m c 5 t) (iblk m c 6 t) (iblk m c 2 t) (iblk m c 7 t) (iblk m c 8 t)) (groupState (outsAt0 m c (t.val - 1) (Nat.lt_of_le_of_lt (Nat.sub_le _ _) t.isLt)).2.2.2 g) g)) _

end Cert.SsdIdeal.Val
-- ==== Proof.Math.Row.lean ====
/-
  The row functions of the layer, over the extended reals: the root-mean-square norm of a row, and the
  out-projection + feed-forward block applied to one row. Nothing here mentions a program: the widths of the mixer
  output and of the hidden layer are parameters, so that both kinds of layer use the same text.
-/
module

public import Idealize.ShloMosaic.Lib.Pointwise

@[expose] public section

noncomputable section

namespace Cert.Row

open Idealize.ShloMosaic

/-- The number the norm adds to the mean square (the f32 nearest 1e-6). -/
abbrev eps : EReal := Ideal.ofBits FTy.f32 897988541#32

/-- The width 1024 of the model, the divisor of the mean. -/
abbrev width : EReal := Ideal.ofBits FTy.f32 1149239296#32

/-- The root-mean-square norm of the row `v`, scaled by `g`. -/
def rms (v g : Fin 1024 → EReal) (j : Fin 1024) : EReal :=
  v j * Ideal.rsqrt (Ideal.div (∑ x, v x * v x) width + eps) * g j

/-- The residual stream after the mixer: `x + norm(y · wo + bo)`. -/
def mixed {K : Nat} (y : Fin K → EReal) (x : Fin 1024 → EReal) (wo : Fin K → Fin 1024 → EReal)
    (bo g : Fin 1024 → EReal) (j : Fin 1024) : EReal :=
  x j + rms (fun j => (∑ k, y k * wo k j) + bo j) g j

/-- The squared-relu hidden unit of one column: `max(hn · w, 0)²`. -/
def unit (hn w : Fin 1024 → EReal) : EReal :=
  max (∑ k, hn k * w k) 0 * max (∑ k, hn k * w k) 0

/-- The feed-forward product of a normalized row: `∑ f, unit_f · w2 f j`. -/
def ffnSum {H : Nat} (hn : Fin 1024 → EReal) (w1 : Fin 1024 → Fin H → EReal) (w2 : Fin H → Fin 1024 → EReal)
    (j : Fin 1024) : EReal :=
  ∑ f, unit hn (fun k => w1 k f) * w2 f j

/-- One row of the block: the mixer's residual `x1`, then `x1 + norm(ffn(norm x1))`. -/
def block {K H : Nat} (y : Fin K → EReal) (x : Fin 1024 → EReal) (wo : Fin K → Fin 1024 → EReal)
    (bo gmix gpre : Fin 1024 → EReal) (w1 : Fin 1024 → Fin H → EReal) (w2 : Fin H → Fin 1024 → EReal)
    (gffn : Fin 1024 → EReal) (j : Fin 1024) : EReal :=
  mixed y x wo bo gmix j + rms (ffnSum (rms (mixed y x wo bo gmix) gpre) w1 w2) gffn j

/-- A sum over 4096 is the sum of its four quarters, added first to last. -/
theorem sum_quarters (f : Fin 4096 → EReal) :
    ∑ k, f k = (((∑ k : Fin 1024, f ⟨k, by omega⟩) + ∑ k : Fin 1024, f ⟨1024 + k, by omega⟩)
      + ∑ k : Fin 1024, f ⟨2048 + k, by omega⟩) + ∑ k : Fin 1024, f ⟨3072 + k, by omega⟩ := by
  have h1 := Fin.sum_univ_add (a := 1024 + 1024 + 1024) (b := 1024) f
  have h2 := Fin.sum_univ_add (a := 1024 + 1024) (b := 1024) (fun i => f (Fin.castAdd 1024 i))
  have h3 := Fin.sum_univ_add (a := 1024) (b := 1024) (fun i => f (Fin.castAdd 1024 (Fin.castAdd 1024 i)))
  rw [h3] at h2
  rw [h2] at h1
  exact h1

end Cert.Row
-- ==== Proof.Math.Ssd.lean ====
/-
  The SSD layer of one sequence over the extended reals, chunk by chunk. `seq` is the input with the three rows of
  convolution state in front: `seq (t + 3)` is the input at time `t`; `dt t` are the step sizes of time `t` before their
  softplus. A chunk is 128 rows; the 2048 columns are 32 heads of 64, four heads to a group.
-/
module

public import proofs.«01_k».proof.Proof.Math.Row

@[expose] public section

noncomputable section

namespace Cert.Ssd

open Idealize.ShloMosaic

/-- The parameters of one SSD layer: the convolution's four taps and its bias, the step sizes' bias, the decay parameter
    and the skip of each head, the norm's scale. -/
structure Params where
  cw : Fin 4 → Fin 4096 → EReal
  cb : Fin 4096 → EReal
  dtb : Fin 32 → EReal
  alog : Fin 32 → EReal
  dsk : Fin 32 → EReal
  ng : Fin 2048 → EReal

/-- The head of a column, and its group. -/
abbrev headCol (j : Fin 2048) : Fin 32 := ⟨j.val / 64, by omega⟩
abbrev groupCol (j : Fin 2048) : Fin 8 := ⟨j.val / 256, by omega⟩

/-- `log(1 + eᵘ)`. -/
def softplus (u : EReal) : EReal := max u 0 + Ideal.log1p (Ideal.exp (-max u (-u)))

/-- The width 256 of a group, the divisor of the mean. -/
abbrev width : EReal := Ideal.ofBits FTy.f32 1132462080#32

/-- The root-mean-square norm of a row within each group of 256 columns, scaled by `ng`. -/
def groupNorm (v ng : Fin 2048 → EReal) (j : Fin 2048) : EReal :=
  v j * Ideal.rsqrt (Ideal.div (∑ x : Fin 256, v ⟨256 * (j.val / 256) + x.val, by omega⟩ * v ⟨256 * (j.val / 256) + x.val, by omega⟩) width
    + Row.eps) * ng j

/-- The sequence of batch entry `b`: the three rows of convolution state, then the entry's 2048 rows of the projection's
    first 4096 columns. -/
def inputs (proj : Fin 16384 → Fin 6144 → EReal) (c0 : Fin 3 → Fin 4096 → EReal) (b n : Nat) (j : Fin 4096) : EReal :=
  if h : n < 3 then c0 ⟨n, h⟩ j
  else if h : 2048 * b + (n - 3) < 16384 then proj ⟨2048 * b + (n - 3), h⟩ ⟨j.val, by omega⟩ else 0

theorem inputs_front (proj : Fin 16384 → Fin 6144 → EReal) (c0 : Fin 3 → Fin 4096 → EReal) (b : Nat) (q : Fin 3) (j : Fin 4096) :
    inputs proj c0 b q.val j = c0 q j := dif_pos q.isLt

theorem inputs_row (proj : Fin 16384 → Fin 6144 → EReal) (c0 : Fin 3 → Fin 4096 → EReal) (b n : Nat) (j : Fin 4096)
    {i : Fin 16384} (h3 : 3 ≤ n) (hi : i.val = 2048 * b + (n - 3)) :
    inputs proj c0 b n j = proj i ⟨j.val, by omega⟩ := by
  unfold inputs
  rw [dif_neg (by omega), dif_pos (by omega : 2048 * b + (n - 3) < 16384)]
  exact congrArg (proj · _) (Fin.ext hi.symm)

/-- The step sizes of batch entry `b`, before bias and softplus. -/
def steps (dt : Fin 16384 → Fin 128 → EReal) (b t : Nat) (h : Fin 32) : EReal :=
  if q : 2048 * b + t < 16384 then dt ⟨2048 * b + t, q⟩ ⟨h.val, by omega⟩ else 0

theorem steps_row (dt : Fin 16384 → Fin 128 → EReal) (b t : Nat) (h : Fin 32) {i : Fin 16384} (hi : i.val = 2048 * b + t) :
    steps dt b t h = dt i ⟨h.val, by omega⟩ := by
  unfold steps
  rw [dif_pos (by omega : 2048 * b + t < 16384)]
  exact congrArg (dt · _) (Fin.ext hi.symm)

namespace Params

variable (P : Params) (seq : Nat → Fin 4096 → EReal) (dt : Nat → Fin 32 → EReal) (h0 : Fin 2048 → Fin 128 → EReal)

/-- The convolution at time `t`. -/
def conv (t : Nat) (j : Fin 4096) : EReal :=
  (((P.cb j + P.cw 3 j * seq (t + 3) j) + P.cw 0 j * seq t j) + P.cw 1 j * seq (t + 1) j) + P.cw 2 j * seq (t + 2) j

/-- The convolution through the silu. -/
def xbc (t : Nat) (j : Fin 4096) : EReal := P.conv seq t j * Ideal.logistic (P.conv seq t j)

/-- The silu's columns: the heads' inputs, and each group's `B` and `C`. -/
def xcol (t : Nat) (j : Fin 2048) : EReal := P.xbc seq t ⟨j.val, by omega⟩
def bcol (t : Nat) (g : Fin 8) (n : Fin 128) : EReal := P.xbc seq t ⟨2048 + (128 * g.val + n.val), by omega⟩
def ccol (t : Nat) (g : Fin 8) (n : Fin 128) : EReal := P.xbc seq t ⟨3072 + (128 * g.val + n.val), by omega⟩

/-- The step size of a head. -/
def dts (t : Nat) (h : Fin 32) : EReal := softplus (dt t h + P.dtb h)

/-- The log-decay of a head at time `t`. -/
def logDecay (t : Nat) (h : Fin 32) : EReal := P.dts dt t h * -Ideal.exp (P.alog h)

/-- The log-decays of chunk `c` summed up to its row `l`. -/
def cum (c : Nat) (l : Fin 128) (h : Fin 32) : EReal :=
  ∑ k : Fin 128, if k.val ≤ l.val then P.logDecay dt (128 * c + k.val) h else 0

/-- How much row `l` of chunk `c` sees of row `k`: the decay between them, nothing for a later row. -/
def seen (c : Nat) (l k : Fin 128) (h : Fin 32) : EReal :=
  if k.val ≤ l.val then Ideal.exp (P.cum dt c l h - P.cum dt c k h) else 0

/-- The product of `C` at row `l` and `B` at row `k` of chunk `c`. -/
def cbAt (c : Nat) (l k : Fin 128) (g : Fin 8) : EReal :=
  ∑ n : Fin 128, P.ccol seq (128 * c + l.val) g n * P.bcol seq (128 * c + k.val) g n

/-- What column `j` at row `l` of chunk `c` gets from the rows of its own chunk. -/
def diag (c : Nat) (l : Fin 128) (j : Fin 2048) : EReal :=
  ∑ k : Fin 128, P.cbAt seq c l k (groupCol j) * P.seen dt c l k (headCol j)
    * (P.xcol seq (128 * c + k.val) j * P.dts dt (128 * c + k.val) (headCol j))

/-- The state of column `j` before chunk `c`. -/
def state (c : Nat) (j : Fin 2048) (n : Fin 128) : EReal :=
  Nat.rec (h0 j n) (fun c h => h * Ideal.exp (P.cum dt c 127 (headCol j))
    + ∑ k : Fin 128, P.bcol seq (128 * c + k.val) (groupCol j) n
        * (P.xcol seq (128 * c + k.val) j * P.dts dt (128 * c + k.val) (headCol j)
          * Ideal.exp (P.cum dt c 127 (headCol j) - P.cum dt c k (headCol j)))) c

/-- The output of the scan, before gate and norm, from the states `S` before chunk `c`. -/
def scanOut (S : Fin 2048 → Fin 128 → EReal) (c : Nat) (l : Fin 128) (j : Fin 2048) : EReal :=
  (P.diag seq dt c l j
    + (∑ n : Fin 128, P.ccol seq (128 * c + l.val) (groupCol j) n * S j n) * Ideal.exp (P.cum dt c l (headCol j)))
  + P.xcol seq (128 * c + l.val) j * P.dsk (headCol j)

/-- One row of the layer's output: the scan's row, gated by the silu of `z`, normed. -/
def outRow (S : Fin 2048 → Fin 128 → EReal) (c : Nat) (l : Fin 128) (z : Fin 2048 → EReal) (j : Fin 2048) : EReal :=
  groupNorm (fun j => P.scanOut seq dt S c l j * (z j * Ideal.logistic (z j))) P.ng j

end Params

/-- A case distinction whose two branches have the same value. -/
theorem pick {p : Prop} [Decidable p] {a : p → EReal} {b : ¬ p → EReal} {z : EReal} (h1 : ∀ h, a h = z) (h2 : ∀ h, b h = z) :
    dite p a b = z := by
  by_cases h : p
  · rw [dif_pos h]; exact h1 h
  · rw [dif_neg h]; exact h2 h

end Cert.Ssd
-- ==== Proof.Ssd.Chunk.lean ====
/-
  The SSD kernel: if the prepared values of a grid point are those of chunk `c` of a sequence, its outputs before gate and
  norm and its new states are the chunk's.
-/
module

public import proofs.«01_k».proof.Proof.Ssd.Read
public import proofs.«01_k».proof.Proof.Math.Ssd

@[expose] public section

noncomputable section

open Idealize.ShloMosaic Idealize.ShloMosaic.TcCoe Idealize.SL.Sem

namespace Cert.SsdIdeal.Val

open Cert.SsdIdeal Cert.SsdIdeal.Gen Cert.Ssd

/-- The lane of a head. -/
abbrev laneOf (h : Fin 32) : Fin 128 := ⟨h.val, by omega⟩

/-- The prepared values are those of chunk `c`. -/
structure Pre.Is (P : Pre) (L : Params) (seq : Nat → Fin 4096 → EReal) (dt : Nat → Fin 32 → EReal) (c : Nat) : Prop where
  xs : ∀ (r : Fin 128) (j : Fin 2048), P.xs (ix2 r j) = L.xcol seq (128 * c + r.val) j
  B : ∀ (r : Fin 128) (g : Fin 8) (n : Fin 128), P.B (ix2 r (⟨128 * g.val + n.val, by omega⟩ : Fin 1024)) = L.bcol seq (128 * c + r.val) g n
  C : ∀ (r : Fin 128) (g : Fin 8) (n : Fin 128), P.C (ix2 r (⟨128 * g.val + n.val, by omega⟩ : Fin 1024)) = L.ccol seq (128 * c + r.val) g n
  cs : ∀ (r : Fin 128) (h : Fin 32), P.cs (ix2 r (laneOf h)) = L.cum dt c r h
  csT : ∀ (r : Fin 128) (h : Fin 32), P.csT (ix2 (laneOf h) r) = L.cum dt c r h
  dtT : ∀ (r : Fin 128) (h : Fin 32), P.dtT (ix2 (laneOf h) r) = L.dts dt (128 * c + r.val) h
  ecs : ∀ (r : Fin 128) (h : Fin 32), P.ecs (ix2 r (laneOf h)) = Ideal.exp (L.cum dt c r h)
  wd : ∀ (r : Fin 128) (h : Fin 32), P.wd (ix2 r (laneOf h)) = L.dts dt (128 * c + r.val) h * Ideal.exp (L.cum dt c 127 h - L.cum dt c r h)
  tot : ∀ h : Fin 32, P.tot (ix2 0 (laneOf h)) = Ideal.exp (L.cum dt c 127 h)

variable {P : Pre} {L : Params} {seq : Nat → Fin 4096 → EReal} {dt : Nat → Fin 32 → EReal} {c : Nat} (H : P.Is L seq dt c)
include H

/-- The column of lane `j` of pair `n`. -/
abbrev colOf (n : Fin 16) (j : Fin 128) : Fin 2048 := ⟨128 * n.val + j.val, by omega⟩

omit H in
theorem headOf_eq (n : Fin 16) (j : Fin 128) : headOf n j = laneOf (headCol (colOf n j)) :=
  Fin.ext (show 2 * n.val + j.val / 64 = (128 * n.val + j.val) / 64 by omega)

theorem Pre.Is.x_eq (n : Fin 16) (r j : Fin 128) : P.x n (ix2 r j) = L.xcol seq (128 * c + r.val) (colOf n j) :=
  (P.x_at n r j).trans (H.xs r _)

theorem Pre.Is.cb_eq (g : Fin 8) (r k : Fin 128) : P.cb g (ix2 r k) = L.cbAt seq c r k g := by
  rw [P.cb_at]
  exact Finset.sum_congr rfl fun s _ => congrArg₂ (· * ·) ((P.c_at g r s).trans (H.C r g s)) ((P.bT_at g s k).trans (H.B k g s))

theorem Pre.Is.score_eq (g : Fin 8) (h : Fin 32) (r k : Fin 128) :
    P.score g h (ix2 r k) = L.cbAt seq c r k g * L.seen dt c r k h * L.dts dt (128 * c + k.val) h := by
  rw [P.score_at, H.cb_eq, H.cs, H.csT, H.dtT]
  rfl

theorem Pre.Is.diag_eq (n : Fin 16) (r j : Fin 128) :
    ∑ k : Fin 256, P.scores n (ix2 r k) * P.halves n (ix2 k j) = L.diag seq dt c r (colOf n j) := by
  have e := Fin.sum_univ_add (a := 128) (b := 128) fun k : Fin 256 => P.scores n (ix2 r k) * P.halves n (ix2 k j)
  refine e.trans ?_
  have lower : ∀ k : Fin 128, P.scores n (ix2 r (Fin.castAdd 128 k)) * P.halves n (ix2 (Fin.castAdd 128 k) j)
      = P.score (groupOf n) (lo n) (ix2 r k) * (if j.val < 64 then P.x n (ix2 k j) else 0) := fun k => by
    rw [P.scores_at, P.halves_at, dif_pos (show (Fin.castAdd 128 k).val < 128 from k.isLt), dif_pos (show (Fin.castAdd 128 k).val < 128 from k.isLt)]
    rfl
  have upper : ∀ k : Fin 128, P.scores n (ix2 r (Fin.natAdd 128 k)) * P.halves n (ix2 (Fin.natAdd 128 k) j)
      = P.score (groupOf n) (hi n) (ix2 r k) * (if 64 ≤ j.val then P.x n (ix2 k j) else 0) := fun k => by
    have hk : ¬ (Fin.natAdd 128 k).val < 128 := by simp
    have hi' : ∀ p, (⟨(Fin.natAdd 128 k).val - 128, p⟩ : Fin 128) = k := fun p => Fin.ext (by simp)
    rw [P.scores_at, P.halves_at, dif_neg hk, dif_neg hk, hi']
  simp only [lower, upper]
  have hg : groupOf n = groupCol (colOf n j) := Fin.ext (show n.val / 2 = (128 * n.val + j.val) / 256 by omega)
  by_cases h : j.val < 64
  · have hh : lo n = headCol (colOf n j) := Fin.ext (show 2 * n.val = (128 * n.val + j.val) / 64 by omega)
    simp only [if_pos h, if_neg (show ¬ 64 ≤ j.val by omega), mul_zero, Finset.sum_const_zero, add_zero]
    refine Finset.sum_congr rfl fun k _ => ?_
    rw [H.score_eq, H.x_eq, hg, hh, mul_assoc (L.cbAt seq c r k _ * _), mul_comm (L.dts dt _ _)]
  · have hh : hi n = headCol (colOf n j) := Fin.ext (show 2 * n.val + 1 = (128 * n.val + j.val) / 64 by omega)
    simp only [if_neg h, if_pos (show 64 ≤ j.val by omega), mul_zero, Finset.sum_const_zero, zero_add]
    refine Finset.sum_congr rfl fun k _ => ?_
    rw [H.score_eq, H.x_eq, hg, hh, mul_assoc (L.cbAt seq c r k _ * _), mul_comm (L.dts dt _ _)]

/-- One pair's outputs are the scan's. -/
theorem Pre.Is.y_eq (n : Fin 16) (hT : Vec Ideal S1x128x256 .f32) (d : Vec Ideal S1x128 .f32) (S : Fin 2048 → Fin 128 → EReal)
    (hS : ∀ (s : Fin 128) (q : Fin 256), hT (ix3 0 s q) = S ⟨256 * (n.val / 2) + q.val, by omega⟩ s)
    (hd : ∀ j : Fin 128, d (ix2 0 j) = L.dsk (headCol (colOf n j))) (r j : Fin 128) :
    P.y n hT d (ix2 r j) = L.scanOut seq dt S c r (colOf n j) := by
  rw [P.y_at, H.diag_eq, P.off_at, expand_at, headOf_eq, H.ecs, H.x_eq, hd]
  unfold Params.scanOut
  have hg : groupOf n = groupCol (colOf n j) := Fin.ext (show n.val / 2 = (128 * n.val + j.val) / 256 by omega)
  refine congrArg (fun z => _ + z * _ + _) (Finset.sum_congr rfl fun s _ => congrArg₂ (· * ·) ?_ ?_)
  · exact ((P.c_at _ r s).trans (H.C r _ s)).trans (congrArg (fun g => L.ccol seq _ g s) hg)
  · exact (hS s _).trans (congrArg (S · s) (Fin.ext (show 256 * (n.val / 2) + (128 * (n.val % 2) + j.val) = 128 * n.val + j.val by omega)))

theorem Pre.Is.row_eq (n : Fin 16) (j : Fin 128) : expandRow P.tot n (ix2 0 j) = Ideal.exp (L.cum dt c 127 (headCol (colOf n j))) := by
  rw [expandRow_at, headOf_eq, H.tot]

theorem Pre.Is.weighted_eq (n : Fin 16) (r j : Fin 128) : P.weighted n (ix2 r j)
    = L.xcol seq (128 * c + r.val) (colOf n j) * L.dts dt (128 * c + r.val) (headCol (colOf n j))
      * Ideal.exp (L.cum dt c 127 (headCol (colOf n j)) - L.cum dt c r (headCol (colOf n j))) := by
  rw [P.weighted_at, H.x_eq, expand_at, headOf_eq, H.wd, mul_assoc]

/-- Lane `q` of a group's 256 columns: a column of its first pair, or of its second. -/
theorem Pre.Is.lanes (g : Fin 8) (q : Fin 256) (f0 f1 : Fin 128 → EReal) (F : Fin 2048 → EReal)
    (e0 : ∀ l, f0 l = F (colOf (pair0 g) l)) (e1 : ∀ l, f1 l = F (colOf (pair1 g) l)) :
    (if h : q.val < 128 then f0 ⟨q.val, h⟩ else f1 ⟨q.val - 128, by omega⟩) = F ⟨256 * g.val + q.val, by omega⟩ :=
  pick (fun h => (e0 _).trans (congrArg F (Fin.ext (show 128 * (2 * g.val) + q.val = 256 * g.val + q.val by omega))))
    fun h => (e1 _).trans (congrArg F (Fin.ext (show 128 * (2 * g.val + 1) + (q.val - 128) = 256 * g.val + q.val by omega)))

/-- A group's new state is the scan's next state. -/
theorem Pre.Is.state_eq (g : Fin 8) (hT : Vec Ideal S1x128x256 .f32) (h0 : Fin 2048 → Fin 128 → EReal)
    (hS : ∀ (s : Fin 128) (q : Fin 256), hT (ix3 0 s q) = L.state seq dt h0 c ⟨256 * g.val + q.val, by omega⟩ s)
    (s : Fin 128) (q : Fin 256) :
    P.state g hT (ix3 0 s q) = L.state seq dt h0 (c + 1) ⟨256 * g.val + q.val, by omega⟩ s := by
  have hg : g = groupCol ⟨256 * g.val + q.val, by omega⟩ := Fin.ext (show g.val = (256 * g.val + q.val) / 256 by omega)
  have hb : ∀ k : Fin 128, P.bT g (ix2 s k) = L.bcol seq (128 * c + k.val) (groupCol ⟨256 * g.val + q.val, by omega⟩) s := fun k =>
    ((P.bT_at g s k).trans (H.B k g s)).trans (congrArg (fun g => L.bcol seq _ g s) hg)
  refine (P.state_at g hT s q).trans (congrArg₂ (· + ·) (congrArg₂ (· * ·) (hS s q) ?_) (Finset.sum_congr rfl fun k _ => congrArg₂ (· * ·) (hb k) ?_))
  · exact H.lanes g q (fun l => expandRow P.tot (pair0 g) (ix2 0 l)) (fun l => expandRow P.tot (pair1 g) (ix2 0 l))
      (fun j => Ideal.exp (L.cum dt c 127 (headCol j))) (H.row_eq _) (H.row_eq _)
  · exact H.lanes g q (fun l => P.weighted (pair0 g) (ix2 k l)) (fun l => P.weighted (pair1 g) (ix2 k l))
      (fun j => L.xcol seq (128 * c + k.val) j * L.dts dt (128 * c + k.val) (headCol j)
        * Ideal.exp (L.cum dt c 127 (headCol j) - L.cum dt c k (headCol j))) (H.weighted_eq _ k) (H.weighted_eq _ k)

omit H in
set_option maxRecDepth 8192 in
/-- Sixteen blocks side by side, read at a row and a column. -/
theorem side_at (Y : Fin 16 → FVec Ideal S128x128 .f32) (r : Fin 128) (j : Fin 2048) :
    (concatenate S128x2048 1 [⟨S128x128, Y 0⟩, ⟨S128x128, Y 1⟩, ⟨S128x128, Y 2⟩, ⟨S128x128, Y 3⟩, ⟨S128x128, Y 4⟩, ⟨S128x128, Y 5⟩, ⟨S128x128, Y 6⟩, ⟨S128x128, Y 7⟩, ⟨S128x128, Y 8⟩, ⟨S128x128, Y 9⟩, ⟨S128x128, Y 10⟩, ⟨S128x128, Y 11⟩, ⟨S128x128, Y 12⟩, ⟨S128x128, Y 13⟩, ⟨S128x128, Y 14⟩, ⟨S128x128, Y 15⟩]
      concatenates_S128x128_S128x128_S128x128_S128x128_S128x128_S128x128_S128x128_S128x128_S128x128_S128x128_S128x128_S128x128_S128x128_S128x128_S128x128_S128x128_S128x2048_d1 : FVec Ideal S128x2048 .f32) (ix2 r j)
      = Y ⟨j.val / 128, by omega⟩ (ix2 r ⟨j.val % 128, by omega⟩) := by
  exact concatenate_ofFn_apply (t := S128x2048) (s₁ := S128x128) (1 : Fin 2) Y
    concatenates_S128x128_S128x128_S128x128_S128x128_S128x128_S128x128_S128x128_S128x128_S128x128_S128x128_S128x128_S128x128_S128x128_S128x128_S128x128_S128x128_S128x2048_d1
    rfl 128 rfl (ix2 r j) ⟨j.val / 128, by omega⟩ rfl (ix2 r ⟨j.val % 128, by omega⟩) rfl fun b hb => by
      match b with
      | ⟨0, _⟩ => rfl
      | ⟨1, _⟩ => exact absurd rfl hb

/-- The sixteen pairs side by side. -/
theorem Pre.Is.all_eq (hT : Fin 8 → Vec Ideal S1x128x256 .f32) (d : Fin 16 → Vec Ideal S1x128 .f32) (S : Fin 2048 → Fin 128 → EReal)
    (hS : ∀ (g : Fin 8) (s : Fin 128) (q : Fin 256), hT g (ix3 0 s q) = S ⟨256 * g.val + q.val, by omega⟩ s)
    (hd : ∀ (n : Fin 16) (j : Fin 128), d n (ix2 0 j) = L.dsk (headCol (colOf n j))) (r : Fin 128) (j : Fin 2048) :
    payAll P hT d (ix2 r j) = L.scanOut seq dt S c r j := by
  rw [payAll_eq]
  refine (side_at (fun n => P.y n (hT (groupOf n)) (d n)) r j).trans ?_
  refine (H.y_eq _ _ _ S (fun s q => hS _ s q) (hd _) r _).trans (congrArg (L.scanOut seq dt S c r) (Fin.ext ?_))
  show 128 * (j.val / 128) + j.val % 128 = j.val
  omega

end Cert.SsdIdeal.Val
-- ==== Proof.Ssd.Payload.lean ====
/-
  The SSD kernel: the values a grid point prepares from the block it loads are those of its chunk, and what it makes of the
  scan's output.
-/
module

public import proofs.«01_k».proof.Proof.Ssd.Point
public import proofs.«01_k».proof.Proof.Ssd.Chunk

@[expose] public section

noncomputable section

open Idealize.ShloMosaic Idealize.ShloMosaic.TcCoe Idealize.SL.Sem

namespace Cert.SsdIdeal.Val

open Cert.SsdIdeal Cert.SsdIdeal.Gen Cert.Ssd

/-- The block of chunk `c` and the rows carried to it, the step sizes and the parameters, as a grid point loads them. -/
structure Loads (x : Vec Ideal S128x4096 .f32) (carry : Vec Ideal S8x4096 .f32) (cw : Vec Ideal S4x4096 .f32)
    (cb : Vec Ideal S1x4096 .f32) (dt : Vec Ideal S128x128 .f32) (dtb alog : Vec Ideal S1x128 .f32)
    (L : Params) (seq : Nat → Fin 4096 → EReal) (steps : Nat → Fin 32 → EReal) (c : Nat) : Prop where
  rows : ∀ (r : Fin 128) (j : Fin 4096), x (ix2 r j) = seq (128 * c + (3 + r.val)) j
  carried : ∀ (q : Fin 8) (j : Fin 4096), 5 ≤ q.val → carry (ix2 q j) = seq (128 * c + (q.val - 5)) j
  taps : ∀ (q : Fin 4) (j : Fin 4096), cw (ix2 q j) = L.cw q j
  bias : ∀ j : Fin 4096, cb (ix2 0 j) = L.cb j
  sizes : ∀ (r : Fin 128) (h : Fin 32), dt (ix2 r (laneOf h)) = steps (128 * c + r.val) h
  sizeBias : ∀ h : Fin 32, dtb (ix2 0 (laneOf h)) = L.dtb h
  decays : ∀ h : Fin 32, alog (ix2 0 (laneOf h)) = L.alog h

/-! ### The parts of the text -/

theorem conv_text (x s5 s6 s7 : Vec Ideal S128x4096 .f32) (cb w0 w1 w2 w3 : Vec Ideal S1x4096 .f32) (r : Fin 128) (j : Fin 4096) :
    k0_pay26 (k0_pay24 x cb w3 w0 s5) s6 (k0_pay25 w1) w2 s7 (ix2 r j)
      = ((((cb (ix2 0 j) + w3 (ix2 0 j) * x (ix2 r j)) + w0 (ix2 0 j) * s5 (ix2 r j)) + w1 (ix2 0 j) * s6 (ix2 r j)) + w2 (ix2 0 j) * s7 (ix2 r j))
        * Ideal.logistic ((((cb (ix2 0 j) + w3 (ix2 0 j) * x (ix2 r j)) + w0 (ix2 0 j) * s5 (ix2 r j)) + w1 (ix2 0 j) * s6 (ix2 r j)) + w2 (ix2 0 j) * s7 (ix2 r j)) := by
  pointwise [k0_pay26, k0_pay25, k0_pay24]

theorem size_text (dt : Vec Ideal S128x128 .f32) (dtb : Vec Ideal S1x128 .f32) (r j : Fin 128) :
    k0_pay31 dt dtb (ix2 r j) = softplus (dt (ix2 r j) + dtb (ix2 0 j)) := by
  pointwise [k0_pay31]
  unfold softplus
  simp only [zero_sub]
  have habs : ∀ z : EReal, FloatOps.absf (F := Ideal) (φ := .f32) z = max z (-z) := fun _ => rfl
  rw [habs]

/-- The mask as a number. -/
theorem mask_num (r k : Fin 128) (y : EReal) :
    FloatOps.sitofp (F := Ideal) FTy.f32 (BitVec.setWidth 32 (k0_pay30 (ix2 r k))) * y = if k.val ≤ r.val then y else 0 := by
  have e : k0_pay30 (ix2 r k) = if k.val ≤ r.val then 1#1 else 0#1 := by
    have := causal_at r k (1 : EReal) 0
    unfold causal Scalar.select at this
    rcases BitVec.eq_zero_or_eq_one (k0_pay30 (ix2 r k)) with h | h
    · rw [h] at this ⊢
      by_cases hk : k.val ≤ r.val
      · rw [if_pos hk] at this; simp at this
      · rw [if_neg hk]
    · rw [h] at this ⊢
      by_cases hk : k.val ≤ r.val
      · rw [if_pos hk]
      · rw [if_neg hk] at this; simp at this
  rw [e]
  split
  · show (((BitVec.setWidth 32 1#1).toInt : ℝ) : EReal) * y = y
    simp
  · show (((BitVec.setWidth 32 0#1).toInt : ℝ) : EReal) * y = 0
    simp

theorem cum_text (dt : Vec Ideal S128x128 .f32) (dtb alog : Vec Ideal S1x128 .f32) (r j : Fin 128) :
    k0_pay32 dt dtb alog (ix2 r j)
      = ∑ k : Fin 128, if k.val ≤ r.val then k0_pay31 dt dtb (ix2 k j) * -Ideal.exp (alog (ix2 0 j)) else 0 := by
  simp only [← mask_num]
  pointwise [k0_pay32, dot_S128x128_S128x128_S128x128_1_0_0_1_n_n]
  simp only [zero_sub]

/-! ### The prepared values -/

section
variable {x : Vec Ideal S128x4096 .f32} {carry : Vec Ideal S8x4096 .f32} {cw : Vec Ideal S4x4096 .f32}
    {cb : Vec Ideal S1x4096 .f32} {dt : Vec Ideal S128x128 .f32} {dtb alog : Vec Ideal S1x128 .f32}
    {L : Params} {seq : Nat → Fin 4096 → EReal} {steps : Nat → Fin 32 → EReal} {c : Nat}
    (H : Loads x carry cw cb dt dtb alog L seq steps c)
include H

theorem Loads.padded_eq (n : Nat) (hn : n < 136) (j : Fin 4096) (h5 : 5 ≤ n) :
    padded carry x (ix2 (⟨n, hn⟩ : Fin 136) j) = seq (128 * c + (n - 5)) j := by
  by_cases h : n < 8
  · exact (padded_lo carry x ⟨n, h⟩ j).trans (H.carried ⟨n, h⟩ j h5)
  · obtain ⟨r, rfl⟩ : ∃ r, n = 8 + r := ⟨n - 8, by omega⟩
    exact (padded_hi carry x ⟨r, by omega⟩ j).trans ((H.rows ⟨r, by omega⟩ j).trans (congrArg (seq · j) (by dsimp only; omega)))

theorem Loads.xbc_eq (r : Fin 128) (j : Fin 4096) :
    k0_pay26 (k0_pay24 x cb (tapRow cw 3) (tapRow cw 0) (shifted 5 (by decide) carry x)) (shifted 6 (by decide) carry x)
      (k0_pay25 (tapRow cw 1)) (tapRow cw 2) (shifted 7 (by decide) carry x) (ix2 r j) = L.xbc seq (128 * c + r.val) j := by
  have h5 : shifted 5 (by decide) carry x (ix2 r j) = seq (128 * c + r.val) j :=
    (H.padded_eq _ _ j (Nat.le_add_right _ _)).trans (congrArg (seq · j) (by show 128 * c + (5 + r.val - 5) = _; omega))
  have h6 : shifted 6 (by decide) carry x (ix2 r j) = seq (128 * c + r.val + 1) j :=
    (H.padded_eq _ _ j (by show 5 ≤ 6 + r.val; omega)).trans (congrArg (seq · j) (by show 128 * c + (6 + r.val - 5) = _; omega))
  have h7 : shifted 7 (by decide) carry x (ix2 r j) = seq (128 * c + r.val + 2) j :=
    (H.padded_eq _ _ j (by show 5 ≤ 7 + r.val; omega)).trans (congrArg (seq · j) (by show 128 * c + (7 + r.val - 5) = _; omega))
  have hx : x (ix2 r j) = seq (128 * c + r.val + 3) j := (H.rows r j).trans (congrArg (seq · j) (by omega))
  have hw : ∀ q : Fin 4, tapRow cw q (ix2 0 j) = L.cw q j := fun q => H.taps q j
  rw [conv_text, hx, h5, h6, h7, hw, hw, hw, hw, H.bias]
  rfl

theorem Loads.dts_eq (r : Fin 128) (h : Fin 32) : k0_pay31 dt dtb (ix2 r (laneOf h)) = L.dts steps (128 * c + r.val) h := by
  rw [size_text, H.sizes, H.sizeBias]
  rfl

theorem Loads.cum_eq (r : Fin 128) (h : Fin 32) : k0_pay32 dt dtb alog (ix2 r (laneOf h)) = L.cum steps c r h := by
  rw [cum_text]
  simp only [H.dts_eq, H.decays]
  rfl

/-- The prepared values of a grid point are those of its chunk. -/
theorem Loads.is : (pre x carry cw cb dt dtb alog).Is L seq steps c where
  xs r j := (show _ = _ by pointwise [pre, k0_pay27]).trans (H.xbc_eq r ⟨j.val, by omega⟩)
  B r g n := (show _ = _ by pointwise [pre, k0_pay28]).trans (H.xbc_eq r ⟨2048 + (128 * g.val + n.val), by omega⟩)
  C r g n := (show _ = _ by pointwise [pre, k0_pay29]).trans (H.xbc_eq r ⟨3072 + (128 * g.val + n.val), by omega⟩)
  cs := H.cum_eq
  csT r h := (show _ = _ by pointwise [pre, k0_pay33]).trans (H.cum_eq r h)
  dtT r h := (show _ = _ by pointwise [pre, k0_pay34]).trans (H.dts_eq r h)
  ecs r h := (show _ = _ by pointwise [pre, k0_pay36]).trans (congrArg Ideal.exp (H.cum_eq r h))
  wd r h := (show _ = k0_pay31 dt dtb (ix2 r (laneOf h)) * Ideal.exp (k0_pay32 dt dtb alog (ix2 127 (laneOf h)) - k0_pay32 dt dtb alog (ix2 r (laneOf h))) by
    pointwise [pre, k0_pay38, k0_pay37, k0_pay35]).trans (by rw [H.dts_eq, H.cum_eq, H.cum_eq])
  tot h := (show _ = _ by pointwise [pre, k0_pay39, k0_pay35]).trans (congrArg Ideal.exp (H.cum_eq 127 h))

end

/-! ### Gate, norm and the states' layouts -/

/-- One group's columns, divided by the root of their mean square. -/
def normed (v : FVec Ideal S128x2048 .f32) (g : Fin 8) : FVec Ideal S128x256 .f32 := fun i =>
  v (ix2 (i 0) (⟨256 * g.val + (i 1).val, by have := (i 1).isLt; dsimp at this; omega⟩ : Fin 2048))
    * Ideal.rsqrt (Ideal.div (∑ q : Fin 256, v (ix2 (i 0) (⟨256 * g.val + q.val, by omega⟩ : Fin 2048))
        * v (ix2 (i 0) (⟨256 * g.val + q.val, by omega⟩ : Fin 2048))) width + Row.eps)

set_option maxRecDepth 8192 in
/-- Eight groups side by side, read at a row and a column. -/
theorem groups_at (Y : Fin 8 → FVec Ideal S128x256 .f32) (r : Fin 128) (j : Fin 2048) :
    (concatenate S128x2048 1 [⟨S128x256, Y 0⟩, ⟨S128x256, Y 1⟩, ⟨S128x256, Y 2⟩, ⟨S128x256, Y 3⟩, ⟨S128x256, Y 4⟩, ⟨S128x256, Y 5⟩,
      ⟨S128x256, Y 6⟩, ⟨S128x256, Y 7⟩]
      concatenates_S128x256_S128x256_S128x256_S128x256_S128x256_S128x256_S128x256_S128x256_S128x2048_d1 : FVec Ideal S128x2048 .f32) (ix2 r j)
      = Y ⟨j.val / 256, by omega⟩ (ix2 r ⟨j.val % 256, by omega⟩) := by
  exact concatenate_ofFn_apply (t := S128x2048) (s₁ := S128x256) (1 : Fin 2) Y
    concatenates_S128x256_S128x256_S128x256_S128x256_S128x256_S128x256_S128x256_S128x256_S128x2048_d1
    rfl 256 rfl (ix2 r j) ⟨j.val / 256, by omega⟩ rfl (ix2 r ⟨j.val % 256, by omega⟩) rfl fun b hb => by
      match b with
      | ⟨0, _⟩ => rfl
      | ⟨1, _⟩ => exact absurd rfl hb

theorem slice_group (g : Fin 8) : S128x2048.Slices ![0, 256 * g.val] S128x256 :=
  ⟨rfl, fun a => by
    match a with
    | ⟨0, _⟩ => exact le_refl 128
    | ⟨1, _⟩ => show 256 * g.val + 256 ≤ 2048; omega⟩

/-- The text of one group's norm. -/
def normText (v : FVec Ideal S128x2048 .f32) (g : Fin 8) : FVec Ideal S128x256 .f32 :=
  mulf (extractStridedSlice S128x256 ![0, 256 * g.val] v (slice_group g) : FVec Ideal S128x256 .f32)
    (broadcastTo S128x256 (rsqrt (addf (divf (shapeCast S128x1 (multiReduction .add [1] S128
        (mulf (extractStridedSlice S128x256 ![0, 256 * g.val] v (slice_group g) : FVec Ideal S128x256 .f32)
          (extractStridedSlice S128x256 ![0, 256 * g.val] v (slice_group g) : FVec Ideal S128x256 .f32)) 0x00000000#32 reduces_S128x256_S128 (.inl rfl) rfl : FVec Ideal S128 .f32)
        shapeCasts_S128_S128x1 : FVec Ideal S128x1 .f32) (broadcast S128x1 (Scalar.ofBits .f32 0x43800000#32) : FVec Ideal S128x1 .f32))
      (broadcast S128x1 (Scalar.ofBits .f32 0x358637BD#32) : FVec Ideal S128x1 .f32)) : FVec Ideal S128x1 .f32) broadcasts_S128x1_S128x256)

theorem normText_at (v : FVec Ideal S128x2048 .f32) (g : Fin 8) (r : Fin 128) (l : Fin 256) :
    normText v g (ix2 r l) = normed v g (ix2 r l) := by
  unfold normed
  pointwise [normText]

set_option maxRecDepth 8192 in
theorem payOut_eq (y z : FVec Ideal S128x2048 .f32) (ng : Vec Ideal S1x2048 .f32) :
    payOut y z ng = truncf .bf16 (mulf
      (concatenate S128x2048 1 [⟨S128x256, normText (k0_pay191 y (k0_pay190 z)) 0⟩, ⟨S128x256, normText (k0_pay191 y (k0_pay190 z)) 1⟩,
        ⟨S128x256, normText (k0_pay191 y (k0_pay190 z)) 2⟩, ⟨S128x256, normText (k0_pay191 y (k0_pay190 z)) 3⟩,
        ⟨S128x256, normText (k0_pay191 y (k0_pay190 z)) 4⟩, ⟨S128x256, normText (k0_pay191 y (k0_pay190 z)) 5⟩,
        ⟨S128x256, normText (k0_pay191 y (k0_pay190 z)) 6⟩, ⟨S128x256, normText (k0_pay191 y (k0_pay190 z)) 7⟩]
        concatenates_S128x256_S128x256_S128x256_S128x256_S128x256_S128x256_S128x256_S128x256_S128x2048_d1 : FVec Ideal S128x2048 .f32)
      (broadcastTo S128x2048 (shapeCast S1x2048 ng shapeCasts_S1x2048_S1x2048 : FVec Ideal S1x2048 .f32) broadcasts_S1x2048_S128x2048) : FVec Ideal S128x2048 .f32) bitsLt_bf16_f32 := rfl

theorem gated_at (y z : FVec Ideal S128x2048 .f32) (r : Fin 128) (j : Fin 2048) :
    k0_pay191 y (k0_pay190 z) (ix2 r j) = y (ix2 r j) * (z (ix2 r j) * Ideal.logistic (z (ix2 r j))) := by
  pointwise [k0_pay191, k0_pay190]

/-- The output block: the scan's output gated by the silu of `z`, normed within its group, scaled. -/
theorem payOut_at (y z : FVec Ideal S128x2048 .f32) (ng : Vec Ideal S1x2048 .f32) (r : Fin 128) (j : Fin 2048) :
    payOut y z ng (ix2 r j)
      = groupNorm (fun j => y (ix2 r j) * (z (ix2 r j) * Ideal.logistic (z (ix2 r j)))) (fun j => ng (ix2 0 j)) j := by
  have e := groups_at (normText (k0_pay191 y (k0_pay190 z))) r j
  rw [normText_at] at e
  have step : payOut y z ng (ix2 r j) = normed (k0_pay191 y (k0_pay190 z)) ⟨j.val / 256, by omega⟩ (ix2 r ⟨j.val % 256, by omega⟩) * ng (ix2 0 j) := by
    rw [payOut_eq, ← e]
    generalize (concatenate S128x2048 1 _ _ : FVec Ideal S128x2048 .f32) = w
    pointwise []
  rw [step]
  have n : ∀ l : Fin 256, normed (k0_pay191 y (k0_pay190 z)) ⟨j.val / 256, by omega⟩ (ix2 r l)
      = k0_pay191 y (k0_pay190 z) (ix2 r (⟨256 * (j.val / 256) + l.val, by omega⟩ : Fin 2048))
        * Ideal.rsqrt (Ideal.div (∑ q : Fin 256, k0_pay191 y (k0_pay190 z) (ix2 r (⟨256 * (j.val / 256) + q.val, by omega⟩ : Fin 2048))
            * k0_pay191 y (k0_pay190 z) (ix2 r (⟨256 * (j.val / 256) + q.val, by omega⟩ : Fin 2048))) width + Row.eps) := fun l => rfl
  have hj : (⟨256 * (j.val / 256) + j.val % 256, by omega⟩ : Fin 2048) = j := Fin.ext (by dsimp only; omega)
  rw [n]
  simp only [gated_at, hj]
  rfl

theorem start_at (v : Vec Ideal S1x8x256x128 .f32) (g : Fin 8) (s : Fin 128) (q : Fin 256) :
    startState v g (ix3 0 s q) = v (ix4 0 g q s) := by
  rw [startState_eq]
  pointwise [k0_pay7]
  rfl

theorem last_at (h : Fin 8 → Vec Ideal S1x128x256 .f32) (g : Fin 8) (q : Fin 256) (s : Fin 128) :
    lastState h g (ix4 0 0 q s) = h g (ix3 0 s q) := by
  rw [lastState_eq]
  pointwise [k0_pay16]

theorem tail_at (x : Vec Ideal S128x4096 .f32) (q : Fin 8) (j : Fin 4096) : k0_pay23 x (ix2 q j) = x (ix2 ⟨120 + q.val, by omega⟩ j) := by
  pointwise [k0_pay23]

theorem first_at (v : Vec Ideal S1x8x4096 .f32) (q : Fin 8) (j : Fin 4096) : k0_pay6 v (ix2 q j) = v (ix3 0 q j) := by
  pointwise [k0_pay6]

end Cert.SsdIdeal.Val
-- ==== Proof.Ssd.Arrays.lean ====
/-
  The SSD kernel: the blocks its grid points read, as parts of the argument arrays.
-/
module

public import proofs.«01_k».proof.Proof.Ssd.Payload
public import proofs.«01_k».proof.Proof.Gen.SsdIdeal.Value

@[expose] public section

noncomputable section

open Idealize.ShloMosaic Idealize.ShloMosaic.TcCoe Idealize.SL.Sem

namespace Cert.SsdIdeal.Val

open Cert.SsdIdeal Cert.SsdIdeal.Gen Cert.Ssd

variable (m : (ℓ : Loc nD τ sig) → Buf (Elt Ideal) ℓ) (c : Dev nD)

/-! ## What the host leaves for the region -/

set_option maxRecDepth 200000 in
theorem V_cb (j : Fin 4096) : V m c main_v0 (ix2 (0 : Fin 1) j) = m ((c : Thread nD τ).loc main_arg5) (ix1 j) := by
  have e : V m c main_v0 = shapeCast S1x4096 (m ((c : Thread nD τ).loc main_arg5) : FVec Ideal S4096 .f32) shapeCasts_S4096_S1x4096 := by
    unfold V hostOps0 hostOps0_1 hostOps0_2 hostOps0_3 hostOps0_4 hostOps0_5 hostOps0_6; after_results; rfl
  exact (congrFun e _).trans (by pointwise [])

/-- A vector of 32 padded to 128 lanes and laid out as a row is, in its first 32 lanes, the vector. -/
theorem padded_lanes (v : FVec Ideal S32 .f32) (z : FVec Ideal S_ .f32) (h : Fin 32) :
    shapeCast S1x128 (pad S128 ![0] ![96] ![0] v z pads_S32_S128_0960 h_S_ : FVec Ideal S128 .f32) shapeCasts_S128_S1x128
      (ix2 (0 : Fin 1) (laneOf h)) = v (ix1 h) := by
  pointwise []

theorem V_dtb (h : Fin 32) : V m c main_v2 (ix2 (0 : Fin 1) (laneOf h)) = m ((c : Thread nD τ).loc main_arg6) (ix1 h) := by
  have e : V m c main_v2 = shapeCast S1x128 (pad S128 ![0] ![96] ![0] (m ((c : Thread nD τ).loc main_arg6) : FVec Ideal S32 .f32)
      (sitofp .f32 (constantI S_ 32 0#32)) pads_S32_S128_0960 h_S_ : FVec Ideal S128 .f32) shapeCasts_S128_S1x128 := by
    unfold V hostOps0 hostOps0_1 hostOps0_2 hostOps0_3 hostOps0_4 hostOps0_5 hostOps0_6; after_results; rfl
  exact (congrFun e _).trans (padded_lanes _ _ h)

theorem V_alog (h : Fin 32) : V m c main_v4 (ix2 (0 : Fin 1) (laneOf h)) = m ((c : Thread nD τ).loc main_arg7) (ix1 h) := by
  have e : V m c main_v4 = shapeCast S1x128 (pad S128 ![0] ![96] ![0] (m ((c : Thread nD τ).loc main_arg7) : FVec Ideal S32 .f32)
      (sitofp .f32 (constantI S_ 32 0#32)) pads_S32_S128_0960 h_S_ : FVec Ideal S128 .f32) shapeCasts_S128_S1x128 := by
    unfold V hostOps0 hostOps0_1 hostOps0_2 hostOps0_3 hostOps0_4 hostOps0_5 hostOps0_6; after_results; rfl
  exact (congrFun e _).trans (padded_lanes _ _ h)

set_option maxRecDepth 16384 in
/-- Each head's skip, repeated over its 64 columns. -/
theorem V_dsk (j : Fin 2048) : V m c main_v7 (ix2 (0 : Fin 1) j) = m ((c : Thread nD τ).loc main_arg8) (ix1 (headCol j)) := by
  have e : V m c main_v7 = shapeCast S1x2048 (shapeCast S2048 (broadcastInDim S32x64 ![0] bcast_S32_S32x64_0
      (m ((c : Thread nD τ).loc main_arg8) : FVec Ideal S32 .f32) : FVec Ideal S32x64 .f32) shapeCasts_S32x64_S2048 : FVec Ideal S2048 .f32)
      shapeCasts_S2048_S1x2048 := by
    unfold V hostOps0 hostOps0_1 hostOps0_2 hostOps0_3 hostOps0_4 hostOps0_5 hostOps0_6; after_results; rfl
  exact (congrFun e _).trans (by pointwise [])

set_option maxRecDepth 16384 in
theorem V_ng (j : Fin 2048) : V m c main_v8 (ix2 (0 : Fin 1) j) = m ((c : Thread nD τ).loc main_arg9) (ix1 j) := by
  have e : V m c main_v8 = shapeCast S1x2048 (m ((c : Thread nD τ).loc main_arg9) : FVec Ideal S2048 .f32) shapeCasts_S2048_S1x2048 := by
    unfold V hostOps0 hostOps0_1 hostOps0_2 hostOps0_3 hostOps0_4 hostOps0_5 hostOps0_6; after_results; rfl
  exact (congrFun e _).trans (by pointwise [])

/-- The convolution state below five rows of padding. -/
theorem V_conv0 (q : Fin 8) (j : Fin 4096) (h : 5 ≤ q.val) : V m c main_v10 (ix3 (0 : Fin 1) q j)
    = m ((c : Thread nD τ).loc main_arg2) (ix2 (⟨q.val - 5, by omega⟩ : Fin 3) j) := by
  have e : V m c main_v10 = broadcastInDim S1x8x4096 ![1, 2] bcast_S8x4096_S1x8x4096_1_2
      (pad S8x4096 ![5, 0] ![0, 0] ![0, 0] (m ((c : Thread nD τ).loc main_arg2) : FVec Ideal S3x4096 .f32)
        (sitofp .f32 (constantI S_ 32 0#32)) pads_S3x4096_S8x4096_500_000 h_S_ : FVec Ideal S8x4096 .f32) := by
    unfold V hostOps0 hostOps0_1 hostOps0_2 hostOps0_3 hostOps0_4 hostOps0_5 hostOps0_6; after_results; rfl
  exact (congrFun e _).trans (by
    pointwise []
    exact dif_pos fun a => by
      match a with
      | ⟨0, _⟩ => exact ⟨h, Nat.mod_one _, (Nat.div_one _).trans_lt (show q.val - 5 < 3 by omega)⟩
      | ⟨1, _⟩ => exact ⟨Nat.zero_le _, Nat.mod_one _, (Nat.div_one _).trans_lt j.isLt⟩)

/-! ## The blocks a grid point reads -/

theorem idx_rows : ∀ t : Fin cfg0.N, win0_0.index t = ![t.val, 0] ∧ win0_1.index t = ![t.val, 2] ∧ win0_2.index t = ![t.val, 0]
    ∧ win0_11.index t = ![t.val, 0] ∧ win0_12.index t = ![t.val / 16, 0, 0, 0] := (by decide +kernel : ∀ t : Fin grid0.N, _)

theorem iblk_x (t : Fin cfg0.N) (r : Fin 128) (j : Fin 4096) (h : 128 * t.val + r.val < 16384) :
    X0_0 m c t (ix2 r j) = m ((c : Thread nD τ).loc main_arg0) (ix2 (⟨128 * t.val + r.val, h⟩ : Fin 16384) (⟨j.val, by omega⟩ : Fin 6144)) := by
  obtain ⟨e0, -⟩ := idx_rows t
  unfold X0_0 Pipeline.Window.fill
  rw [dif_pos (moved0_0 t _)]
  unfold iblk
  rw [View.read_apply]
  refine Eq.trans (congrArg (V m c main_arg0) (funext fun a => Fin.ext ?_)) (congrFun (V_main_arg0 m c) _)
  match a with
  | ⟨0, _⟩ => show win0_0.index t 0 * 128 + 1 * r.val = 128 * t.val + r.val
              rw [e0]; simp; omega
  | ⟨1, _⟩ => show win0_0.index t 1 * 4096 + 1 * j.val = j.val
              rw [e0]; simp

theorem iblk_z (t : Fin cfg0.N) (r : Fin 128) (j : Fin 2048) (h : 128 * t.val + r.val < 16384) :
    iblk m c 1 t (ix2 r j) = m ((c : Thread nD τ).loc main_arg0) (ix2 (⟨128 * t.val + r.val, h⟩ : Fin 16384) (⟨4096 + j.val, by omega⟩ : Fin 6144)) := by
  obtain ⟨-, e1, -⟩ := idx_rows t
  unfold iblk
  rw [View.read_apply]
  refine Eq.trans (congrArg (V m c main_arg0) (funext fun a => Fin.ext ?_)) (congrFun (V_main_arg0 m c) _)
  match a with
  | ⟨0, _⟩ => show win0_1.index t 0 * 128 + 1 * r.val = 128 * t.val + r.val
              rw [e1]; simp; omega
  | ⟨1, _⟩ => show win0_1.index t 1 * 2048 + 1 * j.val = 4096 + j.val
              rw [e1]; simp

theorem iblk_dt (t : Fin cfg0.N) (r l : Fin 128) (h : 128 * t.val + r.val < 16384) :
    iblk m c 2 t (ix2 r l) = m ((c : Thread nD τ).loc main_arg1) (ix2 (⟨128 * t.val + r.val, h⟩ : Fin 16384) l) := by
  obtain ⟨-, -, e2, -⟩ := idx_rows t
  unfold iblk
  rw [View.read_apply]
  refine Eq.trans (congrArg (V m c main_arg1) (funext fun a => Fin.ext ?_)) (congrFun (V_main_arg1 m c) _)
  match a with
  | ⟨0, _⟩ => show win0_2.index t 0 * 128 + 1 * r.val = 128 * t.val + r.val
              rw [e2]; simp; omega
  | ⟨1, _⟩ => show win0_2.index t 1 * 128 + 1 * l.val = l.val
              rw [e2]; simp

/-- A block index map that is zero everywhere starts every block at the array's origin. -/
theorem origin (s : Fin 2 → Nat) : (fun a => (![0, 0] : Fin 2 → Nat) a * s a) = fun _ => 0 :=
  funext fun a => by fin_cases a <;> exact Nat.zero_mul _

theorem origin3 (s : Fin 3 → Nat) : (fun a => (![0, 0, 0] : Fin 3 → Nat) a * s a) = fun _ => 0 :=
  funext fun a => by fin_cases a <;> exact Nat.zero_mul _

theorem origin4 (s : Fin 4 → Nat) : (fun a => (![0, 0, 0, 0] : Fin 4 → Nat) a * s a) = fun _ => 0 :=
  funext fun a => by fin_cases a <;> exact Nat.zero_mul _

theorem iblk_conv0 (t : Fin cfg0.N) (q : Fin 8) (j : Fin 4096) (h : 5 ≤ q.val) :
    iblk m c 3 t (ix3 (0 : Fin 1) q j) = m ((c : Thread nD τ).loc main_arg2) (ix2 (⟨q.val - 5, by omega⟩ : Fin 3) j) :=
  (congrFun (Memref.read_access_unit_zero (Elt Ideal) main_v10 (origin3 _) (fun a => by rw [congrFun (origin3 _) a]; simp) (V m c main_v10)) _).trans
    (V_conv0 m c q j h)

theorem iblk_h0 (t : Fin cfg0.N) (i : S1x8x256x128.Idx) :
    iblk m c 4 t i = m ((c : Thread nD τ).loc main_arg3) i :=
  (congrFun (Memref.read_access_unit_zero (Elt Ideal) main_arg3 (origin4 _) (fun a => by rw [congrFun (origin4 _) a]; simp) (V m c main_arg3)) _).trans
    (congrFun (V_main_arg3 m c) _)

theorem iblk_cw (t : Fin cfg0.N) (q : Fin 4) (j : Fin 4096) :
    iblk m c 5 t (ix2 q j) = m ((c : Thread nD τ).loc main_arg4) (ix2 q j) :=
  (congrFun (Memref.read_access_unit_zero (Elt Ideal) main_arg4 (origin _) (fun a => by rw [congrFun (origin _) a]; simp) (V m c main_arg4)) _).trans
    (congrFun (V_main_arg4 m c) _)

theorem iblk_cb (t : Fin cfg0.N) (j : Fin 4096) :
    iblk m c 6 t (ix2 (0 : Fin 1) j) = m ((c : Thread nD τ).loc main_arg5) (ix1 j) :=
  (congrFun (Memref.read_access_unit_zero (Elt Ideal) main_v0 (origin _) (fun a => by rw [congrFun (origin _) a]; simp) (V m c main_v0)) _).trans
    (V_cb m c j)

theorem iblk_dtb (t : Fin cfg0.N) (h : Fin 32) :
    iblk m c 7 t (ix2 (0 : Fin 1) (laneOf h)) = m ((c : Thread nD τ).loc main_arg6) (ix1 h) :=
  (congrFun (Memref.read_access_unit_zero (Elt Ideal) main_v2 (origin _) (fun a => by rw [congrFun (origin _) a]; simp) (V m c main_v2)) _).trans
    (V_dtb m c h)

theorem iblk_alog (t : Fin cfg0.N) (h : Fin 32) :
    iblk m c 8 t (ix2 (0 : Fin 1) (laneOf h)) = m ((c : Thread nD τ).loc main_arg7) (ix1 h) :=
  (congrFun (Memref.read_access_unit_zero (Elt Ideal) main_v4 (origin _) (fun a => by rw [congrFun (origin _) a]; simp) (V m c main_v4)) _).trans
    (V_alog m c h)

theorem iblk_dsk (t : Fin cfg0.N) (j : Fin 2048) :
    iblk m c 9 t (ix2 (0 : Fin 1) j) = m ((c : Thread nD τ).loc main_arg8) (ix1 (headCol j)) :=
  (congrFun (Memref.read_access_unit_zero (Elt Ideal) main_v7 (origin _) (fun a => by rw [congrFun (origin _) a]; simp) (V m c main_v7)) _).trans
    (V_dsk m c j)

theorem iblk_ng (t : Fin cfg0.N) (j : Fin 2048) :
    iblk m c 10 t (ix2 (0 : Fin 1) j) = m ((c : Thread nD τ).loc main_arg9) (ix1 j) :=
  (congrFun (Memref.read_access_unit_zero (Elt Ideal) main_v8 (origin _) (fun a => by rw [congrFun (origin _) a]; simp) (V m c main_v8)) _).trans
    (V_ng m c j)

end Cert.SsdIdeal.Val
-- ==== Proof.Ssd.Blocks.lean ====
/-
  The SSD kernel: by induction over the grid points, the states they pass on; and the two arrays its write-backs leave.
-/
module

public import proofs.«01_k».proof.Proof.Ssd.Arrays
public import proofs.«01_k».proof.Proof.Ssd.Point

@[expose] public section

noncomputable section

open Idealize.ShloMosaic Idealize.ShloMosaic.TcCoe Idealize.SL.Sem

namespace Cert.SsdIdeal.Val

open Cert.SsdIdeal Cert.SsdIdeal.Gen Cert.Ssd

variable (m : (ℓ : Loc nD τ sig) → Buf (Elt Ideal) ℓ) (c : Dev nD)

/-! ## The states -/

/-- The layer's parameters, as the arguments hold them. -/
def layer : Params where
  cw q j := m ((c : Thread nD τ).loc main_arg4) (ix2 q j)
  cb j := m ((c : Thread nD τ).loc main_arg5) (ix1 j)
  dtb h := m ((c : Thread nD τ).loc main_arg6) (ix1 h)
  alog h := m ((c : Thread nD τ).loc main_arg7) (ix1 h)
  dsk h := m ((c : Thread nD τ).loc main_arg8) (ix1 h)
  ng j := m ((c : Thread nD τ).loc main_arg9) (ix1 j)

/-- The projection. -/
abbrev proj (i : Fin 16384) (k : Fin 6144) : EReal := m ((c : Thread nD τ).loc main_arg0) (ix2 i k)

/-- The convolution state. -/
abbrev conv0 (q : Fin 3) (j : Fin 4096) : EReal := m ((c : Thread nD τ).loc main_arg2) (ix2 q j)

/-- Batch entry `b`'s sequence. -/
abbrev seqs (b : Nat) : Nat → Fin 4096 → EReal := inputs (proj m c) (conv0 m c) b

/-- Batch entry `b`'s step sizes. -/
abbrev sizes (b : Nat) : Nat → Fin 32 → EReal := steps (fun i k => m ((c : Thread nD τ).loc main_arg1) (ix2 i k)) b

/-- The state every sequence starts from. -/
abbrev start (j : Fin 2048) (n : Fin 128) : EReal :=
  m ((c : Thread nD τ).loc main_arg3) (ix4 (0 : Fin 1) (⟨j.val / 256, by omega⟩ : Fin 8) (⟨j.val % 256, by omega⟩ : Fin 256) n)

/-- The state of batch entry `b` before chunk `k`. -/
def states (b k : Nat) (j : Fin 2048) (n : Fin 128) : EReal :=
  (layer m c).state (seqs m c b) (sizes m c b) (start m c) k j n

/-- What point `t` computes before it looks at a group, from the rows it receives. -/
abbrev prep (t : Fin cfg0.N) (carry : Vec Ideal S8x4096 .f32) : Pre :=
  pre (X0_0 m c t) carry (iblk m c 5 t) (iblk m c 6 t) (iblk m c 2 t) (iblk m c 7 t) (iblk m c 8 t)

/-- What point `t` receives, and what it makes of it. -/
structure Point (t : Fin cfg0.N) (carry : Vec Ideal S8x4096 .f32) (hT : Fin 8 → Vec Ideal S1x128x256 .f32) : Prop where
  rows_in : ∀ (q : Fin 8) (j : Fin 4096), 5 ≤ q.val → carry (ix2 q j) = seqs m c (t.val / 16) (128 * (t.val % 16) + (q.val - 5)) j
  state_in : ∀ (g : Fin 8) (s : Fin 128) (q : Fin 256), hT g (ix3 0 s q) = states m c (t.val / 16) (t.val % 16) ⟨256 * g.val + q.val, by omega⟩ s
  out : (outsAt0 m c t.val t.isLt).1 = payOut (payAll (prep m c t carry) hT (pairRow (iblk m c 9 t))) (iblk m c 1 t) (iblk m c 10 t)
  carry_eq : (outsAt0 m c t.val t.isLt).2.2.1 = k0_pay23 (X0_0 m c t)
  state_eq : (outsAt0 m c t.val t.isLt).2.2.2 = rows (fun g => payState (prep m c t carry) (hT g) g)
  last : t.val % 16 = 15 → (outsAt0 m c t.val t.isLt).2.1 = lastRows (lastState (fun g => payState (prep m c t carry) (hT g) g))

theorem x_eq (t : Fin cfg0.N) (r : Fin 128) (j : Fin 4096) :
    X0_0 m c t (ix2 r j) = seqs m c (t.val / 16) (128 * (t.val % 16) + (3 + r.val)) j := by
  have ht : t.val < 128 := lt_of_lt_of_eq t.isLt N_0
  have := r.isLt
  rw [iblk_x m c t r j (by omega)]
  exact (inputs_row (proj m c) (conv0 m c) (t.val / 16) (128 * (t.val % 16) + (3 + r.val)) j (i := ⟨128 * t.val + r.val, by omega⟩) (by omega) (by dsimp only; omega)).symm

theorem dt_eq (t : Fin cfg0.N) (r : Fin 128) (h : Fin 32) :
    iblk m c 2 t (ix2 r (laneOf h)) = sizes m c (t.val / 16) (128 * (t.val % 16) + r.val) h := by
  have ht : t.val < 128 := lt_of_lt_of_eq t.isLt N_0
  have := r.isLt
  rw [iblk_dt m c t r _ (by omega)]
  exact (steps_row (fun i k => m ((c : Thread nD τ).loc main_arg1) (ix2 i k)) (t.val / 16) (128 * (t.val % 16) + r.val) h (i := ⟨128 * t.val + r.val, by omega⟩) (by dsimp only; omega)).symm

variable {m c} {t : Fin cfg0.N} {carry : Vec Ideal S8x4096 .f32} {hT : Fin 8 → Vec Ideal S1x128x256 .f32}

/-- What a point computes first is the layer's own. -/
theorem Point.is (h : Point m c t carry hT) : (prep m c t carry).Is (layer m c) (seqs m c (t.val / 16)) (sizes m c (t.val / 16)) (t.val % 16) :=
  Loads.is
    { rows := x_eq m c t
      carried := h.rows_in
      taps := iblk_cw m c t
      bias := iblk_cb m c t
      sizes := dt_eq m c t
      sizeBias := iblk_dtb m c t
      decays := iblk_alog m c t }

/-- A point's new states are the next chunk's. -/
theorem Point.next (h : Point m c t carry hT) (g : Fin 8) (s : Fin 128) (q : Fin 256) :
    payState (prep m c t carry) (hT g) g (ix3 0 s q) = states m c (t.val / 16) (t.val % 16 + 1) ⟨256 * g.val + q.val, by omega⟩ s := by
  rw [payState_eq]
  exact h.is.state_eq g (hT g) (start m c) (h.state_in g) s q

/-- A point's block of outputs. -/
theorem Point.out_eq (h : Point m c t carry hT) (r : Fin 128) (j : Fin 2048) (hr : 128 * t.val + r.val < 16384) :
    (outsAt0 m c t.val t.isLt).1 (ix2 r j)
      = (layer m c).outRow (seqs m c (t.val / 16)) (sizes m c (t.val / 16)) (states m c (t.val / 16) (t.val % 16)) (t.val % 16) r
          (fun k => proj m c ⟨128 * t.val + r.val, hr⟩ ⟨4096 + k.val, by omega⟩) j := by
  have hy : ∀ k : Fin 2048, payAll (prep m c t carry) hT (pairRow (iblk m c 9 t)) (ix2 r k)
      = (layer m c).scanOut (seqs m c (t.val / 16)) (sizes m c (t.val / 16)) (states m c (t.val / 16) (t.val % 16)) (t.val % 16) r k := fun k =>
    h.is.all_eq hT (pairRow (iblk m c 9 t)) (states m c (t.val / 16) (t.val % 16)) h.state_in
      (fun n l => iblk_dsk m c t (colOf n l)) r k
  have hz : ∀ k : Fin 2048, iblk m c 1 t (ix2 r k) = proj m c ⟨128 * t.val + r.val, hr⟩ ⟨4096 + k.val, by omega⟩ :=
    fun k => iblk_z m c t r k hr
  rw [h.out]
  refine (payOut_at _ _ _ r j).trans ?_
  unfold Params.outRow
  exact congrArg₂ (fun v ng => groupNorm v ng j)
    (funext fun k => congrArg₂ (fun a z => a * (z * Ideal.logistic z)) (hy k) (hz k)) (funext fun k => iblk_ng m c t k)

theorem Point.state_out (h : Point m c t carry hT) (g : Fin 8) (s : Fin 128) (q : Fin 256) :
    groupState (outsAt0 m c t.val t.isLt).2.2.2 g (ix3 0 s q) = states m c (t.val / 16) (t.val % 16 + 1) ⟨256 * g.val + q.val, by omega⟩ s := by
  rw [h.state_eq]
  exact h.next g s q

theorem Point.rows_out (h : Point m c t carry hT) (q : Fin 8) (j : Fin 4096) (hq : 5 ≤ q.val) :
    (outsAt0 m c t.val t.isLt).2.2.1 (ix2 q j) = seqs m c (t.val / 16) (128 * (t.val % 16 + 1) + (q.val - 5)) j := by
  rw [h.carry_eq, tail_at, x_eq]
  exact congrArg (seqs m c (t.val / 16) · j) (by dsimp only; omega)

variable (m c)

/-- The first point of a sequence receives the arguments' states. -/
theorem first_point (t : Fin cfg0.N) (h0 : t.val % 16 = 0) : Point m c t (k0_pay6 (iblk m c 3 t)) (startState (iblk m c 4 t)) := by
  have h1 : ¬t.val % 16 = 15 := by omega
  refine ⟨fun q j hq => ?_, fun g s q => ?_, out_A m c t h0 h1, carry_A m c t h0 h1, state_A m c t h0 h1, fun h => absurd h h1⟩
  · rw [first_at, iblk_conv0 m c t q j hq, h0]
    exact (inputs_front (proj m c) (conv0 m c) (t.val / 16) _ j).symm.trans (congrArg (seqs m c (t.val / 16) · j) (Nat.zero_add _).symm)
  · rw [start_at, iblk_h0, h0]
    have hg : (256 * g.val + q.val) / 256 = g.val := by omega
    have hq : (256 * g.val + q.val) % 256 = q.val := by omega
    show _ = start m c _ s
    exact (congrArg₂ (fun a b => m ((c : Thread nD τ).loc main_arg3) (ix4 (0 : Fin 1) a b s)) (Fin.ext hg) (Fin.ext hq)).symm

/-- Every point receives the states its predecessors computed. -/
theorem points (n : Nat) : ∀ t : Fin cfg0.N, t.val = n → ∃ carry hT, Point m c t carry hT := by
  induction n with
  | zero => exact fun t ht => ⟨_, _, first_point m c t (by rw [ht])⟩
  | succ n ih =>
    intro t ht
    by_cases h0 : t.val % 16 = 0
    · exact ⟨_, _, first_point m c t h0⟩
    · have hlt : t.val - 1 < cfg0.N := Nat.lt_of_le_of_lt (Nat.sub_le _ _) t.isLt
      obtain ⟨carry, hT, h⟩ := ih ⟨t.val - 1, hlt⟩ (by dsimp only; omega)
      have e1 : (t.val - 1) / 16 = t.val / 16 := by omega
      have e2 : (t.val - 1) % 16 + 1 = t.val % 16 := by omega
      have hr := h.rows_out
      have hs := h.state_out
      dsimp only at hr hs
      rw [e1, e2] at hr hs
      by_cases h1 : t.val % 16 = 15
      · exact ⟨_, _, hr, hs, out_C m c t h0 h1, carry_C m c t h0 h1, state_C m c t h0 h1, fun _ => last_C m c t h0 h1⟩
      · exact ⟨_, _, hr, hs, out_B m c t h0 h1, carry_B m c t h0 h1, state_B m c t h0 h1, fun h => absurd h h1⟩

/-! ## The arrays the write-backs leave -/

/-- One entry of the output. -/
def outAt (i : Fin 16384) (j : Fin 2048) : EReal :=
  (layer m c).outRow (seqs m c (i.val / 2048)) (sizes m c (i.val / 2048)) (states m c (i.val / 2048) (i.val % 2048 / 128))
    (i.val % 2048 / 128) ⟨i.val % 128, by omega⟩ (fun k => proj m c i ⟨4096 + k.val, by omega⟩) j

/-- The output. -/
def G (c : Dev nD) : Buf (Elt Ideal) ((c : Thread nD τ).loc main_v11_0) := fun i : S16384x2048.Idx => outAt m c (i 0) (i 1)

/-- One entry of the last states. -/
def lastAt (b g : Fin 8) (q : Fin 256) (s : Fin 128) : EReal := states m c b.val 16 ⟨256 * g.val + q.val, by omega⟩ s

/-- The last states. -/
def H (c : Dev nD) : Buf (Elt Ideal) ((c : Thread nD τ).loc main_v11_1) := fun i : S8x8x256x128.Idx => lastAt m c (i 0) (i 1) (i 2) (i 3)

theorem flushed_G (t : Fin cfg0.N) : (dats m 0 c).flushed 11 t = (win0_11.blk t).view.read (Elt Ideal) (G m c) := by
  obtain ⟨-, -, -, e11, -⟩ := idx_rows t
  have ht : t.val < 128 := lt_of_lt_of_eq t.isLt N_0
  obtain ⟨carry, hT, h⟩ := points m c t.val t rfl
  rw [Value.flushed11 m c t]
  funext q
  obtain ⟨r, j, rfl⟩ : ∃ (r : Fin 128) (j : Fin 2048), q = ix2 r j := ⟨q 0, q 1, Shape.Idx.norm2 (n0 := 128) (n1 := 2048) q⟩
  have hr : 128 * t.val + r.val < 16384 := by have := r.isLt; omega
  have hq : (win0_11.blk t).view.emb (ix2 r j) = ix2 (⟨128 * t.val + r, hr⟩ : Fin 16384) j := funext fun a => Fin.ext (by
    match a with
    | ⟨0, _⟩ => show win0_11.index t 0 * 128 + 1 * r.val = 128 * t.val + r.val
                rw [e11]; simp; omega
    | ⟨1, _⟩ => show win0_11.index t 1 * 2048 + 1 * j.val = j.val
                rw [e11]; simp)
  rw [View.read_apply, hq]
  show (outsAt0 m c t.val t.isLt).1 (ix2 r j) = outAt m c ⟨128 * t.val + r, hr⟩ j
  refine (h.out_eq r j hr).trans ?_
  unfold outAt
  have := r.isLt
  have e1 : (128 * t.val + r.val) / 2048 = t.val / 16 := by omega
  have e2 : (128 * t.val + r.val) % 2048 / 128 = t.val % 16 := by omega
  have e3 : (⟨(128 * t.val + r.val) % 128, by omega⟩ : Fin 128) = r := Fin.ext (by dsimp only; omega)
  dsimp only
  rw [e1, e2, e3]

theorem flushed_H (t : Fin cfg0.N) (hf : (cfg0.win 12).flush t = true) :
    (dats m 0 c).flushed 12 t = (win0_12.blk t).view.read (Elt Ideal) (H m c) := by
  obtain ⟨-, -, -, -, e12⟩ := idx_rows t
  have ht : t.val < 128 := lt_of_lt_of_eq t.isLt N_0
  have h15 : t.val % 16 = 15 := (flush0_12 t).mp hf
  obtain ⟨carry, hT, h⟩ := points m c t.val t rfl
  rw [Value.flushed12 m c t]
  funext i
  obtain ⟨g, q, s, rfl⟩ : ∃ (g : Fin 8) (q : Fin 256) (s : Fin 128), i = ix4 (0 : Fin 1) g q s := ⟨i 1, i 2, i 3, funext fun a => by
    match a with
    | ⟨0, _⟩ => exact Subsingleton.elim (α := Fin 1) _ _
    | ⟨1, _⟩ => rfl
    | ⟨2, _⟩ => rfl
    | ⟨3, _⟩ => rfl⟩
  have hq : (win0_12.blk t).view.emb (ix4 (0 : Fin 1) g q s) = ix4 (⟨t.val / 16, by omega⟩ : Fin 8) g q s := funext fun a => Fin.ext (by
    match a with
    | ⟨0, _⟩ => show win0_12.index t 0 * 1 + 1 * 0 = t.val / 16
                rw [e12]; simp
    | ⟨1, _⟩ => show win0_12.index t 1 * 8 + 1 * g.val = g.val
                rw [e12]; simp
    | ⟨2, _⟩ => show win0_12.index t 2 * 256 + 1 * q.val = q.val
                rw [e12]; simp
    | ⟨3, _⟩ => show win0_12.index t 3 * 128 + 1 * s.val = s.val
                rw [e12]; simp)
  rw [View.read_apply, hq]
  show (outsAt0 m c t.val t.isLt).2.1 (ix4 (0 : Fin 1) g q s) = lastAt m c ⟨t.val / 16, by omega⟩ g q s
  rw [h.last h15]
  refine (last_at _ g q s).trans ((h.next g s q).trans ?_)
  rw [h15]
  rfl

theorem final_G : (dats m 0 c).arrAt 11 cfg0.N = G m c :=
  (dats m 0 c).arrAt_eq_of_cover 11 (G m c) (fun t _ => flushed_G m c t) fun i => (Value.covered_iff11 i).2 (by
    have h0 : (i 0).val < 16384 := (i 0).isLt; have h1 : (i 1).val < 2048 := (i 1).isLt; omega)

theorem final_H : (dats m 0 c).arrAt 12 cfg0.N = H m c :=
  (dats m 0 c).arrAt_eq_of_cover 12 (H m c) (flushed_H m c) fun i => (Value.covered_iff12 i).2 (by
    have h0 : (i 0).val < 8 := (i 0).isLt; have h1 : (i 1).val < 8 := (i 1).isLt
    have h2 : (i 2).val < 256 := (i 2).isLt; have h3 : (i 3).val < 128 := (i 3).isLt; omega)

end Cert.SsdIdeal.Val
-- ==== Proof.Ssd.Window.lean ====
/-
  A sum over a window that reaches back over all earlier rows is the sum of the rows up to this one.
-/
module

public import proofs.«01_k».proof.Proof.Gen.SsdRefIdeal.Step
public import Idealize.ShloMosaic.Lib.Pointwise

@[expose] public section

noncomputable section

open Idealize.ShloMosaic Idealize.ShloMosaic.TcCoe Idealize.SL.Sem

namespace Cert.SsdRefIdeal.Val

open Cert.SsdRefIdeal Cert.SsdRefIdeal.Gen

/-- Adding up a list from the left is the start plus the sum. -/
theorem foldl_sum {α : Type} (T : α → EReal) (L : List α) (z : EReal) :
    L.foldl (fun r n => r + T n) z = z + (L.map T).sum := by
  induction L generalizing z with
  | nil => exact (add_zero z).symm
  | cons a L ih => rw [List.foldl_cons, ih, List.map_cons, List.sum_cons, add_assoc]

/-- How a condition is decided makes no difference. -/
theorem dite_any {p : Prop} (i j : Decidable p) (a : p → EReal) (b : ¬p → EReal) : @dite EReal p i a b = @dite EReal p j a b := by
  rw [Subsingleton.elim i j]

/-- The window. -/
abbrev Win : Shape := ⟨4, ![1, 128, 1, 1]⟩

/-- What the window's place `i` holds at row `j`: the operand's element there, or `v` above the first row. -/
def place (x : Vec Ideal S8x128x8x4 .f32) (v : EReal) (j : S8x128x8x4.Idx) (i : Win.Idx) : EReal :=
  if hin : ∀ a : Fin 4, (![0, 127, 0, 0] : Fin 4 → Nat) a ≤ (j a).val * (![1, 1, 1, 1] : Fin 4 → Nat) a + (i a).val
      ∧ (j a).val * (![1, 1, 1, 1] : Fin 4 → Nat) a + (i a).val - (![0, 127, 0, 0] : Fin 4 → Nat) a < S8x128x8x4.size a
    then x (fun a => ⟨(j a).val * (![1, 1, 1, 1] : Fin 4 → Nat) a + (i a).val - (![0, 127, 0, 0] : Fin 4 → Nat) a, (hin a).2⟩) else v

variable (x : Vec Ideal S8x128x8x4 .f32) (b : Fin 8) (l : Fin 128) (g : Fin 8) (q : Fin 4)

theorem place_at (i : Win.Idx) : place x 0 (ix4 b l g q) i
    = if (l.val + (i 1).val + 1) % 128 ≤ l.val then x (ix4 b ⟨(l.val + (i 1).val + 1) % 128, Nat.mod_lt _ (by norm_num)⟩ g q) else 0 := by
  have h0 : (i 0).val < 1 := (i 0).isLt
  have h1 : (i 1).val < 128 := (i 1).isLt
  have h2 : (i 2).val < 1 := (i 2).isLt
  have h3 : (i 3).val < 1 := (i 3).isLt
  unfold place
  by_cases h : 127 ≤ l.val + (i 1).val
  · have hm : (l.val + (i 1).val + 1) % 128 = l.val + (i 1).val - 127 := by omega
    rw [if_pos (by omega), dif_pos (fun a => by
      match a with
      | ⟨0, _⟩ => exact ⟨Nat.zero_le _, show b.val * 1 + (i 0).val - 0 < 8 by omega⟩
      | ⟨1, _⟩ => exact ⟨show 127 ≤ l.val * 1 + (i 1).val by omega, show l.val * 1 + (i 1).val - 127 < 128 by omega⟩
      | ⟨2, _⟩ => exact ⟨Nat.zero_le _, show g.val * 1 + (i 2).val - 0 < 8 by omega⟩
      | ⟨3, _⟩ => exact ⟨Nat.zero_le _, show q.val * 1 + (i 3).val - 0 < 4 by omega⟩)]
    refine congrArg x (funext fun a => Fin.ext ?_)
    match a with
    | ⟨0, _⟩ => show b.val * 1 + (i 0).val - 0 = b.val; omega
    | ⟨1, _⟩ => show l.val * 1 + (i 1).val - 127 = (l.val + (i 1).val + 1) % 128; omega
    | ⟨2, _⟩ => show g.val * 1 + (i 2).val - 0 = g.val; omega
    | ⟨3, _⟩ => show q.val * 1 + (i 3).val - 0 = q.val; omega
  · rw [if_neg (by omega), dif_neg (fun hin => h (by
      have e : 127 ≤ l.val * 1 + (i 1).val := (hin 1).1
      omega))]

/-- The window sum at row `l` is the sum of the rows up to `l`. -/
theorem window_at (v : Vec Ideal S_ .f32) (hv : v (Shape.Idx.first h_S_) = 0) :
    Host.reduceWindowAdd (F := Ideal) (φ := .f32) (s := S8x128x8x4) (t := S8x128x8x4) (u := S_) ![1, 128, 1, 1] ![1, 1, 1, 1] ![0, 127, 0, 0] ![0, 0, 0, 0] x v
        reduceWindows_S8x128x8x4_S8x128x8x4_w1s1p0_0_w128s1p127_0_w1s1p0_0_w1s1p0_0 h_S_ (ix4 b l g q)
      = ∑ k : Fin 128, if k.val ≤ l.val then x (ix4 b k g q) else 0 := by
  unfold Host.reduceWindowAdd
  rw [Ideal.hostReduceWindowAdd_def, hv]
  unfold Ideal.hostReduceWindowAdd Host.reduceWindow
  dsimp only
  refine Eq.trans (b := (List.finRange Win.numel).foldl (fun r n => r + place x 0 (ix4 b l g q) (Win.rowMajor.symm n)) 0) ?_ ?_
  · refine congrArg (fun f => List.foldl f (0 : EReal) (List.finRange Win.numel)) (funext fun r => funext fun n => congrArg (r + ·) ?_)
    unfold place
    exact dite_any _ _ _ _
  rw [foldl_sum, zero_add, ← Fin.sum_univ_def,
    Equiv.sum_comp Win.rowMajor.symm (fun i => place x 0 (ix4 b l g q) i)]
  refine Finset.sum_bij' (fun i _ => ⟨(l.val + (i 1).val + 1) % 128, Nat.mod_lt _ (by norm_num)⟩)
    (fun k _ => (ix4 (0 : Fin 1) (⟨(k.val + 127 - l.val) % 128, Nat.mod_lt _ (by norm_num)⟩ : Fin 128) (0 : Fin 1) (0 : Fin 1) : Win.Idx))
    (fun _ _ => Finset.mem_univ _) (fun _ _ => Finset.mem_univ _) (fun i _ => ?_) (fun k _ => ?_) (fun i _ => place_at x b l g q i)
  · have h0 : (i 0).val < 1 := (i 0).isLt
    have h1 : (i 1).val < 128 := (i 1).isLt
    have h2 : (i 2).val < 1 := (i 2).isLt
    have h3 : (i 3).val < 1 := (i 3).isLt
    refine funext fun a => Fin.ext ?_
    match a with
    | ⟨0, _⟩ => show 0 = (i 0).val; omega
    | ⟨1, _⟩ => show ((l.val + (i 1).val + 1) % 128 + 127 - l.val) % 128 = (i 1).val; omega
    | ⟨2, _⟩ => show 0 = (i 2).val; omega
    | ⟨3, _⟩ => show 0 = (i 3).val; omega
  · refine Fin.ext ?_
    show (l.val + (k.val + 127 - l.val) % 128 + 1) % 128 = k.val
    omega

end Cert.SsdRefIdeal.Val
-- ==== Proof.Ssd.OneTrip.lean ====
/-
  One trip of the SSD reference's loop, read at an index: the chunk it takes, the states it leaves and the outputs it writes
  are the layer's.
-/
module

public import proofs.«01_k».proof.Proof.Ssd.Window
public import proofs.«01_k».proof.Proof.Math.Ssd
public import Idealize.ShloMosaic.Lib.Pointwise
public import Idealize.ShloMosaic.Lib.DynamicIndex

@[expose] public section

noncomputable section

open Idealize.ShloMosaic Idealize.ShloMosaic.TcCoe Idealize.SL.Sem

namespace Cert.SsdRefIdeal.Val

open Cert.SsdRefIdeal Cert.SsdRefIdeal.Gen Cert.Ssd

/-- The column and the head of place `p` of head `r` of group `g`. -/
abbrev col (g : Fin 8) (r : Fin 4) (p : Fin 64) : Fin 2048 := ⟨256 * g.val + (64 * r.val + p.val), by omega⟩
abbrev head (g : Fin 8) (r : Fin 4) : Fin 32 := ⟨g.val * 4 + r.val, by omega⟩

theorem headCol_col (g : Fin 8) (r : Fin 4) (p : Fin 64) : headCol (col g r p) = head g r :=
  Fin.ext (show (256 * g.val + (64 * r.val + p.val)) / 64 = g.val * 4 + r.val by omega)
theorem groupCol_col (g : Fin 8) (r : Fin 4) (p : Fin 64) : groupCol (col g r p) = g :=
  Fin.ext (show (256 * g.val + (64 * r.val + p.val)) / 256 = g.val by omega)

/-- The loop's operands are the layer's, chunk by chunk. -/
structure Reads (s : Step.State Ideal) (L : Params) (seq : Nat → Nat → Fin 4096 → EReal) (dt : Nat → Nat → Fin 32 → EReal) : Prop where
  xs : ∀ (k : Fin 16) (b : Fin 8) (l : Fin 128) (g : Fin 8) (r : Fin 4) (p : Fin 64),
    s.main_v69_0 (ix6 k b l g r p) = L.xcol (seq b.val) (128 * k.val + l.val) (col g r p)
  sized : ∀ (k : Fin 16) (b : Fin 8) (l : Fin 128) (g : Fin 8) (r : Fin 4) (p : Fin 64),
    s.main_v69_1 (ix6 k b l g r p) = L.xcol (seq b.val) (128 * k.val + l.val) (col g r p) * L.dts (dt b.val) (128 * k.val + l.val) (head g r)
  decays : ∀ (k : Fin 16) (b : Fin 8) (l : Fin 128) (g : Fin 8) (r : Fin 4),
    s.main_v69_2 (ix5 k b l g r) = L.logDecay (dt b.val) (128 * k.val + l.val) (head g r)
  rowsB : ∀ (k : Fin 16) (b : Fin 8) (l : Fin 128) (g : Fin 8) (n : Fin 128),
    s.main_v69_3 (ix5 k b l g n) = L.bcol (seq b.val) (128 * k.val + l.val) g n
  rowsC : ∀ (k : Fin 16) (b : Fin 8) (l : Fin 128) (g : Fin 8) (n : Fin 128),
    s.main_v69_4 (ix5 k b l g n) = L.ccol (seq b.val) (128 * k.val + l.val) g n
  skip : ∀ h : Fin 32, s.main_v69_6 (ix1 h) = L.dsk h

/-! ### Where a trip's chunk starts -/

theorem start_eq (k : Nat) (hk : k < 16) : (BitVec.ofNat 32 k).toInt = (k : Int) := by
  rw [BitVec.toInt_ofNat', Int.bmod_def]
  omega

theorem starts {n : Nat} (k : Nat) (hk : k < 16) (f : Fin (n + 1) → IVec S_ 32)
    (h0 : f 0 = constantI S_ 32 (BitVec.ofNat 32 k)) (h1 : ∀ a : Fin n, f a.succ = constantI S_ 32 0#32)
    (a : Fin (n + 1)) : (f a (Shape.Idx.first h_S_)).toInt = ((Fin.cons k (fun _ => 0) : Fin (n + 1) → Nat) a : Int) := by
  refine Fin.cases ?_ (fun a => ?_) a
  · exact (congrArg (fun z : IVec S_ 32 => (z (Shape.Idx.first h_S_)).toInt) h0).trans (start_eq k hk)
  · exact congrArg (fun z : IVec S_ 32 => (z (Shape.Idx.first h_S_)).toInt) (h1 a)

theorem starts6 (k : Nat) (hk : k < 16) (f : Fin 6 → IVec S_ 32)
    (h0 : f 0 = constantI S_ 32 (BitVec.ofNat 32 k)) (h1 : ∀ a : Fin 5, f a.succ = constantI S_ 32 0#32)
    (a : Fin 6) : (f a (Shape.Idx.first h_S_)).toInt = ((![k, 0, 0, 0, 0, 0] : Fin 6 → Nat) a : Int) :=
  (starts k hk f h0 h1 a).trans (congrArg (fun z : Fin 6 → Nat => (z a : Int)) (funext fun a => by fin_cases a <;> rfl))

theorem starts5 (k : Nat) (hk : k < 16) (f : Fin 5 → IVec S_ 32)
    (h0 : f 0 = constantI S_ 32 (BitVec.ofNat 32 k)) (h1 : ∀ a : Fin 4, f a.succ = constantI S_ 32 0#32)
    (a : Fin 5) : (f a (Shape.Idx.first h_S_)).toInt = ((![k, 0, 0, 0, 0] : Fin 5 → Nat) a : Int) :=
  (starts k hk f h0 h1 a).trans (congrArg (fun z : Fin 5 → Nat => (z a : Int)) (funext fun a => by fin_cases a <;> rfl))

theorem slices_x (k : Nat) (hk : k < 16) : S16x8x128x8x4x64.Slices ![k, 0, 0, 0, 0, 0] S1x8x128x8x4x64 :=
  ⟨rfl, fun a => by
    match a with
    | ⟨0, _⟩ => show k + 1 ≤ 16; omega
    | ⟨1, _⟩ => exact le_refl 8
    | ⟨2, _⟩ => exact le_refl 128
    | ⟨3, _⟩ => exact le_refl 8
    | ⟨4, _⟩ => exact le_refl 4
    | ⟨5, _⟩ => exact le_refl 64⟩

theorem slices_a (k : Nat) (hk : k < 16) : S16x8x128x8x4.Slices ![k, 0, 0, 0, 0] S1x8x128x8x4 :=
  ⟨rfl, fun a => by
    match a with
    | ⟨0, _⟩ => show k + 1 ≤ 16; omega
    | ⟨1, _⟩ => exact le_refl 8
    | ⟨2, _⟩ => exact le_refl 128
    | ⟨3, _⟩ => exact le_refl 8
    | ⟨4, _⟩ => exact le_refl 4⟩

theorem slices_b (k : Nat) (hk : k < 16) : S16x8x128x8x128.Slices ![k, 0, 0, 0, 0] S1x8x128x8x128 :=
  ⟨rfl, fun a => by
    match a with
    | ⟨0, _⟩ => show k + 1 ≤ 16; omega
    | ⟨1, _⟩ => exact le_refl 8
    | ⟨2, _⟩ => exact le_refl 128
    | ⟨3, _⟩ => exact le_refl 8
    | ⟨4, _⟩ => exact le_refl 128⟩

/-! ### The mask -/

theorem small {n : Nat} (h : n < 128) : (BitVec.ofNat 32 n).toInt = n := by
  rw [BitVec.toInt_ofNat', Int.bmod_eq_of_le] <;> omega

/-- The word that says whether `m ≤ n`. -/
theorem causal_word {n m : Nat} (hn : n < 128) (hm : m < 128) :
    Scalar.select (IntOp.cmpi .sge (IntOp.addi (BitVec.ofNat 32 n) 0#32) (BitVec.ofNat 32 m)) 1#1 0#1 = if m ≤ n then 1#1 else 0#1 := by
  have z : IntOp.addi (BitVec.ofNat 32 n) 0#32 = BitVec.ofNat 32 n := BitVec.add_zero _
  have e : IntOp.cmpi .sge (BitVec.ofNat 32 n) (BitVec.ofNat 32 m) = 1#1 ↔ m ≤ n := by
    refine IntOp.cmpi_sge.trans ?_
    rw [small hn, small hm]
    exact Int.ofNat_le
  rw [z]
  unfold Scalar.select
  by_cases h : m ≤ n
  · rw [if_pos h]; exact if_pos (e.mpr h)
  · rw [if_neg h]; exact if_neg fun hh => h (e.mp hh)

/-- A select by such a word. -/
theorem select_if (c : Prop) [Decidable c] (x y : EReal) : Scalar.select (if c then 1#1 else 0#1) x y = if c then x else y := by
  by_cases h : c
  · rw [if_pos h, if_pos h]; rfl
  · rw [if_neg h, if_neg h]; rfl

/-! ### The trip -/

variable {s : Step.State Ideal} {L : Params} {seq : Nat → Nat → Fin 4096 → EReal} {dt : Nat → Nat → Fin 32 → EReal}
  (R : Reads s L seq dt) (k : Fin 16) (b : Fin 8) (l : Fin 128) (g : Fin 8) (r : Fin 4) (p : Fin 64) (n : Fin 128)
include R

theorem Reads.x_at : Step.b6 k.val s (ix5 b l g r p) = L.xcol (seq b.val) (128 * k.val + l.val) (col g r p) := by
  unfold Step.b6 Step.b5
  rw [Host.dynamicSlice_eq_extractStridedSlice S1x8x128x8x4x64 s.main_v69_0 _ ![k.val, 0, 0, 0, 0, 0] _ (slices_x k.val k.isLt)
    (starts6 k.val k.isLt _ rfl fun a => by fin_cases a <;> rfl), ← R.xs k b l g r p]
  pointwise

theorem Reads.xdt_at : Step.b13 k.val s (ix5 b l g r p)
    = L.xcol (seq b.val) (128 * k.val + l.val) (col g r p) * L.dts (dt b.val) (128 * k.val + l.val) (head g r) := by
  unfold Step.b13 Step.b12
  rw [Host.dynamicSlice_eq_extractStridedSlice S1x8x128x8x4x64 s.main_v69_1 _ ![k.val, 0, 0, 0, 0, 0] _ (slices_x k.val k.isLt)
    (starts6 k.val k.isLt _ rfl fun a => by fin_cases a <;> rfl), ← R.sized k b l g r p]
  pointwise

theorem Reads.a_at : Step.b19 k.val s (ix4 b l g r) = L.logDecay (dt b.val) (128 * k.val + l.val) (head g r) := by
  unfold Step.b19 Step.b18
  rw [Host.dynamicSlice_eq_extractStridedSlice S1x8x128x8x4 s.main_v69_2 _ ![k.val, 0, 0, 0, 0] _ (slices_a k.val k.isLt)
    (starts5 k.val k.isLt _ rfl fun a => by fin_cases a <;> rfl), ← R.decays k b l g r]
  pointwise

theorem Reads.B_at : Step.b25 k.val s (ix4 b l g n) = L.bcol (seq b.val) (128 * k.val + l.val) g n := by
  unfold Step.b25 Step.b24
  rw [Host.dynamicSlice_eq_extractStridedSlice S1x8x128x8x128 s.main_v69_3 _ ![k.val, 0, 0, 0, 0] _ (slices_b k.val k.isLt)
    (starts5 k.val k.isLt _ rfl fun a => by fin_cases a <;> rfl), ← R.rowsB k b l g n]
  pointwise

theorem Reads.C_at : Step.b31 k.val s (ix4 b l g n) = L.ccol (seq b.val) (128 * k.val + l.val) g n := by
  unfold Step.b31 Step.b30
  rw [Host.dynamicSlice_eq_extractStridedSlice S1x8x128x8x128 s.main_v69_4 _ ![k.val, 0, 0, 0, 0] _ (slices_b k.val k.isLt)
    (starts5 k.val k.isLt _ rfl fun a => by fin_cases a <;> rfl), ← R.rowsC k b l g n]
  pointwise

/-- The log-decays summed up within the chunk. -/
theorem Reads.cum_at : Step.b34 k.val s (ix4 b l g r) = L.cum (dt b.val) k.val l (head g r) := by
  unfold Step.b34
  refine (window_at _ b l g r _ ?_).trans (Finset.sum_congr rfl fun i _ => ?_)
  · pointwise [Step.b33, Step.b32]
  · rw [R.a_at k b i g r]

omit R in
theorem mask_at (i : Fin 128) : Step.K_main_v60 (F := Ideal) (ix2 l i) = if i.val ≤ l.val then 1#1 else 0#1 := by
  pointwise [Step.K_main_v60, Step.K_main_call2_v4, Step.K_main_v59, Step.K_main_call2_v5, Step.K_main_c, Step.K_main_call2_v0, Step.K_main_call2_c, Step.K_main_call2_v1, Step.K_main_call2_v2, Step.K_main_call2_v3, Step.K_main_call2_c_0]
  exact causal_word l.isLt i.isLt

theorem Reads.seen_at (i : Fin 128) : Step.b51 k.val s (ix5 b g r l i) = L.seen (dt b.val) k.val l i (head g r) := by
  have e : Step.b51 k.val s (ix5 b g r l i) = Scalar.select (Step.K_main_v60 (F := Ideal) (ix2 l i))
      (Ideal.exp (Scalar.select (Step.K_main_v60 (F := Ideal) (ix2 l i)) (Step.b34 k.val s (ix4 b l g r) - Step.b34 k.val s (ix4 b i g r)) 0)) 0 := by
    pointwise [Step.b51, Step.b50, Step.b49, Step.b48, Step.b47, Step.b46, Step.b45, Step.b44, Step.b43, Step.b42, Step.b41, Step.b40, Step.b39, Step.b38, Step.b37, Step.b36, Step.b35]
  rw [e, mask_at l i, select_if, select_if, R.cum_at k b l g r, R.cum_at k b i g r]
  unfold Params.seen
  by_cases h : i.val ≤ l.val
  · simp only [if_pos h]
  · simp only [if_neg h]

theorem Reads.cb_at (i : Fin 128) : Step.b52 k.val s (ix4 b g l i) = L.cbAt (seq b.val) k.val l i g := by
  unfold Params.cbAt
  simp only [← R.B_at k b i g, ← R.C_at k b l g]
  pointwise [Step.b52, dot_S8x128x8x128_S8x128x8x128_S8x8x128x128_3_3_1_1_02_02]

/-- What a row gets from the rows of its own chunk. -/
theorem Reads.diag_at : Step.b57 k.val s (ix5 b l g r p) = L.diag (seq b.val) (dt b.val) k.val l (col g r p) := by
  have e : Step.b57 k.val s (ix5 b l g r p)
      = ∑ i : Fin 128, Step.b13 k.val s (ix5 b i g r p) * (Step.b52 k.val s (ix4 b g l i) * Step.b51 k.val s (ix5 b g r l i)) := by
    pointwise [Step.b57, Step.b56, Step.b55, Step.b54, Step.b53, dot_S8x128x8x4x64_S8x8x4x128x128_S8x8x4x64x128_1_4_4_3_023_012]
  rw [e]
  refine Finset.sum_congr rfl fun i _ => ?_
  rw [R.xdt_at k b i g r p, R.cb_at k b l g i, R.seen_at k b l g r i, groupCol_col, headCol_col]
  exact mul_comm _ _

/-- What a row gets from the states before its chunk. -/
theorem Reads.off_at : Step.b63 k.val s (ix5 b l g r p)
    = (∑ n : Fin 128, L.ccol (seq b.val) (128 * k.val + l.val) g n * s.main_v69_8 (ix5 b g r p n)) * Ideal.exp (L.cum (dt b.val) k.val l (head g r)) := by
  have e : Step.b63 k.val s (ix5 b l g r p)
      = (∑ n : Fin 128, s.main_v69_8 (ix5 b g r p n) * Step.b31 k.val s (ix4 b l g n)) * Ideal.exp (Step.b34 k.val s (ix4 b l g r)) := by
    pointwise [Step.b63, Step.b62, Step.b61, Step.b60, Step.b59, Step.b58, dot_S8x8x4x64x128_S8x128x8x128_S8x8x4x64x128_4_3_23_1_01_02]
  rw [e, R.cum_at k b l g r]
  refine congrArg (· * _) (Finset.sum_congr rfl fun n _ => ?_)
  rw [R.C_at k b l g n]
  exact mul_comm _ _

/-- The chunk's outputs. -/
theorem Reads.y_at (S : Fin 2048 → Fin 128 → EReal) (hS : ∀ (g : Fin 8) (r : Fin 4) (p : Fin 64) (n : Fin 128), s.main_v69_8 (ix5 b g r p n) = S (col g r p) n) :
    Step.b85 k.val s (ix5 b l g r p) = L.scanOut (seq b.val) (dt b.val) S k.val l (col g r p) := by
  have e : Step.b85 k.val s (ix5 b l g r p)
      = (Step.b57 k.val s (ix5 b l g r p) + Step.b63 k.val s (ix5 b l g r p)) + Step.b6 k.val s (ix5 b l g r p) * s.main_v69_6 (ix1 (head g r)) := by
    pointwise [Step.b85, Step.b84, Step.b83, Step.b82, Step.b81, Step.b80, Step.b79]
  rw [e, R.diag_at k b l g r p, R.off_at k b l g r p, R.x_at k b l g r p, R.skip]
  unfold Params.scanOut
  simp only [hS, groupCol_col, headCol_col]

/-- The chunk's new states. -/
theorem Reads.state_at (h0 : Fin 2048 → Fin 128 → EReal) (hS : s.main_v69_8 (ix5 b g r p n) = L.state (seq b.val) (dt b.val) h0 k.val (col g r p) n) :
    Step.b78 k.val s (ix5 b g r p n) = L.state (seq b.val) (dt b.val) h0 (k.val + 1) (col g r p) n := by
  have e : Step.b78 k.val s (ix5 b g r p n)
      = s.main_v69_8 (ix5 b g r p n) * Ideal.exp (Step.b34 k.val s (ix4 b (127 : Fin 128) g r))
        + ∑ i : Fin 128, (Step.b13 k.val s (ix5 b i g r p) * Ideal.exp (Step.b34 k.val s (ix4 b (127 : Fin 128) g r) - Step.b34 k.val s (ix4 b i g r)))
          * Step.b25 k.val s (ix4 b i g n) := by
    pointwise [Step.b78, Step.b77, Step.b76, Step.b75, Step.b74, Step.b73, Step.b72, Step.b71, Step.b70, Step.b69, Step.b68, Step.b67, Step.b66, Step.b65, Step.b64, dot_S8x128x8x4x64_S8x128x8x128_S8x8x4x64x128_1_1_34_3_02_02]
  rw [e, hS, R.cum_at k b 127 g r]
  show _ = L.state (seq b.val) (dt b.val) h0 k.val (col g r p) n * Ideal.exp (L.cum (dt b.val) k.val 127 (headCol (col g r p))) + _
  rw [headCol_col, groupCol_col]
  refine congrArg (_ + ·) (Finset.sum_congr rfl fun i _ => ?_)
  rw [R.xdt_at k b i g r p, R.cum_at k b i g r, R.B_at k b i g n]
  exact mul_comm _ _

omit R in
/-- A trip writes its chunk's outputs to its own part of the list. -/
theorem list_at (i : Fin 16) : Step.b92 k.val s (ix6 i b l g r p)
    = if i.val = k.val then Step.b85 k.val s (ix5 b l g r p) else s.main_v69_9 (ix6 i b l g r p) := by
  unfold Step.b92 Step.b86
  rw [Host.dynamicUpdateSlice_eq_updateSlice s.main_v69_9 _ _ _ ![k.val, 0, 0, 0, 0, 0] (fun a => by
      rw [starts6 k.val k.isLt _ rfl (fun a => by fin_cases a <;> rfl)]
      match a with
      | ⟨0, _⟩ => show (min (max (k.val : Int) 0) ((16 - 1 : Nat) : Int)).toNat = k.val; omega
      | ⟨1, _⟩ => rfl
      | ⟨2, _⟩ => rfl
      | ⟨3, _⟩ => rfl
      | ⟨4, _⟩ => rfl
      | ⟨5, _⟩ => rfl) (slices_x k.val k.isLt)]
  pointwise
  split
  · next h => exact (if_pos (by omega)).symm
  · next h => exact (if_neg (by omega)).symm

end Cert.SsdRefIdeal.Val
-- ==== Proof.Ssd.Before.lean ====
/-
  The SSD reference before its loop: its values at an index are the layer's sequence, convolution, step sizes and log-decays,
  and the loop's operands are the layer's, chunk by chunk.
-/
module

public import proofs.«01_k».proof.Proof.Ssd.OneTrip

@[expose] public section

noncomputable section

open Idealize.ShloMosaic Idealize.ShloMosaic.TcCoe Idealize.SL.Sem

namespace Cert.SsdRefIdeal.Val

open Cert.SsdRefIdeal Cert.SsdRefIdeal.Gen Cert.Ssd

variable (x0 : Vec Ideal S16384x6144 .f32) (x1 : Vec Ideal S16384x128 .f32) (x2 : Vec Ideal S3x4096 .f32)
  (x3 : Vec Ideal S1x8x256x128 .f32) (x4 : Vec Ideal S4x4096 .f32) (x5 : Vec Ideal S4096 .f32) (x6 : Vec Ideal S32 .f32)
  (x7 : Vec Ideal S32 .f32) (x8 : Vec Ideal S32 .f32) (x9 : Vec Ideal S2048 .f32)

/-- The layer's parameters, as the arguments hold them. -/
def layer : Params where
  cw q j := x4 (ix2 q j)
  cb j := x5 (ix1 j)
  dtb h := x6 (ix1 h)
  alog h := x7 (ix1 h)
  dsk h := x8 (ix1 h)
  ng j := x9 (ix1 j)

/-- Batch entry `b`'s sequence, and its step sizes. -/
abbrev seqs (b : Nat) : Nat → Fin 4096 → EReal := inputs (fun i k => x0 (ix2 i k)) (fun q j => x2 (ix2 q j)) b
abbrev sizes (b : Nat) : Nat → Fin 32 → EReal := steps (fun i k => x1 (ix2 i k)) b

variable (b : Fin 8) (t : Fin 2048) (j : Fin 4096)

/-- The convolution state followed by the projection's first columns. -/
theorem seq_at (n : Fin 2051) : Step.A_main_v4 (F := Ideal) x0 x1 x2 x3 x4 x5 x6 x7 (ix3 b n j) = seqs x0 x2 b.val n.val j := by
  have e : Step.A_main_v4 (F := Ideal) x0 x1 x2 x3 x4 x5 x6 x7 (ix3 b n j)
      = if h : n.val < 3 then x2 (ix2 ⟨n.val, h⟩ j)
        else x0 (ix2 ⟨2048 * b.val + (n.val - 3), by omega⟩ ⟨j.val, by omega⟩) := by
    pointwise [Step.A_main_v0, Step.A_main_v1, Step.A_main_v2, Step.A_main_v3, Step.A_main_v4]
    simp only [Nat.mul_comm]
  rw [e]
  split
  · next h => exact (inputs_front (fun i k => x0 (ix2 i k)) (fun q j => x2 (ix2 q j)) b.val ⟨n.val, h⟩ j).symm
  · next h => exact (inputs_row (fun i k => x0 (ix2 i k)) (fun q j => x2 (ix2 q j)) b.val n.val j (by omega) rfl).symm

theorem conv_at : Step.A_main_v36 (F := Ideal) x0 x1 x2 x3 x4 x5 x6 x7 (ix3 b t j)
    = (layer x4 x5 x6 x7 x8 x9).conv (seqs x0 x2 b.val) t.val j := by
  have e : Step.A_main_v36 (F := Ideal) x0 x1 x2 x3 x4 x5 x6 x7 (ix3 b t j)
      = x5 (ix1 j) + (((0 + seqs x0 x2 b.val t.val j * x4 (ix2 0 j)) + seqs x0 x2 b.val (t.val + 1) j * x4 (ix2 1 j)
        + seqs x0 x2 b.val (t.val + 2) j * x4 (ix2 2 j)) + seqs x0 x2 b.val (t.val + 3) j * x4 (ix2 3 j)) := by
    pointwise [Step.A_main_v5, Step.A_main_v6, Step.A_main_v7, Step.A_main_v8, Step.A_main_v9, Step.A_main_v10, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_v32, Step.A_main_v33, Step.A_main_v34, Step.A_main_v35, Step.A_main_v36, Step.K_main_v11, Step.K_main_cst]
    simp only [seq_at, Nat.add_comm]
  rw [e]
  unfold Params.conv layer
  dsimp only
  rw [zero_add, mul_comm (x4 (ix2 0 j)), mul_comm (x4 (ix2 1 j)), mul_comm (x4 (ix2 2 j)), mul_comm (x4 (ix2 3 j))]
  ac_rfl

/-- The convolution through the silu. -/
theorem xbc_at : Step.A_main_v37 (F := Ideal) x0 x1 x2 x3 x4 x5 x6 x7 (ix3 b t j)
    = (layer x4 x5 x6 x7 x8 x9).xbc (seqs x0 x2 b.val) t.val j := by
  unfold Params.xbc
  rw [← conv_at x0 x1 x2 x3 x4 x5 x6 x7 x8 x9 b t j]
  pointwise [Step.A_main_v37, Step.A_main_call0_v0, Step.A_main_call0_v1, Step.A_main_call0_v3, Step.A_main_call0_v5, Step.K_main_call0_v2, Step.K_main_call0_v4, Step.K_main_call0_cst, Step.K_main_call0_cst_0]
  rfl

theorem absf_eq (z : EReal) : FloatOps.absf (F := Ideal) (φ := .f32) z = max z (-z) := rfl

/-- The step sizes. -/
theorem dts_at (h : Fin 32) : Step.A_main_v48 (F := Ideal) x0 x1 x2 x3 x4 x5 x6 x7 (ix2 (⟨2048 * b.val + t.val, by omega⟩ : Fin 16384) h)
    = (layer x4 x5 x6 x7 x8 x9).dts (sizes x1 b.val) t.val h := by
  have e : Step.A_main_v48 (F := Ideal) x0 x1 x2 x3 x4 x5 x6 x7 (ix2 (⟨2048 * b.val + t.val, by omega⟩ : Fin 16384) h)
      = softplus (x1 (ix2 (⟨2048 * b.val + t.val, by omega⟩ : Fin 16384) (⟨h.val, by omega⟩ : Fin 128)) + x6 (ix1 h)) := by
    pointwise [Step.A_main_v44, Step.A_main_v45, Step.A_main_v46, Step.A_main_v47, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v48, Step.K_main_call1_v0, Step.K_main_call1_v2, Step.K_main_call1_v5, Step.K_main_call1_cst]
    rw [if_neg (not_not_intro rfl), absf_eq]
    rfl
  rw [e]
  exact congrArg (fun z => softplus (z + x6 (ix1 h))) (steps_row (fun i k => x1 (ix2 i k)) b.val t.val h rfl).symm

/-- The log-decays. -/
theorem logDecay_at (h : Fin 32) : Step.A_main_v53 (F := Ideal) x0 x1 x2 x3 x4 x5 x6 x7 (ix2 (⟨2048 * b.val + t.val, by omega⟩ : Fin 16384) h)
    = (layer x4 x5 x6 x7 x8 x9).logDecay (sizes x1 b.val) t.val h := by
  unfold Params.logDecay
  rw [← dts_at x0 x1 x2 x3 x4 x5 x6 x7 x8 x9 b t h]
  pointwise [Step.A_main_v49, Step.A_main_v50, Step.A_main_v51, Step.A_main_v52, Step.A_main_v53]
  rfl

/-! ### The loop's operands -/

variable (k : Fin 16) (l : Fin 128) (g : Fin 8) (r : Fin 4) (p : Fin 64) (n : Fin 128)

/-- Row `l` of chunk `k`. -/
abbrev rowOf : Fin 2048 := ⟨128 * k.val + l.val, by omega⟩

theorem xs_at : Step.A_main_v63 (F := Ideal) x0 x1 x2 x3 x4 x5 x6 x7 (ix6 k b l g r p)
    = (layer x4 x5 x6 x7 x8 x9).xcol (seqs x0 x2 b.val) (128 * k.val + l.val) (col g r p) := by
  refine Eq.trans ?_ (xbc_at x0 x1 x2 x3 x4 x5 x6 x7 x8 x9 b (rowOf k l) ⟨(col g r p).val, by omega⟩)
  pointwise [Step.A_main_v38, Step.A_main_v39, Step.A_main_v63]
  refine congrArg _ (congrArg₂ (ix3 b) (Fin.ext (by dsimp only; omega)) (Fin.ext (by dsimp only; omega)))

theorem sized_at : Step.A_main_v64 (F := Ideal) x0 x1 x2 x3 x4 x5 x6 x7 (ix6 k b l g r p)
    = (layer x4 x5 x6 x7 x8 x9).xcol (seqs x0 x2 b.val) (128 * k.val + l.val) (col g r p)
      * (layer x4 x5 x6 x7 x8 x9).dts (sizes x1 b.val) (128 * k.val + l.val) (head g r) := by
  rw [← xs_at x0 x1 x2 x3 x4 x5 x6 x7 x8 x9 b k l g r p]
  refine Eq.trans ?_ (congrArg (_ * ·) (dts_at x0 x1 x2 x3 x4 x5 x6 x7 x8 x9 b (rowOf k l) (head g r)))
  pointwise [Step.A_main_v55, Step.A_main_v56, Step.A_main_v57, Step.A_main_v58, Step.A_main_v63, Step.A_main_v64]
  refine congrArg (_ * ·) (congrArg _ (congrArg (ix2 · _) (Fin.ext (by dsimp only; omega))))

theorem decays_at : Step.A_main_v65 (F := Ideal) x0 x1 x2 x3 x4 x5 x6 x7 (ix5 k b l g r)
    = (layer x4 x5 x6 x7 x8 x9).logDecay (sizes x1 b.val) (128 * k.val + l.val) (head g r) := by
  refine Eq.trans ?_ (logDecay_at x0 x1 x2 x3 x4 x5 x6 x7 x8 x9 b (rowOf k l) (head g r))
  pointwise [Step.A_main_v54, Step.A_main_v65]
  refine congrArg _ (congrArg (ix2 · _) (Fin.ext (by dsimp only; omega)))

theorem rowsB_at : Step.A_main_v66 (F := Ideal) x0 x1 x2 x3 x4 x5 x6 x7 (ix5 k b l g n)
    = (layer x4 x5 x6 x7 x8 x9).bcol (seqs x0 x2 b.val) (128 * k.val + l.val) g n := by
  refine Eq.trans ?_ (xbc_at x0 x1 x2 x3 x4 x5 x6 x7 x8 x9 b (rowOf k l) ⟨2048 + (128 * g.val + n.val), by omega⟩)
  pointwise [Step.A_main_v40, Step.A_main_v41, Step.A_main_v66]
  refine congrArg _ (congrArg₂ (ix3 b) (Fin.ext (by dsimp only; omega)) (Fin.ext (by dsimp only; omega)))

theorem rowsC_at : Step.A_main_v67 (F := Ideal) x0 x1 x2 x3 x4 x5 x6 x7 (ix5 k b l g n)
    = (layer x4 x5 x6 x7 x8 x9).ccol (seqs x0 x2 b.val) (128 * k.val + l.val) g n := by
  refine Eq.trans ?_ (xbc_at x0 x1 x2 x3 x4 x5 x6 x7 x8 x9 b (rowOf k l) ⟨3072 + (128 * g.val + n.val), by omega⟩)
  pointwise [Step.A_main_v42, Step.A_main_v43, Step.A_main_v67]
  refine congrArg _ (congrArg₂ (ix3 b) (Fin.ext (by dsimp only; omega)) (Fin.ext (by dsimp only; omega)))

theorem reads_init : Reads (Step.init x8 x0 x1 x2 x3 x4 x5 x6 x7) (layer x4 x5 x6 x7 x8 x9) (seqs x0 x2) (sizes x1) where
  xs k b l g r p := xs_at x0 x1 x2 x3 x4 x5 x6 x7 x8 x9 b k l g r p
  sized k b l g r p := sized_at x0 x1 x2 x3 x4 x5 x6 x7 x8 x9 b k l g r p
  decays k b l g r := decays_at x0 x1 x2 x3 x4 x5 x6 x7 x8 x9 b k l g r
  rowsB k b l g n := rowsB_at x0 x1 x2 x3 x4 x5 x6 x7 x8 x9 b k l g n
  rowsC k b l g n := rowsC_at x0 x1 x2 x3 x4 x5 x6 x7 x8 x9 b k l g n
  skip _ := rfl

end Cert.SsdRefIdeal.Val
-- ==== Proof.Ssd.Ref.lean ====
/-
  The SSD reference: the states of its loop are the layer's states, its outputs the layer's, chunk by chunk; and its two
  results at an index.
-/
module

public import proofs.«01_k».proof.Proof.Ssd.Before

@[expose] public section

noncomputable section

open Idealize.ShloMosaic Idealize.ShloMosaic.TcCoe Idealize.SL.Sem

namespace Cert.SsdRefIdeal.Val

open Cert.SsdRefIdeal Cert.SsdRefIdeal.Gen Cert.Ssd

variable (x0 : Vec Ideal S16384x6144 .f32) (x1 : Vec Ideal S16384x128 .f32) (x2 : Vec Ideal S3x4096 .f32)
  (x3 : Vec Ideal S1x8x256x128 .f32) (x4 : Vec Ideal S4x4096 .f32) (x5 : Vec Ideal S4096 .f32) (x6 : Vec Ideal S32 .f32)
  (x7 : Vec Ideal S32 .f32) (x8 : Vec Ideal S32 .f32) (x9 : Vec Ideal S2048 .f32)

/-- The loop's states. -/
def runs (n : Nat) : Step.State Ideal :=
  Nat.rec (Step.init x8 x0 x1 x2 x3 x4 x5 x6 x7) (fun k s => Step.step k s) n

/-- The state every sequence starts from. -/
abbrev start (j : Fin 2048) (n : Fin 128) : EReal :=
  x3 (ix4 (0 : Fin 1) (⟨j.val / 256, by omega⟩ : Fin 8) (⟨j.val % 256, by omega⟩ : Fin 256) n)

/-- The state of batch entry `b` before chunk `k`. -/
def states (b k : Nat) (j : Fin 2048) (n : Fin 128) : EReal :=
  (layer x4 x5 x6 x7 x8 x9).state (seqs x0 x2 b) (sizes x1 b) (start x3) k j n

theorem reads (n : Nat) : Reads (runs x0 x1 x2 x3 x4 x5 x6 x7 x8 n) (layer x4 x5 x6 x7 x8 x9) (seqs x0 x2) (sizes x1) := by
  induction n with
  | zero => exact reads_init x0 x1 x2 x3 x4 x5 x6 x7 x8 x9
  | succ n ih => exact ⟨ih.xs, ih.sized, ih.decays, ih.rowsB, ih.rowsC, ih.skip⟩

variable (b : Fin 8) (l : Fin 128) (g : Fin 8) (r : Fin 4) (p : Fin 64)

/-- After `n` trips the loop carries the state before chunk `n`. -/
theorem last_at (n : Nat) (hn : n ≤ 16) (s : Fin 128) :
    (runs x0 x1 x2 x3 x4 x5 x6 x7 x8 n).main_v69_8 (ix5 b g r p s) = states x0 x1 x2 x3 x4 x5 x6 x7 x8 x9 b.val n (col g r p) s := by
  induction n with
  | zero =>
    show Step.A_main_v62 (F := Ideal) x0 x1 x2 x3 x4 x5 x6 x7 (ix5 b g r p s) = start x3 (col g r p) s
    pointwise [Step.A_main_v61, Step.A_main_v62]
    exact congrArg x3 (congrArg₂ (fun u v => ix4 (0 : Fin 1) u v s) (Fin.ext (by dsimp only; omega)) (Fin.ext (by dsimp only; omega)))
  | succ n ih =>
    exact (reads x0 x1 x2 x3 x4 x5 x6 x7 x8 x9 n).state_at ⟨n, hn⟩ b g r p s (start x3) (ih (by omega))

/-- After `n` trips the list's first `n` chunks are the layer's outputs. -/
theorem all_at (n : Nat) (hn : n ≤ 16) (k : Fin 16) (hk : k.val < n) :
    (runs x0 x1 x2 x3 x4 x5 x6 x7 x8 n).main_v69_9 (ix6 k b l g r p)
      = (layer x4 x5 x6 x7 x8 x9).scanOut (seqs x0 x2 b.val) (sizes x1 b.val) (states x0 x1 x2 x3 x4 x5 x6 x7 x8 x9 b.val k.val) k.val l (col g r p) := by
  induction n with
  | zero => omega
  | succ n ih =>
    refine (list_at ⟨n, hn⟩ b l g r p k (s := runs x0 x1 x2 x3 x4 x5 x6 x7 x8 n)).trans ?_
    split
    · next h =>
      have hk' : k = ⟨n, hn⟩ := Fin.ext h
      subst hk'
      exact (reads x0 x1 x2 x3 x4 x5 x6 x7 x8 x9 n).y_at ⟨n, hn⟩ b l g r p _
        fun g r p s => last_at x0 x1 x2 x3 x4 x5 x6 x7 x8 x9 b g r p n (by omega) s
    · next h => exact ih (by omega) (by have : k.val ≠ n := h; omega)

/-! ### The first result -/

/-- The outputs times the silu of the gate, by groups. -/
def grouped (s : Step.State Ideal) (x0 : FVec Ideal S16384x6144 .f32) : FVec Ideal S16384x8x256 .f32 :=
  shapeCast _ (mulf (F := Ideal) (φ := .f32) (shapeCast _ (transpose S8x16x128x8x4x64 [1, 0, 2, 3, 4, 5] (s.main_v69_9) transposes_S16x8x128x8x4x64_S8x16x128x8x4x64_1_0_2_3_4_5) shapeCasts_S8x16x128x8x4x64_S8x2048x2048 : FVec Ideal S8x2048x2048 .f32)
    (mulf (shapeCast _ (extractStridedSlice S16384x2048 ![0, 4096] x0 slices_S16384x6144_S16384x2048_0_4096) shapeCasts_S16384x2048_S8x2048x2048 : FVec Ideal S8x2048x2048 .f32)
      (Host.divf (broadcastInDim S8x2048x2048 ![] bcast_S_S8x2048x2048 (constant S_ .f32 0x3F800000#32))
        (addf (broadcastInDim S8x2048x2048 ![] bcast_S_S8x2048x2048 (constant S_ .f32 0x3F800000#32))
          (Host.exp (Host.negf (shapeCast _ (extractStridedSlice S16384x2048 ![0, 4096] x0 slices_S16384x6144_S16384x2048_0_4096) shapeCasts_S16384x2048_S8x2048x2048 : FVec Ideal S8x2048x2048 .f32))))))) shapeCasts_S8x2048x2048_S16384x8x256

/-- The norm within each group, scaled. -/
def normed (v : FVec Ideal S16384x8x256 .f32) (x9 : FVec Ideal S2048 .f32) : FVec Ideal S16384x2048 .bf16 :=
  truncf (F := Ideal) .bf16 (mulf (shapeCast S16384x2048 (mulf v (broadcastInDim S16384x8x256 ![0, 1, 2] bcast_S16384x8x1_S16384x8x256_0_1_2 (Host.rsqrt (addf
    (Host.divf (broadcastInDim S16384x8x1 ![0, 1] bcast_S16384x8_S16384x8x1_0_1
      (Host.reduceAdd (mulf v v) (constant S_ .f32 0x00000000#32) reducesTo_S16384x8x256_S16384x8_d2 h_S_))
      (broadcastInDim S16384x8x1 ![] bcast_S_S16384x8x1 (constant S_ .f32 0x43800000#32)))
    (broadcastInDim S16384x8x1 ![] bcast_S_S16384x8x1 (constant S_ .f32 0x358637BD#32)))))) shapeCasts_S16384x8x256_S16384x2048)
    (broadcastInDim S16384x2048 ![0, 1] bcast_S1x2048_S16384x2048_0_1 (broadcastInDim S1x2048 ![1] bcast_S2048_S1x2048_1 x9))) bitsLt_bf16_f32

theorem result_eq (s : Step.State Ideal) : Step.R_main_v91 s x0 x9 = normed (grouped s x0) x9 := rfl

omit b l r p in
theorem grouped_at (s : Step.State Ideal) (i : Fin 16384) (x : Fin 256) : grouped s x0 (ix3 i g x)
    = s.main_v69_9 (ix6 (⟨i.val % 2048 / 128, by omega⟩ : Fin 16) (⟨i.val / 2048, by omega⟩ : Fin 8) (⟨i.val % 2048 % 128, by omega⟩ : Fin 128)
        g (⟨x.val / 64, by omega⟩ : Fin 4) (⟨x.val % 64, by omega⟩ : Fin 64))
      * (x0 (ix2 i ⟨4096 + (256 * g.val + x.val), by omega⟩) * Ideal.div 1 (1 + Ideal.exp (-x0 (ix2 i ⟨4096 + (256 * g.val + x.val), by omega⟩)))) := by
  pointwise [grouped]
  have e : (⟨4096 + (g.val * 256 + x.val), by omega⟩ : Fin 6144) = ⟨4096 + (256 * g.val + x.val), by omega⟩ := Fin.ext (by dsimp only; omega)
  have e4 : (⟨(g.val * 256 + x.val) / 64 % 4, by omega⟩ : Fin 4) = ⟨x.val / 64, by omega⟩ := Fin.ext (by dsimp only; omega)
  have e5 : (⟨(g.val * 256 + x.val) % 64, by omega⟩ : Fin 64) = ⟨x.val % 64, by omega⟩ := Fin.ext (by dsimp only; omega)
  rw [e, e4, e5]

omit b l g r p in
theorem normed_at (v : FVec Ideal S16384x8x256 .f32) (i : Fin 16384) (j : Fin 2048) : normed v x9 (ix2 i j)
    = v (ix3 i ⟨j.val / 256, by omega⟩ ⟨j.val % 256, by omega⟩) * Ideal.rsqrt (Ideal.div (∑ x : Fin 256, v (ix3 i ⟨j.val / 256, by omega⟩ x) * v (ix3 i ⟨j.val / 256, by omega⟩ x)) width
      + Row.eps) * x9 (ix1 j) := by
  pointwise [normed]

/-- The first result: the outputs times the silu of the gate, through the norm. -/
theorem out_at (i : Fin 16384) (j : Fin 2048) : Step.R_main_v91 (runs x0 x1 x2 x3 x4 x5 x6 x7 x8 16) x0 x9 (ix2 i j)
    = (layer x4 x5 x6 x7 x8 x9).outRow (seqs x0 x2 (i.val / 2048)) (sizes x1 (i.val / 2048))
        (states x0 x1 x2 x3 x4 x5 x6 x7 x8 x9 (i.val / 2048) (i.val % 2048 / 128)) (i.val % 2048 / 128) ⟨i.val % 128, by omega⟩
        (fun k => x0 (ix2 i ⟨4096 + k.val, by omega⟩)) j := by
  have hv : ∀ (g : Fin 8) (x : Fin 256), grouped (runs x0 x1 x2 x3 x4 x5 x6 x7 x8 16) x0 (ix3 i g x)
      = (layer x4 x5 x6 x7 x8 x9).scanOut (seqs x0 x2 (i.val / 2048)) (sizes x1 (i.val / 2048))
        (states x0 x1 x2 x3 x4 x5 x6 x7 x8 x9 (i.val / 2048) (i.val % 2048 / 128)) (i.val % 2048 / 128) ⟨i.val % 128, by omega⟩ ⟨256 * g.val + x.val, by omega⟩
        * (x0 (ix2 i ⟨4096 + (256 * g.val + x.val), by omega⟩) * Ideal.logistic (x0 (ix2 i ⟨4096 + (256 * g.val + x.val), by omega⟩))) := fun g x => by
    rw [grouped_at x0 g, all_at x0 x1 x2 x3 x4 x5 x6 x7 x8 x9 _ _ _ _ _ 16 (le_refl _) _ (by dsimp only; omega)]
    have e : (⟨i.val % 2048 % 128, by omega⟩ : Fin 128) = ⟨i.val % 128, by omega⟩ := Fin.ext (by dsimp only; omega)
    have e' : col g ⟨x.val / 64, by omega⟩ ⟨x.val % 64, by omega⟩ = ⟨256 * g.val + x.val, by omega⟩ := Fin.ext (by dsimp only; omega)
    rw [e, e']
    rfl
  rw [result_eq, normed_at]
  simp only [hv]
  unfold Params.outRow groupNorm
  have e : (⟨256 * (j.val / 256) + j.val % 256, by omega⟩ : Fin 2048) = j := Fin.ext (by dsimp only; omega)
  have e' : (⟨4096 + (256 * (j.val / 256) + j.val % 256), by omega⟩ : Fin 6144) = ⟨4096 + j.val, by omega⟩ := Fin.ext (by dsimp only; omega)
  rw [e, e']
  rfl

/-- The second result: the last state. -/
theorem fin_at (q : Fin 256) (s : Fin 128) : Step.R_main_v92 (runs x0 x1 x2 x3 x4 x5 x6 x7 x8 16) (ix4 b g q s)
    = states x0 x1 x2 x3 x4 x5 x6 x7 x8 x9 b.val 16 ⟨256 * g.val + q.val, by omega⟩ s := by
  have e := last_at x0 x1 x2 x3 x4 x5 x6 x7 x8 x9 b g ⟨q.val / 64, by omega⟩ ⟨q.val % 64, by omega⟩ 16 (le_refl _) s
  refine Eq.trans ?_ (e.trans (congrArg (fun j => states x0 x1 x2 x3 x4 x5 x6 x7 x8 x9 b.val 16 j s) (Fin.ext (by dsimp only; omega))))
  pointwise [Step.R_main_v92]

end Cert.SsdRefIdeal.Val
-- ==== Proof.Ssd.Trip.lean ====
/-
  The SSD reference's run over its loop's step: the loop's carried buffers hold the states of any sequence that starts at
  `init` and goes on by `step`, so the results are read off that sequence's last state.
-/
module

public import proofs.«01_k».proof.Proof.Gen.SsdRefIdeal.Run
public import proofs.«01_k».proof.Proof.Gen.SsdRefIdeal.Step

@[expose] public section

noncomputable section

open Idealize.ShloMosaic Idealize.ShloMosaic.TcCoe Idealize.SL.Sem Idealize.ShloMosaic.StableHlo

namespace Cert.SsdRefIdeal.Trip

open Cert.SsdRefIdeal Cert.SsdRefIdeal.Gen Cert.SsdRefIdeal.Value
open Cert.SsdRefIdeal.Step (State step init)

variable {F : FTy → Type} [FloatOps F]

/-- The carried buffers hold the state `s` before trip `j`. -/
structure At (W : Valuation τ sig (Elt F)) (s : State F) (j : ℕ) : Prop where
  xs : W (Proc.devRef .tc main_v69_0) = s.main_v69_0
  sized : W (Proc.devRef .tc main_v69_1) = s.main_v69_1
  decays : W (Proc.devRef .tc main_v69_2) = s.main_v69_2
  rowsB : W (Proc.devRef .tc main_v69_3) = s.main_v69_3
  rowsC : W (Proc.devRef .tc main_v69_4) = s.main_v69_4
  mask : W (Proc.devRef .tc main_v69_5) = Step.K_main_v60 (F := F)
  skip : W (Proc.devRef .tc main_v69_6) = s.main_v69_6
  trip : W (Proc.devRef .tc main_v69_7) = constantI S_ 32 (BitVec.ofNat 32 j)
  last : W (Proc.devRef .tc main_v69_8) = s.main_v69_8
  all : W (Proc.devRef .tc main_v69_9) = s.main_v69_9

variable {W : Valuation τ sig (Elt F)} {s : State F} {j : ℕ}

set_option maxRecDepth 8192 in
theorem sized_eq (h : At W s j) : res_main_while0b_v94 W = Step.b13 j s := by
  unfold res_main_while0b_v94 Step.b13 Step.b12 Step.b11 Step.b10 Step.b9 Step.b8 Step.b7
  rw [h.sized, h.trip]
  try rfl

set_option maxRecDepth 8192 in
theorem rowsB_eq (h : At W s j) : res_main_while0b_v96 W = Step.b25 j s := by
  unfold res_main_while0b_v96 Step.b25 Step.b24 Step.b23 Step.b22 Step.b21 Step.b20
  rw [h.rowsB, h.trip]
  try rfl

set_option maxRecDepth 8192 in
theorem rowsC_eq (h : At W s j) : res_main_while0b_v97 W = Step.b31 j s := by
  unfold res_main_while0b_v97 Step.b31 Step.b30 Step.b29 Step.b28 Step.b27 Step.b26
  rw [h.rowsC, h.trip]
  try rfl

set_option maxRecDepth 8192 in
/-- The log-decays summed up within a trip's chunk. -/
theorem cum_eq (h : At W s j) : res_main_while0b_v98 W = Step.b34 j s := by
  unfold res_main_while0b_v98 Step.b34 Step.b33 Step.b32 Step.b19 Step.b18 Step.b17 Step.b16 Step.b15 Step.b14
  rw [h.decays, h.trip]
  try rfl

set_option maxRecDepth 8192 in
theorem cumT_eq (h : At W s j) : res_main_while0b_v99 W = Step.b35 j s := by
  unfold res_main_while0b_v99 Step.b35
  rw [cum_eq h]

set_option maxRecDepth 8192 in
/-- A trip's new state. -/
theorem state_eq (h : At W s j) : step_main_v69_8 W = Step.b78 j s := by
  unfold step_main_v69_8 Step.b78 Step.b77 Step.b76 Step.b75 Step.b74 Step.b73 Step.b72 Step.b71 Step.b70 Step.b69 Step.b68 Step.b67 Step.b66 Step.b65 Step.b64
  rw [cum_eq h, sized_eq h, rowsB_eq h, h.last]
  try rfl

set_option maxRecDepth 16384 in
/-- A trip's list of the outputs so far. -/
theorem list_eq (h : At W s j) : step_main_v69_9 W = Step.b92 j s := by
  unfold step_main_v69_9 Step.b92 Step.b91 Step.b90 Step.b89 Step.b88 Step.b87 Step.b86 Step.b85 Step.b84 Step.b83 Step.b82 Step.b81 Step.b80 Step.b79 Step.b63 Step.b62 Step.b61 Step.b60 Step.b59 Step.b58 Step.b57 Step.b56 Step.b55 Step.b54 Step.b53 Step.b52 Step.b51 Step.b50 Step.b49 Step.b48 Step.b47 Step.b46 Step.b45 Step.b44 Step.b43 Step.b42 Step.b41 Step.b40 Step.b39 Step.b38 Step.b37 Step.b36 Step.b6 Step.b5 Step.b4 Step.b3 Step.b2 Step.b1 Step.b0
  rw [sized_eq h, rowsC_eq h, rowsB_eq h, cumT_eq h, cum_eq h, h.all, h.mask, h.last, h.xs, h.trip, h.skip]
  try rfl

/-- A trip steps the state and the trip's number. -/
theorem At.next (h : At W s j) : At (STEP W) (step j s) (j + 1) where
  xs := (STEP_main_v69_0 W).trans h.xs
  sized := (STEP_main_v69_1 W).trans h.sized
  decays := (STEP_main_v69_2 W).trans h.decays
  rowsB := (STEP_main_v69_3 W).trans h.rowsB
  rowsC := (STEP_main_v69_4 W).trans h.rowsC
  mask := (STEP_main_v69_5 W).trans h.mask
  skip := (STEP_main_v69_6 W).trans h.skip
  trip := (STEP_main_v69_7 W).trans (by
    unfold step_main_v69_7
    rw [h.trip]
    funext i
    show BitVec.ofNat 32 j + 1#32 = BitVec.ofNat 32 (j + 1)
    simp only [BitVec.ofNat_add])
  last := (STEP_main_v69_8 W).trans (state_eq h)
  all := (STEP_main_v69_9 W).trans (list_eq h)

/-- The state before the first trip. -/
abbrev first (m : (ℓ : Loc nD τ sig) → Buf (Elt F) ℓ) (c : Dev nD) : State F :=
  init (m ((c.tc : Thread nD τ).loc main_arg8)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1000000 in
/-- The loop is entered at `first`. -/
theorem entry : At (entryContents preI m c) (first m c) 0 := by
  constructor <;> (simp only [entryContents, afterL_cons, afterL_nil]; after_reads_simp) <;> rfl

/-- Before trip `k` the carried buffers hold the sequence's `k`-th state. -/
theorem at_trip {it : ℕ → State F} (h0 : it 0 = first m c) (hs : ∀ n, it (n + 1) = step n (it n)) (k : ℕ) :
    At (STEP^[k] (entryContents preI m c)) (it k) k := by
  induction k with
  | zero => exact h0 ▸ entry m c
  | succ k ih => rw [Function.iterate_succ_apply', hs k]; exact ih.next

variable {it : ℕ → State F}

set_option maxRecDepth 8192 in
/-- The first result, read off the last state. -/
theorem out_91 (h0 : it 0 = first m c) (hs : ∀ n, it (n + 1) = step n (it n)) :
    out_main_v91 (STEP^[16] (entryContents preI m c))
      = Step.R_main_v91 (it 16) (m ((c.tc : Thread nD τ).loc main_arg0)) (m ((c.tc : Thread nD τ).loc main_arg9)) := by
  unfold out_main_v91 Step.R_main_v91
  rw [(at_trip m c h0 hs 16).all, iter_main_arg0 m c 16, iter_main_arg9 m c 16]
  try rfl

set_option maxRecDepth 8192 in
/-- The second result, read off the last state. -/
theorem out_92 (h0 : it 0 = first m c) (hs : ∀ n, it (n + 1) = step n (it n)) :
    out_main_v92 (STEP^[16] (entryContents preI m c)) = Step.R_main_v92 (it 16) := by
  unfold out_main_v92 Step.R_main_v92
  rw [(at_trip m c h0 hs 16).last]
  try rfl

end Cert.SsdRefIdeal.Trip
-- ==== Proof.Ssd.Claim.lean ====
/-
  The claims of the SSD prompt kernel.
-/
module

public import proofs.«01_k».proof.Defs
public import proofs.«01_k».proof.Proof.Ssd.Blocks
public import proofs.«01_k».proof.Proof.Ssd.Ref
public import proofs.«01_k».proof.Proof.Ssd.Trip
public import proofs.«01_k».proof.Proof.Gen.Ssd.Frame
public import Idealize.ShloMosaic.Lib.Quiescent

@[expose] public section

noncomputable section

open Idealize.ShloMosaic Idealize.ShloMosaic.TcCoe Idealize.SL.Sem

namespace Cert.Ssd.Claims

theorem frame_p : Cert.quiescent_Ssd := fun m ρ _ => Cert.Ssd.Gen.frame m ρ

theorem frame_pi : Cert.quiescent_SsdIdeal := fun m ρ _ => Cert.SsdIdeal.Gen.frame m ρ

theorem frame_ri : Cert.quiescent_SsdRefIdeal := fun m ρ _ =>
  (θ_run Cert.SsdRefIdeal.defs _ _).mono
    (fun r h => ⟨fun c => (h c).2.2, sem_eq_zero_of_no_sems (by decide) r.2⟩)
    (Cert.SsdRefIdeal.Value.run (F := Ideal) m ρ)

/-- Both programs end with the layer's outputs and last states: the kernel's arrays are `G` and `H` (`final_G`, `final_H`), the
    reference's results read the same values at every index (`out_at`, `fin_at`). -/
theorem algebraic : Cert.algebraic_SsdIdeal_SsdRefIdeal := by
  intro m ρ m' ρ' _ hagree
  refine ⟨fun c => Cert.SsdIdeal.Val.G m c, fun c => Cert.SsdIdeal.Val.H m c, ?_, ?_⟩
  · exact (θ_run Cert.SsdIdeal.defs _ _).mono
      (fun _ h c => ⟨(h c).1.trans (Cert.SsdIdeal.Val.final_G m c), (h c).2.1.trans (Cert.SsdIdeal.Val.final_H m c), (h c).2.2⟩)
      (Cert.SsdIdeal.Value.run_blocks (F := Ideal) m ρ)
  · refine (θ_run Cert.SsdRefIdeal.defs _ _).mono
      (fun _ h c => ⟨((h c).1.trans (Cert.SsdRefIdeal.Trip.out_91 m' c
          (it := Cert.SsdRefIdeal.Val.runs _ _ _ _ _ _ _ _ _) rfl fun _ => rfl)).trans ?_,
        ((h c).2.1.trans (Cert.SsdRefIdeal.Trip.out_92 m' c
          (it := Cert.SsdRefIdeal.Val.runs _ _ _ _ _ _ _ _ _) rfl fun _ => rfl)).trans ?_, (h c).2.2⟩)
      (Cert.SsdRefIdeal.Value.run (F := Ideal) m' ρ')
    · obtain ⟨e0, e1, e2, e3, e4, e5, e6, e7, e8, e9⟩ := hagree c
      rw [e0, e1, e2, e3, e4, e5, e6, e7, e8, e9]
      funext q
      obtain ⟨i, j, rfl⟩ : ∃ (i : Fin 16384) (j : Fin 2048), q = ix2 i j := ⟨q 0, q 1, Shape.Idx.norm2 (n0 := 16384) (n1 := 2048) q⟩
      exact Cert.SsdRefIdeal.Val.out_at _ _ _ _ _ _ _ _ _ _ i j
    · obtain ⟨e0, e1, e2, e3, e4, e5, e6, e7, e8, e9⟩ := hagree c
      rw [e0, e1, e2, e3, e4, e5, e6, e7, e8]
      funext q'
      obtain ⟨b, g, q, n, rfl⟩ : ∃ (b : Fin 8) (g : Fin 8) (q : Fin 256) (n : Fin 128), q' = ix4 b g q n :=
        ⟨q' 0, q' 1, q' 2, q' 3, Shape.Idx.norm4 (n0 := 8) (n1 := 8) (n2 := 256) (n3 := 128) q'⟩
      exact Cert.SsdRefIdeal.Val.fin_at _ _ _ _ _ _ _ _ _ (m ((c : Thread Cert.SsdIdeal.nD Cert.SsdIdeal.τ).loc Cert.SsdIdeal.main_arg9)) b g q n

end Cert.Ssd.Claims
-- ==== Proof.Math.LruStep.lean ====
/-
  One step of the RG-LRU recurrence for one batch entry: the sequence is the three rows of convolution state followed by
  the one new row, and the state after the step is the recurrence's first.
-/
module

public import proofs.«01_k».proof.Proof.Math.Lru

@[expose] public section

noncomputable section

namespace Cert.Lru

open Idealize.ShloMosaic

/-- The three rows of convolution state, then the second half of the projected row. -/
def running (row : Fin 2048 → EReal) (c0 : Fin 3 → Fin 1024 → EReal) (n : Nat) (j : Fin 1024) : EReal :=
  if h : n < 3 then c0 ⟨n, h⟩ j else row ⟨1024 + j.val, by omega⟩

/-- The state after one step: decay times the old state, plus what the unit takes in. -/
theorem Params.stateAt_one (P : Params) (seq : Nat → Fin 1024 → EReal) (h0 : Fin 1024 → EReal) (j : Fin 1024) :
    P.stateAt seq h0 j 1 = P.decayAt seq j 0 * h0 j + P.driveAt seq j 0 := rfl

end Cert.Lru
-- ==== Proof.LruStep.Payload.lean ====
/-
  The RG-LRU single-step kernel: what its one grid point computes from the blocks it loads, read at row `r`, column `j`.
-/
module

public import proofs.«01_k».proof.Proof.Gen.LruStepIdeal.Frame
public import proofs.«01_k».proof.Proof.Math.LruStep

@[expose] public section

noncomputable section

open Idealize.ShloMosaic Idealize.ShloMosaic.TcCoe Idealize.SL.Sem

namespace Cert.LruStepIdeal.Val

open Cert.LruStepIdeal Cert.LruStepIdeal.Gen Cert.Gates Cert.Lru

variable (x s0 s1 s2 h0 g : Vec Ideal S128x1024 .f32) (cw : Fin 4 → Vec Ideal S1x1024 .f32) (cb : Vec Ideal S1x1024 .f32)
  (W : Fin 8 → Vec Ideal S1x128x256 .bf16) (ba bx lam : Vec Ideal S1x1024 .f32) (r : Fin 128) (j : Fin 1024)

/-- The layer's parameters, from what the grid point loads. -/
def params : Params where
  cw q j := cw q (ix2 0 j)
  cb j := cb (ix2 0 j)
  wa q k l := W q (ix3 0 k ⟨l.val, by omega⟩)
  wx q k l := W q (ix3 0 k ⟨128 + l.val, by omega⟩)
  ba j := ba (ix2 0 j)
  bx j := bx (ix2 0 j)
  lam j := lam (ix2 0 j)

/-- The convolution of the rows. -/
abbrev convo : FVec Ideal S128x1024 .f32 := k0_pay3 x s0 s1 s2 cb (cw 3) (cw 0) (cw 1) (cw 2)

/-- The input gate of the rows. -/
abbrev inGate : FVec Ideal S128x1024 .f32 :=
  k0_pay25 (convo x s0 s1 s2 cw cb) (k0_pay6 x s0 s1 s2 cb (cw 3) (cw 0) (cw 1) (cw 2) (W 0))
    (k0_pay10 (k0_pay7 x s0 s1 s2 cb (cw 3) (cw 0) (cw 1) (cw 2)) (W 1)) (k0_pay13 (convo x s0 s1 s2 cw cb) (W 2))
    (k0_pay16 (convo x s0 s1 s2 cw cb) (W 3)) (k0_pay19 (convo x s0 s1 s2 cw cb) (W 4))
    (k0_pay22 (convo x s0 s1 s2 cw cb) (W 5)) (k0_pay23 (convo x s0 s1 s2 cw cb) (W 6)) (W 7) bx

/-- The logarithm of the decays of the rows. -/
abbrev logs : FVec Ideal S128x1024 .f32 :=
  k0_pay26 (convo x s0 s1 s2 cw cb) (k0_pay5 x s0 s1 s2 cb (cw 3) (cw 0) (cw 1) (cw 2) (W 0))
    (k0_pay9 (k0_pay7 x s0 s1 s2 cb (cw 3) (cw 0) (cw 1) (cw 2)) (W 1)) (k0_pay12 (convo x s0 s1 s2 cw cb) (W 2))
    (k0_pay15 (convo x s0 s1 s2 cw cb) (W 3)) (k0_pay18 (convo x s0 s1 s2 cw cb) (W 4))
    (k0_pay21 (convo x s0 s1 s2 cw cb) (W 5)) (k0_pay23 (convo x s0 s1 s2 cw cb) (W 6)) (W 7) ba lam

theorem inGate_at : inGate x s0 s1 s2 cw cb W bx (ix2 r j)
    = Ideal.logistic (blockDot (fun j => convo x s0 s1 s2 cw cb (ix2 r j))
        (params cw cb W ba bx lam).wx j + bx (ix2 0 j)) := by
  unfold inGate
  generalize hc : convo x s0 s1 s2 cw cb = c
  pointwise [k0_pay25, k0_pay6, k0_pay4, k0_pay10, k0_pay8, k0_pay7, k0_pay13, k0_pay11, k0_pay16, k0_pay14, k0_pay19,
    k0_pay17, k0_pay22, k0_pay20, k0_pay23, k0_pay24, dot_S128x128_S128x256_S128x256_1_0_0_1_n_n, hc]
  congr 2
  exact ladder (fun q l => ∑ k : Fin 128, c (ix2 r ⟨128 * q.val + k.val, by omega⟩) * W q (ix3 0 k ⟨128 + l.val, by omega⟩))
    (fun l => ∑ k : Fin 128, c (ix2 r ⟨k.val, by omega⟩) * W 0 (ix3 0 k ⟨128 + l.val, by omega⟩)) (fun l => by simp) j

theorem logs_dot : logs x s0 s1 s2 cw cb W ba lam (ix2 r j)
    = negEight * Ideal.logistic (blockDot (fun j => convo x s0 s1 s2 cw cb (ix2 r j))
        (params cw cb W ba bx lam).wa j + ba (ix2 0 j)) * softplusNeg (lam (ix2 0 j)) := by
  unfold logs
  generalize hc : convo x s0 s1 s2 cw cb = c
  pointwise [k0_pay26, k0_pay5, k0_pay4, k0_pay9, k0_pay8, k0_pay7, k0_pay12, k0_pay11, k0_pay15, k0_pay14, k0_pay18,
    k0_pay17, k0_pay21, k0_pay20, k0_pay23, k0_pay24, dot_S128x128_S128x256_S128x256_1_0_0_1_n_n, hc]
  have habs : ∀ z : EReal, FloatOps.absf (F := Ideal) (φ := .f32) z = max z (-z) := fun _ => rfl
  have hs : ∀ l : EReal, max (0 - l) 0 + Ideal.log1p (Ideal.exp (0 - FloatOps.absf (F := Ideal) (φ := .f32) (0 - l))) = softplusNeg l := fun l => by
    unfold softplusNeg
    rw [habs]; simp only [zero_sub, neg_neg]
  rw [hs]
  congr 3
  congr 1
  exact ladder (fun q l => ∑ k : Fin 128, c (ix2 r ⟨128 * q.val + k.val, by omega⟩) * W q (ix3 0 k ⟨l.val, by omega⟩))
    (fun l => ∑ k : Fin 128, c (ix2 r ⟨k.val, by omega⟩) * W 0 (ix3 0 k ⟨l.val, by omega⟩)) (fun l => by simp) j

/-- The rows the grid point loads, as row `r`'s sequence. -/
structure Loads (seq : Nat → Fin 1024 → EReal) : Prop where
  x : ∀ j : Fin 1024, x (ix2 r j) = seq 3 j
  s0 : ∀ j : Fin 1024, s0 (ix2 r j) = seq 0 j
  s1 : ∀ j : Fin 1024, s1 (ix2 r j) = seq 1 j
  s2 : ∀ j : Fin 1024, s2 (ix2 r j) = seq 2 j

variable {x s0 s1 s2 r} {seq : Nat → Fin 1024 → EReal} (hl : Loads x s0 s1 s2 r seq)
include hl

theorem convo_at : convo x s0 s1 s2 cw cb (ix2 r j) = (params cw cb W ba bx lam).conv seq 0 j := by
  unfold convo
  pointwise [k0_pay3]
  rw [hl.x, hl.s0, hl.s1, hl.s2]
  rfl

theorem inGate_eq : inGate x s0 s1 s2 cw cb W bx (ix2 r j)
    = Ideal.logistic ((params cw cb W ba bx lam).preX seq 0 j) := by
  rw [inGate_at x s0 s1 s2 cw cb W ba bx lam r j, funext fun j => convo_at cw cb W ba bx lam j hl]
  rfl

theorem logs_at : logs x s0 s1 s2 cw cb W ba lam (ix2 r j)
    = logDecay ((params cw cb W ba bx lam).preA seq 0 j) (lam (ix2 0 j)) := by
  rw [logs_dot x s0 s1 s2 cw cb W ba bx lam r j, funext fun j => convo_at cw cb W ba bx lam j hl]
  rfl

end Cert.LruStepIdeal.Val
-- ==== Proof.LruStep.Blocks.lean ====
/-
  The RG-LRU single-step kernel: the blocks its grid point reads, as parts of the argument arrays; what it leaves in the two
  output blocks; and the two arrays after the run.
-/
module

public import proofs.«01_k».proof.Proof.LruStep.Payload
public import Idealize.ShloMosaic.Lib.Pipeline.Value

@[expose] public section

noncomputable section

open Idealize.ShloMosaic Idealize.ShloMosaic.TcCoe Idealize.SL.Sem

namespace Cert.LruStepIdeal.Val

open Cert.LruStepIdeal Cert.LruStepIdeal.Gen Cert.Gates Cert.Lru

theorem hz : (![0, 0] : Fin 2 → Nat) = fun _ => 0 := funext fun a => by fin_cases a <;> rfl

/-! ## The loads of single taps and single gate blocks -/

/-- The convolution's taps, one row each. -/
def tapRow (v : Vec Ideal S4x1024 .f32) (q : Fin 4) : Vec Ideal S1x1024 .f32 :=
  fun i => v (ix2 q (i 1))

/-- The gates' blocks. -/
def gateBlock (v : Vec Ideal S8x128x256 .bf16) (q : Fin 8) : Vec Ideal S1x128x256 .bf16 :=
  fun i => v (ix3 q (i 1) (i 2))

theorem tapRow_eq (v : Vec Ideal S4x1024 .f32) (q : Nat) (hq : q < 4)
    (inb : ∀ a, (![q, 0] : Fin 2 → Nat) a + S1x1024.size a ≤ S4x1024.size a) :
    View.ld v (Rect.unit (s := S4x1024) ![q, 0] S1x1024.size inb) = tapRow v ⟨q, hq⟩ := funext fun i => by
  refine congrArg v (funext fun a => Fin.ext ?_)
  match a with
  | ⟨0, _⟩ => have := (i 0).isLt; dsimp at this; show q + 1 * (i 0).val = q; omega
  | ⟨1, _⟩ => show 0 + 1 * (i 1).val = (i 1).val; omega

theorem gateBlock_eq (v : Vec Ideal S8x128x256 .bf16) (q : Nat) (hq : q < 8)
    (inb : ∀ a, (![q, 0, 0] : Fin 3 → Nat) a + S1x128x256.size a ≤ S8x128x256.size a) :
    View.ld v (Rect.unit (s := S8x128x256) ![q, 0, 0] S1x128x256.size inb) = gateBlock v ⟨q, hq⟩ := funext fun i => by
  refine congrArg v (funext fun a => Fin.ext ?_)
  match a with
  | ⟨0, _⟩ => have := (i 0).isLt; dsimp at this; show q + 1 * (i 0).val = q; omega
  | ⟨1, _⟩ => show 0 + 1 * (i 1).val = (i 1).val; omega
  | ⟨2, _⟩ => show 0 + 1 * (i 2).val = (i 2).val; omega

/-! ## The grid point -/

section Point

variable (x0 x1 x2 x3 x4 x5 : Vec Ideal S128x1024 .f32) (x6 : Vec Ideal S4x1024 .f32) (x7 : Vec Ideal S1x1024 .f32)
  (x8 : Vec Ideal S8x128x256 .bf16) (x9 x10 x11 : Vec Ideal S1x1024 .f32) (r : Fin 128) (j : Fin 1024)

/-- The state the body computes. -/
abbrev next : FVec Ideal S128x1024 .f32 :=
  k0_pay1 (convo x1 x2 x3 x4 (tapRow x6) x7) (inGate x1 x2 x3 x4 (tapRow x6) x7 (gateBlock x8) x10)
    (exp (logs x1 x2 x3 x4 (tapRow x6) x7 (gateBlock x8) x9 x11))
    (subf (broadcast S128x1024 (Scalar.ofBits .f32 0x00000000#32)) (tanh (logs x1 x2 x3 x4 (tapRow x6) x7 (gateBlock x8) x9 x11)))
    (addf (mulf (exp (logs x1 x2 x3 x4 (tapRow x6) x7 (gateBlock x8) x9 x11)) (exp (logs x1 x2 x3 x4 (tapRow x6) x7 (gateBlock x8) x9 x11)))
      (broadcast S128x1024 (Scalar.ofBits .f32 0x3F800000#32))) x5

theorem out13_eq : out0_13 x0 x1 x2 x3 x4 x5 x6 x7 x8 x9 x10 x11 = next x1 x2 x3 x4 x5 x6 x7 x8 x9 x10 x11 := by
  unfold_out out0_13
  rw [View.canon_unit_zero hz]
  simp only [View.ld_unit_zero (S := S128x1024) hz, View.ld_unit_zero (S := S1x1024) hz,
    tapRow_eq x6 0 (by decide), tapRow_eq x6 1 (by decide), tapRow_eq x6 2 (by decide), tapRow_eq x6 3 (by decide),
    gateBlock_eq x8 0 (by decide), gateBlock_eq x8 1 (by decide), gateBlock_eq x8 2 (by decide), gateBlock_eq x8 3 (by decide),
    gateBlock_eq x8 4 (by decide), gateBlock_eq x8 5 (by decide), gateBlock_eq x8 6 (by decide), gateBlock_eq x8 7 (by decide)]
  rfl

variable {x1 x2 x3 x4 r} {seq : Nat → Fin 1024 → EReal} (hl : Loads x1 x2 x3 x4 r seq)
include hl

theorem next_at : next x1 x2 x3 x4 x5 x6 x7 x8 x9 x10 x11 (ix2 r j)
    = (params (tapRow x6) x7 (gateBlock x8) x9 x10 x11).stateAt seq (fun j => x5 (ix2 r j)) j 1 := by
  rw [Params.stateAt_one]
  unfold Params.decayAt Params.driveAt drive decay
  rw [← inGate_eq (tapRow x6) x7 (gateBlock x8) x9 x10 x11 j hl, ← convo_at (tapRow x6) x7 (gateBlock x8) x9 x10 x11 j hl]
  simp only [show (params (tapRow x6) x7 (gateBlock x8) x9 x10 x11).lam j = x11 (ix2 0 j) from rfl,
    ← logs_at (tapRow x6) x7 (gateBlock x8) x9 x10 x11 j hl]
  unfold next
  generalize convo x1 x2 x3 x4 (tapRow x6) x7 = cv
  generalize inGate x1 x2 x3 x4 (tapRow x6) x7 (gateBlock x8) x10 = ig
  generalize logs x1 x2 x3 x4 (tapRow x6) x7 (gateBlock x8) x9 x11 = lg
  pointwise [k0_pay1]

omit hl

theorem out12_at : out0_12 x0 x1 x2 x3 x4 x5 x6 x7 x8 x9 x10 x11 (ix2 r j)
    = next x1 x2 x3 x4 x5 x6 x7 x8 x9 x10 x11 (ix2 r j) * gelu (x0 (ix2 r j)) := by
  have e : out0_12 x0 x1 x2 x3 x4 x5 x6 x7 x8 x9 x10 x11
      = k0_pay2 (convo x1 x2 x3 x4 (tapRow x6) x7) (inGate x1 x2 x3 x4 (tapRow x6) x7 (gateBlock x8) x10)
    (exp (logs x1 x2 x3 x4 (tapRow x6) x7 (gateBlock x8) x9 x11))
    (subf (broadcast S128x1024 (Scalar.ofBits .f32 0x00000000#32)) (tanh (logs x1 x2 x3 x4 (tapRow x6) x7 (gateBlock x8) x9 x11)))
    (addf (mulf (exp (logs x1 x2 x3 x4 (tapRow x6) x7 (gateBlock x8) x9 x11)) (exp (logs x1 x2 x3 x4 (tapRow x6) x7 (gateBlock x8) x9 x11)))
      (broadcast S128x1024 (Scalar.ofBits .f32 0x3F800000#32))) x5 x0 := by
    unfold_out out0_12
    rw [View.canon_unit_zero hz]
    simp only [View.ld_unit_zero (S := S128x1024) hz, View.ld_unit_zero (S := S1x1024) hz,
      tapRow_eq x6 0 (by decide), tapRow_eq x6 1 (by decide), tapRow_eq x6 2 (by decide), tapRow_eq x6 3 (by decide),
      gateBlock_eq x8 0 (by decide), gateBlock_eq x8 1 (by decide), gateBlock_eq x8 2 (by decide), gateBlock_eq x8 3 (by decide),
      gateBlock_eq x8 4 (by decide), gateBlock_eq x8 5 (by decide), gateBlock_eq x8 6 (by decide), gateBlock_eq x8 7 (by decide)]
    rfl
  rw [e]
  unfold next
  generalize convo x1 x2 x3 x4 (tapRow x6) x7 = cv
  generalize inGate x1 x2 x3 x4 (tapRow x6) x7 (gateBlock x8) x10 = ig
  generalize logs x1 x2 x3 x4 (tapRow x6) x7 (gateBlock x8) x9 x11 = lg
  unfold gelu
  pointwise [k0_pay2]

end Point

variable (m : (ℓ : Loc nD τ sig) → Buf (Elt Ideal) ℓ) (c : Dev nD)

/-! ## What the host leaves for the region -/

/-- A vector laid out as a one-row matrix is read at its column. -/
theorem row_at (v : FVec Ideal S1024 .f32) (j : Fin 1024) :
    shapeCast S1x1024 v shapeCasts_S1024_S1x1024 (ix2 (0 : Fin 1) j) = v (ix1 j) := by
  pointwise []

theorem V_cb (j : Fin 1024) : V m c main_v0 (ix2 (0 : Fin 1) j) = m ((c : Thread nD τ).loc main_arg4) (ix1 j) := by
  have e : V m c main_v0 = shapeCast S1x1024 (m ((c : Thread nD τ).loc main_arg4) : FVec Ideal S1024 .f32) shapeCasts_S1024_S1x1024 := by
    unfold V hostOps0; after_results; rfl
  exact (congrFun e _).trans (row_at _ j)

theorem V_ba (j : Fin 1024) : V m c main_v3 (ix2 (0 : Fin 1) j) = m ((c : Thread nD τ).loc main_arg6) (ix1 j) := by
  have e : V m c main_v3 = shapeCast S1x1024 (m ((c : Thread nD τ).loc main_arg6) : FVec Ideal S1024 .f32) shapeCasts_S1024_S1x1024 := by
    unfold V hostOps0; after_results; rfl
  exact (congrFun e _).trans (row_at _ j)

theorem V_bx (j : Fin 1024) : V m c main_v4 (ix2 (0 : Fin 1) j) = m ((c : Thread nD τ).loc main_arg8) (ix1 j) := by
  have e : V m c main_v4 = shapeCast S1x1024 (m ((c : Thread nD τ).loc main_arg8) : FVec Ideal S1024 .f32) shapeCasts_S1024_S1x1024 := by
    unfold V hostOps0; after_results; rfl
  exact (congrFun e _).trans (row_at _ j)

theorem V_lam (j : Fin 1024) : V m c main_v5 (ix2 (0 : Fin 1) j) = m ((c : Thread nD τ).loc main_arg9) (ix1 j) := by
  have e : V m c main_v5 = shapeCast S1x1024 (m ((c : Thread nD τ).loc main_arg9) : FVec Ideal S1024 .f32) shapeCasts_S1024_S1x1024 := by
    unfold V hostOps0; after_results; rfl
  exact (congrFun e _).trans (row_at _ j)

/-- The two gates' blocks side by side. -/
theorem V_gates (q : Fin 8) (k : Fin 128) (l : Fin 256) : V m c main_v2 (ix3 q k l)
    = if h : l.val < 128 then m ((c : Thread nD τ).loc main_arg5) (ix3 q k ⟨l.val, h⟩)
      else m ((c : Thread nD τ).loc main_arg7) (ix3 q k ⟨l.val - 128, by omega⟩) := by
  have e : V m c main_v2 = (truncf .bf16 (concatenate S8x128x256 2 [⟨S8x128x128, (m ((c : Thread nD τ).loc main_arg5) : FVec Ideal S8x128x128 .f32)⟩,
      ⟨S8x128x128, (m ((c : Thread nD τ).loc main_arg7) : FVec Ideal S8x128x128 .f32)⟩] concatenates_S8x128x128_S8x128x128_S8x128x256_d2 :
        FVec Ideal S8x128x256 .f32) bitsLt_bf16_f32 : FVec Ideal S8x128x256 .bf16) := by
    unfold V hostOps0; after_results
  exact (congrFun e _).trans (by pointwise [])

/-- The three rows of convolution state of one batch entry, side by side. -/
theorem V_conv0 (r : Fin 128) (q : Fin 3) (j : Fin 1024) (k : Fin 3072) (h : k.val = 1024 * q.val + j.val) :
    V m c main_v6 (ix2 r k) = m ((c : Thread nD τ).loc main_arg1) (ix3 r q j) := by
  have e : V m c main_v6 = shapeCast S128x3072 (m ((c : Thread nD τ).loc main_arg1) : FVec Ideal S128x3x1024 .f32) shapeCasts_S128x3x1024_S128x3072 := by
    unfold V hostOps0; after_results; rfl
  refine (congrFun e _).trans ?_
  have hq := q.isLt
  have hj := j.isLt
  have e2 : shapeCast S128x3072 (m ((c : Thread nD τ).loc main_arg1) : FVec Ideal S128x3x1024 .f32) shapeCasts_S128x3x1024_S128x3072 (ix2 r k)
      = m ((c : Thread nD τ).loc main_arg1) (ix3 r (⟨k.val / 1024, by omega⟩ : Fin 3) (⟨k.val % 1024, by omega⟩ : Fin 1024)) := by
    pointwise []
  rw [e2]
  exact congrArg₂ (fun a b => m ((c : Thread nD τ).loc main_arg1) (ix3 r a b)) (Fin.ext (show k.val / 1024 = q.val by omega)) (Fin.ext (show k.val % 1024 = j.val by omega))

/-! ## The blocks the grid point reads -/

theorem idx_rows : ∀ t : Fin cfg0.N, win0_0.index t = ![0, 0] ∧ win0_1.index t = ![0, 1] ∧ win0_2.index t = ![0, 0]
    ∧ win0_3.index t = ![0, 1] ∧ win0_4.index t = ![0, 2] ∧ win0_5.index t = ![0, 0] ∧ win0_12.index t = ![0, 0]
    ∧ win0_13.index t = ![0, 0] := (by decide +kernel : ∀ t : Fin grid0.N, _)

variable (t : Fin cfg0.N) (r : Fin 128) (j : Fin 1024)

theorem iblk_gate : iblk m c 0 t (ix2 r j) = m ((c : Thread nD τ).loc main_arg0) (ix2 (⟨r.val, by omega⟩ : Fin 256) (⟨j.val, by omega⟩ : Fin 2048)) := by
  obtain ⟨e, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 128 + 1 * r.val = r.val
              rw [e]; simp
  | ⟨1, _⟩ => show win0_0.index t 1 * 1024 + 1 * j.val = j.val
              rw [e]; simp

theorem iblk_x : iblk m c 1 t (ix2 r j) = m ((c : Thread nD τ).loc main_arg0) (ix2 (⟨r.val, by omega⟩ : Fin 256) (⟨1024 + j.val, by omega⟩ : Fin 2048)) := by
  obtain ⟨-, e, -⟩ := idx_rows t
  unfold iblk
  rw [View.read_apply]
  refine Eq.trans (congrArg (V m c main_arg0) (funext fun a => Fin.ext ?_)) (congrFun (V_main_arg0 m c) _)
  match a with
  | ⟨0, _⟩ => show win0_1.index t 0 * 128 + 1 * r.val = r.val
              rw [e]; simp
  | ⟨1, _⟩ => show win0_1.index t 1 * 1024 + 1 * j.val = 1024 + j.val
              rw [e]; simp

theorem iblk_conv0 : iblk m c 2 t (ix2 r j) = m ((c : Thread nD τ).loc main_arg1) (ix3 r (0 : Fin 3) j) := by
  obtain ⟨-, -, e, -⟩ := idx_rows t
  unfold iblk
  rw [View.read_apply]
  refine Eq.trans (congrArg (V m c main_v6) (funext fun a => Fin.ext ?_)) (V_conv0 m c r 0 j ⟨0 + j.val, by omega⟩ rfl)
  match a with
  | ⟨0, _⟩ => show win0_2.index t 0 * 128 + 1 * r.val = r.val
              rw [e]; simp
  | ⟨1, _⟩ => show win0_2.index t 1 * 1024 + 1 * j.val = 0 + j.val
              rw [e]; simp

theorem iblk_conv1 : iblk m c 3 t (ix2 r j) = m ((c : Thread nD τ).loc main_arg1) (ix3 r (1 : Fin 3) j) := by
  obtain ⟨-, -, -, e, -⟩ := idx_rows t
  unfold iblk
  rw [View.read_apply]
  refine Eq.trans (congrArg (V m c main_v6) (funext fun a => Fin.ext ?_)) (V_conv0 m c r 1 j ⟨1024 + j.val, by omega⟩ rfl)
  match a with
  | ⟨0, _⟩ => show win0_3.index t 0 * 128 + 1 * r.val = r.val
              rw [e]; simp
  | ⟨1, _⟩ => show win0_3.index t 1 * 1024 + 1 * j.val = 1024 + j.val
              rw [e]; simp

theorem iblk_conv2 : iblk m c 4 t (ix2 r j) = m ((c : Thread nD τ).loc main_arg1) (ix3 r (2 : Fin 3) j) := by
  obtain ⟨-, -, -, -, e, -⟩ := idx_rows t
  unfold iblk
  rw [View.read_apply]
  refine Eq.trans (congrArg (V m c main_v6) (funext fun a => Fin.ext ?_)) (V_conv0 m c r 2 j ⟨2048 + j.val, by omega⟩ rfl)
  match a with
  | ⟨0, _⟩ => show win0_4.index t 0 * 128 + 1 * r.val = r.val
              rw [e]; simp
  | ⟨1, _⟩ => show win0_4.index t 1 * 1024 + 1 * j.val = 2048 + j.val
              rw [e]; simp

theorem iblk_h0 : iblk m c 5 t (ix2 r j) = m ((c : Thread nD τ).loc main_arg2) (ix2 r j) := by
  obtain ⟨-, -, -, -, -, e, -⟩ := idx_rows t
  unfold iblk
  rw [View.read_apply]
  refine Eq.trans (congrArg (V m c main_arg2) (funext fun a => Fin.ext ?_)) (congrFun (V_main_arg2 m c) _)
  match a with
  | ⟨0, _⟩ => show win0_5.index t 0 * 128 + 1 * r.val = r.val
              rw [e]; simp
  | ⟨1, _⟩ => show win0_5.index t 1 * 1024 + 1 * j.val = j.val
              rw [e]; simp

/-- A block index map that is zero everywhere starts every block at the array's origin. -/
theorem origin (s : Fin 2 → Nat) : (fun a => (![0, 0] : Fin 2 → Nat) a * s a) = fun _ => 0 :=
  funext fun a => by fin_cases a <;> exact Nat.zero_mul _

theorem origin3 (s : Fin 3 → Nat) : (fun a => (![0, 0, 0] : Fin 3 → Nat) a * s a) = fun _ => 0 :=
  funext fun a => by fin_cases a <;> exact Nat.zero_mul _

theorem iblk_cw (q : Fin 4) : iblk m c 6 t (ix2 q j) = m ((c : Thread nD τ).loc main_arg3) (ix2 q j) :=
  (congrFun (Memref.read_access_unit_zero (Elt Ideal) main_arg3 (origin _) (fun a => by rw [congrFun (origin _) a]; simp) (V m c main_arg3)) _).trans
    (congrFun (V_main_arg3 m c) _)

theorem iblk_gates (q : Fin 8) (k : Fin 128) (l : Fin 256) : iblk m c 8 t (ix3 q k l)
    = if h : l.val < 128 then m ((c : Thread nD τ).loc main_arg5) (ix3 q k ⟨l.val, h⟩)
      else m ((c : Thread nD τ).loc main_arg7) (ix3 q k ⟨l.val - 128, by omega⟩) :=
  (congrFun (Memref.read_access_unit_zero (Elt Ideal) main_v2 (origin3 _) (fun a => by rw [congrFun (origin3 _) a]; simp) (V m c main_v2)) _).trans
    (V_gates m c q k l)

theorem iblk_cb : iblk m c 7 t (ix2 (0 : Fin 1) j) = m ((c : Thread nD τ).loc main_arg4) (ix1 j) :=
  (congrFun (Memref.read_access_unit_zero (Elt Ideal) main_v0 (origin _) (fun a => by rw [congrFun (origin _) a]; simp) (V m c main_v0)) _).trans
    (V_cb m c j)

theorem iblk_ba : iblk m c 9 t (ix2 (0 : Fin 1) j) = m ((c : Thread nD τ).loc main_arg6) (ix1 j) :=
  (congrFun (Memref.read_access_unit_zero (Elt Ideal) main_v3 (origin _) (fun a => by rw [congrFun (origin _) a]; simp) (V m c main_v3)) _).trans
    (V_ba m c j)

theorem iblk_bx : iblk m c 10 t (ix2 (0 : Fin 1) j) = m ((c : Thread nD τ).loc main_arg8) (ix1 j) :=
  (congrFun (Memref.read_access_unit_zero (Elt Ideal) main_v4 (origin _) (fun a => by rw [congrFun (origin _) a]; simp) (V m c main_v4)) _).trans
    (V_bx m c j)

theorem iblk_lam : iblk m c 11 t (ix2 (0 : Fin 1) j) = m ((c : Thread nD τ).loc main_arg9) (ix1 j) :=
  (congrFun (Memref.read_access_unit_zero (Elt Ideal) main_v5 (origin _) (fun a => by rw [congrFun (origin _) a]; simp) (V m c main_v5)) _).trans
    (V_lam m c j)

/-! ## The states -/

/-- The layer's parameters, as the arguments hold them. -/
def layer : Params where
  cw q j := m ((c : Thread nD τ).loc main_arg3) (ix2 q j)
  cb j := m ((c : Thread nD τ).loc main_arg4) (ix1 j)
  wa q k l := m ((c : Thread nD τ).loc main_arg5) (ix3 q k l)
  wx q k l := m ((c : Thread nD τ).loc main_arg7) (ix3 q k l)
  ba j := m ((c : Thread nD τ).loc main_arg6) (ix1 j)
  bx j := m ((c : Thread nD τ).loc main_arg8) (ix1 j)
  lam j := m ((c : Thread nD τ).loc main_arg9) (ix1 j)

theorem params_eq :
    params (tapRow (iblk m c 6 t)) (iblk m c 7 t) (gateBlock (iblk m c 8 t)) (iblk m c 9 t) (iblk m c 10 t) (iblk m c 11 t) = layer m c := by
  have ew : ∀ (q : Fin 8) (k l : Fin 128), gateBlock (iblk m c 8 t) q (ix3 0 k ⟨l.val, by omega⟩)
      = m ((c : Thread nD τ).loc main_arg5) (ix3 q k l) := fun q k l =>
    (iblk_gates m c t q k _).trans (dif_pos l.isLt)
  have ex : ∀ (q : Fin 8) (k l : Fin 128), gateBlock (iblk m c 8 t) q (ix3 0 k ⟨128 + l.val, by omega⟩)
      = m ((c : Thread nD τ).loc main_arg7) (ix3 q k l) := fun q k l =>
    (iblk_gates m c t q k _).trans ((dif_neg (show ¬128 + l.val < 128 by omega)).trans
      (congrArg (fun z => m ((c : Thread nD τ).loc main_arg7) (ix3 q k z)) (Fin.ext (show 128 + l.val - 128 = l.val by omega))))
  have ec : ∀ (q : Fin 4) (j : Fin 1024), tapRow (iblk m c 6 t) q (ix2 0 j) = m ((c : Thread nD τ).loc main_arg3) (ix2 q j) :=
    fun q j => iblk_cw m c t j q
  unfold params layer
  simp only [ew, ex, ec, iblk_cb, iblk_ba, iblk_bx, iblk_lam]

/-- Batch entry `r`'s sequence. -/
abbrev seqs (r : Fin 128) : Nat → Fin 1024 → EReal :=
  running (fun k => m ((c : Thread nD τ).loc main_arg0) (ix2 (⟨r.val, by omega⟩ : Fin 256) k))
    (fun q j => m ((c : Thread nD τ).loc main_arg1) (ix3 r q j))

/-- The state of unit `j` of batch entry `r` after the step. -/
def states (r : Fin 128) (j : Fin 1024) : EReal :=
  (layer m c).stateAt (seqs m c r) (fun j => m ((c : Thread nD τ).loc main_arg2) (ix2 r j)) j 1

theorem loads : Loads (iblk m c 1 t) (iblk m c 2 t) (iblk m c 3 t) (iblk m c 4 t) r (seqs m c r) :=
  ⟨fun j => (iblk_x m c t r j).trans rfl, fun j => (iblk_conv0 m c t r j).trans rfl,
    fun j => (iblk_conv1 m c t r j).trans rfl, fun j => (iblk_conv2 m c t r j).trans rfl⟩

/-! ## The result arrays -/

/-- The first result: every state times the gelu of its gate. -/
def Y : Buf (Elt Ideal) ((c.tc : Thread nD τ).loc main_v7_0) := fun q : S128x1024.Idx =>
  (states m c (q 0) (q 1)
    * gelu (m ((c : Thread nD τ).loc main_arg0) (ix2 (⟨(q 0).val, Nat.lt_trans (q 0).isLt (by decide)⟩ : Fin 256) (⟨(q 1).val, Nat.lt_trans (q 1).isLt (by decide)⟩ : Fin 2048))) : EReal)

/-- The second result: the states. -/
def H : Buf (Elt Ideal) ((c.tc : Thread nD τ).loc main_v7_1) := fun q : S128x1024.Idx => states m c (q 0) (q 1)

theorem state_out : (dats m 0 c).after 13 t (ix2 r j) = H m c (ix2 r j) := by
  rw [after0_13, out13_eq, next_at _ _ _ _ _ _ _ j (loads m c t r), params_eq]
  simp only [iblk_h0]
  rfl

theorem y_out : (dats m 0 c).after 12 t (ix2 r j) = Y m c (ix2 r j) := by
  rw [after0_12, out12_at, next_at _ _ _ _ _ _ _ j (loads m c t r), params_eq, iblk_gate]
  simp only [iblk_h0]
  rfl

/-! ## The result arrays after the run -/

theorem flushed12 : (dats m 0 c).flushed 12 t = (win0_12.blk t).view.read (Elt Ideal) (Y m c) := by
  funext q
  obtain ⟨r, j, rfl⟩ : ∃ (r : Fin 128) (j : Fin 1024), q = ix2 r j := ⟨q 0, q 1, Shape.Idx.norm2 (n0 := 128) (n1 := 1024) q⟩
  obtain ⟨-, -, -, -, -, -, e, -⟩ := idx_rows t
  have hq : (win0_12.blk t).view.emb (ix2 r j) = (ix2 r j : S128x1024.Idx) := funext fun a => Fin.ext (by
    match a with
    | ⟨0, _⟩ => show win0_12.index t 0 * 128 + 1 * r.val = r.val
                rw [e]; simp
    | ⟨1, _⟩ => show win0_12.index t 1 * 1024 + 1 * j.val = j.val
                rw [e]; simp)
  rw [View.read_apply, hq]
  exact y_out m c t r j

theorem cover12 (i : S128x1024.Idx) : ∃ t : Fin cfg0.N, (cfg0.win 12).flush t = true ∧ i ∈ ((cfg0.win 12).blk t).view.set := by
  have h0 : (i 0 : Nat) < 128 := (i 0).isLt
  have h1 : (i 1 : Nat) < 1024 := (i 1).isLt
  let t : Fin cfg0.N := ⟨0, by decide⟩
  refine ⟨t, flush0_12 _, ?_⟩
  obtain ⟨-, -, -, -, -, -, e, -⟩ := idx_rows t
  show i ∈ ((View.whole main_v7_0).slice (win0_12.rect t)).set
  rw [View.set_slice_whole, Rect.mem_set_unit]
  intro a
  match a with
  | ⟨0, _⟩ => show win0_12.index t 0 * 128 ≤ (i 0 : Nat) ∧ (i 0 : Nat) < win0_12.index t 0 * 128 + 128
              rw [e]; simp; omega
  | ⟨1, _⟩ => show win0_12.index t 1 * 1024 ≤ (i 1 : Nat) ∧ (i 1 : Nat) < win0_12.index t 1 * 1024 + 1024
              rw [e]; simp; omega

theorem final12 : (dats m 0 c).arrAt 12 cfg0.N = Y m c :=
  (dats m 0 c).arrAt_eq_of_cover 12 (Y m c) (fun t _ => flushed12 m c t) cover12

theorem flushed13 : (dats m 0 c).flushed 13 t = (win0_13.blk t).view.read (Elt Ideal) (H m c) := by
  funext q
  obtain ⟨r, j, rfl⟩ : ∃ (r : Fin 128) (j : Fin 1024), q = ix2 r j := ⟨q 0, q 1, Shape.Idx.norm2 (n0 := 128) (n1 := 1024) q⟩
  obtain ⟨-, -, -, -, -, -, -, e⟩ := idx_rows t
  have hq : (win0_13.blk t).view.emb (ix2 r j) = (ix2 r j : S128x1024.Idx) := funext fun a => Fin.ext (by
    match a with
    | ⟨0, _⟩ => show win0_13.index t 0 * 128 + 1 * r.val = r.val
                rw [e]; simp
    | ⟨1, _⟩ => show win0_13.index t 1 * 1024 + 1 * j.val = j.val
                rw [e]; simp)
  rw [View.read_apply, hq]
  exact state_out m c t r j

theorem cover13 (i : S128x1024.Idx) : ∃ t : Fin cfg0.N, (cfg0.win 13).flush t = true ∧ i ∈ ((cfg0.win 13).blk t).view.set := by
  have h0 : (i 0 : Nat) < 128 := (i 0).isLt
  have h1 : (i 1 : Nat) < 1024 := (i 1).isLt
  let t : Fin cfg0.N := ⟨0, by decide⟩
  refine ⟨t, flush0_13 _, ?_⟩
  obtain ⟨-, -, -, -, -, -, -, e⟩ := idx_rows t
  show i ∈ ((View.whole main_v7_1).slice (win0_13.rect t)).set
  rw [View.set_slice_whole, Rect.mem_set_unit]
  intro a
  match a with
  | ⟨0, _⟩ => show win0_13.index t 0 * 128 ≤ (i 0 : Nat) ∧ (i 0 : Nat) < win0_13.index t 0 * 128 + 128
              rw [e]; simp; omega
  | ⟨1, _⟩ => show win0_13.index t 1 * 1024 ≤ (i 1 : Nat) ∧ (i 1 : Nat) < win0_13.index t 1 * 1024 + 1024
              rw [e]; simp; omega

theorem final13 : (dats m 0 c).arrAt 13 cfg0.N = H m c :=
  (dats m 0 c).arrAt_eq_of_cover 13 (H m c) (fun t _ => flushed13 m c t) cover13

/-- Every run ends with the two results at `Y` and `H` and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v7_0) = Y m c
      ∧ r.2.mem ((c.tc : Thread nD τ).loc main_v7_1) = H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 12).trans (final12 m c), ((h c).1 13).trans (final13 m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.LruStepIdeal.Val
-- ==== Proof.LruStep.Ref.lean ====
/-
  The plain single step of the RG-LRU layer, read at batch entry `r`, unit `j`: its values are the layer's sequence,
  convolution, gates, decay, drive and state.
-/
module

public import proofs.«01_k».proof.Proof.Gen.LruStepRefIdeal.Read
public import proofs.«01_k».proof.Proof.Math.LruStep

@[expose] public section

noncomputable section

open Idealize.ShloMosaic Idealize.ShloMosaic.TcCoe Idealize.SL.Sem

namespace Cert.LruStepRefIdeal.Val

open Cert.LruStepRefIdeal Cert.LruStepRefIdeal.Read Cert.Gates Cert.Lru

variable (x0 : FVec Ideal S256x2048 .f32) (x1 : FVec Ideal S128x3x1024 .f32) (x2 : FVec Ideal S128x1024 .f32)
  (x3 : FVec Ideal S4x1024 .f32) (x4 : FVec Ideal S1024 .f32) (x5 : FVec Ideal S8x128x128 .f32) (x6 : FVec Ideal S1024 .f32)
  (x7 : FVec Ideal S8x128x128 .f32) (x8 : FVec Ideal S1024 .f32) (x9 : FVec Ideal S1024 .f32)

/-- The layer's parameters, as the arguments hold them. -/
def layer : Params where
  cw q j := x3 (ix2 q j)
  cb j := x4 (ix1 j)
  wa q k l := x5 (ix3 q k l)
  wx q k l := x7 (ix3 q k l)
  ba j := x6 (ix1 j)
  bx j := x8 (ix1 j)
  lam j := x9 (ix1 j)

/-- Batch entry `r`'s sequence. -/
abbrev seqs (r : Fin 128) : Nat → Fin 1024 → EReal :=
  running (fun k => x0 (ix2 (⟨r.val, by omega⟩ : Fin 256) k)) (fun q j => x1 (ix3 r q j))

variable (r : Fin 128) (j : Fin 1024)

/-- The convolution state followed by the projected row's second half. -/
theorem seq_at (n : Fin 4) : val_main_v2 (F := Ideal) x0 x1 (ix3 r n j) = seqs x0 x1 r n.val j := by
  unfold seqs running
  pointwise [val_main_v0, val_main_v1, val_main_v2]

theorem conv_at : val_main_v35 (F := Ideal) x0 x1 x3 x4 (ix2 r j) = (layer x3 x4 x5 x6 x7 x8 x9).conv (seqs x0 x1 r) 0 j := by
  have e : val_main_v35 (F := Ideal) x0 x1 x3 x4 (ix2 r j)
      = x4 (ix1 j) + (((0 + seqs x0 x1 r 0 j * x3 (ix2 0 j)) + seqs x0 x1 r 1 j * x3 (ix2 1 j)
        + seqs x0 x1 r 2 j * x3 (ix2 2 j)) + seqs x0 x1 r 3 j * x3 (ix2 3 j)) := by
    rw [show seqs x0 x1 r 0 j = _ from (seq_at x0 x1 r j 0).symm, show seqs x0 x1 r 1 j = _ from (seq_at x0 x1 r j 1).symm,
      show seqs x0 x1 r 2 j = _ from (seq_at x0 x1 r j 2).symm, show seqs x0 x1 r 3 j = _ from (seq_at x0 x1 r j 3).symm]
    pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst]
  rw [e]
  unfold Params.conv layer
  dsimp only
  rw [zero_add, mul_comm (x3 (ix2 0 j)), mul_comm (x3 (ix2 1 j)), mul_comm (x3 (ix2 2 j)), mul_comm (x3 (ix2 3 j))]
  ac_rfl

/-- The recurrence gate's product. -/
theorem dotA_at : val_main_v39 (F := Ideal) x0 x1 x3 x4 x5 (ix2 r j) = blockDot ((layer x3 x4 x5 x6 x7 x8 x9).conv (seqs x0 x1 r) 0) (layer x3 x4 x5 x6 x7 x8 x9).wa j := by
  rw [← funext fun j => conv_at x0 x1 x3 x4 x5 x6 x7 x8 x9 r j]
  unfold blockDot
  pointwise [val_main_v36, val_main_v37, val_main_v38, val_main_v39, dot_S8x128x128_S128x8x128_S8x128x128_1_2_2_0_0_1]
  exact Finset.sum_congr rfl fun k _ => (mul_comm _ _).trans (by simp only [Nat.mul_comm]; rfl)

/-- The input gate's product. -/
theorem dotX_at : val_main_v51 (F := Ideal) x0 x1 x3 x4 x7 (ix2 r j) = blockDot ((layer x3 x4 x5 x6 x7 x8 x9).conv (seqs x0 x1 r) 0) (layer x3 x4 x5 x6 x7 x8 x9).wx j := by
  rw [← funext fun j => conv_at x0 x1 x3 x4 x5 x6 x7 x8 x9 r j]
  unfold blockDot
  pointwise [val_main_v36, val_main_v49, val_main_v50, val_main_v51, dot_S8x128x128_S128x8x128_S8x128x128_1_2_2_0_0_1]
  exact Finset.sum_congr rfl fun k _ => (mul_comm _ _).trans (by simp only [Nat.mul_comm]; rfl)

theorem gateA_at : val_main_v48 (F := Ideal) x0 x1 x3 x4 x5 x6 (ix2 r j) = Ideal.logistic ((layer x3 x4 x5 x6 x7 x8 x9).preA (seqs x0 x1 r) 0 j) := by
  unfold Params.preA
  rw [← dotA_at x0 x1 x3 x4 x5 x6 x7 x8 x9 r j]
  pointwise [val_main_v40, val_main_v41, val_main_v42, val_main_v43, val_main_v44, val_main_v45, val_main_v46, val_main_v47, val_main_v48, val_main_cst_0, val_main_cst_1]
  rfl

theorem gateX_at : val_main_v60 (F := Ideal) x0 x1 x3 x4 x7 x8 (ix2 r j) = Ideal.logistic ((layer x3 x4 x5 x6 x7 x8 x9).preX (seqs x0 x1 r) 0 j) := by
  unfold Params.preX
  rw [← dotX_at x0 x1 x3 x4 x5 x6 x7 x8 x9 r j]
  pointwise [val_main_v52, val_main_v53, val_main_v54, val_main_v55, val_main_v56, val_main_v57, val_main_v58, val_main_v59, val_main_v60, val_main_cst_2, val_main_cst_3]
  rfl

theorem absf_eq (z : EReal) : FloatOps.absf (F := Ideal) (φ := .f32) z = max z (-z) := rfl

theorem softplus_at : val_main_v64 (F := Ideal) x9 (ix1 j) = softplusNeg (x9 (ix1 j)) := by
  pointwise [val_main_v63, val_main_v64, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst]
  rw [if_neg (not_not_intro rfl), absf_eq]
  unfold softplusNeg
  congr 4
  rw [neg_neg, max_comm]

theorem logDecay_at : val_main_v67 (F := Ideal) x0 x1 x3 x4 x5 x6 x9 (ix2 r j) = logDecay ((layer x3 x4 x5 x6 x7 x8 x9).preA (seqs x0 x1 r) 0 j) (x9 (ix1 j)) := by
  unfold logDecay
  rw [← gateA_at x0 x1 x3 x4 x5 x6 x7 x8 x9 r j, ← softplus_at x9 j]
  pointwise [val_main_v61, val_main_v62, val_main_v65, val_main_v66, val_main_v67, val_main_cst_4]

/-- The state after the step: the second result. -/
theorem state_at : val_main_v77 (F := Ideal) x0 x1 x2 x3 x4 x5 x6 x7 x8 x9 (ix2 r j) = (layer x3 x4 x5 x6 x7 x8 x9).stateAt (seqs x0 x1 r) (fun j => x2 (ix2 r j)) j 1 := by
  rw [Params.stateAt_one]
  unfold Params.decayAt Params.driveAt
  rw [drive_eq]
  unfold decay
  rw [← gateX_at x0 x1 x3 x4 x5 x6 x7 x8 x9 r j, ← conv_at x0 x1 x3 x4 x5 x6 x7 x8 x9 r j,
    show logDecay ((layer x3 x4 x5 x6 x7 x8 x9).preA (seqs x0 x1 r) 0 j) ((layer x3 x4 x5 x6 x7 x8 x9).lam j) = _ from (logDecay_at x0 x1 x3 x4 x5 x6 x7 x8 x9 r j).symm]
  pointwise [val_main_v68, val_main_v69, val_main_v70, val_main_v71, val_main_v72, val_main_v73, val_main_v74, val_main_v75, val_main_v76, val_main_v77, val_main_cst_5]

/-- The first result: the state times the gelu of the gate. -/
theorem out_at : val_main_v93 (F := Ideal) x0 x1 x2 x3 x4 x5 x6 x7 x8 x9 (ix2 r j)
    = (layer x3 x4 x5 x6 x7 x8 x9).stateAt (seqs x0 x1 r) (fun j => x2 (ix2 r j)) j 1 * gelu (x0 (ix2 (⟨r.val, by omega⟩ : Fin 256) (⟨j.val, by omega⟩ : Fin 2048))) := by
  rw [← state_at]
  unfold gelu
  pointwise [val_main_v78, val_main_v79, val_main_v80, val_main_v81, val_main_v82, val_main_v83, val_main_v84, val_main_v85, val_main_v86, val_main_v87, val_main_v88, val_main_v89, val_main_v90, val_main_v91, val_main_v92, val_main_v93, val_main_cst_6, val_main_cst_7, val_main_cst_8, val_main_cst_9]
  rw [mul_left_comm (x0 _), ← mul_assoc (Ideal.ofBits FTy.f32 1056964608#32) (x0 _)]

end Cert.LruStepRefIdeal.Val
-- ==== Proof.LruStep.Claim.lean ====
/-
  The claims of the RG-LRU single-step kernel.
-/
module

public import proofs.«01_k».proof.Defs
public import proofs.«01_k».proof.Proof.LruStep.Blocks
public import proofs.«01_k».proof.Proof.LruStep.Ref
public import proofs.«01_k».proof.Proof.Gen.LruStep.Frame
public import proofs.«01_k».proof.Proof.Gen.LruStepRefIdeal.Run
public import Idealize.ShloMosaic.Lib.Quiescent

@[expose] public section

noncomputable section

open Idealize.ShloMosaic Idealize.ShloMosaic.TcCoe Idealize.SL.Sem

namespace Cert.LruStep.Claims

theorem frame_p : Cert.quiescent_LruStep := fun m ρ _ => Cert.LruStep.Gen.frame m ρ

theorem frame_pi : Cert.quiescent_LruStepIdeal := fun m ρ _ => Cert.LruStepIdeal.Gen.frame m ρ

theorem frame_ri : Cert.quiescent_LruStepRefIdeal := fun m ρ _ =>
  (θ_run Cert.LruStepRefIdeal.defs _ _).mono
    (fun r h => ⟨fun c => (h c).2.2, sem_eq_zero_of_no_sems (by decide) r.2⟩)
    (Cert.LruStepRefIdeal.Value.run (F := Ideal) m ρ)

/-- Both programs end with every batch entry's next state, and with that state times the gelu of the gate: the kernel's
    arrays are `Y` and `H`, the reference's results read the same at every index. -/
theorem algebraic : Cert.algebraic_LruStepIdeal_LruStepRefIdeal := by
  intro m ρ m' ρ' _ hagree
  refine ⟨fun c => Cert.LruStepIdeal.Val.Y m c, fun c => Cert.LruStepIdeal.Val.H m c, Cert.LruStepIdeal.Val.run m ρ, ?_⟩
  refine (θ_run Cert.LruStepRefIdeal.defs _ _).mono
    (fun _ h c => ⟨((h c).1.trans (Cert.LruStepRefIdeal.Read.val_main_v93_eq _ _)).trans ?_,
      ((h c).2.1.trans (Cert.LruStepRefIdeal.Read.val_main_v77_eq _ _)).trans ?_, (h c).2.2⟩)
    (Cert.LruStepRefIdeal.Value.run (F := Ideal) m' ρ')
  · obtain ⟨e0, e1, e2, e3, e4, e5, e6, e7, e8, e9⟩ := hagree c
    rw [e0, e1, e2, e3, e4, e5, e6, e7, e8, e9]
    funext q
    obtain ⟨r, j, rfl⟩ : ∃ (r : Fin 128) (j : Fin 1024), q = ix2 r j := ⟨q 0, q 1, Shape.Idx.norm2 (n0 := 128) (n1 := 1024) q⟩
    exact Cert.LruStepRefIdeal.Val.out_at _ _ _ _ _ _ _ _ _ _ r j
  · obtain ⟨e0, e1, e2, e3, e4, e5, e6, e7, e8, e9⟩ := hagree c
    rw [e0, e1, e2, e3, e4, e5, e6, e7, e8, e9]
    funext q
    obtain ⟨r, j, rfl⟩ : ∃ (r : Fin 128) (j : Fin 1024), q = ix2 r j := ⟨q 0, q 1, Shape.Idx.norm2 (n0 := 128) (n1 := 1024) q⟩
    exact Cert.LruStepRefIdeal.Val.state_at _ _ _ _ _ _ _ _ _ _ r j

end Cert.LruStep.Claims
-- ==== Proof.Ffn.Payload.lean ====
/-
  The out-projection + feed-forward kernel (mixer width 1024): what its body stores, read at row `r`, column `j` of
  the block.
-/
module

public import proofs.«01_k».proof.Proof.Gen.FfnIdeal.Value
public import proofs.«01_k».proof.Proof.Math.Row

@[expose] public section

noncomputable section

open Idealize.ShloMosaic Idealize.ShloMosaic.TcCoe Idealize.SL.Sem

namespace Cert.FfnIdeal.Val

open Cert.FfnIdeal Cert.FfnIdeal.Gen Cert.Row

/-- The residual stream after the mixer. -/
theorem pay2_at (y : Vec Ideal S512x1024 .bf16) (wo : Vec Ideal S1024x1024 .bf16) (bo : Vec Ideal S1x1024 .f32)
    (x : Vec Ideal S512x1024 .f32) (g : Vec Ideal S1x1024 .f32) (r : Fin 512) (j : Fin 1024) :
    k0_pay2 y wo bo x g (ix2 r j)
      = mixed (fun k => y (ix2 r k)) (fun j => x (ix2 r j)) (fun k j => wo (ix2 k j)) (fun j => bo (ix2 0 j))
          (fun j => g (ix2 0 j)) j := by
  pointwise [k0_pay2, dot_S512x1024_S1024x1024_S512x1024_1_0_0_1_n_n]
  rfl

/-- The normalized row the feed-forward part reads. -/
theorem pay3_at (y : Vec Ideal S512x1024 .bf16) (wo : Vec Ideal S1024x1024 .bf16) (bo : Vec Ideal S1x1024 .f32)
    (x : Vec Ideal S512x1024 .f32) (g gp : Vec Ideal S1x1024 .f32) (r : Fin 512) (j : Fin 1024) :
    k0_pay3 y wo bo x g gp (ix2 r j)
      = rms (fun j => k0_pay2 y wo bo x g (ix2 r j)) (fun j => gp (ix2 0 j)) j := by
  pointwise [k0_pay3]
  rfl

/-- The first three chunks of the feed-forward product. -/
theorem pay4_at (h : Vec Ideal S512x1024 .bf16) (a0 b0 a1 b1 a2 b2 : Vec Ideal S1024x1024 .bf16) (r : Fin 512) (j : Fin 1024) :
    k0_pay4 h a0 b0 a1 b1 a2 b2 (ix2 r j)
      = ((ffnSum (fun k => h (ix2 r k)) (fun k f => a0 (ix2 k f)) (fun f j => b0 (ix2 f j)) j)
        + ffnSum (fun k => h (ix2 r k)) (fun k f => a1 (ix2 k f)) (fun f j => b1 (ix2 f j)) j)
        + ffnSum (fun k => h (ix2 r k)) (fun k f => a2 (ix2 k f)) (fun f j => b2 (ix2 f j)) j := by
  pointwise [k0_pay4, dot_S512x1024_S1024x1024_S512x1024_1_0_0_1_n_n]
  rfl

/-- The last store: the fourth chunk added, normalized, added to the residual. -/
theorem pay1_at (x1 s : FVec Ideal S512x1024 .f32) (h : Vec Ideal S512x1024 .bf16) (a3 b3 : Vec Ideal S1024x1024 .bf16)
    (g : Vec Ideal S1x1024 .f32) (r : Fin 512) (j : Fin 1024) :
    k0_pay1 x1 s (k0_pay5 h a3) (k0_pay6 (F := Ideal)) b3 g (ix2 r j)
      = x1 (ix2 r j) + rms (fun j => s (ix2 r j)
          + ffnSum (fun k => h (ix2 r k)) (fun k f => a3 (ix2 k f)) (fun f j => b3 (ix2 f j)) j)
        (fun j => g (ix2 0 j)) j := by
  pointwise [k0_pay1, k0_pay5, k0_pay6, dot_S512x1024_S1024x1024_S512x1024_1_0_0_1_n_n]
  rfl

theorem hz : (![0, 0] : Fin 2 → Nat) = fun _ => 0 := funext fun a => by fin_cases a <;> rfl

/-- WHAT THE BODY LEAVES in the output block, at row `r`, column `j`: the block function of the rows it loads. -/
theorem out_at (y : Vec Ideal S512x1024 .bf16) (x : Vec Ideal S512x1024 .f32) (wo : Vec Ideal S1024x1024 .bf16)
    (bo gm gp : Vec Ideal S1x1024 .f32) (w1 : Vec Ideal S1024x4096 .bf16) (w2 : Vec Ideal S4096x1024 .bf16)
    (gf : Vec Ideal S1x1024 .f32) (r : Fin 512) (j : Fin 1024) :
    out0_9 y x wo bo gm gp w1 w2 gf (ix2 r j)
      = block (fun k => y (ix2 r k)) (fun j => x (ix2 r j)) (fun k j => wo (ix2 k j)) (fun j => bo (ix2 0 j))
          (fun j => gm (ix2 0 j)) (fun j => gp (ix2 0 j)) (fun k f => w1 (ix2 k f)) (fun f j => w2 (ix2 f j))
          (fun j => gf (ix2 0 j)) j := by
  unfold out0_9
  rw [View.canon_unit_zero hz, pay1_at]
  unfold k0_pay7
  have e0 : ∀ {e} (v : Vec Ideal S512x1024 e), View.ld v r0_0 = v := fun v => View.ld_unit_zero hz _ v
  have e1 : ∀ {e} (v : Vec Ideal S1024x1024 e), View.ld v r0_1 = v := fun v => View.ld_unit_zero hz _ v
  have e2 : ∀ {e} (v : Vec Ideal S1x1024 e), View.ld v r0_2 = v := fun v => View.ld_unit_zero hz _ v
  simp only [e0, e1, e2]
  simp only [pay4_at, pay3_at, pay2_at]
  unfold block
  congr 2
  · funext j
    unfold ffnSum
    rw [sum_quarters]
    pointwise []
  · exact funext fun j => congrFun (e2 gf) (ix2 0 j)

end Cert.FfnIdeal.Val
-- ==== Proof.Ffn.Blocks.lean ====
/-
  The out-projection + feed-forward kernel (mixer width 1024): the blocks its grid points read, as parts of the
  argument arrays, and the array its write-backs leave.
-/
module

public import proofs.«01_k».proof.Proof.Ffn.Payload

@[expose] public section

noncomputable section

open Idealize.ShloMosaic Idealize.ShloMosaic.TcCoe Idealize.SL.Sem

namespace Cert.FfnIdeal.Val

open Cert.FfnIdeal Cert.FfnIdeal.Gen Cert.Row

variable (m : (ℓ : Loc nD τ sig) → Buf (Elt Ideal) ℓ)

/-! ## What the host leaves for the region: casts and rows -/

theorem V_wo (c : Dev nD) (k j : Fin 1024) :
    V m c main_v0 (ix2 k j) = m ((c : Thread nD τ).loc main_arg2) (ix2 k j) := by
  have e : V m c main_v0
      = (truncf .bf16 (m ((c : Thread nD τ).loc main_arg2) : FVec Ideal S1024x1024 .f32) bitsLt_bf16_f32 : FVec Ideal S1024x1024 .bf16) := by
    unfold V hostOps0; after_results
  exact (congrFun e (ix2 k j)).trans (by pointwise [])

theorem V_w1 (c : Dev nD) (k : Fin 1024) (f : Fin 4096) :
    V m c main_v4 (ix2 k f) = m ((c : Thread nD τ).loc main_arg6) (ix2 k f) := by
  have e : V m c main_v4
      = (truncf .bf16 (m ((c : Thread nD τ).loc main_arg6) : FVec Ideal S1024x4096 .f32) bitsLt_bf16_f32 : FVec Ideal S1024x4096 .bf16) := by
    unfold V hostOps0; after_results
  exact (congrFun e (ix2 k f)).trans (by pointwise [])

theorem V_w2 (c : Dev nD) (f : Fin 4096) (j : Fin 1024) :
    V m c main_v5 (ix2 f j) = m ((c : Thread nD τ).loc main_arg7) (ix2 f j) := by
  have e : V m c main_v5
      = (truncf .bf16 (m ((c : Thread nD τ).loc main_arg7) : FVec Ideal S4096x1024 .f32) bitsLt_bf16_f32 : FVec Ideal S4096x1024 .bf16) := by
    unfold V hostOps0; after_results
  exact (congrFun e (ix2 f j)).trans (by pointwise [])

/-- A vector laid out as a one-row matrix is read at its column. -/
theorem row_at (v : FVec Ideal S1024 .f32) (j : Fin 1024) :
    shapeCast S1x1024 v shapeCasts_S1024_S1x1024 (ix2 (0 : Fin 1) j) = v (ix1 j) := by
  pointwise []

theorem V_bo (c : Dev nD) (j : Fin 1024) : V m c main_v1 (ix2 (0 : Fin 1) j) = m ((c : Thread nD τ).loc main_arg3) (ix1 j) := by
  have e : V m c main_v1 = shapeCast S1x1024 (m ((c : Thread nD τ).loc main_arg3) : FVec Ideal S1024 .f32) shapeCasts_S1024_S1x1024 := by
    unfold V hostOps0; after_results; rfl
  exact (congrFun e _).trans (row_at _ j)

theorem V_gm (c : Dev nD) (j : Fin 1024) : V m c main_v2 (ix2 (0 : Fin 1) j) = m ((c : Thread nD τ).loc main_arg4) (ix1 j) := by
  have e : V m c main_v2 = shapeCast S1x1024 (m ((c : Thread nD τ).loc main_arg4) : FVec Ideal S1024 .f32) shapeCasts_S1024_S1x1024 := by
    unfold V hostOps0; after_results; rfl
  exact (congrFun e _).trans (row_at _ j)

theorem V_gp (c : Dev nD) (j : Fin 1024) : V m c main_v3 (ix2 (0 : Fin 1) j) = m ((c : Thread nD τ).loc main_arg5) (ix1 j) := by
  have e : V m c main_v3 = shapeCast S1x1024 (m ((c : Thread nD τ).loc main_arg5) : FVec Ideal S1024 .f32) shapeCasts_S1024_S1x1024 := by
    unfold V hostOps0; after_results; rfl
  exact (congrFun e _).trans (row_at _ j)

theorem V_gf (c : Dev nD) (j : Fin 1024) : V m c main_v6 (ix2 (0 : Fin 1) j) = m ((c : Thread nD τ).loc main_arg8) (ix1 j) := by
  have e : V m c main_v6 = shapeCast S1x1024 (m ((c : Thread nD τ).loc main_arg8) : FVec Ideal S1024 .f32) shapeCasts_S1024_S1x1024 := by
    unfold V hostOps0; after_results; rfl
  exact (congrFun e _).trans (row_at _ j)

/-! ## The blocks a grid point reads -/

/-- Point `t` reads rows `512 t …` of the two row-blocked inputs and writes the same rows. -/
theorem idx_rows : ∀ t : Fin cfg0.N, win0_0.index t = ![t.val, 0] ∧ win0_1.index t = ![t.val, 0]
    ∧ win0_9.index t = ![t.val, 0] := (by decide +kernel : ∀ t : Fin grid0.N, _)

theorem iblk_y (c : Dev nD) (t : Fin cfg0.N) (r : Fin 512) (k : Fin 1024) (h : t.val * 512 + r < 16384) :
    iblk m c 0 t (ix2 r k) = m ((c : Thread nD τ).loc main_arg0) (ix2 (⟨t.val * 512 + r, h⟩ : Fin 16384) k) := by
  obtain ⟨e0, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 512 + 1 * r.val = t.val * 512 + r.val
              rw [e0]; simp
  | ⟨1, _⟩ => show win0_0.index t 1 * 1024 + 1 * k.val = k.val
              rw [e0]; simp

theorem iblk_x (c : Dev nD) (t : Fin cfg0.N) (r : Fin 512) (k : Fin 1024) (h : t.val * 512 + r < 16384) :
    iblk m c 1 t (ix2 r k) = m ((c : Thread nD τ).loc main_arg1) (ix2 (⟨t.val * 512 + r, h⟩ : Fin 16384) k) := by
  obtain ⟨-, e1, -⟩ := idx_rows t
  unfold iblk
  rw [View.read_apply]
  refine Eq.trans (congrArg (V m c main_arg1) (funext fun a => Fin.ext ?_)) (congrFun (V_main_arg1 m c) _)
  match a with
  | ⟨0, _⟩ => show win0_1.index t 0 * 512 + 1 * r.val = t.val * 512 + r.val
              rw [e1]; simp
  | ⟨1, _⟩ => show win0_1.index t 1 * 1024 + 1 * k.val = k.val
              rw [e1]; simp

/-- A block index map that is zero everywhere starts every block at the array's origin. -/
theorem origin (s : Fin 2 → Nat) : (fun a => (![0, 0] : Fin 2 → Nat) a * s a) = fun _ => 0 :=
  funext fun a => by fin_cases a <;> exact Nat.zero_mul _

theorem iblk_wo (c : Dev nD) (t : Fin cfg0.N) (k j : Fin 1024) :
    iblk m c 2 t (ix2 k j) = m ((c : Thread nD τ).loc main_arg2) (ix2 k j) :=
  (congrFun (Memref.read_access_unit_zero (Elt Ideal) main_v0 (origin _) (fun a => by rw [congrFun (origin _) a]; simp) (V m c main_v0)) _).trans
    (V_wo m c k j)

theorem iblk_bo (c : Dev nD) (t : Fin cfg0.N) (j : Fin 1024) :
    iblk m c 3 t (ix2 (0 : Fin 1) j) = m ((c : Thread nD τ).loc main_arg3) (ix1 j) :=
  (congrFun (Memref.read_access_unit_zero (Elt Ideal) main_v1 (origin _) (fun a => by rw [congrFun (origin _) a]; simp) (V m c main_v1)) _).trans
    (V_bo m c j)

theorem iblk_gm (c : Dev nD) (t : Fin cfg0.N) (j : Fin 1024) :
    iblk m c 4 t (ix2 (0 : Fin 1) j) = m ((c : Thread nD τ).loc main_arg4) (ix1 j) :=
  (congrFun (Memref.read_access_unit_zero (Elt Ideal) main_v2 (origin _) (fun a => by rw [congrFun (origin _) a]; simp) (V m c main_v2)) _).trans
    (V_gm m c j)

theorem iblk_gp (c : Dev nD) (t : Fin cfg0.N) (j : Fin 1024) :
    iblk m c 5 t (ix2 (0 : Fin 1) j) = m ((c : Thread nD τ).loc main_arg5) (ix1 j) :=
  (congrFun (Memref.read_access_unit_zero (Elt Ideal) main_v3 (origin _) (fun a => by rw [congrFun (origin _) a]; simp) (V m c main_v3)) _).trans
    (V_gp m c j)

theorem iblk_w1 (c : Dev nD) (t : Fin cfg0.N) (k : Fin 1024) (f : Fin 4096) :
    iblk m c 6 t (ix2 k f) = m ((c : Thread nD τ).loc main_arg6) (ix2 k f) :=
  (congrFun (Memref.read_access_unit_zero (Elt Ideal) main_v4 (origin _) (fun a => by rw [congrFun (origin _) a]; simp) (V m c main_v4)) _).trans
    (V_w1 m c k f)

theorem iblk_w2 (c : Dev nD) (t : Fin cfg0.N) (f : Fin 4096) (j : Fin 1024) :
    iblk m c 7 t (ix2 f j) = m ((c : Thread nD τ).loc main_arg7) (ix2 f j) :=
  (congrFun (Memref.read_access_unit_zero (Elt Ideal) main_v5 (origin _) (fun a => by rw [congrFun (origin _) a]; simp) (V m c main_v5)) _).trans
    (V_w2 m c f j)

theorem iblk_gf (c : Dev nD) (t : Fin cfg0.N) (j : Fin 1024) :
    iblk m c 8 t (ix2 (0 : Fin 1) j) = m ((c : Thread nD τ).loc main_arg8) (ix1 j) :=
  (congrFun (Memref.read_access_unit_zero (Elt Ideal) main_v6 (origin _) (fun a => by rw [congrFun (origin _) a]; simp) (V m c main_v6)) _).trans
    (V_gf m c j)

/-! ## The array the write-backs leave -/

/-- The result: the block function of row `i` of the two row arrays and of the weights. -/
def G (c : Dev nD) : Buf (Elt Ideal) ((c : Thread nD τ).loc main_v7) := fun i : S16384x1024.Idx =>
  block (fun k => m ((c : Thread nD τ).loc main_arg0) (ix2 (i 0) k)) (fun j => m ((c : Thread nD τ).loc main_arg1) (ix2 (i 0) j))
    (fun k j => m ((c : Thread nD τ).loc main_arg2) (ix2 k j)) (fun j => m ((c : Thread nD τ).loc main_arg3) (ix1 j))
    (fun j => m ((c : Thread nD τ).loc main_arg4) (ix1 j)) (fun j => m ((c : Thread nD τ).loc main_arg5) (ix1 j))
    (fun k f => m ((c : Thread nD τ).loc main_arg6) (ix2 k f)) (fun f j => m ((c : Thread nD τ).loc main_arg7) (ix2 f j))
    (fun j => m ((c : Thread nD τ).loc main_arg8) (ix1 j)) (i 1)

/-- What point `t` writes back is block `t` of the result. -/
theorem flushed_eq (c : Dev nD) (t : Fin cfg0.N) :
    (dats m 0 c).flushed 9 t = (win0_9.blk t).view.read (Elt Ideal) (G m c) := by
  obtain ⟨-, -, e9⟩ := idx_rows t
  have ht : t.val < 32 := lt_of_lt_of_eq t.isLt N_0
  show (cfg0.win 9).cut (grid0.coords t) ((dats m 0 c).after 9 t) = _
  rw [after0_9]
  funext q
  obtain ⟨r, j, rfl⟩ : ∃ (r : Fin 512) (j : Fin 1024), q = ix2 r j := ⟨q 0, q 1, Shape.Idx.norm2 (n0 := 512) (n1 := 1024) q⟩
  show out0_9 _ _ _ _ _ _ _ _ _ (ix2 r j) = _
  have hr : t.val * 512 + r.val < 16384 := by have := r.isLt; omega
  have hq : (win0_9.blk t).view.emb (ix2 r j) = ix2 (⟨t.val * 512 + r, hr⟩ : Fin 16384) j := funext fun a => Fin.ext (by
    match a with
    | ⟨0, _⟩ => show win0_9.index t 0 * 512 + 1 * r.val = t.val * 512 + r.val
                rw [e9]; simp
    | ⟨1, _⟩ => show win0_9.index t 1 * 1024 + 1 * j.val = j.val
                rw [e9]; simp)
  rw [View.read_apply, hq, out_at]
  simp only [iblk_wo, iblk_bo, iblk_gm, iblk_gp, iblk_w1, iblk_w2, iblk_gf,
    iblk_y m c t r _ hr, iblk_x m c t r _ hr]
  rfl

/-- Every row lies in the block of the point `row / 512`. -/
theorem cover (i : S16384x1024.Idx) :
    ∃ t : Fin cfg0.N, (cfg0.win 9).flush t = true ∧ i ∈ ((cfg0.win 9).blk t).view.set := by
  have h0 : (i 0 : Nat) < 16384 := (i 0).isLt
  have h1 : (i 1 : Nat) < 1024 := (i 1).isLt
  have hN : cfg0.N = 32 := N_0
  let t : Fin cfg0.N := ⟨(i 0 : Nat) / 512, by omega⟩
  refine ⟨t, flush0_9 _, ?_⟩
  obtain ⟨-, -, e9⟩ := idx_rows t
  have ht : t.val = (i 0 : Nat) / 512 := rfl
  show i ∈ ((View.whole main_v7).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [e9]; simp; omega
  | ⟨1, _⟩ => show win0_9.index t 1 * 1024 ≤ (i 1 : Nat) ∧ (i 1 : Nat) < win0_9.index t 1 * 1024 + 1024
              rw [e9]; simp; omega

/-- The result array after the run. -/
theorem final_eq (c : Dev nD) : (dats m 0 c).arrAt 9 cfg0.N = G m c :=
  (dats m 0 c).arrAt_eq_of_cover 9 (G m c) (fun t _ => flushed_eq m c t) cover

end Cert.FfnIdeal.Val
-- ==== Proof.Ffn.Ref.lean ====
/-
  The plain out-projection + feed-forward reference (mixer width 1024), read at row `i`, column `j`.
-/
module

public import proofs.«01_k».proof.Proof.Gen.FfnRefIdeal.Read
public import proofs.«01_k».proof.Proof.Math.Row

@[expose] public section

noncomputable section

open Idealize.ShloMosaic Idealize.ShloMosaic.TcCoe Idealize.SL.Sem

namespace Cert.FfnRefIdeal.Val

open Cert.FfnRefIdeal Cert.FfnRefIdeal.Read Cert.Row

variable (y : FVec Ideal S16384x1024 .bf16) (x : FVec Ideal S16384x1024 .f32) (wo : FVec Ideal S1024x1024 .f32)
  (bo gm gp : FVec Ideal S1024 .f32) (w1 : FVec Ideal S1024x4096 .f32) (w2 : FVec Ideal S4096x1024 .f32) (gf : FVec Ideal S1024 .f32)

/-- The mixer's projection. -/
theorem proj_at (i : Fin 16384) (j : Fin 1024) :
    val_main_v4 (F := Ideal) y wo bo (ix2 i j) = (∑ k, y (ix2 i k) * wo (ix2 k j)) + bo (ix1 j) := by
  pointwise [val_main_v4, val_main_v3, val_main_v2, val_main_v1, val_main_v0, dot_S16384x1024_S1024x1024_S16384x1024_1_0_0_1_n_n]

/-- The residual stream after the mixer. -/
theorem mixed_at (i : Fin 16384) (j : Fin 1024) :
    val_main_v18 (F := Ideal) y x wo bo gm (ix2 i j)
      = mixed (fun k => y (ix2 i k)) (fun j => x (ix2 i j)) (fun k j => wo (ix2 k j)) (fun j => bo (ix1 j)) (fun j => gm (ix1 j)) j := by
  pointwise [val_main_v18, val_main_v17, val_main_v16, val_main_v15, val_main_v14, val_main_v13, val_main_v12, val_main_v11,
    val_main_v10, val_main_cst_1, val_main_v9, val_main_v8, val_main_cst_0, val_main_v7, val_main_v6, val_main_cst, val_main_v5, proj_at]
  rfl

/-- The normalized row the feed-forward part reads. -/
theorem normed_at (i : Fin 16384) (j : Fin 1024) :
    val_main_v31 (F := Ideal) y x wo bo gm gp (ix2 i j)
      = rms (fun j => val_main_v18 (F := Ideal) y x wo bo gm (ix2 i j)) (fun j => gp (ix1 j)) j := by
  pointwise [val_main_v31, val_main_v30, val_main_v29, val_main_v28, val_main_v27, val_main_v26, val_main_v25, val_main_v24,
    val_main_cst_4, val_main_v23, val_main_v22, val_main_cst_3, val_main_v21, val_main_v20, val_main_cst_2, val_main_v19]
  rfl

/-- The feed-forward product. -/
theorem ffn_at (i : Fin 16384) (j : Fin 1024) :
    val_main_v35 (F := Ideal) y x wo bo gm gp w1 w2 (ix2 i j)
      = ffnSum (fun k => val_main_v31 (F := Ideal) y x wo bo gm gp (ix2 i k)) (fun k f => w1 (ix2 k f)) (fun f j => w2 (ix2 f j)) j := by
  pointwise [val_main_v35, val_main_v34, val_main_v33, val_main_call0_v0, val_main_call0_cst, val_main_v32,
    dot_S16384x4096_S4096x1024_S16384x1024_1_0_0_1_n_n, dot_S16384x1024_S1024x4096_S16384x4096_1_0_0_1_n_n]
  rfl

/-- The result. -/
theorem res_at (i : Fin 16384) (j : Fin 1024) :
    val_main_v49 (F := Ideal) y x wo bo gm gp w1 w2 gf (ix2 i j)
      = block (fun k => y (ix2 i k)) (fun j => x (ix2 i j)) (fun k j => wo (ix2 k j)) (fun j => bo (ix1 j))
          (fun j => gm (ix1 j)) (fun j => gp (ix1 j)) (fun k f => w1 (ix2 k f)) (fun f j => w2 (ix2 f j))
          (fun j => gf (ix1 j)) j := by
  have e : val_main_v49 (F := Ideal) y x wo bo gm gp w1 w2 gf (ix2 i j)
      = val_main_v18 (F := Ideal) y x wo bo gm (ix2 i j)
        + rms (fun j => val_main_v35 (F := Ideal) y x wo bo gm gp w1 w2 (ix2 i j)) (fun j => gf (ix1 j)) j := by
    pointwise [val_main_v49, val_main_v48, val_main_v47, val_main_v46, val_main_v45, val_main_v44, val_main_v43, val_main_v42,
      val_main_v41, val_main_cst_7, val_main_v40, val_main_v39, val_main_cst_6, val_main_v38, val_main_v37, val_main_cst_5,
      val_main_v36]
    rfl
  rw [e]
  simp only [ffn_at, normed_at, mixed_at]
  rfl

end Cert.FfnRefIdeal.Val
-- ==== Proof.Ffn.Claim.lean ====
/-
  The claims of the out-projection + feed-forward kernel (mixer width 1024).
-/
module

public import proofs.«01_k».proof.Defs
public import proofs.«01_k».proof.Proof.Ffn.Blocks
public import proofs.«01_k».proof.Proof.Ffn.Ref
public import proofs.«01_k».proof.Proof.Gen.Ffn.Frame
public import proofs.«01_k».proof.Proof.Gen.FfnRefIdeal.Run
public import Idealize.ShloMosaic.Lib.Quiescent

@[expose] public section

noncomputable section

open Idealize.ShloMosaic Idealize.ShloMosaic.TcCoe Idealize.SL.Sem

namespace Cert.Ffn.Claims

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

/-- Both programs end with the block function of the rows: the kernel's array is `G` (`final_eq`), the reference's
    result reads the same function at every index (`res_at`). -/
theorem algebraic : Cert.algebraic_FfnIdeal_FfnRefIdeal := by
  intro m ρ m' ρ' _ hagree
  refine ⟨fun c => Cert.FfnIdeal.Val.G m c, ?_, ?_⟩
  · exact (θ_run Cert.FfnIdeal.defs _ _).mono (fun _ h c => ⟨(h c).1.trans (Cert.FfnIdeal.Val.final_eq m c), (h c).2⟩)
      (Cert.FfnIdeal.Value.run_blocks (F := Ideal) m ρ)
  · refine (θ_run Cert.FfnRefIdeal.defs _ _).mono
      (fun _ h c => ⟨((h c).1.trans (Cert.FfnRefIdeal.Read.val_main_v49_eq m' c)).trans ?_, (h c).2⟩)
      (Cert.FfnRefIdeal.Value.run (F := Ideal) m' ρ')
    obtain ⟨e0, e1, e2, e3, e4, e5, e6, e7, e8⟩ := hagree c
    rw [e0, e1, e2, e3, e4, e5, e6, e7, e8]
    funext q
    obtain ⟨i, j, rfl⟩ : ∃ (i : Fin 16384) (j : Fin 1024), q = ix2 i j := ⟨q 0, q 1, Shape.Idx.norm2 (n0 := 16384) (n1 := 1024) q⟩
    exact Cert.FfnRefIdeal.Val.res_at _ _ _ _ _ _ _ _ _ i j

end Cert.Ffn.Claims
-- ==== Proof.Ffk.Payload.lean ====
/-
  The out-projection + feed-forward kernel (mixer width 2048): what its body stores, read at row `r`, column `j` of
  the block. After the projection the body is the one of mixer width 1024, whose lemmas are used.
-/
module

public import proofs.«01_k».proof.Proof.Gen.FfkIdeal.Value
public import proofs.«01_k».proof.Proof.Ffn.Payload

@[expose] public section

noncomputable section

open Idealize.ShloMosaic Idealize.ShloMosaic.TcCoe Idealize.SL.Sem

namespace Cert.FfkIdeal.Val

open Cert.FfkIdeal Cert.FfkIdeal.Gen Cert.Row

theorem pay1_eq : @k0_pay1 Ideal _ = @Cert.FfnIdeal.Gen.k0_pay1 Ideal _ := rfl

theorem pay4_eq : @k0_pay4 Ideal _ = @Cert.FfnIdeal.Gen.k0_pay4 Ideal _ := rfl

theorem pay5_eq : @k0_pay5 Ideal _ = @Cert.FfnIdeal.Gen.k0_pay5 Ideal _ := rfl

theorem pay6_eq : @k0_pay6 Ideal _ = @Cert.FfnIdeal.Gen.k0_pay6 Ideal _ := rfl

/-- The residual stream after the mixer. -/
theorem pay2_at (y : Vec Ideal S512x2048 .bf16) (wo : Vec Ideal S2048x1024 .bf16) (bo : Vec Ideal S1x1024 .f32)
    (x : Vec Ideal S512x1024 .f32) (g : Vec Ideal S1x1024 .f32) (r : Fin 512) (j : Fin 1024) :
    k0_pay2 y wo bo x g (ix2 r j)
      = mixed (fun k => y (ix2 r k)) (fun j => x (ix2 r j)) (fun k j => wo (ix2 k j)) (fun j => bo (ix2 0 j))
          (fun j => g (ix2 0 j)) j := by
  pointwise [k0_pay2, dot_S512x2048_S2048x1024_S512x1024_1_0_0_1_n_n]
  rfl

/-- The normalized row the feed-forward part reads. -/
theorem pay3_at (y : Vec Ideal S512x2048 .bf16) (wo : Vec Ideal S2048x1024 .bf16) (bo : Vec Ideal S1x1024 .f32)
    (x : Vec Ideal S512x1024 .f32) (g gp : Vec Ideal S1x1024 .f32) (r : Fin 512) (j : Fin 1024) :
    k0_pay3 y wo bo x g gp (ix2 r j)
      = rms (fun j => k0_pay2 y wo bo x g (ix2 r j)) (fun j => gp (ix2 0 j)) j := by
  pointwise [k0_pay3]
  rfl

/-- WHAT THE BODY LEAVES in the output block, at row `r`, column `j`: the block function of the rows it loads. -/
theorem out_at (y : Vec Ideal S512x2048 .bf16) (x : Vec Ideal S512x1024 .f32) (wo : Vec Ideal S2048x1024 .bf16)
    (bo gm gp : Vec Ideal S1x1024 .f32) (w1 : Vec Ideal S1024x4096 .bf16) (w2 : Vec Ideal S4096x1024 .bf16)
    (gf : Vec Ideal S1x1024 .f32) (r : Fin 512) (j : Fin 1024) :
    out0_9 y x wo bo gm gp w1 w2 gf (ix2 r j)
      = block (fun k => y (ix2 r k)) (fun j => x (ix2 r j)) (fun k j => wo (ix2 k j)) (fun j => bo (ix2 0 j))
          (fun j => gm (ix2 0 j)) (fun j => gp (ix2 0 j)) (fun k f => w1 (ix2 k f)) (fun f j => w2 (ix2 f j))
          (fun j => gf (ix2 0 j)) j := by
  unfold out0_9
  rw [View.canon_unit_zero Cert.FfnIdeal.Val.hz]
  unfold k0_pay7
  rw [pay1_eq, pay5_eq, pay6_eq, pay4_eq, Cert.FfnIdeal.Val.pay1_at]
  have e0 : ∀ {e} (v : Vec Ideal S512x2048 e), View.ld v r0_0 = v := fun v => View.ld_unit_zero Cert.FfnIdeal.Val.hz _ v
  have e1 : ∀ {e} (v : Vec Ideal S2048x1024 e), View.ld v r0_1 = v := fun v => View.ld_unit_zero Cert.FfnIdeal.Val.hz _ v
  have e2 : ∀ {e} (v : Vec Ideal S1x1024 e), View.ld v r0_2 = v := fun v => View.ld_unit_zero Cert.FfnIdeal.Val.hz _ v
  have e3 : ∀ {e} (v : Vec Ideal S512x1024 e), View.ld v r0_3 = v := fun v => View.ld_unit_zero Cert.FfnIdeal.Val.hz _ v
  simp only [e0, e1, e2, e3]
  simp only [Cert.FfnIdeal.Val.pay4_at, pay3_at, pay2_at]
  unfold block
  congr 2
  · funext j
    unfold ffnSum
    rw [sum_quarters]
    pointwise []
  · exact funext fun j => congrFun (e2 gf) (ix2 0 j)

end Cert.FfkIdeal.Val
-- ==== Proof.Ffk.Blocks.lean ====
/-
  The out-projection + feed-forward kernel (mixer width 2048): the blocks its grid points read, as parts of the
  argument arrays, and the array its write-backs leave.
-/
module

public import proofs.«01_k».proof.Proof.Ffk.Payload
public import proofs.«01_k».proof.Proof.Ffn.Blocks

@[expose] public section

noncomputable section

open Idealize.ShloMosaic Idealize.ShloMosaic.TcCoe Idealize.SL.Sem

namespace Cert.FfkIdeal.Val

open Cert.FfkIdeal Cert.FfkIdeal.Gen Cert.Row

variable (m : (ℓ : Loc nD τ sig) → Buf (Elt Ideal) ℓ)

/-! ## What the host leaves for the region: casts and rows -/

theorem V_wo (c : Dev nD) (k : Fin 2048) (j : Fin 1024) :
    V m c main_v0 (ix2 k j) = m ((c : Thread nD τ).loc main_arg2) (ix2 k j) := by
  have e : V m c main_v0
      = (truncf .bf16 (m ((c : Thread nD τ).loc main_arg2) : FVec Ideal S2048x1024 .f32) bitsLt_bf16_f32 : FVec Ideal S2048x1024 .bf16) := by
    unfold V hostOps0; after_results
  exact (congrFun e (ix2 k j)).trans (by pointwise [])

theorem V_w1 (c : Dev nD) (k : Fin 1024) (f : Fin 4096) :
    V m c main_v4 (ix2 k f) = m ((c : Thread nD τ).loc main_arg5) (ix2 k f) := by
  have e : V m c main_v4
      = (truncf .bf16 (m ((c : Thread nD τ).loc main_arg5) : FVec Ideal S1024x4096 .f32) bitsLt_bf16_f32 : FVec Ideal S1024x4096 .bf16) := by
    unfold V hostOps0; after_results
  exact (congrFun e (ix2 k f)).trans (by pointwise [])

theorem V_w2 (c : Dev nD) (f : Fin 4096) (j : Fin 1024) :
    V m c main_v5 (ix2 f j) = m ((c : Thread nD τ).loc main_arg6) (ix2 f j) := by
  have e : V m c main_v5
      = (truncf .bf16 (m ((c : Thread nD τ).loc main_arg6) : FVec Ideal S4096x1024 .f32) bitsLt_bf16_f32 : FVec Ideal S4096x1024 .bf16) := by
    unfold V hostOps0; after_results
  exact (congrFun e (ix2 f j)).trans (by pointwise [])

/-- The projection's bias row is zero. -/
theorem V_bo (c : Dev nD) (j : Fin 1024) : V m c main_v1 (ix2 (0 : Fin 1) j) = (0 : EReal) := by
  have e : V m c main_v1 = (broadcastInDim S1x1024 ![] bcast_S_S1x1024 (constant S_ .f32 0x00000000#32) : FVec Ideal S1x1024 .f32) := by
    unfold V hostOps0; after_results
  exact (congrFun e _).trans (by pointwise [])

theorem V_gm (c : Dev nD) (j : Fin 1024) : V m c main_v2 (ix2 (0 : Fin 1) j) = m ((c : Thread nD τ).loc main_arg3) (ix1 j) := by
  have e : V m c main_v2 = shapeCast S1x1024 (m ((c : Thread nD τ).loc main_arg3) : FVec Ideal S1024 .f32) shapeCasts_S1024_S1x1024 := by
    unfold V hostOps0; after_results; rfl
  exact (congrFun e _).trans (Cert.FfnIdeal.Val.row_at _ j)

theorem V_gp (c : Dev nD) (j : Fin 1024) : V m c main_v3 (ix2 (0 : Fin 1) j) = m ((c : Thread nD τ).loc main_arg4) (ix1 j) := by
  have e : V m c main_v3 = shapeCast S1x1024 (m ((c : Thread nD τ).loc main_arg4) : FVec Ideal S1024 .f32) shapeCasts_S1024_S1x1024 := by
    unfold V hostOps0; after_results; rfl
  exact (congrFun e _).trans (Cert.FfnIdeal.Val.row_at _ j)

theorem V_gf (c : Dev nD) (j : Fin 1024) : V m c main_v6 (ix2 (0 : Fin 1) j) = m ((c : Thread nD τ).loc main_arg7) (ix1 j) := by
  have e : V m c main_v6 = shapeCast S1x1024 (m ((c : Thread nD τ).loc main_arg7) : FVec Ideal S1024 .f32) shapeCasts_S1024_S1x1024 := by
    unfold V hostOps0; after_results; rfl
  exact (congrFun e _).trans (Cert.FfnIdeal.Val.row_at _ j)

/-! ## The blocks a grid point reads -/

/-- Point `t` reads rows `512 t …` of the two row-blocked inputs and writes the same rows. -/
theorem idx_rows : ∀ t : Fin cfg0.N, win0_0.index t = ![t.val, 0] ∧ win0_1.index t = ![t.val, 0]
    ∧ win0_9.index t = ![t.val, 0] := (by decide +kernel : ∀ t : Fin grid0.N, _)

theorem iblk_y (c : Dev nD) (t : Fin cfg0.N) (r : Fin 512) (k : Fin 2048) (h : t.val * 512 + r < 16384) :
    iblk m c 0 t (ix2 r k) = m ((c : Thread nD τ).loc main_arg0) (ix2 (⟨t.val * 512 + r, h⟩ : Fin 16384) k) := by
  obtain ⟨e0, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 512 + 1 * r.val = t.val * 512 + r.val
              rw [e0]; simp
  | ⟨1, _⟩ => show win0_0.index t 1 * 2048 + 1 * k.val = k.val
              rw [e0]; simp

theorem iblk_x (c : Dev nD) (t : Fin cfg0.N) (r : Fin 512) (k : Fin 1024) (h : t.val * 512 + r < 16384) :
    iblk m c 1 t (ix2 r k) = m ((c : Thread nD τ).loc main_arg1) (ix2 (⟨t.val * 512 + r, h⟩ : Fin 16384) k) := by
  obtain ⟨-, e1, -⟩ := idx_rows t
  unfold iblk
  rw [View.read_apply]
  refine Eq.trans (congrArg (V m c main_arg1) (funext fun a => Fin.ext ?_)) (congrFun (V_main_arg1 m c) _)
  match a with
  | ⟨0, _⟩ => show win0_1.index t 0 * 512 + 1 * r.val = t.val * 512 + r.val
              rw [e1]; simp
  | ⟨1, _⟩ => show win0_1.index t 1 * 1024 + 1 * k.val = k.val
              rw [e1]; simp

theorem iblk_wo (c : Dev nD) (t : Fin cfg0.N) (k : Fin 2048) (j : Fin 1024) :
    iblk m c 2 t (ix2 k j) = m ((c : Thread nD τ).loc main_arg2) (ix2 k j) :=
  (congrFun (Memref.read_access_unit_zero (Elt Ideal) main_v0 (Cert.FfnIdeal.Val.origin _) (fun a => by rw [congrFun (Cert.FfnIdeal.Val.origin _) a]; simp) (V m c main_v0)) _).trans
    (V_wo m c k j)

theorem iblk_bo (c : Dev nD) (t : Fin cfg0.N) (j : Fin 1024) :
    iblk m c 3 t (ix2 (0 : Fin 1) j) = (0 : EReal) :=
  (congrFun (Memref.read_access_unit_zero (Elt Ideal) main_v1 (Cert.FfnIdeal.Val.origin _) (fun a => by rw [congrFun (Cert.FfnIdeal.Val.origin _) a]; simp) (V m c main_v1)) _).trans
    (V_bo m c j)

theorem iblk_gm (c : Dev nD) (t : Fin cfg0.N) (j : Fin 1024) :
    iblk m c 4 t (ix2 (0 : Fin 1) j) = m ((c : Thread nD τ).loc main_arg3) (ix1 j) :=
  (congrFun (Memref.read_access_unit_zero (Elt Ideal) main_v2 (Cert.FfnIdeal.Val.origin _) (fun a => by rw [congrFun (Cert.FfnIdeal.Val.origin _) a]; simp) (V m c main_v2)) _).trans
    (V_gm m c j)

theorem iblk_gp (c : Dev nD) (t : Fin cfg0.N) (j : Fin 1024) :
    iblk m c 5 t (ix2 (0 : Fin 1) j) = m ((c : Thread nD τ).loc main_arg4) (ix1 j) :=
  (congrFun (Memref.read_access_unit_zero (Elt Ideal) main_v3 (Cert.FfnIdeal.Val.origin _) (fun a => by rw [congrFun (Cert.FfnIdeal.Val.origin _) a]; simp) (V m c main_v3)) _).trans
    (V_gp m c j)

theorem iblk_w1 (c : Dev nD) (t : Fin cfg0.N) (k : Fin 1024) (f : Fin 4096) :
    iblk m c 6 t (ix2 k f) = m ((c : Thread nD τ).loc main_arg5) (ix2 k f) :=
  (congrFun (Memref.read_access_unit_zero (Elt Ideal) main_v4 (Cert.FfnIdeal.Val.origin _) (fun a => by rw [congrFun (Cert.FfnIdeal.Val.origin _) a]; simp) (V m c main_v4)) _).trans
    (V_w1 m c k f)

theorem iblk_w2 (c : Dev nD) (t : Fin cfg0.N) (f : Fin 4096) (j : Fin 1024) :
    iblk m c 7 t (ix2 f j) = m ((c : Thread nD τ).loc main_arg6) (ix2 f j) :=
  (congrFun (Memref.read_access_unit_zero (Elt Ideal) main_v5 (Cert.FfnIdeal.Val.origin _) (fun a => by rw [congrFun (Cert.FfnIdeal.Val.origin _) a]; simp) (V m c main_v5)) _).trans
    (V_w2 m c f j)

theorem iblk_gf (c : Dev nD) (t : Fin cfg0.N) (j : Fin 1024) :
    iblk m c 8 t (ix2 (0 : Fin 1) j) = m ((c : Thread nD τ).loc main_arg7) (ix1 j) :=
  (congrFun (Memref.read_access_unit_zero (Elt Ideal) main_v6 (Cert.FfnIdeal.Val.origin _) (fun a => by rw [congrFun (Cert.FfnIdeal.Val.origin _) a]; simp) (V m c main_v6)) _).trans
    (V_gf m c j)

/-! ## The array the write-backs leave -/

/-- The result: the block function of row `i` of the two row arrays and of the weights. -/
def G (c : Dev nD) : Buf (Elt Ideal) ((c : Thread nD τ).loc main_v7) := fun i : S16384x1024.Idx =>
  block (fun k => m ((c : Thread nD τ).loc main_arg0) (ix2 (i 0) k)) (fun j => m ((c : Thread nD τ).loc main_arg1) (ix2 (i 0) j))
    (fun k j => m ((c : Thread nD τ).loc main_arg2) (ix2 k j)) (fun _ => 0)
    (fun j => m ((c : Thread nD τ).loc main_arg3) (ix1 j)) (fun j => m ((c : Thread nD τ).loc main_arg4) (ix1 j))
    (fun k f => m ((c : Thread nD τ).loc main_arg5) (ix2 k f)) (fun f j => m ((c : Thread nD τ).loc main_arg6) (ix2 f j))
    (fun j => m ((c : Thread nD τ).loc main_arg7) (ix1 j)) (i 1)

/-- What point `t` writes back is block `t` of the result. -/
theorem flushed_eq (c : Dev nD) (t : Fin cfg0.N) :
    (dats m 0 c).flushed 9 t = (win0_9.blk t).view.read (Elt Ideal) (G m c) := by
  obtain ⟨-, -, e9⟩ := idx_rows t
  have ht : t.val < 32 := lt_of_lt_of_eq t.isLt N_0
  show (cfg0.win 9).cut (grid0.coords t) ((dats m 0 c).after 9 t) = _
  rw [after0_9]
  funext q
  obtain ⟨r, j, rfl⟩ : ∃ (r : Fin 512) (j : Fin 1024), q = ix2 r j := ⟨q 0, q 1, Shape.Idx.norm2 (n0 := 512) (n1 := 1024) q⟩
  show out0_9 _ _ _ _ _ _ _ _ _ (ix2 r j) = _
  have hr : t.val * 512 + r.val < 16384 := by have := r.isLt; omega
  have hq : (win0_9.blk t).view.emb (ix2 r j) = ix2 (⟨t.val * 512 + r, hr⟩ : Fin 16384) j := funext fun a => Fin.ext (by
    match a with
    | ⟨0, _⟩ => show win0_9.index t 0 * 512 + 1 * r.val = t.val * 512 + r.val
                rw [e9]; simp
    | ⟨1, _⟩ => show win0_9.index t 1 * 1024 + 1 * j.val = j.val
                rw [e9]; simp)
  rw [View.read_apply, hq, out_at]
  simp only [iblk_wo, iblk_bo, iblk_gm, iblk_gp, iblk_w1, iblk_w2, iblk_gf,
    iblk_y m c t r _ hr, iblk_x m c t r _ hr]
  rfl

/-- Every row lies in the block of the point `row / 512`. -/
theorem cover (i : S16384x1024.Idx) :
    ∃ t : Fin cfg0.N, (cfg0.win 9).flush t = true ∧ i ∈ ((cfg0.win 9).blk t).view.set := by
  have h0 : (i 0 : Nat) < 16384 := (i 0).isLt
  have h1 : (i 1 : Nat) < 1024 := (i 1).isLt
  have hN : cfg0.N = 32 := N_0
  let t : Fin cfg0.N := ⟨(i 0 : Nat) / 512, by omega⟩
  refine ⟨t, flush0_9 _, ?_⟩
  obtain ⟨-, -, e9⟩ := idx_rows t
  have ht : t.val = (i 0 : Nat) / 512 := rfl
  show i ∈ ((View.whole main_v7).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [e9]; simp; omega
  | ⟨1, _⟩ => show win0_9.index t 1 * 1024 ≤ (i 1 : Nat) ∧ (i 1 : Nat) < win0_9.index t 1 * 1024 + 1024
              rw [e9]; simp; omega

/-- The result array after the run. -/
theorem final_eq (c : Dev nD) : (dats m 0 c).arrAt 9 cfg0.N = G m c :=
  (dats m 0 c).arrAt_eq_of_cover 9 (G m c) (fun t _ => flushed_eq m c t) cover

end Cert.FfkIdeal.Val
-- ==== Proof.Ffk.Ref.lean ====
/-
  The plain out-projection + feed-forward reference (mixer width 2048), read at row `i`, column `j`.
-/
module

public import proofs.«01_k».proof.Proof.Gen.FfkRefIdeal.Read
public import proofs.«01_k».proof.Proof.Math.Row

@[expose] public section

noncomputable section

open Idealize.ShloMosaic Idealize.ShloMosaic.TcCoe Idealize.SL.Sem

namespace Cert.FfkRefIdeal.Val

open Cert.FfkRefIdeal Cert.FfkRefIdeal.Read Cert.Row

variable (y : FVec Ideal S16384x2048 .bf16) (x : FVec Ideal S16384x1024 .f32) (wo : FVec Ideal S2048x1024 .f32)
  (gm gp : FVec Ideal S1024 .f32) (w1 : FVec Ideal S1024x4096 .f32) (w2 : FVec Ideal S4096x1024 .f32) (gf : FVec Ideal S1024 .f32)

/-- The mixer's projection. -/
theorem proj_at (i : Fin 16384) (j : Fin 1024) :
    val_main_v1 (F := Ideal) y wo (ix2 i j) = (∑ k, y (ix2 i k) * wo (ix2 k j)) + 0 := by
  pointwise [val_main_v1, val_main_v0, dot_S16384x2048_S2048x1024_S16384x1024_1_0_0_1_n_n]

/-- The residual stream after the mixer. -/
theorem mixed_at (i : Fin 16384) (j : Fin 1024) :
    val_main_v15 (F := Ideal) y x wo gm (ix2 i j)
      = mixed (fun k => y (ix2 i k)) (fun j => x (ix2 i j)) (fun k j => wo (ix2 k j)) (fun _ => 0) (fun j => gm (ix1 j)) j := by
  unfold mixed
  rw [← funext fun j => proj_at y wo i j]
  pointwise [val_main_v2, val_main_v3, val_main_v4, val_main_v5, val_main_v6, val_main_v7, val_main_v8, val_main_v9, val_main_v10, val_main_v11, val_main_v12, val_main_v13, val_main_v14, val_main_v15, val_main_cst, val_main_cst_0, val_main_cst_1]
  rfl

/-- The normalized row the feed-forward part reads. -/
theorem normed_at (i : Fin 16384) (j : Fin 1024) :
    val_main_v28 (F := Ideal) y x wo gm gp (ix2 i j)
      = rms (fun j => val_main_v15 (F := Ideal) y x wo gm (ix2 i j)) (fun j => gp (ix1 j)) j := by
  pointwise [val_main_v16, val_main_v17, val_main_v18, val_main_v19, val_main_v20, val_main_v21, val_main_v22, val_main_v23, val_main_v24, val_main_v25, val_main_v26, val_main_v27, val_main_v28, val_main_cst_2, val_main_cst_3, val_main_cst_4]
  rfl

/-- The feed-forward product. -/
theorem ffn_at (i : Fin 16384) (j : Fin 1024) :
    val_main_v32 (F := Ideal) y x wo gm gp w1 w2 (ix2 i j)
      = ffnSum (fun k => val_main_v28 (F := Ideal) y x wo gm gp (ix2 i k)) (fun k f => w1 (ix2 k f)) (fun f j => w2 (ix2 f j)) j := by
  pointwise [val_main_v29, val_main_v30, val_main_v31, val_main_v32, val_main_call0_v0, val_main_call0_cst,
    dot_S16384x4096_S4096x1024_S16384x1024_1_0_0_1_n_n, dot_S16384x1024_S1024x4096_S16384x4096_1_0_0_1_n_n]
  rfl

/-- The result. -/
theorem res_at (i : Fin 16384) (j : Fin 1024) :
    val_main_v46 (F := Ideal) y x wo gm gp w1 w2 gf (ix2 i j)
      = block (fun k => y (ix2 i k)) (fun j => x (ix2 i j)) (fun k j => wo (ix2 k j)) (fun _ => 0)
          (fun j => gm (ix1 j)) (fun j => gp (ix1 j)) (fun k f => w1 (ix2 k f)) (fun f j => w2 (ix2 f j))
          (fun j => gf (ix1 j)) j := by
  have e : val_main_v46 (F := Ideal) y x wo gm gp w1 w2 gf (ix2 i j)
      = val_main_v15 (F := Ideal) y x wo gm (ix2 i j)
        + rms (fun j => val_main_v32 (F := Ideal) y x wo gm gp w1 w2 (ix2 i j)) (fun j => gf (ix1 j)) j := by
    pointwise [val_main_v33, val_main_v34, val_main_v35, val_main_v36, val_main_v37, val_main_v38, val_main_v39, val_main_v40, val_main_v41, val_main_v42, val_main_v43, val_main_v44, val_main_v45, val_main_v46, val_main_cst_5, val_main_cst_6, val_main_cst_7]
    rfl
  rw [e]
  simp only [ffn_at, normed_at, mixed_at]
  rfl

end Cert.FfkRefIdeal.Val
-- ==== Proof.Ffk.Claim.lean ====
/-
  The claims of the out-projection + feed-forward kernel (mixer width 2048).
-/
module

public import proofs.«01_k».proof.Defs
public import proofs.«01_k».proof.Proof.Ffk.Blocks
public import proofs.«01_k».proof.Proof.Ffk.Ref
public import proofs.«01_k».proof.Proof.Gen.Ffk.Frame
public import proofs.«01_k».proof.Proof.Gen.FfkRefIdeal.Run
public import Idealize.ShloMosaic.Lib.Quiescent

@[expose] public section

noncomputable section

open Idealize.ShloMosaic Idealize.ShloMosaic.TcCoe Idealize.SL.Sem

namespace Cert.Ffk.Claims

theorem frame_p : Cert.quiescent_Ffk := fun m ρ _ => Cert.Ffk.Gen.frame m ρ

theorem frame_pi : Cert.quiescent_FfkIdeal := fun m ρ _ => Cert.FfkIdeal.Gen.frame m ρ

theorem frame_ri : Cert.quiescent_FfkRefIdeal := fun m ρ _ =>
  (θ_run Cert.FfkRefIdeal.defs _ _).mono
    (fun r h => ⟨fun c => (h c).2, sem_eq_zero_of_no_sems (by decide) r.2⟩)
    (Cert.FfkRefIdeal.Value.run (F := Ideal) m ρ)

/-- Both programs end with the block function of the rows: the kernel's array is `G` (`final_eq`), the reference's
    result reads the same function at every index (`res_at`). -/
theorem algebraic : Cert.algebraic_FfkIdeal_FfkRefIdeal := by
  intro m ρ m' ρ' _ hagree
  refine ⟨fun c => Cert.FfkIdeal.Val.G m c, ?_, ?_⟩
  · exact (θ_run Cert.FfkIdeal.defs _ _).mono (fun _ h c => ⟨(h c).1.trans (Cert.FfkIdeal.Val.final_eq m c), (h c).2⟩)
      (Cert.FfkIdeal.Value.run_blocks (F := Ideal) m ρ)
  · refine (θ_run Cert.FfkRefIdeal.defs _ _).mono
      (fun _ h c => ⟨((h c).1.trans (Cert.FfkRefIdeal.Read.val_main_v46_eq m' c)).trans ?_, (h c).2⟩)
      (Cert.FfkRefIdeal.Value.run (F := Ideal) m' ρ')
    obtain ⟨e0, e1, e2, e3, e4, e5, e6, e7⟩ := hagree c
    rw [e0, e1, e2, e3, e4, e5, e6, e7]
    funext q
    obtain ⟨i, j, rfl⟩ : ∃ (i : Fin 16384) (j : Fin 1024), q = ix2 i j := ⟨q 0, q 1, Shape.Idx.norm2 (n0 := 16384) (n1 := 1024) q⟩
    exact Cert.FfkRefIdeal.Val.res_at _ _ _ _ _ _ _ _ i j

end Cert.Ffk.Claims
-- ==== Proof.Nml.Blocks.lean ====
/-
  The norm + projection kernel (RG-LRU layers): what its grid points leave, and the array its write-backs leave. Two points
  share a block of 1024 rows: the first normalizes the rows into the scratch, both multiply the scratch by a half of the
  weight's columns.
-/
module

public import proofs.«01_k».proof.Proof.Gen.NmlIdeal.Value
public import proofs.«01_k».proof.Proof.Math.Row

@[expose] public section

noncomputable section

open Idealize.ShloMosaic Idealize.ShloMosaic.TcCoe Idealize.SL.Sem

namespace Cert.NmlIdeal.Val

open Cert.NmlIdeal Cert.NmlIdeal.Gen Cert.Row

theorem hz : (![0, 0] : Fin 2 → Nat) = fun _ => 0 := funext fun a => by fin_cases a <;> rfl

/-- The normalized rows. -/
theorem pay1_at (x : Vec Ideal S1024x1024 .f32) (g : Vec Ideal S1x1024 .f32) (r j : Fin 1024) :
    k0_pay1 x g (ix2 r j) = rms (fun j => x (ix2 r j)) (fun j => g (ix2 0 j)) j := by
  pointwise [k0_pay1]
  rfl

/-- The product and its bias. -/
theorem pay2_at (n w : Vec Ideal S1024x1024 .bf16) (b : Vec Ideal S1x1024 .f32) (r j : Fin 1024) :
    k0_pay2 n w b (ix2 r j) = (∑ k, n (ix2 r k) * w (ix2 k j)) + b (ix2 0 j) := by
  pointwise [k0_pay2, dot_S1024x1024_S1024x1024_S1024x1024_1_0_0_1_n_n]

variable (m : (ℓ : Loc nD τ sig) → Buf (Elt Ideal) ℓ) (c : Dev nD)

/-! ## The grid points -/

theorem scratch_A (t : Fin cfg0.N) (h0 : t.val % 2 = 0) :
    (outsAt0 m c t.val t.isLt).2 = k0_pay1 (iblk m c 0 t) (iblk m c 1 t) := by
  rw [outsAt0_A m c t h0]
  dsimp only
  unfold sout0_A_0
  rw [View.read_writes_junk_eq_canon]
  unfold kernelRun0_A
  dsimp only
  sl_unfold_words
  rw [View.canon_cons_unit_zero hz]
  simp only [View.readAt_eq_ld, (hs0_0 t).read_unread, (hs0_1 t).read_unread, View.ld_unit_zero (S := S1024x1024) hz,
    View.ld_unit_zero (S := S1x1024) hz]

theorem out_A (t : Fin cfg0.N) (h0 : t.val % 2 = 0) :
    (outsAt0 m c t.val t.isLt).1 = k0_pay2 (k0_pay1 (iblk m c 0 t) (iblk m c 1 t)) (iblk m c 2 t) (iblk m c 3 t) := by
  rw [outsAt0_A m c t h0]
  dsimp only
  unfold out0_A_4
  rw [View.read_writes_junk_eq_canon]
  unfold kernelRun0_A
  dsimp only
  sl_unfold_words
  rw [View.canon_cons_unit_zero hz]
  simp only [View.readAt_eq_ld, (hs0_0 t).read_unread, (hs0_1 t).read_unread, (hs0_2 t).read_unread, (hs0_3 t).read_unread,
    View.ld_unit_zero (S := S1024x1024) hz, View.ld_unit_zero (S := S1x1024) hz, View.readCov_unit_zero (S := S1024x1024) _ hz]

theorem scratch_B (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

theorem out_B (t : Fin cfg0.N) (h0 : ¬t.val % 2 = 0) :
    (outsAt0 m c t.val t.isLt).1 = k0_pay2 (outsAt0 m c (t.val - 1) (Nat.lt_of_le_of_lt (Nat.sub_le _ _) t.isLt)).2
      (iblk m c 2 t) (iblk m c 3 t) := by
  rw [outsAt0_B m c t h0]
  dsimp only
  unfold out0_B_4
  rw [View.read_writes_junk_eq_canon]
  unfold kernelRun0_B
  dsimp only
  sl_unfold_words
  rw [View.canon_cons_unit_zero hz]
  simp only [View.readAt_eq_ld, (hs0_2 t).read_unread, (hs0_3 t).read_unread, (Memref.isWhole_whole _).read_unread,
    View.ld_unit_zero (S := S1024x1024) hz, View.ld_unit_zero (S := S1x1024) hz]

/-! ## What the host leaves for the region -/

theorem V_g (j : Fin 1024) : V m c main_v0 (ix2 (0 : Fin 1) j) = m ((c : Thread nD τ).loc main_arg1) (ix1 j) := by
  have e : V m c main_v0 = shapeCast S1x1024 (m ((c : Thread nD τ).loc main_arg1) : FVec Ideal S1024 .f32) shapeCasts_S1024_S1x1024 := by
    unfold V hostOps0; after_results; rfl
  exact (congrFun e _).trans (by pointwise [])

theorem V_w (k : Fin 1024) (j : Fin 2048) : V m c main_v1 (ix2 k j) = m ((c : Thread nD τ).loc main_arg2) (ix2 k j) := by
  have e : V m c main_v1
      = (truncf .bf16 (m ((c : Thread nD τ).loc main_arg2) : FVec Ideal S1024x2048 .f32) bitsLt_bf16_f32 : FVec Ideal S1024x2048 .bf16) := by
    unfold V hostOps0; after_results
  exact (congrFun e _).trans (by pointwise [])

theorem V_b (j : Fin 2048) : V m c main_v2 (ix2 (0 : Fin 1) j) = m ((c : Thread nD τ).loc main_arg3) (ix1 j) := by
  have e : V m c main_v2 = shapeCast S1x2048 (m ((c : Thread nD τ).loc main_arg3) : FVec Ideal S2048 .f32) shapeCasts_S2048_S1x2048 := by
    unfold V hostOps0; after_results; rfl
  rw [e]
  refine (shapeCast_addUnit_apply (n := 1) ![2048] _ _ _).trans (congrArg (m ((c : Thread nD τ).loc main_arg3) : S2048.Idx → EReal) (funext fun a => ?_))
  match a with
  | ⟨0, _⟩ => rfl

/-! ## The blocks a grid point reads -/

theorem idx_rows : ∀ t : Fin cfg0.N, win0_0.index t = ![t.val / 2, 0] ∧ win0_2.index t = ![0, t.val % 2]
    ∧ win0_3.index t = ![0, t.val % 2] ∧ win0_4.index t = ![t.val / 2, t.val % 2] := (by decide +kernel : ∀ t : Fin grid0.N, _)

theorem iblk_x (t : Fin cfg0.N) (r k : Fin 1024) (h : 1024 * (t.val / 2) + r.val < 16384) :
    iblk m c 0 t (ix2 r k) = m ((c : Thread nD τ).loc main_arg0) (ix2 (⟨1024 * (t.val / 2) + r.val, h⟩ : Fin 16384) k) := by
  obtain ⟨e, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 1024 + 1 * r.val = 1024 * (t.val / 2) + r.val
              rw [e]; simp; omega
  | ⟨1, _⟩ => show win0_0.index t 1 * 1024 + 1 * k.val = k.val
              rw [e]; simp

theorem iblk_g (t : Fin cfg0.N) (j : Fin 1024) :
    iblk m c 1 t (ix2 (0 : Fin 1) j) = m ((c : Thread nD τ).loc main_arg1) (ix1 j) := by
  have o : (fun a => (![0, 0] : Fin 2 → Nat) a * S1x1024.size a) = fun _ => 0 := funext fun a => by fin_cases a <;> exact Nat.zero_mul _
  exact (congrFun (Memref.read_access_unit_zero (Elt Ideal) main_v0 o (fun a => by rw [congrFun o a]; simp) (V m c main_v0)) _).trans
    (V_g m c j)

theorem iblk_w (t : Fin cfg0.N) (k j : Fin 1024) (h : 1024 * (t.val % 2) + j.val < 2048) :
    iblk m c 2 t (ix2 k j) = m ((c : Thread nD τ).loc main_arg2) (ix2 k (⟨1024 * (t.val % 2) + j.val, h⟩ : Fin 2048)) := by
  obtain ⟨-, e, -⟩ := idx_rows t
  unfold iblk
  rw [View.read_apply]
  refine Eq.trans (congrArg (V m c main_v1) (funext fun a => Fin.ext ?_)) (V_w m c k _)
  match a with
  | ⟨0, _⟩ => show win0_2.index t 0 * 1024 + 1 * k.val = k.val
              rw [e]; show 0 * 1024 + 1 * k.val = k.val; omega
  | ⟨1, _⟩ => show win0_2.index t 1 * 1024 + 1 * j.val = 1024 * (t.val % 2) + j.val
              rw [e]; simp; omega

theorem iblk_b (t : Fin cfg0.N) (j : Fin 1024) (h : 1024 * (t.val % 2) + j.val < 2048) :
    iblk m c 3 t (ix2 (0 : Fin 1) j) = m ((c : Thread nD τ).loc main_arg3) (ix1 (⟨1024 * (t.val % 2) + j.val, h⟩ : Fin 2048)) := by
  obtain ⟨-, -, e, -⟩ := idx_rows t
  unfold iblk
  rw [View.read_apply]
  refine Eq.trans (congrArg (V m c main_v2) (funext fun a => Fin.ext ?_)) (V_b m c _)
  match a with
  | ⟨0, _⟩ => show win0_3.index t 0 * 1 + 1 * 0 = 0
              rw [e]; simp
  | ⟨1, _⟩ => show win0_3.index t 1 * 1024 + 1 * j.val = 1024 * (t.val % 2) + j.val
              rw [e]; simp; omega

/-- The normalized row `i` of the argument. -/
def normed (i : Fin 16384) (k : Fin 1024) : EReal :=
  rms (fun j => m ((c : Thread nD τ).loc main_arg0) (ix2 i j)) (fun j => m ((c : Thread nD τ).loc main_arg1) (ix1 j)) k

theorem normed_at (t : Fin cfg0.N) (r k : Fin 1024) (h : 1024 * (t.val / 2) + r.val < 16384) :
    k0_pay1 (iblk m c 0 t) (iblk m c 1 t) (ix2 r k) = normed m c ⟨1024 * (t.val / 2) + r.val, h⟩ k := by
  refine (pay1_at _ _ r k).trans ?_
  simp only [iblk_g, iblk_x m c t r _ h]
  rfl

/-- After point `t` the scratch holds the normalized rows of its block. -/
theorem scratch_at (t : Fin cfg0.N) (r k : Fin 1024) (h : 1024 * (t.val / 2) + r.val < 16384) :
    (outsAt0 m c t.val t.isLt).2 (ix2 r k) = normed m c ⟨1024 * (t.val / 2) + r.val, h⟩ k := by
  by_cases h0 : t.val % 2 = 0
  · rw [scratch_A m c t h0]; exact normed_at m c t r k h
  · rw [scratch_B m c t h0]
    let s : Fin cfg0.N := ⟨t.val - 1, Nat.lt_of_le_of_lt (Nat.sub_le _ _) t.isLt⟩
    have e : s.val / 2 = t.val / 2 := by show (t.val - 1) / 2 = t.val / 2; omega
    refine (congrFun (scratch_A m c s (by show (t.val - 1) % 2 = 0; omega)) (ix2 r k)).trans
      ((normed_at m c s r k (by rw [e]; exact h)).trans ?_)
    exact congrArg (normed m c · k) (Fin.ext (by show 1024 * (s.val / 2) + r.val = _; rw [e]))

/-! ## The array the write-backs leave -/

/-- The result: the normalized row times the weight, plus the bias. -/
def G : Buf (Elt Ideal) ((c : Thread nD τ).loc main_v3) := fun i : S16384x2048.Idx =>
  (∑ k, normed m c (i 0) k * m ((c : Thread nD τ).loc main_arg2) (ix2 k (i 1))) + m ((c : Thread nD τ).loc main_arg3) (ix1 (i 1))

theorem out_at (t : Fin cfg0.N) (r j : Fin 1024) (h : 1024 * (t.val / 2) + r.val < 16384) (hj : 1024 * (t.val % 2) + j.val < 2048) :
    (outsAt0 m c t.val t.isLt).1 (ix2 r j) = G m c (ix2 ⟨1024 * (t.val / 2) + r.val, h⟩ ⟨1024 * (t.val % 2) + j.val, hj⟩) := by
  have e : (outsAt0 m c t.val t.isLt).1 = k0_pay2 (outsAt0 m c t.val t.isLt).2 (iblk m c 2 t) (iblk m c 3 t) := by
    by_cases h0 : t.val % 2 = 0
    · rw [out_A m c t h0, scratch_A m c t h0]
    · rw [out_B m c t h0, scratch_B m c t h0]
  rw [e]
  refine (pay2_at _ _ _ r j).trans ?_
  simp only [scratch_at m c t r _ h, iblk_w m c t _ j hj, iblk_b m c t j hj]
  rfl

theorem flushed_eq (t : Fin cfg0.N) : (dats m 0 c).flushed 4 t = (win0_4.blk t).view.read (Elt Ideal) (G m c) := by
  obtain ⟨-, -, -, e⟩ := idx_rows t
  have ht : t.val < 32 := lt_of_lt_of_eq t.isLt N_0
  rw [Value.flushed4 m c t]
  funext q
  obtain ⟨r, j, rfl⟩ : ∃ (r j : Fin 1024), q = ix2 r j := ⟨q 0, q 1, Shape.Idx.norm2 (n0 := 1024) (n1 := 1024) q⟩
  have hr : 1024 * (t.val / 2) + r.val < 16384 := by have := r.isLt; omega
  have hj : 1024 * (t.val % 2) + j.val < 2048 := by have := j.isLt; omega
  have hq : (win0_4.blk t).view.emb (ix2 r j)
      = ix2 (⟨1024 * (t.val / 2) + r.val, hr⟩ : Fin 16384) (⟨1024 * (t.val % 2) + j.val, hj⟩ : Fin 2048) := funext fun a => Fin.ext (by
    match a with
    | ⟨0, _⟩ => show win0_4.index t 0 * 1024 + 1 * r.val = 1024 * (t.val / 2) + r.val
                rw [e]; simp; omega
    | ⟨1, _⟩ => show win0_4.index t 1 * 1024 + 1 * j.val = 1024 * (t.val % 2) + j.val
                rw [e]; simp; omega)
  rw [View.read_apply, hq]
  exact out_at m c t r j hr hj

/-- Every index lies in a point's block. -/
theorem cover (i : S16384x2048.Idx) : ∃ t : Fin cfg0.N, (cfg0.win 4).flush t = true ∧ i ∈ ((cfg0.win 4).blk t).view.set := by
  have h0 : (i 0 : Nat) < 16384 := (i 0).isLt
  have h1 : (i 1 : Nat) < 2048 := (i 1).isLt
  have hN : cfg0.N = 32 := N_0
  let t : Fin cfg0.N := ⟨2 * ((i 0 : Nat) / 1024) + (i 1 : Nat) / 1024, by omega⟩
  have ht : t.val = 2 * ((i 0 : Nat) / 1024) + (i 1 : Nat) / 1024 := rfl
  refine ⟨t, flush0_4 _, ?_⟩
  obtain ⟨-, -, -, e⟩ := idx_rows t
  show i ∈ ((View.whole main_v3).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [e]; simp; omega
  | ⟨1, _⟩ => show win0_4.index t 1 * 1024 ≤ (i 1 : Nat) ∧ (i 1 : Nat) < win0_4.index t 1 * 1024 + 1024
              rw [e]; simp; omega

/-- The result array after the run. -/
theorem final_eq : (dats m 0 c).arrAt 4 cfg0.N = G m c :=
  (dats m 0 c).arrAt_eq_of_cover 4 (G m c) (fun t _ => flushed_eq m c t) cover

end Cert.NmlIdeal.Val
-- ==== Proof.Nml.Ref.lean ====
/-
  The plain norm + projection reference (RG-LRU layers), read at row `i`, column `j`.
-/
module

public import proofs.«01_k».proof.Proof.Gen.NmlRefIdeal.Read
public import proofs.«01_k».proof.Proof.Math.Row

@[expose] public section

noncomputable section

open Idealize.ShloMosaic Idealize.ShloMosaic.TcCoe Idealize.SL.Sem

namespace Cert.NmlRefIdeal.Val

open Cert.NmlRefIdeal Cert.NmlRefIdeal.Read Cert.Row

variable (x : FVec Ideal S16384x1024 .f32) (g : FVec Ideal S1024 .f32) (w : FVec Ideal S1024x2048 .f32) (b : FVec Ideal S2048 .f32)

/-- The normalized rows. -/
theorem normed_at (i : Fin 16384) (j : Fin 1024) :
    val_main_v12 (F := Ideal) x g (ix2 i j) = rms (fun j => x (ix2 i j)) (fun j => g (ix1 j)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The result. -/
theorem res_at (i : Fin 16384) (j : Fin 2048) :
    val_main_v16 (F := Ideal) x g w b (ix2 i j)
      = (∑ k, rms (fun j => x (ix2 i j)) (fun j => g (ix1 j)) k * w (ix2 k j)) + b (ix1 j) := by
  simp only [← normed_at]
  pointwise [val_main_v13, val_main_v14, val_main_v15, val_main_v16, dot_S16384x1024_S1024x2048_S16384x2048_1_0_0_1_n_n]

end Cert.NmlRefIdeal.Val
-- ==== Proof.Nml.Claim.lean ====
/-
  The claims of the norm + projection kernel (RG-LRU layers).
-/
module

public import proofs.«01_k».proof.Defs
public import proofs.«01_k».proof.Proof.Nml.Blocks
public import proofs.«01_k».proof.Proof.Nml.Ref
public import proofs.«01_k».proof.Proof.Gen.Nml.Frame
public import proofs.«01_k».proof.Proof.Gen.NmlRefIdeal.Run
public import Idealize.ShloMosaic.Lib.Quiescent

@[expose] public section

noncomputable section

open Idealize.ShloMosaic Idealize.ShloMosaic.TcCoe Idealize.SL.Sem

namespace Cert.Nml.Claims

theorem frame_p : Cert.quiescent_Nml := fun m ρ _ => Cert.Nml.Gen.frame m ρ

theorem frame_pi : Cert.quiescent_NmlIdeal := fun m ρ _ => Cert.NmlIdeal.Gen.frame m ρ

theorem frame_ri : Cert.quiescent_NmlRefIdeal := fun m ρ _ =>
  (θ_run Cert.NmlRefIdeal.defs _ _).mono
    (fun r h => ⟨fun c => (h c).2, sem_eq_zero_of_no_sems (by decide) r.2⟩)
    (Cert.NmlRefIdeal.Value.run (F := Ideal) m ρ)

/-- Both programs end with the normalized rows times the weight, plus the bias: the kernel's array is `G` (`final_eq`), the
    reference's result reads the same at every index (`res_at`). -/
theorem algebraic : Cert.algebraic_NmlIdeal_NmlRefIdeal := by
  intro m ρ m' ρ' _ hagree
  refine ⟨fun c => Cert.NmlIdeal.Val.G m c, ?_, ?_⟩
  · exact (θ_run Cert.NmlIdeal.defs _ _).mono (fun _ h c => ⟨(h c).1.trans (Cert.NmlIdeal.Val.final_eq m c), (h c).2⟩)
      (Cert.NmlIdeal.Value.run_blocks (F := Ideal) m ρ)
  · refine (θ_run Cert.NmlRefIdeal.defs _ _).mono
      (fun _ h c => ⟨((h c).1.trans (Cert.NmlRefIdeal.Read.val_main_v16_eq _ _ _ _)).trans ?_, (h c).2⟩)
      (Cert.NmlRefIdeal.Value.run (F := Ideal) m' ρ')
    obtain ⟨e0, e1, e2, e3⟩ := hagree c
    rw [e0, e1, e2, e3]
    funext q
    obtain ⟨i, j, rfl⟩ : ∃ (i : Fin 16384) (j : Fin 2048), q = ix2 i j := ⟨q 0, q 1, Shape.Idx.norm2 (n0 := 16384) (n1 := 2048) q⟩
    exact Cert.NmlRefIdeal.Val.res_at _ _ _ _ i j

end Cert.Nml.Claims
-- ==== Proof.Nms.RunIdeal.lean ====
/-
  The two ways the body of `NmsIdeal` runs at a grid point: at the first column block of a row block, and at a later one.
-/
module

public import proofs.«01_k».proof.Proof.Gen.NmsIdeal.Frame
public import Idealize.ShloMosaic.Lib.VecWindow
public import Idealize.ShloMosaic.Lib.Pipeline.Value

@[expose] public section

set_option maxRecDepth 16384

noncomputable section

namespace Cert.NmsIdeal.Hand

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- A block of rows normalised, each row divided by the root of its mean square and multiplied by the weight row. -/
def normed (x : Vec F S1024x1024 .f32) (g : Vec F S1x1024 .f32) : FVec F S1024x1024 .bf16 :=
  let ms : FVec F S1024x1 .f32 := divf (shapeCast S1024x1 (multiReduction .add [1] S1024 (mulf x x) 0x00000000#32 reduces_S1024x1024_S1024 (.inl rfl) rfl) shapeCasts_S1024_S1024x1)
    (broadcast S1024x1 (Scalar.ofBits .f32 0x44800000#32 : F .f32))
  let r : FVec F S1024x1 .f32 := rsqrt (addf ms (broadcast S1024x1 (Scalar.ofBits .f32 0x358637BD#32 : F .f32)))
  truncf .bf16 (mulf (mulf x (broadcastTo S1024x1024 r broadcasts_S1024x1_S1024x1024))
    (broadcastTo S1024x1024 (shapeCast S1x1024 g shapeCasts_S1x1024_S1x1024 : FVec F S1x1024 .f32) broadcasts_S1x1024_S1024x1024)) bitsLt_bf16_f32

/-- What the scratch holds: the normalised rows. -/
def kept (x : Vec F S1024x1024 .f32) (g : Vec F S1x1024 .f32) : FVec F S1024x1024 .bf16 :=
  shapeCast S1024x1024 (normed x g) shapeCasts_S1024x1024_S1024x1024

/-- The normalised rows times a block of the wide weight's columns. -/
def wide (s : Vec F S1024x1024 .bf16) (w : Vec F S1024x1024 .bf16) : FVec F S1024x1024 .f32 :=
  matmul dot_S1024x1024_S1024x1024_S1024x1024_1_0_0_1_n_n none s (shapeCast S1024x1024 w shapeCasts_S1024x1024_S1024x1024 : FVec F S1024x1024 .bf16)
    (constant S1024x1024 .f32 0x00000000#32)

/-- The normalised rows times the narrow weight. -/
def narrow (x : Vec F S1024x1024 .f32) (g : Vec F S1x1024 .f32) (ws : Vec F S1024x128 .bf16) : FVec F S1024x128 .f32 :=
  matmul dot_S1024x1024_S1024x128_S1024x128_1_0_0_1_n_n none (normed x g) (shapeCast S1024x128 ws shapeCasts_S1024x128_S1024x128 : FVec F S1024x128 .bf16)
    (constant S1024x128 .f32 0x00000000#32)

private theorem z2 : (![0, 0] : Fin 2 → Nat) = fun _ => 0 := funext fun a => by fin_cases a <;> rfl

set_option maxHeartbeats 1000000 in
/-- The body at the first column block of a row block: it normalises the rows into the scratch and fills both outputs. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1)
    (x0 : Vec F S1024x1024 .f32) (x1 : Vec F S1x1024 .f32) (x2 : Vec F S1024x1024 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wide (kept x0 x1) x2) ∗ owns (c : Thread nD τ) arg7 fullShare (narrow x0 x1 x3) ∗ owns (c : Thread nD τ) arg8 fullShare (kept x0 x1)) -∗ K ⟨⟩))
      ⊢ wp frame (wpE (defs₀ (F := F)) Variants.none c none) E (cc0_norm_matmul i arg2 harg2 arg3 harg3 arg4 harg4 arg5 harg5 arg6 harg6 arg7 harg7 arg8 harg8) K := by
  unfold cc0_norm_matmul
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (View.read_writes_full _ _ _ _ _).trans ?_
    simp only [View.readAt_eq_ld, harg2.read_unread, harg3.read_unread, harg4.read_unread,
      View.ld_unit_zero (S := S1024x1024) z2, View.ld_unit_zero (S := S1024x1024) z2, View.ld_unit_zero (S := S1x1024) z2, View.readCov_unit_zero (S := S1024x1024) _ z2]
    rfl
  isplitl [H5]
  · iexists _; isplitr
    swap; · iexact H5
    ipureintro
    sl_unfold_words
    refine (View.read_writes_full _ _ _ _ _).trans ?_
    simp only [View.readAt_eq_ld, harg2.read_unread, harg3.read_unread, harg5.read_unread,
      View.ld_unit_zero (S := S1024x1024) z2, View.ld_unit_zero (S := S1024x128) z2, View.ld_unit_zero (S := S1x1024) z2]
    rfl
  · iexists _; isplitr
    swap; · iexact H6
    ipureintro
    sl_unfold_words
    refine (View.read_writes_full _ _ _ _ _).trans ?_
    simp only [View.readAt_eq_ld, harg2.read_unread, harg3.read_unread,
      View.ld_unit_zero (S := S1024x1024) z2, View.ld_unit_zero (S := S1x1024) z2]
    rfl

set_option maxHeartbeats 1000000 in
/-- The body at a later column block: it multiplies the rows the scratch holds; the narrow output and the scratch stay. -/
theorem run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1024 .bf16) (harg8 : arg8.IsWhole) (hc : ¬k0_cond1 i = 1#1)
    (x2 : Vec F S1024x1024 .bf16) (s : Vec F S1024x1024 .bf16) (E : Set ℕ) (K : PUnit → sProp 𝕄) :
    iprop(owns (c : Thread nD τ) arg4 fullShare x2 ∗ (∃ d, owns (c : Thread nD τ) arg6 fullShare d) ∗ owns (c : Thread nD τ) arg8 fullShare s
        ∗ (iprop(owns (c : Thread nD τ) arg4 fullShare x2 ∗ owns (c : Thread nD τ) arg6 fullShare (wide s x2) ∗ owns (c : Thread nD τ) arg8 fullShare s) -∗ K ⟨⟩))
      ⊢ wp frame (wpE (defs₀ (F := F)) Variants.none c none) E (cc0_norm_matmul i arg2 harg2 arg3 harg3 arg4 harg4 arg5 harg5 arg6 harg6 arg7 harg7 arg8 harg8) K := by
  unfold cc0_norm_matmul
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc)
  sl_step
  iapply Hk
  isplitl [H2]
  · iexists _; isplitr; · ipureintro; exact harg4.read_unread _
    iexact H2
  isplitl [H4]
  · iexists _; isplitr
    swap; · iexact H4
    ipureintro
    sl_unfold_words
    refine (View.read_writes_full _ _ _ _ _).trans ?_
    simp only [View.readAt_eq_ld, harg4.read_unread, harg8.read_unread,
      View.ld_unit_zero (S := S1024x1024) z2, View.ld_unit_zero (S := S1024x1024) z2]
    rfl
  · iexists _; isplitr; · ipureintro; exact harg8.read_unread _
    iexact H6

end Cert.NmsIdeal.Hand

end
-- ==== Proof.Nms.FrameIdeal.lean ====
/-
  The frame of `NmsIdeal`: what every buffer holds after each grid point. The body fills the narrow output at the first
  column block of a row block only; at the later ones its buffer is carried along unchanged.
-/
module

public import proofs.«01_k».proof.Proof.Nms.RunIdeal
public import Idealize.ShloMosaic.Lib.Claim

@[expose] public section

set_option maxRecDepth 16384

noncomputable section

namespace Cert.NmsIdeal.Hand

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## Which case a point is in -/

/-- A point is at the first column block exactly when its number is a multiple of 6. -/
theorem cond_iff : ∀ t : Fin cfg0.N, k0_cond1 (grid0.coords t) = 1#1 ↔ t.val % 6 = 0 :=
  (fun t => by
    have ht : t.val < 96 := Nat.lt_of_lt_of_eq t.isLt N_0
    have e1 : (grid0.coords t 1).val = t.val / 1 % 6 := Pipeline.Grid.coords_val t 1 (by decide) rfl
    simp only [k0_cond1, e1]
    word_cmp
   : ∀ t : Fin grid0.N, k0_cond1 (grid0.coords t) = 1#1 ↔ t.val % 6 = 0)

/-- The narrow output is left alone exactly at the other points. -/
theorem idle_iff (t : Fin cfg0.N) : cfg0.idle 5 (cfg0.grid.coords t) = true ↔ ¬t.val % 6 = 0 := by
  show (!(k0_cond1 (grid0.coords t) == 1#1)) = true ↔ _
  rw [← cond_iff t]; simp

/-! ## The memrefs a point works on -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x128 .bf16 := win0_3.stage (cfg0.slots t 3)
abbrev ms4 (t : Fin cfg0.N) : Memref sig .tc .vmem S1024x1024 .f32 := win0_4.stage (cfg0.slots t 4)
abbrev ms5 (t : Fin cfg0.N) : Memref sig .tc .vmem S1024x128 .f32 := win0_5.stage (cfg0.slots t 5)
/-- The scratch: a whole buffer. -/
abbrev scr : Memref sig .tc .vmem S1024x1024 .bf16 := Memref.whole cc0_scratch0

/-! ## What the buffers hold after each point -/

/-- The scratch after point `t`: the normalised rows of the point's row block. -/
def keptAt (c : Dev nD) (t : Fin cfg0.N) : Vec F S1024x1024 .bf16 := kept (iblk m c 0 t) (iblk m c 1 t)

/-- An input block not fetched at a point is the block of the point before. -/
theorem iblk_stays (c : Dev nD) (t : Fin cfg0.N) (h : ¬t.val % 6 = 0) :
    iblk m c 0 t = iblk m c 0 ⟨t.val - 1, Nat.lt_of_le_of_lt (Nat.sub_le _ _) t.isLt⟩
    ∧ iblk m c 1 t = iblk m c 1 ⟨t.val - 1, Nat.lt_of_le_of_lt (Nat.sub_le _ _) t.isLt⟩
    ∧ iblk m c 3 t = iblk m c 3 ⟨t.val - 1, Nat.lt_of_le_of_lt (Nat.sub_le _ _) t.isLt⟩ := by
  have hN : t.val < 96 := Nat.lt_of_lt_of_eq t.isLt N_0
  have e (w : Fin 6) (hw : (cfg0.win w).isOut = false) (hf : (cfg0.win w).fetch t = false) :=
    (cfg0.win w).index_eq_of_fetch hw t hf
  have e0 := (e 0 rfl (by rw [← Bool.not_eq_true, fetch0_0]; omega)).2
  have e1 := (e 1 rfl (by rw [← Bool.not_eq_true, fetch0_1]; omega)).2
  have e3 := (e 3 rfl (by rw [← Bool.not_eq_true, fetch0_3]; omega)).2
  refine ⟨?_, ?_, ?_⟩
  · unfold iblk; funext y; rw [View.read_apply, View.read_apply]
    refine congrArg (V m c main_arg0) (funext fun a => Fin.ext ?_)
    exact congrArg (fun ix : Fin 2 → ℕ => ix a * S1024x1024.size a + 1 * (y a).val) e0
  · unfold iblk; funext y; rw [View.read_apply, View.read_apply]
    refine congrArg (V m c main_v7) (funext fun a => Fin.ext ?_)
    exact congrArg (fun ix : Fin 2 → ℕ => ix a * S1x1024.size a + 1 * (y a).val) e1
  · unfold iblk; funext y; rw [View.read_apply, View.read_apply]
    refine congrArg (V m c main_v6) (funext fun a => Fin.ext ?_)
    exact congrArg (fun ix : Fin 2 → ℕ => ix a * S1024x128.size a + 1 * (y a).val) e3

/-- What is carried into point `n`: nothing known before the first; afterwards the scratch as the point before left it. -/
def inv (c : Dev nD) : (n : ℕ) → n ≤ cfg0.N → sProp 𝕄
  | 0, _ => Pipeline.ΦA spec0 c
  | n + 1, hn => iprop(iprop(owns (c : Thread nD τ) scr fullShare (keptAt m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (keptAt m c t)) ∗ (∃ r, prngReg c r)) := rfl

theorem inv_pos (c : Dev nD) (n : ℕ) (h : n ≤ cfg0.N) (hz : n ≠ 0) :
    inv m c n h = iprop(iprop(owns (c : Thread nD τ) scr fullShare (keptAt m c ⟨n - 1, by omega⟩)) ∗ (∃ r, prngReg c r)) := by
  cases n with
  | zero => exact absurd rfl hz
  | succ n => rfl

theorem any_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's data: the arrays as the host leaves them, and after each point every input buffer at its block,
    the wide output at the rows times the point's columns, the narrow output at the rows times the narrow weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide (keptAt m c t) (iblk m c 2 t)
    | ⟨5, _⟩ => narrow (iblk m c 0 t) (iblk m c 1 t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = wide (keptAt m c t) (iblk m c 2 t) := by dsimp only [dats]
theorem after5 (c : Dev nD) (t : Fin cfg0.N) :
    (dats m 0 c).after 5 t = narrow (iblk m c 0 t) (iblk m c 1 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later column block the narrow output's buffer already holds its contents: the point before left them there. -/
theorem before5 (c : Dev nD) : ∀ (n : ℕ) (t : Fin cfg0.N) (_ : t.val = n) (_ : ¬t.val % 6 = 0) (d),
    (dats m 0 c).before 5 t d = (dats m 0 c).after 5 t
  | 0, t, ht, h, d => absurd (by rw [ht]) h
  | n + 1, t, ht, h, d => by
    have hn : t.val ≠ 0 := by omega
    obtain ⟨i0, i1, i3⟩ := iblk_stays m c t h
    have hfl : (cfg0.win 5).flush ⟨t.val - 1, Nat.lt_of_le_of_lt (Nat.sub_le _ _) t.isLt⟩ = false := by
      rw [← Bool.not_eq_true, flush0_5]; dsimp only; omega
    rw [(dats m 0 c).before_of_pos 5 t hn ((cfg0.win 5).fetch_out rfl t) d, hfl, if_neg Bool.false_ne_true]
    have step : (dats m 0 c).after 5 ⟨t.val - 1, Nat.lt_of_le_of_lt (Nat.sub_le _ _) t.isLt⟩ = (dats m 0 c).after 5 t := by
      rw [after5, after5, i0, i1, i3]
    unfold Dat.left
    cases hi : cfg0.idle 5 (cfg0.grid.coords ⟨t.val - 1, Nat.lt_of_le_of_lt (Nat.sub_le _ _) t.isLt⟩)
    · show (dats m 0 c).kept 5 _ d = _
      exact step
    · show (dats m 0 c).before 5 _ d = _
      exact (before5 c n _ (by dsimp only; omega) ((idle_iff _).mp hi) d).trans step

/-! ## The body at any point -/

/-- The narrow output's buffer after the body: at a later column block that is not written back, as it was found. -/
def leaves5 (c : Dev nD) (t : Fin cfg0.N) : sProp 𝕄 :=
  match cfg0.idle 5 (cfg0.grid.coords t) with
  | true =>
    match (cfg0.win 5).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

theorem leaves5_intro (c : Dev nD) (t : Fin cfg0.N) :
    owns (c : Thread nD τ) (ms5 t) fullShare ((dats m 0 c).after 5 t) ⊢ leaves5 m c t := by
  unfold leaves5
  cases hi : cfg0.idle 5 (cfg0.grid.coords t)
  · exact .rfl
  · cases (cfg0.win 5).flush t
    · dsimp only
      iintro H
      iexists (dats m 0 c).after 5 t
      rw [before5 m c _ t rfl ((idle_iff t).mp hi)]
      iexact H
    · exact .rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ leaves5 m c t)

/-- Before any point the scratch is held at some contents. -/
theorem inv_any (c : Dev nD) (n : ℕ) (h : n ≤ cfg0.N) :
    inv m c n h ⊢ iprop(iprop((∃ d, owns (c : Thread nD τ) scr fullShare d)) ∗ (∃ r, prngReg c r)) := by
  by_cases hz : n = 0
  · rw [inv_zero m c n h hz, any_eq]
  · rw [inv_pos m c n h hz]
    iintro ⟨HS, Hg⟩
    isplitl [HS]
    · iexists _; iexact HS
    iexact Hg

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = inv m c (t.val + 1) t.isLt from rfl, inv_succ, inv_castSucc m c t]
  by_cases h0 : t.val % 6 = 0
  · refine (sep_mono (inv_any m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    rw [after5]
    iexact H5
  · have hz : t.val ≠ 0 := by omega
    obtain ⟨i0, i1, -⟩ := iblk_stays m c t h0
    have hk : keptAt m c ⟨t.val - 1, by omega⟩ = keptAt m c t := by unfold keptAt; rw [i0, i1]
    rw [inv_pos m c _ _ hz, hk]
    simp only [before5 m c _ t rfl h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((cond_iff t).mp h)) (iblk m c 2 t) (keptAt m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, any_eq]
  exact inv_any m c _ _

/-! ## The run -/

set_option backward.isDefEq.respectTransparency.types false in
/-- Every run ends with the arrays at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NmsIdeal.Hand

end
-- ==== Proof.Math.Cols.lean ====
/-
  The columns of the projection that the SSD layers use: the wide result takes the columns from 2048 to 6144 first, then
  the first 2048; the narrow result takes the last 32 and fills up with zeros.
-/
module

public import Idealize.ShloMosaic.Lib.Pointwise

@[expose] public section

noncomputable section

namespace Cert.Row

open Idealize.ShloMosaic

/-- The weight's column behind column `j` of the wide result. -/
def col (j : Fin 6144) : Fin 6176 := ⟨if j.val < 4096 then 2048 + j.val else j.val - 4096, by split <;> omega⟩

/-- 32 numbers, then zeros. -/
def last32 (f : Fin 32 → EReal) (j : Fin 128) : EReal := if h : j.val < 32 then f ⟨j.val, h⟩ else 0

/-- The integer zero as a float. -/
theorem int_zero : FloatOps.sitofp (F := Ideal) FTy.f32 (0#32 : BitVec 32) = (0 : EReal) := by
  show ((((0#32 : BitVec 32).toInt : ℝ)) : EReal) = 0
  simp

/-- A product with a weight of 32 columns filled up with zeros is the product with the 32, filled up with zeros. -/
theorem sum_last32 (v : Fin 1024 → EReal) (w : Fin 1024 → Fin 6176 → EReal) (j : Fin 128) :
    (∑ k, v k * if h : j.val < 32 then w k ⟨6144 + j.val, by omega⟩ else 0)
      = last32 (fun q => ∑ k, v k * w k ⟨6144 + q.val, by omega⟩) j := by
  unfold last32
  by_cases h : j.val < 32
  · simp only [dif_pos h]
  · simp only [dif_neg h, mul_zero, Finset.sum_const_zero]

end Cert.Row
-- ==== Proof.Nms.Blocks.lean ====
/-
  The norm + projection kernel of the SSD layers: what its grid points leave, and the two arrays its write-backs leave. Six points
  share a block of 1024 rows, one for every 1024 columns of the wide result; the narrow result is written at the first.
-/
module

public import proofs.«01_k».proof.Proof.Nms.FrameIdeal
public import proofs.«01_k».proof.Proof.Math.Row
public import proofs.«01_k».proof.Proof.Math.Cols
public import Idealize.ShloMosaic.Lib.Pipeline.Value

@[expose] public section

noncomputable section

open Idealize.ShloMosaic Idealize.ShloMosaic.TcCoe Idealize.SL.Sem

namespace Cert.NmsIdeal.Val

open Cert.NmsIdeal Cert.NmsIdeal.Gen Cert.NmsIdeal.Hand Cert.Row

/-! ## What the body computes, element by element -/

/-- The normalized rows. -/
theorem normed_at (x : Vec Ideal S1024x1024 .f32) (g : Vec Ideal S1x1024 .f32) (r : Fin 1024) (j : Fin 1024) :
    Hand.normed x g (ix2 r j) = rms (fun j => x (ix2 r j)) (fun j => g (ix2 0 j)) j := by
  pointwise [Hand.normed]
  rfl

theorem kept_at (x : Vec Ideal S1024x1024 .f32) (g : Vec Ideal S1x1024 .f32) (r : Fin 1024) (j : Fin 1024) :
    kept x g (ix2 r j) = rms (fun j => x (ix2 r j)) (fun j => g (ix2 0 j)) j := by
  rw [← normed_at]
  pointwise [kept]

/-- The rows times 1024 columns. -/
theorem wide_at (s : Vec Ideal S1024x1024 .bf16) (w : Vec Ideal S1024x1024 .bf16) (r : Fin 1024) (j : Fin 1024) :
    wide s w (ix2 r j) = ∑ k, s (ix2 r k) * w (ix2 k j) := by
  pointwise [wide, dot_S1024x1024_S1024x1024_S1024x1024_1_0_0_1_n_n]

/-- The rows times the narrow weight. -/
theorem narrow_at (x : Vec Ideal S1024x1024 .f32) (g : Vec Ideal S1x1024 .f32) (w : Vec Ideal S1024x128 .bf16) (r : Fin 1024) (j : Fin 128) :
    narrow x g w (ix2 r j) = ∑ k, rms (fun j => x (ix2 r j)) (fun j => g (ix2 0 j)) k * w (ix2 k j) := by
  simp only [← normed_at]
  pointwise [narrow, dot_S1024x1024_S1024x128_S1024x128_1_0_0_1_n_n]

variable (m : (ℓ : Loc nD τ sig) → Buf (Elt Ideal) ℓ) (c : Dev nD)

/-! ## What the host leaves for the region -/

theorem V_g (j : Fin 1024) : V m c main_v7 (ix2 (0 : Fin 1) j) = m ((c : Thread nD τ).loc main_arg1) (ix1 j) := by
  have e : V m c main_v7 = shapeCast S1x1024 (m ((c : Thread nD τ).loc main_arg1) : FVec Ideal S1024 .f32) shapeCasts_S1024_S1x1024 := by
    unfold V hostOps0 hostOps0_1 hostOps0_2; simp only [List.flatten_cons, List.flatten_nil, List.append_nil, List.cons_append, List.nil_append]; after_results; rfl
  exact (congrFun e _).trans (by pointwise [])

/-- The wide weight: the argument's columns in the order of the wide result. -/
theorem V_w (k : Fin 1024) (j : Fin 6144) : V m c main_v3 (ix2 k j) = m ((c : Thread nD τ).loc main_arg2) (ix2 k (col j)) := by
  have e : V m c main_v3
      = (truncf .bf16 (concatenate S1024x6144 1
          [⟨S1024x4096, extractStridedSlice S1024x4096 ![0, 2048] (m ((c : Thread nD τ).loc main_arg2) : FVec Ideal S1024x6176 .f32) slices_S1024x6176_S1024x4096_0_2048⟩,
           ⟨S1024x2048, extractStridedSlice S1024x2048 ![0, 0] (m ((c : Thread nD τ).loc main_arg2) : FVec Ideal S1024x6176 .f32) slices_S1024x6176_S1024x2048_0_0⟩]
          concatenates_S1024x4096_S1024x2048_S1024x6144_d1 : FVec Ideal S1024x6144 .f32) bitsLt_bf16_f32 : FVec Ideal S1024x6144 .bf16) := by
    unfold V hostOps0 hostOps0_1 hostOps0_2; simp only [List.flatten_cons, List.flatten_nil, List.append_nil, List.cons_append, List.nil_append]; after_results
  refine (congrFun e _).trans ?_
  pointwise []
  by_cases h : j.val < 4096
  · rw [dif_pos h]
    exact congrArg (m ((c : Thread nD τ).loc main_arg2)) (congrArg (ix2 k) (Fin.ext (by unfold col; simp only [if_pos h])))
  · rw [dif_neg h]
    exact congrArg (m ((c : Thread nD τ).loc main_arg2)) (congrArg (ix2 k) (Fin.ext (by unfold col; simp only [if_neg h])))

/-- The narrow weight: the argument's last 32 columns, then zeros. -/
theorem V_ws (k : Fin 1024) (j : Fin 128) :
    V m c main_v6 (ix2 k j) = if h : j.val < 32 then m ((c : Thread nD τ).loc main_arg2) (ix2 k ⟨6144 + j.val, by omega⟩) else (0 : EReal) := by
  have e : V m c main_v6
      = (truncf .bf16 (pad S1024x128 ![0, 0] ![0, 96] ![0, 0]
          (extractStridedSlice S1024x32 ![0, 6144] (m ((c : Thread nD τ).loc main_arg2) : FVec Ideal S1024x6176 .f32) slices_S1024x6176_S1024x32_0_6144 : FVec Ideal S1024x32 .f32)
          (sitofp .f32 (constantI S_ 32 0#32) : FVec Ideal S_ .f32) pads_S1024x32_S1024x128_000_0960 h_S_ : FVec Ideal S1024x128 .f32) bitsLt_bf16_f32 : FVec Ideal S1024x128 .bf16) := by
    unfold V hostOps0 hostOps0_1 hostOps0_2; simp only [List.flatten_cons, List.flatten_nil, List.append_nil, List.cons_append, List.nil_append]; after_results; rfl
  refine (congrFun e _).trans ?_
  pointwise []
  rw [int_zero]

/-! ## The blocks a grid point reads -/

theorem idx_rows : ∀ t : Fin cfg0.N, win0_0.index t = ![t.val / 6, 0] ∧ win0_2.index t = ![0, t.val % 6]
    ∧ win0_4.index t = ![t.val / 6, t.val % 6] ∧ win0_5.index t = ![t.val / 6, 0] := (by decide +kernel : ∀ t : Fin grid0.N, _)

theorem iblk_x (t : Fin cfg0.N) (r : Fin 1024) (k : Fin 1024) (h : 1024 * (t.val / 6) + r.val < 16384) :
    iblk m c 0 t (ix2 r k) = m ((c : Thread nD τ).loc main_arg0) (ix2 (⟨1024 * (t.val / 6) + r.val, h⟩ : Fin 16384) k) := by
  obtain ⟨e, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 1024 + 1 * r.val = 1024 * (t.val / 6) + r.val
              rw [e]; simp; omega
  | ⟨1, _⟩ => show win0_0.index t 1 * 1024 + 1 * k.val = k.val
              rw [e]; simp

theorem iblk_g (t : Fin cfg0.N) (j : Fin 1024) :
    iblk m c 1 t (ix2 (0 : Fin 1) j) = m ((c : Thread nD τ).loc main_arg1) (ix1 j) := by
  have o : (fun a => (![0, 0] : Fin 2 → Nat) a * S1x1024.size a) = fun _ => 0 := funext fun a => by fin_cases a <;> exact Nat.zero_mul _
  exact (congrFun (Memref.read_access_unit_zero (Elt Ideal) main_v7 o (fun a => by rw [congrFun o a]; simp) (V m c main_v7)) _).trans
    (V_g m c j)

theorem iblk_w (t : Fin cfg0.N) (k j : Fin 1024) (h : 1024 * (t.val % 6) + j.val < 6144) :
    iblk m c 2 t (ix2 k j) = m ((c : Thread nD τ).loc main_arg2) (ix2 k (col ⟨1024 * (t.val % 6) + j.val, h⟩)) := by
  obtain ⟨-, e, -⟩ := idx_rows t
  unfold iblk
  rw [View.read_apply]
  refine Eq.trans (congrArg (V m c main_v3) (funext fun a => Fin.ext ?_)) (V_w m c k _)
  match a with
  | ⟨0, _⟩ => show win0_2.index t 0 * 1024 + 1 * k.val = k.val
              rw [e]; show 0 * 1024 + 1 * k.val = k.val; omega
  | ⟨1, _⟩ => show win0_2.index t 1 * 1024 + 1 * j.val = 1024 * (t.val % 6) + j.val
              rw [e]; simp; omega

theorem iblk_ws (t : Fin cfg0.N) (k : Fin 1024) (j : Fin 128) :
    iblk m c 3 t (ix2 k j) = if h : j.val < 32 then m ((c : Thread nD τ).loc main_arg2) (ix2 k ⟨6144 + j.val, by omega⟩) else (0 : EReal) := by
  have o : (fun a => (![0, 0] : Fin 2 → Nat) a * S1024x128.size a) = fun _ => 0 := funext fun a => by fin_cases a <;> exact Nat.zero_mul _
  exact (congrFun (Memref.read_access_unit_zero (Elt Ideal) main_v6 o (fun a => by rw [congrFun o a]; simp) (V m c main_v6)) _).trans
    (V_ws m c k j)

/-! ## The arrays the write-backs leave -/

/-- The normalized row `i` of the argument. -/
def row (i : Fin 16384) (k : Fin 1024) : EReal :=
  rms (fun j => m ((c : Thread nD τ).loc main_arg0) (ix2 i j)) (fun j => m ((c : Thread nD τ).loc main_arg1) (ix1 j)) k

/-- Row `i` of the projection, column `q`. -/
def proj (i : Fin 16384) (q : Fin 6176) : EReal :=
  ∑ k, row m c i k * (m ((c : Thread nD τ).loc main_arg2) (ix2 k q) : EReal)

/-- The wide result: the projection's columns from 2048 first, then the first 2048. -/
def Wide : Buf (Elt Ideal) ((c : Thread nD τ).loc main_v8_0) := fun i : S16384x6144.Idx => proj m c (i 0) (col (i 1))

/-- The narrow result: the projection's last 32 columns, then zeros. -/
def Narrow : Buf (Elt Ideal) ((c : Thread nD τ).loc main_v8_1) := fun i : S16384x128.Idx =>
  last32 (fun q => proj m c (i 0) ⟨6144 + q.val, by omega⟩) (i 1)

theorem wide_out (t : Fin cfg0.N) (r : Fin 1024) (j : Fin 1024) (h : 1024 * (t.val / 6) + r.val < 16384) (hj : 1024 * (t.val % 6) + j.val < 6144) :
    (dats m 0 c).after 4 t (ix2 r j) = Wide m c (ix2 ⟨1024 * (t.val / 6) + r.val, h⟩ ⟨1024 * (t.val % 6) + j.val, hj⟩) := by
  rw [after4]
  refine (wide_at _ _ r j).trans ?_
  unfold keptAt
  simp only [kept_at, iblk_g, iblk_x m c t r _ h, iblk_w m c t _ j hj]
  rfl

theorem narrow_out (t : Fin cfg0.N) (r : Fin 1024) (j : Fin 128) (h : 1024 * (t.val / 6) + r.val < 16384) :
    (dats m 0 c).after 5 t (ix2 r j) = Narrow m c (ix2 ⟨1024 * (t.val / 6) + r.val, h⟩ j) := by
  rw [after5]
  refine (narrow_at _ _ _ r j).trans ?_
  simp only [iblk_g, iblk_x m c t r _ h, iblk_ws]
  exact sum_last32 (row m c _) (fun k q => m ((c : Thread nD τ).loc main_arg2) (ix2 k q)) j

theorem flushed4 (t : Fin cfg0.N) : (dats m 0 c).flushed 4 t = (win0_4.blk t).view.read (Elt Ideal) (Wide m c) := by
  obtain ⟨-, -, e, -⟩ := idx_rows t
  have ht : t.val < 96 := lt_of_lt_of_eq t.isLt N_0
  funext q
  obtain ⟨r, j, rfl⟩ : ∃ (r : Fin 1024) (j : Fin 1024), q = ix2 r j := ⟨q 0, q 1, Shape.Idx.norm2 (n0 := 1024) (n1 := 1024) q⟩
  have hr : 1024 * (t.val / 6) + r.val < 16384 := by have := r.isLt; omega
  have hj : 1024 * (t.val % 6) + j.val < 6144 := by have := j.isLt; omega
  have hq : (win0_4.blk t).view.emb (ix2 r j)
      = ix2 (⟨1024 * (t.val / 6) + r.val, hr⟩ : Fin 16384) (⟨1024 * (t.val % 6) + j.val, hj⟩ : Fin 6144) := funext fun a => Fin.ext (by
    match a with
    | ⟨0, _⟩ => show win0_4.index t 0 * 1024 + 1 * r.val = 1024 * (t.val / 6) + r.val
                rw [e]; simp; omega
    | ⟨1, _⟩ => show win0_4.index t 1 * 1024 + 1 * j.val = 1024 * (t.val % 6) + j.val
                rw [e]; simp; omega)
  rw [View.read_apply, hq]
  exact wide_out m c t r j hr hj

theorem flushed5 (t : Fin cfg0.N) : (dats m 0 c).flushed 5 t = (win0_5.blk t).view.read (Elt Ideal) (Narrow m c) := by
  obtain ⟨-, -, -, e⟩ := idx_rows t
  have ht : t.val < 96 := lt_of_lt_of_eq t.isLt N_0
  funext q
  obtain ⟨r, j, rfl⟩ : ∃ (r : Fin 1024) (j : Fin 128), q = ix2 r j := ⟨q 0, q 1, Shape.Idx.norm2 (n0 := 1024) (n1 := 128) q⟩
  have hr : 1024 * (t.val / 6) + r.val < 16384 := by have := r.isLt; omega
  have hq : (win0_5.blk t).view.emb (ix2 r j)
      = ix2 (⟨1024 * (t.val / 6) + r.val, hr⟩ : Fin 16384) j := funext fun a => Fin.ext (by
    match a with
    | ⟨0, _⟩ => show win0_5.index t 0 * 1024 + 1 * r.val = 1024 * (t.val / 6) + r.val
                rw [e]; simp; omega
    | ⟨1, _⟩ => show win0_5.index t 1 * 128 + 1 * j.val = j.val
                rw [e]; simp)
  rw [View.read_apply, hq]
  exact narrow_out m c t r j hr

/-- Every index of the wide result lies in a point's block. -/
theorem cover4 (i : S16384x6144.Idx) : ∃ t : Fin cfg0.N, (cfg0.win 4).flush t = true ∧ i ∈ ((cfg0.win 4).blk t).view.set := by
  have h0 : (i 0 : Nat) < 16384 := (i 0).isLt
  have h1 : (i 1 : Nat) < 6144 := (i 1).isLt
  have hN : cfg0.N = 96 := N_0
  let t : Fin cfg0.N := ⟨6 * ((i 0 : Nat) / 1024) + (i 1 : Nat) / 1024, by omega⟩
  have ht : t.val = 6 * ((i 0 : Nat) / 1024) + (i 1 : Nat) / 1024 := rfl
  refine ⟨t, flush0_4 _, ?_⟩
  obtain ⟨-, -, e, -⟩ := idx_rows t
  show i ∈ ((View.whole main_v8_0).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [e]; simp; omega
  | ⟨1, _⟩ => show win0_4.index t 1 * 1024 ≤ (i 1 : Nat) ∧ (i 1 : Nat) < win0_4.index t 1 * 1024 + 1024
              rw [e]; simp; omega

/-- Every index of the narrow result lies in the block of a row block's last point, which writes it back. -/
theorem cover5 (i : S16384x128.Idx) : ∃ t : Fin cfg0.N, (cfg0.win 5).flush t = true ∧ i ∈ ((cfg0.win 5).blk t).view.set := by
  have h0 : (i 0 : Nat) < 16384 := (i 0).isLt
  have h1 : (i 1 : Nat) < 128 := (i 1).isLt
  have hN : cfg0.N = 96 := N_0
  let t : Fin cfg0.N := ⟨6 * ((i 0 : Nat) / 1024) + 5, by omega⟩
  have ht : t.val = 6 * ((i 0 : Nat) / 1024) + 5 := rfl
  refine ⟨t, (flush0_5 _).mpr (by omega), ?_⟩
  obtain ⟨-, -, -, e⟩ := idx_rows t
  show i ∈ ((View.whole main_v8_1).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024
              rw [e]; simp; omega
  | ⟨1, _⟩ => show win0_5.index t 1 * 128 ≤ (i 1 : Nat) ∧ (i 1 : Nat) < win0_5.index t 1 * 128 + 128
              rw [e]; simp; omega

/-- The result arrays after the run. -/
theorem final4 : (dats m 0 c).arrAt 4 cfg0.N = Wide m c :=
  (dats m 0 c).arrAt_eq_of_cover 4 (Wide m c) (fun t _ => flushed4 m c t) cover4

theorem final5 : (dats m 0 c).arrAt 5 cfg0.N = Narrow m c :=
  (dats m 0 c).arrAt_eq_of_cover 5 (Narrow m c) (fun t _ => flushed5 m c t) cover5

/-- Every run ends with the two results at `Wide` and `Narrow` and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v8_0) = Wide m c
      ∧ r.2.mem ((c.tc : Thread nD τ).loc main_v8_1) = Narrow m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.NmsIdeal.Val
-- ==== Proof.Nms.Ref.lean ====
/-
  The plain norm + projection reference of the SSD layers (16384 rows), read at row `i`, column `j`.
-/
module

public import proofs.«01_k».proof.Proof.Gen.NmsRefIdeal.Read
public import proofs.«01_k».proof.Proof.Math.Row
public import proofs.«01_k».proof.Proof.Math.Cols

@[expose] public section

noncomputable section

open Idealize.ShloMosaic Idealize.ShloMosaic.TcCoe Idealize.SL.Sem

namespace Cert.NmsRefIdeal.Val

open Cert.NmsRefIdeal Cert.NmsRefIdeal.Read Cert.Row

variable (x : FVec Ideal S16384x1024 .f32) (g : FVec Ideal S1024 .f32) (w : FVec Ideal S1024x6176 .f32)

/-- The normalized rows. -/
theorem normed_at (i : Fin 16384) (j : Fin 1024) :
    val_main_v12 (F := Ideal) x g (ix2 i j) = rms (fun j => x (ix2 i j)) (fun j => g (ix1 j)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The projection. -/
theorem proj_at (i : Fin 16384) (j : Fin 6176) :
    val_main_v13 (F := Ideal) x g w (ix2 i j) = ∑ k, rms (fun j => x (ix2 i j)) (fun j => g (ix1 j)) k * w (ix2 k j) := by
  simp only [← normed_at]
  pointwise [val_main_v13, dot_S16384x1024_S1024x6176_S16384x6176_1_0_0_1_n_n]

/-- The wide result. -/
theorem wide_at (i : Fin 16384) (j : Fin 6144) :
    val_main_v17 (F := Ideal) x g w (ix2 i j) = ∑ k, rms (fun j => x (ix2 i j)) (fun j => g (ix1 j)) k * w (ix2 k (col j)) := by
  rw [← proj_at]
  generalize hp : val_main_v13 (F := Ideal) x g w = p
  pointwise [val_main_v17, val_main_v15, val_main_v14, hp]
  by_cases h : j.val < 4096
  · rw [dif_pos h]
    exact congrArg (fun q => p (ix2 i q)) (Fin.ext (by unfold col; simp only [if_pos h]))
  · rw [dif_neg h]
    exact congrArg (fun q => p (ix2 i q)) (Fin.ext (by unfold col; simp only [if_neg h]))

/-- The narrow result. -/
theorem narrow_at (i : Fin 16384) (j : Fin 128) :
    val_main_v18 (F := Ideal) x g w (ix2 i j)
      = last32 (fun q => ∑ k, rms (fun j => x (ix2 i j)) (fun j => g (ix1 j)) k * w (ix2 k ⟨6144 + q.val, by omega⟩)) j := by
  simp only [← proj_at]
  generalize hp : val_main_v13 (F := Ideal) x g w = p
  pointwise [val_main_v18, val_main_v16, val_main_call0_v0, val_main_c, hp]
  rw [int_zero]
  rfl

end Cert.NmsRefIdeal.Val
-- ==== Proof.Nms.Claim.lean ====
/-
  The claims of the norm + projection kernel of the SSD layers.
-/
module

public import proofs.«01_k».proof.Defs
public import proofs.«01_k».proof.Proof.Nms.Blocks
public import proofs.«01_k».proof.Proof.Nms.Frame
public import proofs.«01_k».proof.Proof.Nms.Ref
public import proofs.«01_k».proof.Proof.Gen.NmsRefIdeal.Run
public import Idealize.ShloMosaic.Lib.Quiescent

@[expose] public section

noncomputable section

open Idealize.ShloMosaic Idealize.ShloMosaic.TcCoe Idealize.SL.Sem

namespace Cert.Nms.Claims

theorem frame_p : Cert.quiescent_Nms := fun m ρ _ => Cert.Nms.Hand.frame m ρ

theorem frame_pi : Cert.quiescent_NmsIdeal := fun m ρ _ => Cert.NmsIdeal.Hand.frame m ρ

theorem frame_ri : Cert.quiescent_NmsRefIdeal := fun m ρ _ =>
  (θ_run Cert.NmsRefIdeal.defs _ _).mono
    (fun r h => ⟨fun c => (h c).2.2, sem_eq_zero_of_no_sems (by decide) r.2⟩)
    (Cert.NmsRefIdeal.Value.run (F := Ideal) m ρ)

/-- Both programs end with the normalized rows times the weight, its columns in the order of the two results: the kernel's
    arrays are `Wide` and `Narrow`, the reference's results read the same at every index. -/
theorem algebraic : Cert.algebraic_NmsIdeal_NmsRefIdeal := by
  intro m ρ m' ρ' _ hagree
  refine ⟨fun c => Cert.NmsIdeal.Val.Wide m c, fun c => Cert.NmsIdeal.Val.Narrow m c, Cert.NmsIdeal.Val.run m ρ, ?_⟩
  refine (θ_run Cert.NmsRefIdeal.defs _ _).mono
    (fun _ h c => ⟨((h c).1.trans (Cert.NmsRefIdeal.Read.val_main_v17_eq _ _ _)).trans ?_,
      ((h c).2.1.trans (Cert.NmsRefIdeal.Read.val_main_v18_eq _ _ _)).trans ?_, (h c).2.2⟩)
    (Cert.NmsRefIdeal.Value.run (F := Ideal) m' ρ')
  · obtain ⟨e0, e1, e2⟩ := hagree c
    rw [e0, e1, e2]
    funext q
    obtain ⟨i, j, rfl⟩ : ∃ (i : Fin 16384) (j : Fin 6144), q = ix2 i j := ⟨q 0, q 1, Shape.Idx.norm2 (n0 := 16384) (n1 := 6144) q⟩
    exact Cert.NmsRefIdeal.Val.wide_at _ _ _ i j
  · obtain ⟨e0, e1, e2⟩ := hagree c
    rw [e0, e1, e2]
    funext q
    obtain ⟨i, j, rfl⟩ : ∃ (i : Fin 16384) (j : Fin 128), q = ix2 i j := ⟨q 0, q 1, Shape.Idx.norm2 (n0 := 16384) (n1 := 128) q⟩
    exact Cert.NmsRefIdeal.Val.narrow_at _ _ _ i j

end Cert.Nms.Claims
-- ==== Proof.Ffs.Payload.lean ====
/-
  The out-projection + feed-forward kernel (mixer width 1024) on the sample batch: what its body stores, read at row `r`, column `j` of
  the block.
-/
module

public import proofs.«01_k».proof.Proof.Gen.FfsIdeal.Value
public import proofs.«01_k».proof.Proof.Math.Row

@[expose] public section

noncomputable section

open Idealize.ShloMosaic Idealize.ShloMosaic.TcCoe Idealize.SL.Sem

namespace Cert.FfsIdeal.Val

open Cert.FfsIdeal Cert.FfsIdeal.Gen Cert.Row

/-- The residual stream after the mixer. -/
theorem pay2_at (y : Vec Ideal S256x1024 .bf16) (wo : Vec Ideal S1024x1024 .bf16) (bo : Vec Ideal S1x1024 .f32)
    (x : Vec Ideal S256x1024 .f32) (g : Vec Ideal S1x1024 .f32) (r : Fin 256) (j : Fin 1024) :
    k0_pay2 y wo bo x g (ix2 r j)
      = mixed (fun k => y (ix2 r k)) (fun j => x (ix2 r j)) (fun k j => wo (ix2 k j)) (fun j => bo (ix2 0 j))
          (fun j => g (ix2 0 j)) j := by
  pointwise [k0_pay2, dot_S256x1024_S1024x1024_S256x1024_1_0_0_1_n_n]
  rfl

/-- The normalized row the feed-forward part reads. -/
theorem pay3_at (y : Vec Ideal S256x1024 .bf16) (wo : Vec Ideal S1024x1024 .bf16) (bo : Vec Ideal S1x1024 .f32)
    (x : Vec Ideal S256x1024 .f32) (g gp : Vec Ideal S1x1024 .f32) (r : Fin 256) (j : Fin 1024) :
    k0_pay3 y wo bo x g gp (ix2 r j)
      = rms (fun j => k0_pay2 y wo bo x g (ix2 r j)) (fun j => gp (ix2 0 j)) j := by
  pointwise [k0_pay3]
  rfl

/-- The first three chunks of the feed-forward product. -/
theorem pay4_at (h : Vec Ideal S256x1024 .bf16) (a0 b0 a1 b1 a2 b2 : Vec Ideal S1024x1024 .bf16) (r : Fin 256) (j : Fin 1024) :
    k0_pay4 h a0 b0 a1 b1 a2 b2 (ix2 r j)
      = ((ffnSum (fun k => h (ix2 r k)) (fun k f => a0 (ix2 k f)) (fun f j => b0 (ix2 f j)) j)
        + ffnSum (fun k => h (ix2 r k)) (fun k f => a1 (ix2 k f)) (fun f j => b1 (ix2 f j)) j)
        + ffnSum (fun k => h (ix2 r k)) (fun k f => a2 (ix2 k f)) (fun f j => b2 (ix2 f j)) j := by
  pointwise [k0_pay4, dot_S256x1024_S1024x1024_S256x1024_1_0_0_1_n_n]
  rfl

/-- The last store: the fourth chunk added, normalized, added to the residual. -/
theorem pay1_at (x1 s : FVec Ideal S256x1024 .f32) (h : Vec Ideal S256x1024 .bf16) (a3 b3 : Vec Ideal S1024x1024 .bf16)
    (g : Vec Ideal S1x1024 .f32) (r : Fin 256) (j : Fin 1024) :
    k0_pay1 x1 s (k0_pay5 h a3) (k0_pay6 (F := Ideal)) b3 g (ix2 r j)
      = x1 (ix2 r j) + rms (fun j => s (ix2 r j)
          + ffnSum (fun k => h (ix2 r k)) (fun k f => a3 (ix2 k f)) (fun f j => b3 (ix2 f j)) j)
        (fun j => g (ix2 0 j)) j := by
  pointwise [k0_pay1, k0_pay5, k0_pay6, dot_S256x1024_S1024x1024_S256x1024_1_0_0_1_n_n]
  rfl

theorem hz : (![0, 0] : Fin 2 → Nat) = fun _ => 0 := funext fun a => by fin_cases a <;> rfl

/-- WHAT THE BODY LEAVES in the output block, at row `r`, column `j`: the block function of the rows it loads. -/
theorem out_at (y : Vec Ideal S256x1024 .bf16) (x : Vec Ideal S256x1024 .f32) (wo : Vec Ideal S1024x1024 .bf16)
    (bo gm gp : Vec Ideal S1x1024 .f32) (w1 : Vec Ideal S1024x4096 .bf16) (w2 : Vec Ideal S4096x1024 .bf16)
    (gf : Vec Ideal S1x1024 .f32) (r : Fin 256) (j : Fin 1024) :
    out0_9 y x wo bo gm gp w1 w2 gf (ix2 r j)
      = block (fun k => y (ix2 r k)) (fun j => x (ix2 r j)) (fun k j => wo (ix2 k j)) (fun j => bo (ix2 0 j))
          (fun j => gm (ix2 0 j)) (fun j => gp (ix2 0 j)) (fun k f => w1 (ix2 k f)) (fun f j => w2 (ix2 f j))
          (fun j => gf (ix2 0 j)) j := by
  unfold out0_9
  rw [View.canon_unit_zero hz, pay1_at]
  unfold k0_pay7
  have e0 : ∀ {e} (v : Vec Ideal S256x1024 e), View.ld v r0_0 = v := fun v => View.ld_unit_zero hz _ v
  have e1 : ∀ {e} (v : Vec Ideal S1024x1024 e), View.ld v r0_1 = v := fun v => View.ld_unit_zero hz _ v
  have e2 : ∀ {e} (v : Vec Ideal S1x1024 e), View.ld v r0_2 = v := fun v => View.ld_unit_zero hz _ v
  simp only [e0, e1, e2]
  simp only [pay4_at, pay3_at, pay2_at]
  unfold block
  congr 2
  · funext j
    unfold ffnSum
    rw [sum_quarters]
    pointwise []
  · exact funext fun j => congrFun (e2 gf) (ix2 0 j)

end Cert.FfsIdeal.Val
-- ==== Proof.Ffs.Blocks.lean ====
/-
  The out-projection + feed-forward kernel (mixer width 1024) on the sample batch: the blocks its grid points read, as parts of the
  argument arrays, and the array its write-backs leave.
-/
module

public import proofs.«01_k».proof.Proof.Ffs.Payload

@[expose] public section

noncomputable section

open Idealize.ShloMosaic Idealize.ShloMosaic.TcCoe Idealize.SL.Sem

namespace Cert.FfsIdeal.Val

open Cert.FfsIdeal Cert.FfsIdeal.Gen Cert.Row

variable (m : (ℓ : Loc nD τ sig) → Buf (Elt Ideal) ℓ)

/-! ## What the host leaves for the region: casts and rows -/

theorem V_wo (c : Dev nD) (k j : Fin 1024) :
    V m c main_v0 (ix2 k j) = m ((c : Thread nD τ).loc main_arg2) (ix2 k j) := by
  have e : V m c main_v0
      = (truncf .bf16 (m ((c : Thread nD τ).loc main_arg2) : FVec Ideal S1024x1024 .f32) bitsLt_bf16_f32 : FVec Ideal S1024x1024 .bf16) := by
    unfold V hostOps0; after_results
  exact (congrFun e (ix2 k j)).trans (by pointwise [])

theorem V_w1 (c : Dev nD) (k : Fin 1024) (f : Fin 4096) :
    V m c main_v4 (ix2 k f) = m ((c : Thread nD τ).loc main_arg6) (ix2 k f) := by
  have e : V m c main_v4
      = (truncf .bf16 (m ((c : Thread nD τ).loc main_arg6) : FVec Ideal S1024x4096 .f32) bitsLt_bf16_f32 : FVec Ideal S1024x4096 .bf16) := by
    unfold V hostOps0; after_results
  exact (congrFun e (ix2 k f)).trans (by pointwise [])

theorem V_w2 (c : Dev nD) (f : Fin 4096) (j : Fin 1024) :
    V m c main_v5 (ix2 f j) = m ((c : Thread nD τ).loc main_arg7) (ix2 f j) := by
  have e : V m c main_v5
      = (truncf .bf16 (m ((c : Thread nD τ).loc main_arg7) : FVec Ideal S4096x1024 .f32) bitsLt_bf16_f32 : FVec Ideal S4096x1024 .bf16) := by
    unfold V hostOps0; after_results
  exact (congrFun e (ix2 f j)).trans (by pointwise [])

/-- A vector laid out as a one-row matrix is read at its column. -/
theorem row_at (v : FVec Ideal S1024 .f32) (j : Fin 1024) :
    shapeCast S1x1024 v shapeCasts_S1024_S1x1024 (ix2 (0 : Fin 1) j) = v (ix1 j) := by
  pointwise []

theorem V_bo (c : Dev nD) (j : Fin 1024) : V m c main_v1 (ix2 (0 : Fin 1) j) = m ((c : Thread nD τ).loc main_arg3) (ix1 j) := by
  have e : V m c main_v1 = shapeCast S1x1024 (m ((c : Thread nD τ).loc main_arg3) : FVec Ideal S1024 .f32) shapeCasts_S1024_S1x1024 := by
    unfold V hostOps0; after_results; rfl
  exact (congrFun e _).trans (row_at _ j)

theorem V_gm (c : Dev nD) (j : Fin 1024) : V m c main_v2 (ix2 (0 : Fin 1) j) = m ((c : Thread nD τ).loc main_arg4) (ix1 j) := by
  have e : V m c main_v2 = shapeCast S1x1024 (m ((c : Thread nD τ).loc main_arg4) : FVec Ideal S1024 .f32) shapeCasts_S1024_S1x1024 := by
    unfold V hostOps0; after_results; rfl
  exact (congrFun e _).trans (row_at _ j)

theorem V_gp (c : Dev nD) (j : Fin 1024) : V m c main_v3 (ix2 (0 : Fin 1) j) = m ((c : Thread nD τ).loc main_arg5) (ix1 j) := by
  have e : V m c main_v3 = shapeCast S1x1024 (m ((c : Thread nD τ).loc main_arg5) : FVec Ideal S1024 .f32) shapeCasts_S1024_S1x1024 := by
    unfold V hostOps0; after_results; rfl
  exact (congrFun e _).trans (row_at _ j)

theorem V_gf (c : Dev nD) (j : Fin 1024) : V m c main_v6 (ix2 (0 : Fin 1) j) = m ((c : Thread nD τ).loc main_arg8) (ix1 j) := by
  have e : V m c main_v6 = shapeCast S1x1024 (m ((c : Thread nD τ).loc main_arg8) : FVec Ideal S1024 .f32) shapeCasts_S1024_S1x1024 := by
    unfold V hostOps0; after_results; rfl
  exact (congrFun e _).trans (row_at _ j)

/-! ## The blocks a grid point reads -/

/-- Point `t` reads rows `256 t …` of the two row-blocked inputs and writes the same rows. -/
theorem idx_rows : ∀ t : Fin cfg0.N, win0_0.index t = ![t.val, 0] ∧ win0_1.index t = ![t.val, 0]
    ∧ win0_9.index t = ![t.val, 0] := (by decide +kernel : ∀ t : Fin grid0.N, _)

theorem iblk_y (c : Dev nD) (t : Fin cfg0.N) (r : Fin 256) (k : Fin 1024) (h : t.val * 256 + r < 256) :
    iblk m c 0 t (ix2 r k) = m ((c : Thread nD τ).loc main_arg0) (ix2 (⟨t.val * 256 + r, h⟩ : Fin 256) k) := by
  obtain ⟨e0, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 256 + 1 * r.val = t.val * 256 + r.val
              rw [e0]; simp
  | ⟨1, _⟩ => show win0_0.index t 1 * 1024 + 1 * k.val = k.val
              rw [e0]; simp

theorem iblk_x (c : Dev nD) (t : Fin cfg0.N) (r : Fin 256) (k : Fin 1024) (h : t.val * 256 + r < 256) :
    iblk m c 1 t (ix2 r k) = m ((c : Thread nD τ).loc main_arg1) (ix2 (⟨t.val * 256 + r, h⟩ : Fin 256) k) := by
  obtain ⟨-, e1, -⟩ := idx_rows t
  unfold iblk
  rw [View.read_apply]
  refine Eq.trans (congrArg (V m c main_arg1) (funext fun a => Fin.ext ?_)) (congrFun (V_main_arg1 m c) _)
  match a with
  | ⟨0, _⟩ => show win0_1.index t 0 * 256 + 1 * r.val = t.val * 256 + r.val
              rw [e1]; simp
  | ⟨1, _⟩ => show win0_1.index t 1 * 1024 + 1 * k.val = k.val
              rw [e1]; simp

/-- A block index map that is zero everywhere starts every block at the array's origin. -/
theorem origin (s : Fin 2 → Nat) : (fun a => (![0, 0] : Fin 2 → Nat) a * s a) = fun _ => 0 :=
  funext fun a => by fin_cases a <;> exact Nat.zero_mul _

theorem iblk_wo (c : Dev nD) (t : Fin cfg0.N) (k j : Fin 1024) :
    iblk m c 2 t (ix2 k j) = m ((c : Thread nD τ).loc main_arg2) (ix2 k j) :=
  (congrFun (Memref.read_access_unit_zero (Elt Ideal) main_v0 (origin _) (fun a => by rw [congrFun (origin _) a]; simp) (V m c main_v0)) _).trans
    (V_wo m c k j)

theorem iblk_bo (c : Dev nD) (t : Fin cfg0.N) (j : Fin 1024) :
    iblk m c 3 t (ix2 (0 : Fin 1) j) = m ((c : Thread nD τ).loc main_arg3) (ix1 j) :=
  (congrFun (Memref.read_access_unit_zero (Elt Ideal) main_v1 (origin _) (fun a => by rw [congrFun (origin _) a]; simp) (V m c main_v1)) _).trans
    (V_bo m c j)

theorem iblk_gm (c : Dev nD) (t : Fin cfg0.N) (j : Fin 1024) :
    iblk m c 4 t (ix2 (0 : Fin 1) j) = m ((c : Thread nD τ).loc main_arg4) (ix1 j) :=
  (congrFun (Memref.read_access_unit_zero (Elt Ideal) main_v2 (origin _) (fun a => by rw [congrFun (origin _) a]; simp) (V m c main_v2)) _).trans
    (V_gm m c j)

theorem iblk_gp (c : Dev nD) (t : Fin cfg0.N) (j : Fin 1024) :
    iblk m c 5 t (ix2 (0 : Fin 1) j) = m ((c : Thread nD τ).loc main_arg5) (ix1 j) :=
  (congrFun (Memref.read_access_unit_zero (Elt Ideal) main_v3 (origin _) (fun a => by rw [congrFun (origin _) a]; simp) (V m c main_v3)) _).trans
    (V_gp m c j)

theorem iblk_w1 (c : Dev nD) (t : Fin cfg0.N) (k : Fin 1024) (f : Fin 4096) :
    iblk m c 6 t (ix2 k f) = m ((c : Thread nD τ).loc main_arg6) (ix2 k f) :=
  (congrFun (Memref.read_access_unit_zero (Elt Ideal) main_v4 (origin _) (fun a => by rw [congrFun (origin _) a]; simp) (V m c main_v4)) _).trans
    (V_w1 m c k f)

theorem iblk_w2 (c : Dev nD) (t : Fin cfg0.N) (f : Fin 4096) (j : Fin 1024) :
    iblk m c 7 t (ix2 f j) = m ((c : Thread nD τ).loc main_arg7) (ix2 f j) :=
  (congrFun (Memref.read_access_unit_zero (Elt Ideal) main_v5 (origin _) (fun a => by rw [congrFun (origin _) a]; simp) (V m c main_v5)) _).trans
    (V_w2 m c f j)

theorem iblk_gf (c : Dev nD) (t : Fin cfg0.N) (j : Fin 1024) :
    iblk m c 8 t (ix2 (0 : Fin 1) j) = m ((c : Thread nD τ).loc main_arg8) (ix1 j) :=
  (congrFun (Memref.read_access_unit_zero (Elt Ideal) main_v6 (origin _) (fun a => by rw [congrFun (origin _) a]; simp) (V m c main_v6)) _).trans
    (V_gf m c j)

/-! ## The array the write-backs leave -/

/-- The result: the block function of row `i` of the two row arrays and of the weights. -/
def G (c : Dev nD) : Buf (Elt Ideal) ((c : Thread nD τ).loc main_v7) := fun i : S256x1024.Idx =>
  block (fun k => m ((c : Thread nD τ).loc main_arg0) (ix2 (i 0) k)) (fun j => m ((c : Thread nD τ).loc main_arg1) (ix2 (i 0) j))
    (fun k j => m ((c : Thread nD τ).loc main_arg2) (ix2 k j)) (fun j => m ((c : Thread nD τ).loc main_arg3) (ix1 j))
    (fun j => m ((c : Thread nD τ).loc main_arg4) (ix1 j)) (fun j => m ((c : Thread nD τ).loc main_arg5) (ix1 j))
    (fun k f => m ((c : Thread nD τ).loc main_arg6) (ix2 k f)) (fun f j => m ((c : Thread nD τ).loc main_arg7) (ix2 f j))
    (fun j => m ((c : Thread nD τ).loc main_arg8) (ix1 j)) (i 1)

/-- What point `t` writes back is block `t` of the result. -/
theorem flushed_eq (c : Dev nD) (t : Fin cfg0.N) :
    (dats m 0 c).flushed 9 t = (win0_9.blk t).view.read (Elt Ideal) (G m c) := by
  obtain ⟨-, -, e9⟩ := idx_rows t
  have ht : t.val < 1 := lt_of_lt_of_eq t.isLt N_0
  show (cfg0.win 9).cut (grid0.coords t) ((dats m 0 c).after 9 t) = _
  rw [after0_9]
  funext q
  obtain ⟨r, j, rfl⟩ : ∃ (r : Fin 256) (j : Fin 1024), q = ix2 r j := ⟨q 0, q 1, Shape.Idx.norm2 (n0 := 256) (n1 := 1024) q⟩
  show out0_9 _ _ _ _ _ _ _ _ _ (ix2 r j) = _
  have hr : t.val * 256 + r.val < 256 := by have := r.isLt; omega
  have hq : (win0_9.blk t).view.emb (ix2 r j) = ix2 (⟨t.val * 256 + r, hr⟩ : Fin 256) j := funext fun a => Fin.ext (by
    match a with
    | ⟨0, _⟩ => show win0_9.index t 0 * 256 + 1 * r.val = t.val * 256 + r.val
                rw [e9]; simp
    | ⟨1, _⟩ => show win0_9.index t 1 * 1024 + 1 * j.val = j.val
                rw [e9]; simp)
  rw [View.read_apply, hq, out_at]
  simp only [iblk_wo, iblk_bo, iblk_gm, iblk_gp, iblk_w1, iblk_w2, iblk_gf,
    iblk_y m c t r _ hr, iblk_x m c t r _ hr]
  rfl

/-- Every row lies in the block of the point `row / 256`. -/
theorem cover (i : S256x1024.Idx) :
    ∃ t : Fin cfg0.N, (cfg0.win 9).flush t = true ∧ i ∈ ((cfg0.win 9).blk t).view.set := by
  have h0 : (i 0 : Nat) < 256 := (i 0).isLt
  have h1 : (i 1 : Nat) < 1024 := (i 1).isLt
  have hN : cfg0.N = 1 := N_0
  let t : Fin cfg0.N := ⟨(i 0 : Nat) / 256, by omega⟩
  refine ⟨t, flush0_9 _, ?_⟩
  obtain ⟨-, -, e9⟩ := idx_rows t
  have ht : t.val = (i 0 : Nat) / 256 := rfl
  show i ∈ ((View.whole main_v7).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + 256
              rw [e9]; simp; omega
  | ⟨1, _⟩ => show win0_9.index t 1 * 1024 ≤ (i 1 : Nat) ∧ (i 1 : Nat) < win0_9.index t 1 * 1024 + 1024
              rw [e9]; simp; omega

/-- The result array after the run. -/
theorem final_eq (c : Dev nD) : (dats m 0 c).arrAt 9 cfg0.N = G m c :=
  (dats m 0 c).arrAt_eq_of_cover 9 (G m c) (fun t _ => flushed_eq m c t) cover

end Cert.FfsIdeal.Val
-- ==== Proof.Ffs.Ref.lean ====
/-
  The plain out-projection + feed-forward reference (mixer width 1024) on the sample batch, read at row `i`, column `j`.
-/
module

public import proofs.«01_k».proof.Proof.Gen.FfsRefIdeal.Read
public import proofs.«01_k».proof.Proof.Math.Row

@[expose] public section

noncomputable section

open Idealize.ShloMosaic Idealize.ShloMosaic.TcCoe Idealize.SL.Sem

namespace Cert.FfsRefIdeal.Val

open Cert.FfsRefIdeal Cert.FfsRefIdeal.Read Cert.Row

variable (y : FVec Ideal S256x1024 .bf16) (x : FVec Ideal S256x1024 .f32) (wo : FVec Ideal S1024x1024 .f32)
  (bo gm gp : FVec Ideal S1024 .f32) (w1 : FVec Ideal S1024x4096 .f32) (w2 : FVec Ideal S4096x1024 .f32) (gf : FVec Ideal S1024 .f32)

/-- The mixer's projection. -/
theorem proj_at (i : Fin 256) (j : Fin 1024) :
    val_main_v4 (F := Ideal) y wo bo (ix2 i j) = (∑ k, y (ix2 i k) * wo (ix2 k j)) + bo (ix1 j) := by
  pointwise [val_main_v4, val_main_v3, val_main_v2, val_main_v1, val_main_v0, dot_S256x1024_S1024x1024_S256x1024_1_0_0_1_n_n]

/-- The residual stream after the mixer. -/
theorem mixed_at (i : Fin 256) (j : Fin 1024) :
    val_main_v18 (F := Ideal) y x wo bo gm (ix2 i j)
      = mixed (fun k => y (ix2 i k)) (fun j => x (ix2 i j)) (fun k j => wo (ix2 k j)) (fun j => bo (ix1 j)) (fun j => gm (ix1 j)) j := by
  pointwise [val_main_v18, val_main_v17, val_main_v16, val_main_v15, val_main_v14, val_main_v13, val_main_v12, val_main_v11,
    val_main_v10, val_main_cst_1, val_main_v9, val_main_v8, val_main_cst_0, val_main_v7, val_main_v6, val_main_cst, val_main_v5, proj_at]
  rfl

/-- The normalized row the feed-forward part reads. -/
theorem normed_at (i : Fin 256) (j : Fin 1024) :
    val_main_v31 (F := Ideal) y x wo bo gm gp (ix2 i j)
      = rms (fun j => val_main_v18 (F := Ideal) y x wo bo gm (ix2 i j)) (fun j => gp (ix1 j)) j := by
  pointwise [val_main_v31, val_main_v30, val_main_v29, val_main_v28, val_main_v27, val_main_v26, val_main_v25, val_main_v24,
    val_main_cst_4, val_main_v23, val_main_v22, val_main_cst_3, val_main_v21, val_main_v20, val_main_cst_2, val_main_v19]
  rfl

/-- The feed-forward product. -/
theorem ffn_at (i : Fin 256) (j : Fin 1024) :
    val_main_v35 (F := Ideal) y x wo bo gm gp w1 w2 (ix2 i j)
      = ffnSum (fun k => val_main_v31 (F := Ideal) y x wo bo gm gp (ix2 i k)) (fun k f => w1 (ix2 k f)) (fun f j => w2 (ix2 f j)) j := by
  pointwise [val_main_v35, val_main_v34, val_main_v33, val_main_call0_v0, val_main_call0_cst, val_main_v32,
    dot_S256x4096_S4096x1024_S256x1024_1_0_0_1_n_n, dot_S256x1024_S1024x4096_S256x4096_1_0_0_1_n_n]
  rfl

/-- The result. -/
theorem res_at (i : Fin 256) (j : Fin 1024) :
    val_main_v49 (F := Ideal) y x wo bo gm gp w1 w2 gf (ix2 i j)
      = block (fun k => y (ix2 i k)) (fun j => x (ix2 i j)) (fun k j => wo (ix2 k j)) (fun j => bo (ix1 j))
          (fun j => gm (ix1 j)) (fun j => gp (ix1 j)) (fun k f => w1 (ix2 k f)) (fun f j => w2 (ix2 f j))
          (fun j => gf (ix1 j)) j := by
  have e : val_main_v49 (F := Ideal) y x wo bo gm gp w1 w2 gf (ix2 i j)
      = val_main_v18 (F := Ideal) y x wo bo gm (ix2 i j)
        + rms (fun j => val_main_v35 (F := Ideal) y x wo bo gm gp w1 w2 (ix2 i j)) (fun j => gf (ix1 j)) j := by
    pointwise [val_main_v49, val_main_v48, val_main_v47, val_main_v46, val_main_v45, val_main_v44, val_main_v43, val_main_v42,
      val_main_v41, val_main_cst_7, val_main_v40, val_main_v39, val_main_cst_6, val_main_v38, val_main_v37, val_main_cst_5,
      val_main_v36]
    rfl
  rw [e]
  simp only [ffn_at, normed_at, mixed_at]
  rfl

end Cert.FfsRefIdeal.Val
-- ==== Proof.Ffs.Claim.lean ====
/-
  The claims of the out-projection + feed-forward kernel (mixer width 1024) on the sample batch.
-/
module

public import proofs.«01_k».proof.Defs
public import proofs.«01_k».proof.Proof.Ffs.Blocks
public import proofs.«01_k».proof.Proof.Ffs.Ref
public import proofs.«01_k».proof.Proof.Gen.Ffs.Frame
public import proofs.«01_k».proof.Proof.Gen.FfsRefIdeal.Run
public import Idealize.ShloMosaic.Lib.Quiescent

@[expose] public section

noncomputable section

open Idealize.ShloMosaic Idealize.ShloMosaic.TcCoe Idealize.SL.Sem

namespace Cert.Ffs.Claims

theorem frame_p : Cert.quiescent_Ffs := fun m ρ _ => Cert.Ffs.Gen.frame m ρ

theorem frame_pi : Cert.quiescent_FfsIdeal := fun m ρ _ => Cert.FfsIdeal.Gen.frame m ρ

theorem frame_ri : Cert.quiescent_FfsRefIdeal := fun m ρ _ =>
  (θ_run Cert.FfsRefIdeal.defs _ _).mono
    (fun r h => ⟨fun c => (h c).2, sem_eq_zero_of_no_sems (by decide) r.2⟩)
    (Cert.FfsRefIdeal.Value.run (F := Ideal) m ρ)

/-- Both programs end with the block function of the rows: the kernel's array is `G` (`final_eq`), the reference's
    result reads the same function at every index (`res_at`). -/
theorem algebraic : Cert.algebraic_FfsIdeal_FfsRefIdeal := by
  intro m ρ m' ρ' _ hagree
  refine ⟨fun c => Cert.FfsIdeal.Val.G m c, ?_, ?_⟩
  · exact (θ_run Cert.FfsIdeal.defs _ _).mono (fun _ h c => ⟨(h c).1.trans (Cert.FfsIdeal.Val.final_eq m c), (h c).2⟩)
      (Cert.FfsIdeal.Value.run_blocks (F := Ideal) m ρ)
  · refine (θ_run Cert.FfsRefIdeal.defs _ _).mono
      (fun _ h c => ⟨((h c).1.trans (Cert.FfsRefIdeal.Read.val_main_v49_eq m' c)).trans ?_, (h c).2⟩)
      (Cert.FfsRefIdeal.Value.run (F := Ideal) m' ρ')
    obtain ⟨e0, e1, e2, e3, e4, e5, e6, e7, e8⟩ := hagree c
    rw [e0, e1, e2, e3, e4, e5, e6, e7, e8]
    funext q
    obtain ⟨i, j, rfl⟩ : ∃ (i : Fin 256) (j : Fin 1024), q = ix2 i j := ⟨q 0, q 1, Shape.Idx.norm2 (n0 := 256) (n1 := 1024) q⟩
    exact Cert.FfsRefIdeal.Val.res_at _ _ _ _ _ _ _ _ _ i j

end Cert.Ffs.Claims
-- ==== Proof.Nls.Blocks.lean ====
/-
  The norm + projection kernel (RG-LRU layers) on the sample batch: what its grid points leave, and the array its write-backs leave. Two points
  share the block of 256 rows: the first normalizes the rows into the scratch, both multiply the scratch by a half of the
  weight's columns.
-/
module

public import proofs.«01_k».proof.Proof.Gen.NlsIdeal.Value
public import proofs.«01_k».proof.Proof.Math.Row

@[expose] public section

noncomputable section

open Idealize.ShloMosaic Idealize.ShloMosaic.TcCoe Idealize.SL.Sem

namespace Cert.NlsIdeal.Val

open Cert.NlsIdeal Cert.NlsIdeal.Gen Cert.Row

theorem hz : (![0, 0] : Fin 2 → Nat) = fun _ => 0 := funext fun a => by fin_cases a <;> rfl

/-- The normalized rows. -/
theorem pay1_at (x : Vec Ideal S256x1024 .f32) (g : Vec Ideal S1x1024 .f32) (r : Fin 256) (j : Fin 1024) :
    k0_pay1 x g (ix2 r j) = rms (fun j => x (ix2 r j)) (fun j => g (ix2 0 j)) j := by
  pointwise [k0_pay1]
  rfl

/-- The product and its bias. -/
theorem pay2_at (n : Vec Ideal S256x1024 .bf16) (w : Vec Ideal S1024x1024 .bf16) (b : Vec Ideal S1x1024 .f32) (r : Fin 256) (j : Fin 1024) :
    k0_pay2 n w b (ix2 r j) = (∑ k, n (ix2 r k) * w (ix2 k j)) + b (ix2 0 j) := by
  pointwise [k0_pay2, dot_S256x1024_S1024x1024_S256x1024_1_0_0_1_n_n]

variable (m : (ℓ : Loc nD τ sig) → Buf (Elt Ideal) ℓ) (c : Dev nD)

/-! ## The grid points -/

theorem scratch_A (t : Fin cfg0.N) (h0 : t.val % 2 = 0) :
    (outsAt0 m c t.val t.isLt).2 = k0_pay1 (iblk m c 0 t) (iblk m c 1 t) := by
  rw [outsAt0_A m c t h0]
  dsimp only
  unfold sout0_A_0
  rw [View.read_writes_junk_eq_canon]
  unfold kernelRun0_A
  dsimp only
  sl_unfold_words
  rw [View.canon_cons_unit_zero hz]
  simp only [View.readAt_eq_ld, (hs0_0 t).read_unread, (hs0_1 t).read_unread, View.ld_unit_zero (S := S1024x1024) hz, View.ld_unit_zero (S := S256x1024) hz,
    View.ld_unit_zero (S := S1x1024) hz]

theorem out_A (t : Fin cfg0.N) (h0 : t.val % 2 = 0) :
    (outsAt0 m c t.val t.isLt).1 = k0_pay2 (k0_pay1 (iblk m c 0 t) (iblk m c 1 t)) (iblk m c 2 t) (iblk m c 3 t) := by
  rw [outsAt0_A m c t h0]
  dsimp only
  unfold out0_A_4
  rw [View.read_writes_junk_eq_canon]
  unfold kernelRun0_A
  dsimp only
  sl_unfold_words
  rw [View.canon_cons_unit_zero hz]
  simp only [View.readAt_eq_ld, (hs0_0 t).read_unread, (hs0_1 t).read_unread, (hs0_2 t).read_unread, (hs0_3 t).read_unread,
    View.ld_unit_zero (S := S1024x1024) hz, View.ld_unit_zero (S := S256x1024) hz, View.ld_unit_zero (S := S1x1024) hz, View.readCov_unit_zero (S := S256x1024) _ hz]

theorem scratch_B (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

theorem out_B (t : Fin cfg0.N) (h0 : ¬t.val % 2 = 0) :
    (outsAt0 m c t.val t.isLt).1 = k0_pay2 (outsAt0 m c (t.val - 1) (Nat.lt_of_le_of_lt (Nat.sub_le _ _) t.isLt)).2
      (iblk m c 2 t) (iblk m c 3 t) := by
  rw [outsAt0_B m c t h0]
  dsimp only
  unfold out0_B_4
  rw [View.read_writes_junk_eq_canon]
  unfold kernelRun0_B
  dsimp only
  sl_unfold_words
  rw [View.canon_cons_unit_zero hz]
  simp only [View.readAt_eq_ld, (hs0_2 t).read_unread, (hs0_3 t).read_unread, (Memref.isWhole_whole _).read_unread,
    View.ld_unit_zero (S := S1024x1024) hz, View.ld_unit_zero (S := S256x1024) hz, View.ld_unit_zero (S := S1x1024) hz]

/-! ## What the host leaves for the region -/

theorem V_g (j : Fin 1024) : V m c main_v0 (ix2 (0 : Fin 1) j) = m ((c : Thread nD τ).loc main_arg1) (ix1 j) := by
  have e : V m c main_v0 = shapeCast S1x1024 (m ((c : Thread nD τ).loc main_arg1) : FVec Ideal S1024 .f32) shapeCasts_S1024_S1x1024 := by
    unfold V hostOps0; after_results; rfl
  exact (congrFun e _).trans (by pointwise [])

theorem V_w (k : Fin 1024) (j : Fin 2048) : V m c main_v1 (ix2 k j) = m ((c : Thread nD τ).loc main_arg2) (ix2 k j) := by
  have e : V m c main_v1
      = (truncf .bf16 (m ((c : Thread nD τ).loc main_arg2) : FVec Ideal S1024x2048 .f32) bitsLt_bf16_f32 : FVec Ideal S1024x2048 .bf16) := by
    unfold V hostOps0; after_results
  exact (congrFun e _).trans (by pointwise [])

theorem V_b (j : Fin 2048) : V m c main_v2 (ix2 (0 : Fin 1) j) = m ((c : Thread nD τ).loc main_arg3) (ix1 j) := by
  have e : V m c main_v2 = shapeCast S1x2048 (m ((c : Thread nD τ).loc main_arg3) : FVec Ideal S2048 .f32) shapeCasts_S2048_S1x2048 := by
    unfold V hostOps0; after_results; rfl
  rw [e]
  refine (shapeCast_addUnit_apply (n := 1) ![2048] _ _ _).trans (congrArg (m ((c : Thread nD τ).loc main_arg3) : S2048.Idx → EReal) (funext fun a => ?_))
  match a with
  | ⟨0, _⟩ => rfl

/-! ## The blocks a grid point reads -/

theorem idx_rows : ∀ t : Fin cfg0.N, win0_0.index t = ![t.val / 2, 0] ∧ win0_2.index t = ![0, t.val % 2]
    ∧ win0_3.index t = ![0, t.val % 2] ∧ win0_4.index t = ![t.val / 2, t.val % 2] := (by decide +kernel : ∀ t : Fin grid0.N, _)

theorem iblk_x (t : Fin cfg0.N) (r : Fin 256) (k : Fin 1024) (h : 256 * (t.val / 2) + r.val < 256) :
    iblk m c 0 t (ix2 r k) = m ((c : Thread nD τ).loc main_arg0) (ix2 (⟨256 * (t.val / 2) + r.val, h⟩ : Fin 256) k) := by
  obtain ⟨e, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 256 + 1 * r.val = 256 * (t.val / 2) + r.val
              rw [e]; simp; omega
  | ⟨1, _⟩ => show win0_0.index t 1 * 1024 + 1 * k.val = k.val
              rw [e]; simp

theorem iblk_g (t : Fin cfg0.N) (j : Fin 1024) :
    iblk m c 1 t (ix2 (0 : Fin 1) j) = m ((c : Thread nD τ).loc main_arg1) (ix1 j) := by
  have o : (fun a => (![0, 0] : Fin 2 → Nat) a * S1x1024.size a) = fun _ => 0 := funext fun a => by fin_cases a <;> exact Nat.zero_mul _
  exact (congrFun (Memref.read_access_unit_zero (Elt Ideal) main_v0 o (fun a => by rw [congrFun o a]; simp) (V m c main_v0)) _).trans
    (V_g m c j)

theorem iblk_w (t : Fin cfg0.N) (k j : Fin 1024) (h : 1024 * (t.val % 2) + j.val < 2048) :
    iblk m c 2 t (ix2 k j) = m ((c : Thread nD τ).loc main_arg2) (ix2 k (⟨1024 * (t.val % 2) + j.val, h⟩ : Fin 2048)) := by
  obtain ⟨-, e, -⟩ := idx_rows t
  unfold iblk
  rw [View.read_apply]
  refine Eq.trans (congrArg (V m c main_v1) (funext fun a => Fin.ext ?_)) (V_w m c k _)
  match a with
  | ⟨0, _⟩ => show win0_2.index t 0 * 1024 + 1 * k.val = k.val
              rw [e]; show 0 * 1024 + 1 * k.val = k.val; omega
  | ⟨1, _⟩ => show win0_2.index t 1 * 1024 + 1 * j.val = 1024 * (t.val % 2) + j.val
              rw [e]; simp; omega

theorem iblk_b (t : Fin cfg0.N) (j : Fin 1024) (h : 1024 * (t.val % 2) + j.val < 2048) :
    iblk m c 3 t (ix2 (0 : Fin 1) j) = m ((c : Thread nD τ).loc main_arg3) (ix1 (⟨1024 * (t.val % 2) + j.val, h⟩ : Fin 2048)) := by
  obtain ⟨-, -, e, -⟩ := idx_rows t
  unfold iblk
  rw [View.read_apply]
  refine Eq.trans (congrArg (V m c main_v2) (funext fun a => Fin.ext ?_)) (V_b m c _)
  match a with
  | ⟨0, _⟩ => show win0_3.index t 0 * 1 + 1 * 0 = 0
              rw [e]; simp
  | ⟨1, _⟩ => show win0_3.index t 1 * 1024 + 1 * j.val = 1024 * (t.val % 2) + j.val
              rw [e]; simp; omega

/-- The normalized row `i` of the argument. -/
def normed (i : Fin 256) (k : Fin 1024) : EReal :=
  rms (fun j => m ((c : Thread nD τ).loc main_arg0) (ix2 i j)) (fun j => m ((c : Thread nD τ).loc main_arg1) (ix1 j)) k

theorem normed_at (t : Fin cfg0.N) (r : Fin 256) (k : Fin 1024) (h : 256 * (t.val / 2) + r.val < 256) :
    k0_pay1 (iblk m c 0 t) (iblk m c 1 t) (ix2 r k) = normed m c ⟨256 * (t.val / 2) + r.val, h⟩ k := by
  refine (pay1_at _ _ r k).trans ?_
  simp only [iblk_g, iblk_x m c t r _ h]
  rfl

/-- After point `t` the scratch holds the normalized rows of its block. -/
theorem scratch_at (t : Fin cfg0.N) (r : Fin 256) (k : Fin 1024) (h : 256 * (t.val / 2) + r.val < 256) :
    (outsAt0 m c t.val t.isLt).2 (ix2 r k) = normed m c ⟨256 * (t.val / 2) + r.val, h⟩ k := by
  by_cases h0 : t.val % 2 = 0
  · rw [scratch_A m c t h0]; exact normed_at m c t r k h
  · rw [scratch_B m c t h0]
    let s : Fin cfg0.N := ⟨t.val - 1, Nat.lt_of_le_of_lt (Nat.sub_le _ _) t.isLt⟩
    have e : s.val / 2 = t.val / 2 := by show (t.val - 1) / 2 = t.val / 2; omega
    refine (congrFun (scratch_A m c s (by show (t.val - 1) % 2 = 0; omega)) (ix2 r k)).trans
      ((normed_at m c s r k (by rw [e]; exact h)).trans ?_)
    exact congrArg (normed m c · k) (Fin.ext (by show 256 * (s.val / 2) + r.val = _; rw [e]))

/-! ## The array the write-backs leave -/

/-- The result: the normalized row times the weight, plus the bias. -/
def G : Buf (Elt Ideal) ((c : Thread nD τ).loc main_v3) := fun i : S256x2048.Idx =>
  (∑ k, normed m c (i 0) k * m ((c : Thread nD τ).loc main_arg2) (ix2 k (i 1))) + m ((c : Thread nD τ).loc main_arg3) (ix1 (i 1))

theorem out_at (t : Fin cfg0.N) (r : Fin 256) (j : Fin 1024) (h : 256 * (t.val / 2) + r.val < 256) (hj : 1024 * (t.val % 2) + j.val < 2048) :
    (outsAt0 m c t.val t.isLt).1 (ix2 r j) = G m c (ix2 ⟨256 * (t.val / 2) + r.val, h⟩ ⟨1024 * (t.val % 2) + j.val, hj⟩) := by
  have e : (outsAt0 m c t.val t.isLt).1 = k0_pay2 (outsAt0 m c t.val t.isLt).2 (iblk m c 2 t) (iblk m c 3 t) := by
    by_cases h0 : t.val % 2 = 0
    · rw [out_A m c t h0, scratch_A m c t h0]
    · rw [out_B m c t h0, scratch_B m c t h0]
  rw [e]
  refine (pay2_at _ _ _ r j).trans ?_
  simp only [scratch_at m c t r _ h, iblk_w m c t _ j hj, iblk_b m c t j hj]
  rfl

theorem flushed_eq (t : Fin cfg0.N) : (dats m 0 c).flushed 4 t = (win0_4.blk t).view.read (Elt Ideal) (G m c) := by
  obtain ⟨-, -, -, e⟩ := idx_rows t
  have ht : t.val < 2 := lt_of_lt_of_eq t.isLt N_0
  rw [Value.flushed4 m c t]
  funext q
  obtain ⟨r, j, rfl⟩ : ∃ (r : Fin 256) (j : Fin 1024), q = ix2 r j := ⟨q 0, q 1, Shape.Idx.norm2 (n0 := 256) (n1 := 1024) q⟩
  have hr : 256 * (t.val / 2) + r.val < 256 := by have := r.isLt; omega
  have hj : 1024 * (t.val % 2) + j.val < 2048 := by have := j.isLt; omega
  have hq : (win0_4.blk t).view.emb (ix2 r j)
      = ix2 (⟨256 * (t.val / 2) + r.val, hr⟩ : Fin 256) (⟨1024 * (t.val % 2) + j.val, hj⟩ : Fin 2048) := funext fun a => Fin.ext (by
    match a with
    | ⟨0, _⟩ => show win0_4.index t 0 * 256 + 1 * r.val = 256 * (t.val / 2) + r.val
                rw [e]; simp; omega
    | ⟨1, _⟩ => show win0_4.index t 1 * 1024 + 1 * j.val = 1024 * (t.val % 2) + j.val
                rw [e]; simp; omega)
  rw [View.read_apply, hq]
  exact out_at m c t r j hr hj

/-- Every index lies in a point's block. -/
theorem cover (i : S256x2048.Idx) : ∃ t : Fin cfg0.N, (cfg0.win 4).flush t = true ∧ i ∈ ((cfg0.win 4).blk t).view.set := by
  have h0 : (i 0 : Nat) < 256 := (i 0).isLt
  have h1 : (i 1 : Nat) < 2048 := (i 1).isLt
  have hN : cfg0.N = 2 := N_0
  let t : Fin cfg0.N := ⟨2 * ((i 0 : Nat) / 256) + (i 1 : Nat) / 1024, by omega⟩
  have ht : t.val = 2 * ((i 0 : Nat) / 256) + (i 1 : Nat) / 1024 := rfl
  refine ⟨t, flush0_4 _, ?_⟩
  obtain ⟨-, -, -, e⟩ := idx_rows t
  show i ∈ ((View.whole main_v3).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [e]; simp; omega
  | ⟨1, _⟩ => show win0_4.index t 1 * 1024 ≤ (i 1 : Nat) ∧ (i 1 : Nat) < win0_4.index t 1 * 1024 + 1024
              rw [e]; simp; omega

/-- The result array after the run. -/
theorem final_eq : (dats m 0 c).arrAt 4 cfg0.N = G m c :=
  (dats m 0 c).arrAt_eq_of_cover 4 (G m c) (fun t _ => flushed_eq m c t) cover

end Cert.NlsIdeal.Val
-- ==== Proof.Nls.Ref.lean ====
/-
  The plain norm + projection reference (RG-LRU layers), read at row `i`, column `j`.
-/
module

public import proofs.«01_k».proof.Proof.Gen.NlsRefIdeal.Read
public import proofs.«01_k».proof.Proof.Math.Row

@[expose] public section

noncomputable section

open Idealize.ShloMosaic Idealize.ShloMosaic.TcCoe Idealize.SL.Sem

namespace Cert.NlsRefIdeal.Val

open Cert.NlsRefIdeal Cert.NlsRefIdeal.Read Cert.Row

variable (x : FVec Ideal S256x1024 .f32) (g : FVec Ideal S1024 .f32) (w : FVec Ideal S1024x2048 .f32) (b : FVec Ideal S2048 .f32)

/-- The normalized rows. -/
theorem normed_at (i : Fin 256) (j : Fin 1024) :
    val_main_v12 (F := Ideal) x g (ix2 i j) = rms (fun j => x (ix2 i j)) (fun j => g (ix1 j)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The result. -/
theorem res_at (i : Fin 256) (j : Fin 2048) :
    val_main_v16 (F := Ideal) x g w b (ix2 i j)
      = (∑ k, rms (fun j => x (ix2 i j)) (fun j => g (ix1 j)) k * w (ix2 k j)) + b (ix1 j) := by
  simp only [← normed_at]
  pointwise [val_main_v13, val_main_v14, val_main_v15, val_main_v16, dot_S256x1024_S1024x2048_S256x2048_1_0_0_1_n_n]

end Cert.NlsRefIdeal.Val
-- ==== Proof.Nls.Claim.lean ====
/-
  The claims of the norm + projection kernel (RG-LRU layers) on the sample batch.
-/
module

public import proofs.«01_k».proof.Defs
public import proofs.«01_k».proof.Proof.Nls.Blocks
public import proofs.«01_k».proof.Proof.Nls.Ref
public import proofs.«01_k».proof.Proof.Gen.Nls.Frame
public import proofs.«01_k».proof.Proof.Gen.NlsRefIdeal.Run
public import Idealize.ShloMosaic.Lib.Quiescent

@[expose] public section

noncomputable section

open Idealize.ShloMosaic Idealize.ShloMosaic.TcCoe Idealize.SL.Sem

namespace Cert.Nls.Claims

theorem frame_p : Cert.quiescent_Nls := fun m ρ _ => Cert.Nls.Gen.frame m ρ

theorem frame_pi : Cert.quiescent_NlsIdeal := fun m ρ _ => Cert.NlsIdeal.Gen.frame m ρ

theorem frame_ri : Cert.quiescent_NlsRefIdeal := fun m ρ _ =>
  (θ_run Cert.NlsRefIdeal.defs _ _).mono
    (fun r h => ⟨fun c => (h c).2, sem_eq_zero_of_no_sems (by decide) r.2⟩)
    (Cert.NlsRefIdeal.Value.run (F := Ideal) m ρ)

/-- Both programs end with the normalized rows times the weight, plus the bias: the kernel's array is `G` (`final_eq`), the
    reference's result reads the same at every index (`res_at`). -/
theorem algebraic : Cert.algebraic_NlsIdeal_NlsRefIdeal := by
  intro m ρ m' ρ' _ hagree
  refine ⟨fun c => Cert.NlsIdeal.Val.G m c, ?_, ?_⟩
  · exact (θ_run Cert.NlsIdeal.defs _ _).mono (fun _ h c => ⟨(h c).1.trans (Cert.NlsIdeal.Val.final_eq m c), (h c).2⟩)
      (Cert.NlsIdeal.Value.run_blocks (F := Ideal) m ρ)
  · refine (θ_run Cert.NlsRefIdeal.defs _ _).mono
      (fun _ h c => ⟨((h c).1.trans (Cert.NlsRefIdeal.Read.val_main_v16_eq _ _ _ _)).trans ?_, (h c).2⟩)
      (Cert.NlsRefIdeal.Value.run (F := Ideal) m' ρ')
    obtain ⟨e0, e1, e2, e3⟩ := hagree c
    rw [e0, e1, e2, e3]
    funext q
    obtain ⟨i, j, rfl⟩ : ∃ (i : Fin 256) (j : Fin 2048), q = ix2 i j := ⟨q 0, q 1, Shape.Idx.norm2 (n0 := 256) (n1 := 2048) q⟩
    exact Cert.NlsRefIdeal.Val.res_at _ _ _ _ i j

end Cert.Nls.Claims
-- ==== Proof.Nss.RunIdeal.lean ====
/-
  The two ways the body of `NssIdeal` runs at a grid point: at the first column block of a row block, and at a later one.
-/
module

public import proofs.«01_k».proof.Proof.Gen.NssIdeal.Frame
public import Idealize.ShloMosaic.Lib.VecWindow
public import Idealize.ShloMosaic.Lib.Pipeline.Value

@[expose] public section

set_option maxRecDepth 16384

noncomputable section

namespace Cert.NssIdeal.Hand

open Cert.NssIdeal Cert.NssIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- A block of rows normalised, each row divided by the root of its mean square and multiplied by the weight row. -/
def normed (x : Vec F S256x1024 .f32) (g : Vec F S1x1024 .f32) : FVec F S256x1024 .bf16 :=
  let ms : FVec F S256x1 .f32 := divf (shapeCast S256x1 (multiReduction .add [1] S256 (mulf x x) 0x00000000#32 reduces_S256x1024_S256 (.inl rfl) rfl) shapeCasts_S256_S256x1)
    (broadcast S256x1 (Scalar.ofBits .f32 0x44800000#32 : F .f32))
  let r : FVec F S256x1 .f32 := rsqrt (addf ms (broadcast S256x1 (Scalar.ofBits .f32 0x358637BD#32 : F .f32)))
  truncf .bf16 (mulf (mulf x (broadcastTo S256x1024 r broadcasts_S256x1_S256x1024))
    (broadcastTo S256x1024 (shapeCast S1x1024 g shapeCasts_S1x1024_S1x1024 : FVec F S1x1024 .f32) broadcasts_S1x1024_S256x1024)) bitsLt_bf16_f32

/-- What the scratch holds: the normalised rows. -/
def kept (x : Vec F S256x1024 .f32) (g : Vec F S1x1024 .f32) : FVec F S256x1024 .bf16 :=
  shapeCast S256x1024 (normed x g) shapeCasts_S256x1024_S256x1024

/-- The normalised rows times a block of the wide weight's columns. -/
def wide (s : Vec F S256x1024 .bf16) (w : Vec F S1024x1024 .bf16) : FVec F S256x1024 .f32 :=
  matmul dot_S256x1024_S1024x1024_S256x1024_1_0_0_1_n_n none s (shapeCast S1024x1024 w shapeCasts_S1024x1024_S1024x1024 : FVec F S1024x1024 .bf16)
    (constant S256x1024 .f32 0x00000000#32)

/-- The normalised rows times the narrow weight. -/
def narrow (x : Vec F S256x1024 .f32) (g : Vec F S1x1024 .f32) (ws : Vec F S1024x128 .bf16) : FVec F S256x128 .f32 :=
  matmul dot_S256x1024_S1024x128_S256x128_1_0_0_1_n_n none (normed x g) (shapeCast S1024x128 ws shapeCasts_S1024x128_S1024x128 : FVec F S1024x128 .bf16)
    (constant S256x128 .f32 0x00000000#32)

private theorem z2 : (![0, 0] : Fin 2 → Nat) = fun _ => 0 := funext fun a => by fin_cases a <;> rfl

set_option maxHeartbeats 1000000 in
/-- The body at the first column block of a row block: it normalises the rows into the scratch and fills both outputs. -/
theorem run_first (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S256x1024 .f32) (harg6 : arg6.IsWhole) (arg7 : Memref sig .tc .vmem S256x128 .f32) (harg7 : arg7.IsWhole) (arg8 : Memref sig .tc .vmem S256x1024 .bf16) (harg8 : arg8.IsWhole) (hc : k0_cond1 i = 1#1)
    (x0 : Vec F S256x1024 .f32) (x1 : Vec F S1x1024 .f32) (x2 : Vec F S1024x1024 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (wide (kept x0 x1) x2) ∗ owns (c : Thread nD τ) arg7 fullShare (narrow x0 x1 x3) ∗ owns (c : Thread nD τ) arg8 fullShare (kept x0 x1)) -∗ K ⟨⟩))
      ⊢ wp frame (wpE (defs₀ (F := F)) Variants.none c none) E (cc0_norm_matmul i arg2 harg2 arg3 harg3 arg4 harg4 arg5 harg5 arg6 harg6 arg7 harg7 arg8 harg8) K := by
  unfold cc0_norm_matmul
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (View.read_writes_full _ _ _ _ _).trans ?_
    simp only [View.readAt_eq_ld, harg2.read_unread, harg3.read_unread, harg4.read_unread,
      View.ld_unit_zero (S := S256x1024) z2, View.ld_unit_zero (S := S1024x1024) z2, View.ld_unit_zero (S := S1x1024) z2, View.readCov_unit_zero (S := S256x1024) _ z2]
    rfl
  isplitl [H5]
  · iexists _; isplitr
    swap; · iexact H5
    ipureintro
    sl_unfold_words
    refine (View.read_writes_full _ _ _ _ _).trans ?_
    simp only [View.readAt_eq_ld, harg2.read_unread, harg3.read_unread, harg5.read_unread,
      View.ld_unit_zero (S := S256x1024) z2, View.ld_unit_zero (S := S1024x128) z2, View.ld_unit_zero (S := S1x1024) z2]
    rfl
  · iexists _; isplitr
    swap; · iexact H6
    ipureintro
    sl_unfold_words
    refine (View.read_writes_full _ _ _ _ _).trans ?_
    simp only [View.readAt_eq_ld, harg2.read_unread, harg3.read_unread,
      View.ld_unit_zero (S := S256x1024) z2, View.ld_unit_zero (S := S1x1024) z2]
    rfl

set_option maxHeartbeats 1000000 in
/-- The body at a later column block: it multiplies the rows the scratch holds; the narrow output and the scratch stay. -/
theorem run_later (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S256x1024 .f32) (harg6 : arg6.IsWhole) (arg7 : Memref sig .tc .vmem S256x128 .f32) (harg7 : arg7.IsWhole) (arg8 : Memref sig .tc .vmem S256x1024 .bf16) (harg8 : arg8.IsWhole) (hc : ¬k0_cond1 i = 1#1)
    (x2 : Vec F S1024x1024 .bf16) (s : Vec F S256x1024 .bf16) (E : Set ℕ) (K : PUnit → sProp 𝕄) :
    iprop(owns (c : Thread nD τ) arg4 fullShare x2 ∗ (∃ d, owns (c : Thread nD τ) arg6 fullShare d) ∗ owns (c : Thread nD τ) arg8 fullShare s
        ∗ (iprop(owns (c : Thread nD τ) arg4 fullShare x2 ∗ owns (c : Thread nD τ) arg6 fullShare (wide s x2) ∗ owns (c : Thread nD τ) arg8 fullShare s) -∗ K ⟨⟩))
      ⊢ wp frame (wpE (defs₀ (F := F)) Variants.none c none) E (cc0_norm_matmul i arg2 harg2 arg3 harg3 arg4 harg4 arg5 harg5 arg6 harg6 arg7 harg7 arg8 harg8) K := by
  unfold cc0_norm_matmul
  unfold owns
  iintro ⟨⟨%f2, %hf2, H2⟩, ⟨%d4, %f4, -, H4⟩, ⟨%f6, %hf6, H6⟩, Hk⟩
  obtain rfl := harg4.eq_unread hf2; obtain rfl := harg8.eq_unread hf6
  sl_exec (disch := first | sl_exact hc)
  sl_step
  iapply Hk
  isplitl [H2]
  · iexists _; isplitr; · ipureintro; exact harg4.read_unread _
    iexact H2
  isplitl [H4]
  · iexists _; isplitr
    swap; · iexact H4
    ipureintro
    sl_unfold_words
    refine (View.read_writes_full _ _ _ _ _).trans ?_
    simp only [View.readAt_eq_ld, harg4.read_unread, harg8.read_unread,
      View.ld_unit_zero (S := S256x1024) z2, View.ld_unit_zero (S := S1024x1024) z2]
    rfl
  · iexists _; isplitr; · ipureintro; exact harg8.read_unread _
    iexact H6

end Cert.NssIdeal.Hand

end
-- ==== Proof.Nss.FrameIdeal.lean ====
/-
  The frame of `NssIdeal`: what every buffer holds after each grid point. The body fills the narrow output at the first
  column block of a row block only; at the later ones its buffer is carried along unchanged.
-/
module

public import proofs.«01_k».proof.Proof.Nss.RunIdeal
public import Idealize.ShloMosaic.Lib.Claim

@[expose] public section

set_option maxRecDepth 16384

noncomputable section

namespace Cert.NssIdeal.Hand

open Cert.NssIdeal Cert.NssIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## Which case a point is in -/

/-- A point is at the first column block exactly when its number is a multiple of 6. -/
theorem cond_iff : ∀ t : Fin cfg0.N, k0_cond1 (grid0.coords t) = 1#1 ↔ t.val % 6 = 0 :=
  (fun t => by
    have ht : t.val < 6 := Nat.lt_of_lt_of_eq t.isLt N_0
    have e1 : (grid0.coords t 1).val = t.val / 1 % 6 := Pipeline.Grid.coords_val t 1 (by decide) rfl
    simp only [k0_cond1, e1]
    word_cmp
   : ∀ t : Fin grid0.N, k0_cond1 (grid0.coords t) = 1#1 ↔ t.val % 6 = 0)

/-- The narrow output is left alone exactly at the other points. -/
theorem idle_iff (t : Fin cfg0.N) : cfg0.idle 5 (cfg0.grid.coords t) = true ↔ ¬t.val % 6 = 0 := by
  show (!(k0_cond1 (grid0.coords t) == 1#1)) = true ↔ _
  rw [← cond_iff t]; simp

/-! ## The memrefs a point works on -/

abbrev ms0 (t : Fin cfg0.N) : Memref sig .tc .vmem S256x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x128 .bf16 := win0_3.stage (cfg0.slots t 3)
abbrev ms4 (t : Fin cfg0.N) : Memref sig .tc .vmem S256x1024 .f32 := win0_4.stage (cfg0.slots t 4)
abbrev ms5 (t : Fin cfg0.N) : Memref sig .tc .vmem S256x128 .f32 := win0_5.stage (cfg0.slots t 5)
/-- The scratch: a whole buffer. -/
abbrev scr : Memref sig .tc .vmem S256x1024 .bf16 := Memref.whole cc0_scratch0

/-! ## What the buffers hold after each point -/

/-- The scratch after point `t`: the normalised rows of the point's row block. -/
def keptAt (c : Dev nD) (t : Fin cfg0.N) : Vec F S256x1024 .bf16 := kept (iblk m c 0 t) (iblk m c 1 t)

/-- An input block not fetched at a point is the block of the point before. -/
theorem iblk_stays (c : Dev nD) (t : Fin cfg0.N) (h : ¬t.val % 6 = 0) :
    iblk m c 0 t = iblk m c 0 ⟨t.val - 1, Nat.lt_of_le_of_lt (Nat.sub_le _ _) t.isLt⟩
    ∧ iblk m c 1 t = iblk m c 1 ⟨t.val - 1, Nat.lt_of_le_of_lt (Nat.sub_le _ _) t.isLt⟩
    ∧ iblk m c 3 t = iblk m c 3 ⟨t.val - 1, Nat.lt_of_le_of_lt (Nat.sub_le _ _) t.isLt⟩ := by
  have hN : t.val < 6 := Nat.lt_of_lt_of_eq t.isLt N_0
  have e (w : Fin 6) (hw : (cfg0.win w).isOut = false) (hf : (cfg0.win w).fetch t = false) :=
    (cfg0.win w).index_eq_of_fetch hw t hf
  have e0 := (e 0 rfl (by rw [← Bool.not_eq_true, fetch0_0]; omega)).2
  have e1 := (e 1 rfl (by rw [← Bool.not_eq_true, fetch0_1]; omega)).2
  have e3 := (e 3 rfl (by rw [← Bool.not_eq_true, fetch0_3]; omega)).2
  refine ⟨?_, ?_, ?_⟩
  · unfold iblk; funext y; rw [View.read_apply, View.read_apply]
    refine congrArg (V m c main_arg0) (funext fun a => Fin.ext ?_)
    exact congrArg (fun ix : Fin 2 → ℕ => ix a * S256x1024.size a + 1 * (y a).val) e0
  · unfold iblk; funext y; rw [View.read_apply, View.read_apply]
    refine congrArg (V m c main_v7) (funext fun a => Fin.ext ?_)
    exact congrArg (fun ix : Fin 2 → ℕ => ix a * S1x1024.size a + 1 * (y a).val) e1
  · unfold iblk; funext y; rw [View.read_apply, View.read_apply]
    refine congrArg (V m c main_v6) (funext fun a => Fin.ext ?_)
    exact congrArg (fun ix : Fin 2 → ℕ => ix a * S1024x128.size a + 1 * (y a).val) e3

/-- What is carried into point `n`: nothing known before the first; afterwards the scratch as the point before left it. -/
def inv (c : Dev nD) : (n : ℕ) → n ≤ cfg0.N → sProp 𝕄
  | 0, _ => Pipeline.ΦA spec0 c
  | n + 1, hn => iprop(iprop(owns (c : Thread nD τ) scr fullShare (keptAt m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (keptAt m c t)) ∗ (∃ r, prngReg c r)) := rfl

theorem inv_pos (c : Dev nD) (n : ℕ) (h : n ≤ cfg0.N) (hz : n ≠ 0) :
    inv m c n h = iprop(iprop(owns (c : Thread nD τ) scr fullShare (keptAt m c ⟨n - 1, by omega⟩)) ∗ (∃ r, prngReg c r)) := by
  cases n with
  | zero => exact absurd rfl hz
  | succ n => rfl

theorem any_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's data: the arrays as the host leaves them, and after each point every input buffer at its block,
    the wide output at the rows times the point's columns, the narrow output at the rows times the narrow weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide (keptAt m c t) (iblk m c 2 t)
    | ⟨5, _⟩ => narrow (iblk m c 0 t) (iblk m c 1 t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = wide (keptAt m c t) (iblk m c 2 t) := by dsimp only [dats]
theorem after5 (c : Dev nD) (t : Fin cfg0.N) :
    (dats m 0 c).after 5 t = narrow (iblk m c 0 t) (iblk m c 1 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later column block the narrow output's buffer already holds its contents: the point before left them there. -/
theorem before5 (c : Dev nD) : ∀ (n : ℕ) (t : Fin cfg0.N) (_ : t.val = n) (_ : ¬t.val % 6 = 0) (d),
    (dats m 0 c).before 5 t d = (dats m 0 c).after 5 t
  | 0, t, ht, h, d => absurd (by rw [ht]) h
  | n + 1, t, ht, h, d => by
    have hn : t.val ≠ 0 := by omega
    obtain ⟨i0, i1, i3⟩ := iblk_stays m c t h
    have hfl : (cfg0.win 5).flush ⟨t.val - 1, Nat.lt_of_le_of_lt (Nat.sub_le _ _) t.isLt⟩ = false := by
      rw [← Bool.not_eq_true, flush0_5]; dsimp only; omega
    rw [(dats m 0 c).before_of_pos 5 t hn ((cfg0.win 5).fetch_out rfl t) d, hfl, if_neg Bool.false_ne_true]
    have step : (dats m 0 c).after 5 ⟨t.val - 1, Nat.lt_of_le_of_lt (Nat.sub_le _ _) t.isLt⟩ = (dats m 0 c).after 5 t := by
      rw [after5, after5, i0, i1, i3]
    unfold Dat.left
    cases hi : cfg0.idle 5 (cfg0.grid.coords ⟨t.val - 1, Nat.lt_of_le_of_lt (Nat.sub_le _ _) t.isLt⟩)
    · show (dats m 0 c).kept 5 _ d = _
      exact step
    · show (dats m 0 c).before 5 _ d = _
      exact (before5 c n _ (by dsimp only; omega) ((idle_iff _).mp hi) d).trans step

/-! ## The body at any point -/

/-- The narrow output's buffer after the body: at a later column block that is not written back, as it was found. -/
def leaves5 (c : Dev nD) (t : Fin cfg0.N) : sProp 𝕄 :=
  match cfg0.idle 5 (cfg0.grid.coords t) with
  | true =>
    match (cfg0.win 5).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

theorem leaves5_intro (c : Dev nD) (t : Fin cfg0.N) :
    owns (c : Thread nD τ) (ms5 t) fullShare ((dats m 0 c).after 5 t) ⊢ leaves5 m c t := by
  unfold leaves5
  cases hi : cfg0.idle 5 (cfg0.grid.coords t)
  · exact .rfl
  · cases (cfg0.win 5).flush t
    · dsimp only
      iintro H
      iexists (dats m 0 c).after 5 t
      rw [before5 m c _ t rfl ((idle_iff t).mp hi)]
      iexact H
    · exact .rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ leaves5 m c t)

/-- Before any point the scratch is held at some contents. -/
theorem inv_any (c : Dev nD) (n : ℕ) (h : n ≤ cfg0.N) :
    inv m c n h ⊢ iprop(iprop((∃ d, owns (c : Thread nD τ) scr fullShare d)) ∗ (∃ r, prngReg c r)) := by
  by_cases hz : n = 0
  · rw [inv_zero m c n h hz, any_eq]
  · rw [inv_pos m c n h hz]
    iintro ⟨HS, Hg⟩
    isplitl [HS]
    · iexists _; iexact HS
    iexact Hg

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.succ = inv m c (t.val + 1) t.isLt from rfl, inv_succ, inv_castSucc m c t]
  by_cases h0 : t.val % 6 = 0
  · refine (sep_mono (inv_any m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((cond_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    rw [after5]
    iexact H5
  · have hz : t.val ≠ 0 := by omega
    obtain ⟨i0, i1, -⟩ := iblk_stays m c t h0
    have hk : keptAt m c ⟨t.val - 1, by omega⟩ = keptAt m c t := by unfold keptAt; rw [i0, i1]
    rw [inv_pos m c _ _ hz, hk]
    simp only [before5 m c _ t rfl h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun h => h0 ((cond_iff t).mp h)) (iblk m c 2 t) (keptAt m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_intro m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, any_eq]
  exact inv_any m c _ _

/-! ## The run -/

set_option backward.isDefEq.respectTransparency.types false in
/-- Every run ends with the arrays at what the data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NssIdeal.Hand

end
-- ==== Proof.Nss.Blocks.lean ====
/-
  The norm + projection kernel of the SSD layers on the sample batch: what its grid points leave, and the two arrays its write-backs leave. Six points
  share a block of 256 rows, one for every 1024 columns of the wide result; the narrow result is written at the first.
-/
module

public import proofs.«01_k».proof.Proof.Nss.FrameIdeal
public import proofs.«01_k».proof.Proof.Math.Row
public import proofs.«01_k».proof.Proof.Math.Cols
public import Idealize.ShloMosaic.Lib.Pipeline.Value

@[expose] public section

noncomputable section

open Idealize.ShloMosaic Idealize.ShloMosaic.TcCoe Idealize.SL.Sem

namespace Cert.NssIdeal.Val

open Cert.NssIdeal Cert.NssIdeal.Gen Cert.NssIdeal.Hand Cert.Row

/-! ## What the body computes, element by element -/

/-- The normalized rows. -/
theorem normed_at (x : Vec Ideal S256x1024 .f32) (g : Vec Ideal S1x1024 .f32) (r : Fin 256) (j : Fin 1024) :
    Hand.normed x g (ix2 r j) = rms (fun j => x (ix2 r j)) (fun j => g (ix2 0 j)) j := by
  pointwise [Hand.normed]
  rfl

theorem kept_at (x : Vec Ideal S256x1024 .f32) (g : Vec Ideal S1x1024 .f32) (r : Fin 256) (j : Fin 1024) :
    kept x g (ix2 r j) = rms (fun j => x (ix2 r j)) (fun j => g (ix2 0 j)) j := by
  rw [← normed_at]
  pointwise [kept]

/-- The rows times 1024 columns. -/
theorem wide_at (s : Vec Ideal S256x1024 .bf16) (w : Vec Ideal S1024x1024 .bf16) (r : Fin 256) (j : Fin 1024) :
    wide s w (ix2 r j) = ∑ k, s (ix2 r k) * w (ix2 k j) := by
  pointwise [wide, dot_S256x1024_S1024x1024_S256x1024_1_0_0_1_n_n]

/-- The rows times the narrow weight. -/
theorem narrow_at (x : Vec Ideal S256x1024 .f32) (g : Vec Ideal S1x1024 .f32) (w : Vec Ideal S1024x128 .bf16) (r : Fin 256) (j : Fin 128) :
    narrow x g w (ix2 r j) = ∑ k, rms (fun j => x (ix2 r j)) (fun j => g (ix2 0 j)) k * w (ix2 k j) := by
  simp only [← normed_at]
  pointwise [narrow, dot_S256x1024_S1024x128_S256x128_1_0_0_1_n_n]

variable (m : (ℓ : Loc nD τ sig) → Buf (Elt Ideal) ℓ) (c : Dev nD)

/-! ## What the host leaves for the region -/

theorem V_g (j : Fin 1024) : V m c main_v7 (ix2 (0 : Fin 1) j) = m ((c : Thread nD τ).loc main_arg1) (ix1 j) := by
  have e : V m c main_v7 = shapeCast S1x1024 (m ((c : Thread nD τ).loc main_arg1) : FVec Ideal S1024 .f32) shapeCasts_S1024_S1x1024 := by
    unfold V hostOps0 hostOps0_1 hostOps0_2; simp only [List.flatten_cons, List.flatten_nil, List.append_nil, List.cons_append, List.nil_append]; after_results; rfl
  exact (congrFun e _).trans (by pointwise [])

/-- The wide weight: the argument's columns in the order of the wide result. -/
theorem V_w (k : Fin 1024) (j : Fin 6144) : V m c main_v3 (ix2 k j) = m ((c : Thread nD τ).loc main_arg2) (ix2 k (col j)) := by
  have e : V m c main_v3
      = (truncf .bf16 (concatenate S1024x6144 1
          [⟨S1024x4096, extractStridedSlice S1024x4096 ![0, 2048] (m ((c : Thread nD τ).loc main_arg2) : FVec Ideal S1024x6176 .f32) slices_S1024x6176_S1024x4096_0_2048⟩,
           ⟨S1024x2048, extractStridedSlice S1024x2048 ![0, 0] (m ((c : Thread nD τ).loc main_arg2) : FVec Ideal S1024x6176 .f32) slices_S1024x6176_S1024x2048_0_0⟩]
          concatenates_S1024x4096_S1024x2048_S1024x6144_d1 : FVec Ideal S1024x6144 .f32) bitsLt_bf16_f32 : FVec Ideal S1024x6144 .bf16) := by
    unfold V hostOps0 hostOps0_1 hostOps0_2; simp only [List.flatten_cons, List.flatten_nil, List.append_nil, List.cons_append, List.nil_append]; after_results
  refine (congrFun e _).trans ?_
  pointwise []
  by_cases h : j.val < 4096
  · rw [dif_pos h]
    exact congrArg (m ((c : Thread nD τ).loc main_arg2)) (congrArg (ix2 k) (Fin.ext (by unfold col; simp only [if_pos h])))
  · rw [dif_neg h]
    exact congrArg (m ((c : Thread nD τ).loc main_arg2)) (congrArg (ix2 k) (Fin.ext (by unfold col; simp only [if_neg h])))

/-- The narrow weight: the argument's last 32 columns, then zeros. -/
theorem V_ws (k : Fin 1024) (j : Fin 128) :
    V m c main_v6 (ix2 k j) = if h : j.val < 32 then m ((c : Thread nD τ).loc main_arg2) (ix2 k ⟨6144 + j.val, by omega⟩) else (0 : EReal) := by
  have e : V m c main_v6
      = (truncf .bf16 (pad S1024x128 ![0, 0] ![0, 96] ![0, 0]
          (extractStridedSlice S1024x32 ![0, 6144] (m ((c : Thread nD τ).loc main_arg2) : FVec Ideal S1024x6176 .f32) slices_S1024x6176_S1024x32_0_6144 : FVec Ideal S1024x32 .f32)
          (sitofp .f32 (constantI S_ 32 0#32) : FVec Ideal S_ .f32) pads_S1024x32_S1024x128_000_0960 h_S_ : FVec Ideal S1024x128 .f32) bitsLt_bf16_f32 : FVec Ideal S1024x128 .bf16) := by
    unfold V hostOps0 hostOps0_1 hostOps0_2; simp only [List.flatten_cons, List.flatten_nil, List.append_nil, List.cons_append, List.nil_append]; after_results; rfl
  refine (congrFun e _).trans ?_
  pointwise []
  rw [int_zero]

/-! ## The blocks a grid point reads -/

theorem idx_rows : ∀ t : Fin cfg0.N, win0_0.index t = ![t.val / 6, 0] ∧ win0_2.index t = ![0, t.val % 6]
    ∧ win0_4.index t = ![t.val / 6, t.val % 6] ∧ win0_5.index t = ![t.val / 6, 0] := (by decide +kernel : ∀ t : Fin grid0.N, _)

theorem iblk_x (t : Fin cfg0.N) (r : Fin 256) (k : Fin 1024) (h : 256 * (t.val / 6) + r.val < 256) :
    iblk m c 0 t (ix2 r k) = m ((c : Thread nD τ).loc main_arg0) (ix2 (⟨256 * (t.val / 6) + r.val, h⟩ : Fin 256) k) := by
  obtain ⟨e, -⟩ := idx_rows t
  unfold iblk
  rw [View.read_apply]
  refine Eq.trans (congrArg (V m c main_arg0) (funext fun a => Fin.ext ?_)) (congrFun (V_main_arg0 m c) _)
  match a with
  | ⟨0, _⟩ => show win0_0.index t 0 * 256 + 1 * r.val = 256 * (t.val / 6) + r.val
              rw [e]; simp; omega
  | ⟨1, _⟩ => show win0_0.index t 1 * 1024 + 1 * k.val = k.val
              rw [e]; simp

theorem iblk_g (t : Fin cfg0.N) (j : Fin 1024) :
    iblk m c 1 t (ix2 (0 : Fin 1) j) = m ((c : Thread nD τ).loc main_arg1) (ix1 j) := by
  have o : (fun a => (![0, 0] : Fin 2 → Nat) a * S1x1024.size a) = fun _ => 0 := funext fun a => by fin_cases a <;> exact Nat.zero_mul _
  exact (congrFun (Memref.read_access_unit_zero (Elt Ideal) main_v7 o (fun a => by rw [congrFun o a]; simp) (V m c main_v7)) _).trans
    (V_g m c j)

theorem iblk_w (t : Fin cfg0.N) (k j : Fin 1024) (h : 1024 * (t.val % 6) + j.val < 6144) :
    iblk m c 2 t (ix2 k j) = m ((c : Thread nD τ).loc main_arg2) (ix2 k (col ⟨1024 * (t.val % 6) + j.val, h⟩)) := by
  obtain ⟨-, e, -⟩ := idx_rows t
  unfold iblk
  rw [View.read_apply]
  refine Eq.trans (congrArg (V m c main_v3) (funext fun a => Fin.ext ?_)) (V_w m c k _)
  match a with
  | ⟨0, _⟩ => show win0_2.index t 0 * 1024 + 1 * k.val = k.val
              rw [e]; show 0 * 1024 + 1 * k.val = k.val; omega
  | ⟨1, _⟩ => show win0_2.index t 1 * 1024 + 1 * j.val = 1024 * (t.val % 6) + j.val
              rw [e]; simp; omega

theorem iblk_ws (t : Fin cfg0.N) (k : Fin 1024) (j : Fin 128) :
    iblk m c 3 t (ix2 k j) = if h : j.val < 32 then m ((c : Thread nD τ).loc main_arg2) (ix2 k ⟨6144 + j.val, by omega⟩) else (0 : EReal) := by
  have o : (fun a => (![0, 0] : Fin 2 → Nat) a * S1024x128.size a) = fun _ => 0 := funext fun a => by fin_cases a <;> exact Nat.zero_mul _
  exact (congrFun (Memref.read_access_unit_zero (Elt Ideal) main_v6 o (fun a => by rw [congrFun o a]; simp) (V m c main_v6)) _).trans
    (V_ws m c k j)

/-! ## The arrays the write-backs leave -/

/-- The normalized row `i` of the argument. -/
def row (i : Fin 256) (k : Fin 1024) : EReal :=
  rms (fun j => m ((c : Thread nD τ).loc main_arg0) (ix2 i j)) (fun j => m ((c : Thread nD τ).loc main_arg1) (ix1 j)) k

/-- Row `i` of the projection, column `q`. -/
def proj (i : Fin 256) (q : Fin 6176) : EReal :=
  ∑ k, row m c i k * (m ((c : Thread nD τ).loc main_arg2) (ix2 k q) : EReal)

/-- The wide result: the projection's columns from 2048 first, then the first 2048. -/
def Wide : Buf (Elt Ideal) ((c : Thread nD τ).loc main_v8_0) := fun i : S256x6144.Idx => proj m c (i 0) (col (i 1))

/-- The narrow result: the projection's last 32 columns, then zeros. -/
def Narrow : Buf (Elt Ideal) ((c : Thread nD τ).loc main_v8_1) := fun i : S256x128.Idx =>
  last32 (fun q => proj m c (i 0) ⟨6144 + q.val, by omega⟩) (i 1)

theorem wide_out (t : Fin cfg0.N) (r : Fin 256) (j : Fin 1024) (h : 256 * (t.val / 6) + r.val < 256) (hj : 1024 * (t.val % 6) + j.val < 6144) :
    (dats m 0 c).after 4 t (ix2 r j) = Wide m c (ix2 ⟨256 * (t.val / 6) + r.val, h⟩ ⟨1024 * (t.val % 6) + j.val, hj⟩) := by
  rw [after4]
  refine (wide_at _ _ r j).trans ?_
  unfold keptAt
  simp only [kept_at, iblk_g, iblk_x m c t r _ h, iblk_w m c t _ j hj]
  rfl

theorem narrow_out (t : Fin cfg0.N) (r : Fin 256) (j : Fin 128) (h : 256 * (t.val / 6) + r.val < 256) :
    (dats m 0 c).after 5 t (ix2 r j) = Narrow m c (ix2 ⟨256 * (t.val / 6) + r.val, h⟩ j) := by
  rw [after5]
  refine (narrow_at _ _ _ r j).trans ?_
  simp only [iblk_g, iblk_x m c t r _ h, iblk_ws]
  exact sum_last32 (row m c _) (fun k q => m ((c : Thread nD τ).loc main_arg2) (ix2 k q)) j

theorem flushed4 (t : Fin cfg0.N) : (dats m 0 c).flushed 4 t = (win0_4.blk t).view.read (Elt Ideal) (Wide m c) := by
  obtain ⟨-, -, e, -⟩ := idx_rows t
  have ht : t.val < 6 := lt_of_lt_of_eq t.isLt N_0
  funext q
  obtain ⟨r, j, rfl⟩ : ∃ (r : Fin 256) (j : Fin 1024), q = ix2 r j := ⟨q 0, q 1, Shape.Idx.norm2 (n0 := 256) (n1 := 1024) q⟩
  have hr : 256 * (t.val / 6) + r.val < 256 := by have := r.isLt; omega
  have hj : 1024 * (t.val % 6) + j.val < 6144 := by have := j.isLt; omega
  have hq : (win0_4.blk t).view.emb (ix2 r j)
      = ix2 (⟨256 * (t.val / 6) + r.val, hr⟩ : Fin 256) (⟨1024 * (t.val % 6) + j.val, hj⟩ : Fin 6144) := funext fun a => Fin.ext (by
    match a with
    | ⟨0, _⟩ => show win0_4.index t 0 * 256 + 1 * r.val = 256 * (t.val / 6) + r.val
                rw [e]; simp; omega
    | ⟨1, _⟩ => show win0_4.index t 1 * 1024 + 1 * j.val = 1024 * (t.val % 6) + j.val
                rw [e]; simp; omega)
  rw [View.read_apply, hq]
  exact wide_out m c t r j hr hj

theorem flushed5 (t : Fin cfg0.N) : (dats m 0 c).flushed 5 t = (win0_5.blk t).view.read (Elt Ideal) (Narrow m c) := by
  obtain ⟨-, -, -, e⟩ := idx_rows t
  have ht : t.val < 6 := lt_of_lt_of_eq t.isLt N_0
  funext q
  obtain ⟨r, j, rfl⟩ : ∃ (r : Fin 256) (j : Fin 128), q = ix2 r j := ⟨q 0, q 1, Shape.Idx.norm2 (n0 := 256) (n1 := 128) q⟩
  have hr : 256 * (t.val / 6) + r.val < 256 := by have := r.isLt; omega
  have hq : (win0_5.blk t).view.emb (ix2 r j)
      = ix2 (⟨256 * (t.val / 6) + r.val, hr⟩ : Fin 256) j := funext fun a => Fin.ext (by
    match a with
    | ⟨0, _⟩ => show win0_5.index t 0 * 256 + 1 * r.val = 256 * (t.val / 6) + r.val
                rw [e]; simp; omega
    | ⟨1, _⟩ => show win0_5.index t 1 * 128 + 1 * j.val = j.val
                rw [e]; simp)
  rw [View.read_apply, hq]
  exact narrow_out m c t r j hr

/-- Every index of the wide result lies in a point's block. -/
theorem cover4 (i : S256x6144.Idx) : ∃ t : Fin cfg0.N, (cfg0.win 4).flush t = true ∧ i ∈ ((cfg0.win 4).blk t).view.set := by
  have h0 : (i 0 : Nat) < 256 := (i 0).isLt
  have h1 : (i 1 : Nat) < 6144 := (i 1).isLt
  have hN : cfg0.N = 6 := N_0
  let t : Fin cfg0.N := ⟨6 * ((i 0 : Nat) / 256) + (i 1 : Nat) / 1024, by omega⟩
  have ht : t.val = 6 * ((i 0 : Nat) / 256) + (i 1 : Nat) / 1024 := rfl
  refine ⟨t, flush0_4 _, ?_⟩
  obtain ⟨-, -, e, -⟩ := idx_rows t
  show i ∈ ((View.whole main_v8_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [e]; simp; omega
  | ⟨1, _⟩ => show win0_4.index t 1 * 1024 ≤ (i 1 : Nat) ∧ (i 1 : Nat) < win0_4.index t 1 * 1024 + 1024
              rw [e]; simp; omega

/-- Every index of the narrow result lies in the block of a row block's last point, which writes it back. -/
theorem cover5 (i : S256x128.Idx) : ∃ t : Fin cfg0.N, (cfg0.win 5).flush t = true ∧ i ∈ ((cfg0.win 5).blk t).view.set := by
  have h0 : (i 0 : Nat) < 256 := (i 0).isLt
  have h1 : (i 1 : Nat) < 128 := (i 1).isLt
  have hN : cfg0.N = 6 := N_0
  let t : Fin cfg0.N := ⟨6 * ((i 0 : Nat) / 256) + 5, by omega⟩
  have ht : t.val = 6 * ((i 0 : Nat) / 256) + 5 := rfl
  refine ⟨t, (flush0_5 _).mpr (by omega), ?_⟩
  obtain ⟨-, -, -, e⟩ := idx_rows t
  show i ∈ ((View.whole main_v8_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256
              rw [e]; simp; omega
  | ⟨1, _⟩ => show win0_5.index t 1 * 128 ≤ (i 1 : Nat) ∧ (i 1 : Nat) < win0_5.index t 1 * 128 + 128
              rw [e]; simp; omega

/-- The result arrays after the run. -/
theorem final4 : (dats m 0 c).arrAt 4 cfg0.N = Wide m c :=
  (dats m 0 c).arrAt_eq_of_cover 4 (Wide m c) (fun t _ => flushed4 m c t) cover4

theorem final5 : (dats m 0 c).arrAt 5 cfg0.N = Narrow m c :=
  (dats m 0 c).arrAt_eq_of_cover 5 (Narrow m c) (fun t _ => flushed5 m c t) cover5

/-- Every run ends with the two results at `Wide` and `Narrow` and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v8_0) = Wide m c
      ∧ r.2.mem ((c.tc : Thread nD τ).loc main_v8_1) = Narrow m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.NssIdeal.Val
-- ==== Proof.Nss.Ref.lean ====
/-
  The plain norm + projection reference of the SSD layers (256 rows), read at row `i`, column `j`.
-/
module

public import proofs.«01_k».proof.Proof.Gen.NssRefIdeal.Read
public import proofs.«01_k».proof.Proof.Math.Row
public import proofs.«01_k».proof.Proof.Math.Cols

@[expose] public section

noncomputable section

open Idealize.ShloMosaic Idealize.ShloMosaic.TcCoe Idealize.SL.Sem

namespace Cert.NssRefIdeal.Val

open Cert.NssRefIdeal Cert.NssRefIdeal.Read Cert.Row

variable (x : FVec Ideal S256x1024 .f32) (g : FVec Ideal S1024 .f32) (w : FVec Ideal S1024x6176 .f32)

/-- The normalized rows. -/
theorem normed_at (i : Fin 256) (j : Fin 1024) :
    val_main_v12 (F := Ideal) x g (ix2 i j) = rms (fun j => x (ix2 i j)) (fun j => g (ix1 j)) j := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

/-- The projection. -/
theorem proj_at (i : Fin 256) (j : Fin 6176) :
    val_main_v13 (F := Ideal) x g w (ix2 i j) = ∑ k, rms (fun j => x (ix2 i j)) (fun j => g (ix1 j)) k * w (ix2 k j) := by
  simp only [← normed_at]
  pointwise [val_main_v13, dot_S256x1024_S1024x6176_S256x6176_1_0_0_1_n_n]

/-- The wide result. -/
theorem wide_at (i : Fin 256) (j : Fin 6144) :
    val_main_v17 (F := Ideal) x g w (ix2 i j) = ∑ k, rms (fun j => x (ix2 i j)) (fun j => g (ix1 j)) k * w (ix2 k (col j)) := by
  rw [← proj_at]
  generalize hp : val_main_v13 (F := Ideal) x g w = p
  pointwise [val_main_v17, val_main_v15, val_main_v14, hp]
  by_cases h : j.val < 4096
  · rw [dif_pos h]
    exact congrArg (fun q => p (ix2 i q)) (Fin.ext (by unfold col; simp only [if_pos h]))
  · rw [dif_neg h]
    exact congrArg (fun q => p (ix2 i q)) (Fin.ext (by unfold col; simp only [if_neg h]))

/-- The narrow result. -/
theorem narrow_at (i : Fin 256) (j : Fin 128) :
    val_main_v18 (F := Ideal) x g w (ix2 i j)
      = last32 (fun q => ∑ k, rms (fun j => x (ix2 i j)) (fun j => g (ix1 j)) k * w (ix2 k ⟨6144 + q.val, by omega⟩)) j := by
  simp only [← proj_at]
  generalize hp : val_main_v13 (F := Ideal) x g w = p
  pointwise [val_main_v18, val_main_v16, val_main_call0_v0, val_main_c, hp]
  rw [int_zero]
  rfl

end Cert.NssRefIdeal.Val
-- ==== Proof.Nss.Claim.lean ====
/-
  The claims of the norm + projection kernel of the SSD layers on the sample batch.
-/
module

public import proofs.«01_k».proof.Defs
public import proofs.«01_k».proof.Proof.Nss.Blocks
public import proofs.«01_k».proof.Proof.Nss.Frame
public import proofs.«01_k».proof.Proof.Nss.Ref
public import proofs.«01_k».proof.Proof.Gen.NssRefIdeal.Run
public import Idealize.ShloMosaic.Lib.Quiescent

@[expose] public section

noncomputable section

open Idealize.ShloMosaic Idealize.ShloMosaic.TcCoe Idealize.SL.Sem

namespace Cert.Nss.Claims

theorem frame_p : Cert.quiescent_Nss := fun m ρ _ => Cert.Nss.Hand.frame m ρ

theorem frame_pi : Cert.quiescent_NssIdeal := fun m ρ _ => Cert.NssIdeal.Hand.frame m ρ

theorem frame_ri : Cert.quiescent_NssRefIdeal := fun m ρ _ =>
  (θ_run Cert.NssRefIdeal.defs _ _).mono
    (fun r h => ⟨fun c => (h c).2.2, sem_eq_zero_of_no_sems (by decide) r.2⟩)
    (Cert.NssRefIdeal.Value.run (F := Ideal) m ρ)

/-- Both programs end with the normalized rows times the weight, its columns in the order of the two results: the kernel's
    arrays are `Wide` and `Narrow`, the reference's results read the same at every index. -/
theorem algebraic : Cert.algebraic_NssIdeal_NssRefIdeal := by
  intro m ρ m' ρ' _ hagree
  refine ⟨fun c => Cert.NssIdeal.Val.Wide m c, fun c => Cert.NssIdeal.Val.Narrow m c, Cert.NssIdeal.Val.run m ρ, ?_⟩
  refine (θ_run Cert.NssRefIdeal.defs _ _).mono
    (fun _ h c => ⟨((h c).1.trans (Cert.NssRefIdeal.Read.val_main_v17_eq _ _ _)).trans ?_,
      ((h c).2.1.trans (Cert.NssRefIdeal.Read.val_main_v18_eq _ _ _)).trans ?_, (h c).2.2⟩)
    (Cert.NssRefIdeal.Value.run (F := Ideal) m' ρ')
  · obtain ⟨e0, e1, e2⟩ := hagree c
    rw [e0, e1, e2]
    funext q
    obtain ⟨i, j, rfl⟩ : ∃ (i : Fin 256) (j : Fin 6144), q = ix2 i j := ⟨q 0, q 1, Shape.Idx.norm2 (n0 := 256) (n1 := 6144) q⟩
    exact Cert.NssRefIdeal.Val.wide_at _ _ _ i j
  · obtain ⟨e0, e1, e2⟩ := hagree c
    rw [e0, e1, e2]
    funext q
    obtain ⟨i, j, rfl⟩ : ∃ (i : Fin 256) (j : Fin 128), q = ix2 i j := ⟨q 0, q 1, Shape.Idx.norm2 (n0 := 256) (n1 := 128) q⟩
    exact Cert.NssRefIdeal.Val.narrow_at _ _ _ i j

end Cert.Nss.Claims
-- ==== Proof.lean ====
/-
  The claim of the certificate: for every program its three frames, that the idealized kernel is the kernel, and that
  the idealized kernel and the idealized reference compute the same arrays. Each conjunct is proved in the `Claim`
  module of its program.
-/
module

public import proofs.«01_k».proof.Defs
public import proofs.«01_k».proof.Proof.Lru.Claim
public import proofs.«01_k».proof.Proof.Ssd.Claim
public import proofs.«01_k».proof.Proof.LruStep.Claim
public import proofs.«01_k».proof.Proof.Ffn.Claim
public import proofs.«01_k».proof.Proof.Ffk.Claim
public import proofs.«01_k».proof.Proof.Nml.Claim
public import proofs.«01_k».proof.Proof.Nms.Claim
public import proofs.«01_k».proof.Proof.Ffs.Claim
public import proofs.«01_k».proof.Proof.Nls.Claim
public import proofs.«01_k».proof.Proof.Nss.Claim
public import Idealize.ShloMosaic.Adequacy
public import Idealize.ShloMosaic.Init

@[expose] public section

noncomputable section

open Idealize.ShloMosaic Idealize.SL.Sem

namespace Cert.Proof

theorem claim : Cert.Claim := ⟨
  Cert.Lru.Gen.facts, Cert.LruIdeal.Gen.facts, Cert.LruRefIdeal.Gen.facts, Cert.Ssd.Gen.facts,
  Cert.SsdIdeal.Gen.facts, Cert.SsdRefIdeal.Gen.facts, Cert.LruStep.Gen.facts, Cert.LruStepIdeal.Gen.facts,
  Cert.LruStepRefIdeal.Gen.facts, Cert.Ffn.Gen.facts, Cert.FfnIdeal.Gen.facts, Cert.FfnRefIdeal.Gen.facts,
  Cert.Ffk.Gen.facts, Cert.FfkIdeal.Gen.facts, Cert.FfkRefIdeal.Gen.facts, Cert.Nml.Gen.facts,
  Cert.NmlIdeal.Gen.facts, Cert.NmlRefIdeal.Gen.facts, Cert.Nms.Gen.facts, Cert.NmsIdeal.Gen.facts,
  Cert.NmsRefIdeal.Gen.facts, Cert.Ffs.Gen.facts, Cert.FfsIdeal.Gen.facts, Cert.FfsRefIdeal.Gen.facts,
  Cert.Nls.Gen.facts, Cert.NlsIdeal.Gen.facts, Cert.NlsRefIdeal.Gen.facts, Cert.Nss.Gen.facts,
  Cert.NssIdeal.Gen.facts, Cert.NssRefIdeal.Gen.facts,
  Cert.Lru.Claims.frame_p, Cert.Lru.Claims.frame_pi, Cert.Lru.Claims.frame_ri, Cert.Ssd.Claims.frame_p,
  Cert.Ssd.Claims.frame_pi, Cert.Ssd.Claims.frame_ri, Cert.LruStep.Claims.frame_p, Cert.LruStep.Claims.frame_pi,
  Cert.LruStep.Claims.frame_ri, Cert.Ffn.Claims.frame_p, Cert.Ffn.Claims.frame_pi, Cert.Ffn.Claims.frame_ri,
  Cert.Ffk.Claims.frame_p, Cert.Ffk.Claims.frame_pi, Cert.Ffk.Claims.frame_ri, Cert.Nml.Claims.frame_p,
  Cert.Nml.Claims.frame_pi, Cert.Nml.Claims.frame_ri, Cert.Nms.Claims.frame_p, Cert.Nms.Claims.frame_pi,
  Cert.Nms.Claims.frame_ri, Cert.Ffs.Claims.frame_p, Cert.Ffs.Claims.frame_pi, Cert.Ffs.Claims.frame_ri,
  Cert.Nls.Claims.frame_p, Cert.Nls.Claims.frame_pi, Cert.Nls.Claims.frame_ri, Cert.Nss.Claims.frame_p,
  Cert.Nss.Claims.frame_pi, Cert.Nss.Claims.frame_ri,
  trivial, Cert.Lru.Claims.algebraic, trivial, Cert.Ssd.Claims.algebraic, trivial, Cert.LruStep.Claims.algebraic,
  trivial, Cert.Ffn.Claims.algebraic, trivial, Cert.Ffk.Claims.algebraic, trivial, Cert.Nml.Claims.algebraic,
  trivial, Cert.Nms.Claims.algebraic, trivial, Cert.Ffs.Claims.algebraic, trivial, Cert.Nls.Claims.algebraic,
  trivial, Cert.Nss.Claims.algebraic⟩

end Cert.Proof

end
